-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))) = (fun _ => 1#1)

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_cross_finite [hPre_cross_finite : Cert.Pre_cross_finite.Facts] (m : (ℓ : Loc Cert.CrossIdeal.nD Cert.CrossIdeal.τ Cert.CrossIdeal.sig) → Buf (Elt Ideal) ℓ) : Prop :=
  ∀ c : Dev Cert.CrossIdeal.nD,
    (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_cross_finite [hPre_cross_finite : Cert.Pre_cross_finite.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_cross_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2))) = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_swiglu_finite [hPre_swiglu_finite : Cert.Pre_swiglu_finite.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_swiglu_finite.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3)) (m ((c.tc : Thread Cert.SwigluIdeal.nD Cert.SwigluIdeal.τ).loc Cert.SwigluIdeal.main_arg4))) = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_swiglu_finite [hPre_swiglu_finite : Cert.Pre_swiglu_finite.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_swiglu_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3)) (m ((c.tc : Thread Cert.SwigluRefIdeal.nD Cert.SwigluRefIdeal.τ).loc Cert.SwigluRefIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsIdeal_rms_finite [hPre_rms_finite : Cert.Pre_rms_finite.Facts] (m : (ℓ : Loc Cert.RmsIdeal.nD Cert.RmsIdeal.τ Cert.RmsIdeal.sig) → Buf (Elt Ideal) ℓ) : Prop :=
  ∀ c : Dev Cert.RmsIdeal.nD,
    (Cert.Pre_rms_finite.fn (F := Ideal) (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3))) = (fun _ => 1#1)

def Pre_RmsRefIdeal (m : (ℓ : Loc Cert.RmsRefIdeal.nD Cert.RmsRefIdeal.τ Cert.RmsRefIdeal.sig) → Buf (Elt Ideal) ℓ) : Prop :=
  True

def Pre_RmsRefIdeal_rms_finite [hPre_rms_finite : Cert.Pre_rms_finite.Facts] (m : (ℓ : Loc Cert.RmsRefIdeal.nD Cert.RmsRefIdeal.τ Cert.RmsRefIdeal.sig) → Buf (Elt Ideal) ℓ) : Prop :=
  ∀ c : Dev Cert.RmsRefIdeal.nD,
    (Cert.Pre_rms_finite.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))) = (fun _ => 1#1)

def Pre_HgrnOut (m : (ℓ : Loc Cert.HgrnOut.nD Cert.HgrnOut.τ Cert.HgrnOut.sig) → Buf (Elt Bits) ℓ) : Prop :=
  True

def Pre_HgrnOutIdeal (m : (ℓ : Loc Cert.HgrnOutIdeal.nD Cert.HgrnOutIdeal.τ Cert.HgrnOutIdeal.sig) → Buf (Elt Ideal) ℓ) : Prop :=
  True

def Pre_HgrnOutIdeal_hgrn_out_finite [hPre_hgrn_out_finite : Cert.Pre_hgrn_out_finite.Facts] (m : (ℓ : Loc Cert.HgrnOutIdeal.nD Cert.HgrnOutIdeal.τ Cert.HgrnOutIdeal.sig) → Buf (Elt Ideal) ℓ) : Prop :=
  ∀ c : Dev Cert.HgrnOutIdeal.nD,
    (Cert.Pre_hgrn_out_finite.fn (F := Ideal) (m ((c.tc : Thread Cert.HgrnOutIdeal.nD Cert.HgrnOutIdeal.τ).loc Cert.HgrnOutIdeal.main_arg0)) (m ((c.tc : Thread Cert.HgrnOutIdeal.nD Cert.HgrnOutIdeal.τ).loc Cert.HgrnOutIdeal.main_arg1)) (m ((c.tc : Thread Cert.HgrnOutIdeal.nD Cert.HgrnOutIdeal.τ).loc Cert.HgrnOutIdeal.main_arg2)) (m ((c.tc : Thread Cert.HgrnOutIdeal.nD Cert.HgrnOutIdeal.τ).loc Cert.HgrnOutIdeal.main_arg3)) (m ((c.tc : Thread Cert.HgrnOutIdeal.nD Cert.HgrnOutIdeal.τ).loc Cert.HgrnOutIdeal.main_arg4))) = (fun _ => 1#1)

def Pre_HgrnOutRefIdeal (m : (ℓ : Loc Cert.HgrnOutRefIdeal.nD Cert.HgrnOutRefIdeal.τ Cert.HgrnOutRefIdeal.sig) → Buf (Elt Ideal) ℓ) : Prop :=
  True

def Pre_HgrnOutRefIdeal_hgrn_out_finite [hPre_hgrn_out_finite : Cert.Pre_hgrn_out_finite.Facts] (m : (ℓ : Loc Cert.HgrnOutRefIdeal.nD Cert.HgrnOutRefIdeal.τ Cert.HgrnOutRefIdeal.sig) → Buf (Elt Ideal) ℓ) : Prop :=
  ∀ c : Dev Cert.HgrnOutRefIdeal.nD,
    (Cert.Pre_hgrn_out_finite.fn (F := Ideal) (m ((c.tc : Thread Cert.HgrnOutRefIdeal.nD Cert.HgrnOutRefIdeal.τ).loc Cert.HgrnOutRefIdeal.main_arg0)) (m ((c.tc : Thread Cert.HgrnOutRefIdeal.nD Cert.HgrnOutRefIdeal.τ).loc Cert.HgrnOutRefIdeal.main_arg1)) (m ((c.tc : Thread Cert.HgrnOutRefIdeal.nD Cert.HgrnOutRefIdeal.τ).loc Cert.HgrnOutRefIdeal.main_arg2)) (m ((c.tc : Thread Cert.HgrnOutRefIdeal.nD Cert.HgrnOutRefIdeal.τ).loc Cert.HgrnOutRefIdeal.main_arg3)) (m ((c.tc : Thread Cert.HgrnOutRefIdeal.nD Cert.HgrnOutRefIdeal.τ).loc Cert.HgrnOutRefIdeal.main_arg4))) = (fun _ => 1#1)

def Pre_MlaFwd (m : (ℓ : Loc Cert.MlaFwd.nD Cert.MlaFwd.τ Cert.MlaFwd.sig) → Buf (Elt Bits) ℓ) : Prop :=
  True

def Pre_MlaFwdIdeal (m : (ℓ : Loc Cert.MlaFwdIdeal.nD Cert.MlaFwdIdeal.τ Cert.MlaFwdIdeal.sig) → Buf (Elt Ideal) ℓ) : Prop :=
  True

def Pre_MlaFwdIdeal_mla_fwd_finite [hPre_mla_fwd_finite : Cert.Pre_mla_fwd_finite.Facts] (m : (ℓ : Loc Cert.MlaFwdIdeal.nD Cert.MlaFwdIdeal.τ Cert.MlaFwdIdeal.sig) → Buf (Elt Ideal) ℓ) : Prop :=
  ∀ c : Dev Cert.MlaFwdIdeal.nD,
    (Cert.Pre_mla_fwd_finite.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2))) = (fun _ => 1#1)

def Pre_MlaFwdRefIdeal (m : (ℓ : Loc Cert.MlaFwdRefIdeal.nD Cert.MlaFwdRefIdeal.τ Cert.MlaFwdRefIdeal.sig) → Buf (Elt Ideal) ℓ) : Prop :=
  True

def Pre_MlaFwdRefIdeal_mla_fwd_finite [hPre_mla_fwd_finite : Cert.Pre_mla_fwd_finite.Facts] (m : (ℓ : Loc Cert.MlaFwdRefIdeal.nD Cert.MlaFwdRefIdeal.τ Cert.MlaFwdRefIdeal.sig) → Buf (Elt Ideal) ℓ) : Prop :=
  ∀ c : Dev Cert.MlaFwdRefIdeal.nD,
    (Cert.Pre_mla_fwd_finite.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2))) = (fun _ => 1#1)

def Pre_RmsCol (m : (ℓ : Loc Cert.RmsCol.nD Cert.RmsCol.τ Cert.RmsCol.sig) → Buf (Elt Bits) ℓ) : Prop :=
  True

def Pre_RmsColIdeal (m : (ℓ : Loc Cert.RmsColIdeal.nD Cert.RmsColIdeal.τ Cert.RmsColIdeal.sig) → Buf (Elt Ideal) ℓ) : Prop :=
  True

def Pre_RmsColIdeal_rms_col_finite [hPre_rms_col_finite : Cert.Pre_rms_col_finite.Facts] (m : (ℓ : Loc Cert.RmsColIdeal.nD Cert.RmsColIdeal.τ Cert.RmsColIdeal.sig) → Buf (Elt Ideal) ℓ) : Prop :=
  ∀ c : Dev Cert.RmsColIdeal.nD,
    (Cert.Pre_rms_col_finite.fn (F := Ideal) (m ((c.tc : Thread Cert.RmsColIdeal.nD Cert.RmsColIdeal.τ).loc Cert.RmsColIdeal.main_arg0)) (m ((c.tc : Thread Cert.RmsColIdeal.nD Cert.RmsColIdeal.τ).loc Cert.RmsColIdeal.main_arg1)) (m ((c.tc : Thread Cert.RmsColIdeal.nD Cert.RmsColIdeal.τ).loc Cert.RmsColIdeal.main_arg2))) = (fun _ => 1#1)

def Pre_RmsColRefIdeal (m : (ℓ : Loc Cert.RmsColRefIdeal.nD Cert.RmsColRefIdeal.τ Cert.RmsColRefIdeal.sig) → Buf (Elt Ideal) ℓ) : Prop :=
  True

def Pre_RmsColRefIdeal_rms_col_finite [hPre_rms_col_finite : Cert.Pre_rms_col_finite.Facts] (m : (ℓ : Loc Cert.RmsColRefIdeal.nD Cert.RmsColRefIdeal.τ Cert.RmsColRefIdeal.sig) → Buf (Elt Ideal) ℓ) : Prop :=
  ∀ c : Dev Cert.RmsColRefIdeal.nD,
    (Cert.Pre_rms_col_finite.fn (F := Ideal) (m ((c.tc : Thread Cert.RmsColRefIdeal.nD Cert.RmsColRefIdeal.τ).loc Cert.RmsColRefIdeal.main_arg0)) (m ((c.tc : Thread Cert.RmsColRefIdeal.nD Cert.RmsColRefIdeal.τ).loc Cert.RmsColRefIdeal.main_arg1)) (m ((c.tc : Thread Cert.RmsColRefIdeal.nD Cert.RmsColRefIdeal.τ).loc Cert.RmsColRefIdeal.main_arg2))) = (fun _ => 1#1)

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandRefIdeal (m : (ℓ : Loc Cert.BandRefIdeal.nD Cert.BandRefIdeal.τ Cert.BandRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_CrossFwd (m : (ℓ : Loc Cert.CrossFwd.nD Cert.CrossFwd.τ Cert.CrossFwd.sig) → Buf (Elt Bits) ℓ) : Prop :=
  True

def Pre_CrossFwdIdeal (m : (ℓ : Loc Cert.CrossFwdIdeal.nD Cert.CrossFwdIdeal.τ Cert.CrossFwdIdeal.sig) → Buf (Elt Ideal) ℓ) : Prop :=
  True

def Pre_CrossFwdRefIdeal (m : (ℓ : Loc Cert.CrossFwdRefIdeal.nD Cert.CrossFwdRefIdeal.τ Cert.CrossFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_HgrnOutFwd (m : (ℓ : Loc Cert.HgrnOutFwd.nD Cert.HgrnOutFwd.τ Cert.HgrnOutFwd.sig) → Buf (Elt Bits) ℓ) : Prop :=
  True

def Pre_HgrnOutFwdIdeal (m : (ℓ : Loc Cert.HgrnOutFwdIdeal.nD Cert.HgrnOutFwdIdeal.τ Cert.HgrnOutFwdIdeal.sig) → Buf (Elt Ideal) ℓ) : Prop :=
  True

def Pre_HgrnOutFwdRefIdeal (m : (ℓ : Loc Cert.HgrnOutFwdRefIdeal.nD Cert.HgrnOutFwdRefIdeal.τ Cert.HgrnOutFwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ r.2.sem = fun _ => 0)

def quiescent_CrossIdeal_pre_cross_finite [hCrossIdeal : Cert.CrossIdeal.Facts] [hPre_cross_finite : Cert.Pre_cross_finite.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_cross_finite m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2))
      ∧ r.2.sem = fun _ => 0)

def quiescent_CrossRefIdeal_pre_cross_finite [hCrossRefIdeal : Cert.CrossRefIdeal.Facts] [hPre_cross_finite : Cert.Pre_cross_finite.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_cross_finite m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3)
      ∧ r.2.mem ((c.tc : Thread Cert.Swiglu.nD Cert.Swiglu.τ).loc Cert.Swiglu.main_arg4) = m ((c.tc : Thread Cert.Swiglu.nD Cert.Swiglu.τ).loc Cert.Swiglu.main_arg4))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ r.2.sem = fun _ => 0)

def quiescent_SwigluIdeal_pre_swiglu_finite [hSwigluIdeal : Cert.SwigluIdeal.Facts] [hPre_swiglu_finite : Cert.Pre_swiglu_finite.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_swiglu_finite m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3)
      ∧ r.2.mem ((c.tc : Thread Cert.SwigluRefIdeal.nD Cert.SwigluRefIdeal.τ).loc Cert.SwigluRefIdeal.main_arg4) = m ((c.tc : Thread Cert.SwigluRefIdeal.nD Cert.SwigluRefIdeal.τ).loc Cert.SwigluRefIdeal.main_arg4))
      ∧ r.2.sem = fun _ => 0)

def quiescent_SwigluRefIdeal_pre_swiglu_finite [hSwigluRefIdeal : Cert.SwigluRefIdeal.Facts] [hPre_swiglu_finite : Cert.Pre_swiglu_finite.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_swiglu_finite m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3)
      ∧ r.2.mem ((c.tc : Thread Cert.SwigluRefIdeal.nD Cert.SwigluRefIdeal.τ).loc Cert.SwigluRefIdeal.main_arg4) = m ((c.tc : Thread Cert.SwigluRefIdeal.nD Cert.SwigluRefIdeal.τ).loc Cert.SwigluRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsIdeal_pre_rms_finite [hRmsIdeal : Cert.RmsIdeal.Facts] [hPre_rms_finite : Cert.Pre_rms_finite.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal_rms_finite m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_RmsRefIdeal_pre_rms_finite [hRmsRefIdeal : Cert.RmsRefIdeal.Facts] [hPre_rms_finite : Cert.Pre_rms_finite.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal_rms_finite m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_HgrnOut [hHgrnOut : Cert.HgrnOut.Facts] : Prop :=
  ∀ (m : (ℓ : Loc Cert.HgrnOut.nD Cert.HgrnOut.τ Cert.HgrnOut.sig) → Buf (Elt Bits) ℓ) (g : Dev Cert.HgrnOut.nD → PrngReg), Pre_HgrnOut m →
    θ_run (Cert.HgrnOut.defs (F := Bits)) (onTc (τ := Cert.HgrnOut.τ) (Cert.HgrnOut.main (F := Bits))) ⟨m, fun _ => 0, g⟩ (fun r => (∀ c : Dev Cert.HgrnOut.nD,
      r.2.mem ((c.tc : Thread Cert.HgrnOut.nD Cert.HgrnOut.τ).loc Cert.HgrnOut.main_arg0) = m ((c.tc : Thread Cert.HgrnOut.nD Cert.HgrnOut.τ).loc Cert.HgrnOut.main_arg0)
      ∧ r.2.mem ((c.tc : Thread Cert.HgrnOut.nD Cert.HgrnOut.τ).loc Cert.HgrnOut.main_arg1) = m ((c.tc : Thread Cert.HgrnOut.nD Cert.HgrnOut.τ).loc Cert.HgrnOut.main_arg1)
      ∧ r.2.mem ((c.tc : Thread Cert.HgrnOut.nD Cert.HgrnOut.τ).loc Cert.HgrnOut.main_arg2) = m ((c.tc : Thread Cert.HgrnOut.nD Cert.HgrnOut.τ).loc Cert.HgrnOut.main_arg2)
      ∧ r.2.mem ((c.tc : Thread Cert.HgrnOut.nD Cert.HgrnOut.τ).loc Cert.HgrnOut.main_arg3) = m ((c.tc : Thread Cert.HgrnOut.nD Cert.HgrnOut.τ).loc Cert.HgrnOut.main_arg3)
      ∧ r.2.mem ((c.tc : Thread Cert.HgrnOut.nD Cert.HgrnOut.τ).loc Cert.HgrnOut.main_arg4) = m ((c.tc : Thread Cert.HgrnOut.nD Cert.HgrnOut.τ).loc Cert.HgrnOut.main_arg4))
      ∧ r.2.sem = fun _ => 0)

def quiescent_HgrnOutIdeal [hHgrnOutIdeal : Cert.HgrnOutIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg), Pre_HgrnOutIdeal m →
    θ_run (Cert.HgrnOutIdeal.defs (F := Ideal)) (onTc (τ := Cert.HgrnOutIdeal.τ) (Cert.HgrnOutIdeal.main (F := Ideal))) ⟨m, fun _ => 0, g⟩ (fun r => (∀ c : Dev Cert.HgrnOutIdeal.nD,
      r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
      ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
      ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
      ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3)
      ∧ r.2.mem ((c.tc : Thread Cert.HgrnOutIdeal.nD Cert.HgrnOutIdeal.τ).loc Cert.HgrnOutIdeal.main_arg4) = m ((c.tc : Thread Cert.HgrnOutIdeal.nD Cert.HgrnOutIdeal.τ).loc Cert.HgrnOutIdeal.main_arg4))
      ∧ r.2.sem = fun _ => 0)

def quiescent_HgrnOutIdeal_pre_hgrn_out_finite [hHgrnOutIdeal : Cert.HgrnOutIdeal.Facts] [hPre_hgrn_out_finite : Cert.Pre_hgrn_out_finite.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg), Pre_HgrnOutIdeal_hgrn_out_finite m →
    θ_run (Cert.HgrnOutIdeal.defs (F := Ideal)) (onTc (τ := Cert.HgrnOutIdeal.τ) (Cert.HgrnOutIdeal.main (F := Ideal))) ⟨m, fun _ => 0, g⟩ (fun r => (∀ c : Dev Cert.HgrnOutIdeal.nD,
      r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
      ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
      ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
      ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3)
      ∧ r.2.mem ((c.tc : Thread Cert.HgrnOutIdeal.nD Cert.HgrnOutIdeal.τ).loc Cert.HgrnOutIdeal.main_arg4) = m ((c.tc : Thread Cert.HgrnOutIdeal.nD Cert.HgrnOutIdeal.τ).loc Cert.HgrnOutIdeal.main_arg4))
      ∧ r.2.sem = fun _ => 0)

def quiescent_HgrnOutRefIdeal [hHgrnOutRefIdeal : Cert.HgrnOutRefIdeal.Facts] : Prop :=
  ∀ (m : (ℓ : Loc Cert.HgrnOutRefIdeal.nD Cert.HgrnOutRefIdeal.τ Cert.HgrnOutRefIdeal.sig) → Buf (Elt Ideal) ℓ) (g : Dev Cert.HgrnOutRefIdeal.nD → PrngReg), Pre_HgrnOutRefIdeal m →
    θ_run (Cert.HgrnOutRefIdeal.defs (F := Ideal)) (onTc (τ := Cert.HgrnOutRefIdeal.τ) (Cert.HgrnOutRefIdeal.main (F := Ideal))) ⟨m, fun _ => 0, g⟩ (fun r => (∀ c : Dev Cert.HgrnOutRefIdeal.nD,
      r.2.mem ((c.tc : Thread Cert.HgrnOutRefIdeal.nD Cert.HgrnOutRefIdeal.τ).loc Cert.HgrnOutRefIdeal.main_arg0) = m ((c.tc : Thread Cert.HgrnOutRefIdeal.nD Cert.HgrnOutRefIdeal.τ).loc Cert.HgrnOutRefIdeal.main_arg0)
      ∧ r.2.mem ((c.tc : Thread Cert.HgrnOutRefIdeal.nD Cert.HgrnOutRefIdeal.τ).loc Cert.HgrnOutRefIdeal.main_arg1) = m ((c.tc : Thread Cert.HgrnOutRefIdeal.nD Cert.HgrnOutRefIdeal.τ).loc Cert.HgrnOutRefIdeal.main_arg1)
      ∧ r.2.mem ((c.tc : Thread Cert.HgrnOutRefIdeal.nD Cert.HgrnOutRefIdeal.τ).loc Cert.HgrnOutRefIdeal.main_arg2) = m ((c.tc : Thread Cert.HgrnOutRefIdeal.nD Cert.HgrnOutRefIdeal.τ).loc Cert.HgrnOutRefIdeal.main_arg2)
      ∧ r.2.mem ((c.tc : Thread Cert.HgrnOutRefIdeal.nD Cert.HgrnOutRefIdeal.τ).loc Cert.HgrnOutRefIdeal.main_arg3) = m ((c.tc : Thread Cert.HgrnOutRefIdeal.nD Cert.HgrnOutRefIdeal.τ).loc Cert.HgrnOutRefIdeal.main_arg3)
      ∧ r.2.mem ((c.tc : Thread Cert.HgrnOutRefIdeal.nD Cert.HgrnOutRefIdeal.τ).loc Cert.HgrnOutRefIdeal.main_arg4) = m ((c.tc : Thread Cert.HgrnOutRefIdeal.nD Cert.HgrnOutRefIdeal.τ).loc Cert.HgrnOutRefIdeal.main_arg4))
      ∧ r.2.sem = fun _ => 0)

def quiescent_HgrnOutRefIdeal_pre_hgrn_out_finite [hHgrnOutRefIdeal : Cert.HgrnOutRefIdeal.Facts] [hPre_hgrn_out_finite : Cert.Pre_hgrn_out_finite.Facts] : Prop :=
  ∀ (m : (ℓ : Loc Cert.HgrnOutRefIdeal.nD Cert.HgrnOutRefIdeal.τ Cert.HgrnOutRefIdeal.sig) → Buf (Elt Ideal) ℓ) (g : Dev Cert.HgrnOutRefIdeal.nD → PrngReg), Pre_HgrnOutRefIdeal_hgrn_out_finite m →
    θ_run (Cert.HgrnOutRefIdeal.defs (F := Ideal)) (onTc (τ := Cert.HgrnOutRefIdeal.τ) (Cert.HgrnOutRefIdeal.main (F := Ideal))) ⟨m, fun _ => 0, g⟩ (fun r => (∀ c : Dev Cert.HgrnOutRefIdeal.nD,
      r.2.mem ((c.tc : Thread Cert.HgrnOutRefIdeal.nD Cert.HgrnOutRefIdeal.τ).loc Cert.HgrnOutRefIdeal.main_arg0) = m ((c.tc : Thread Cert.HgrnOutRefIdeal.nD Cert.HgrnOutRefIdeal.τ).loc Cert.HgrnOutRefIdeal.main_arg0)
      ∧ r.2.mem ((c.tc : Thread Cert.HgrnOutRefIdeal.nD Cert.HgrnOutRefIdeal.τ).loc Cert.HgrnOutRefIdeal.main_arg1) = m ((c.tc : Thread Cert.HgrnOutRefIdeal.nD Cert.HgrnOutRefIdeal.τ).loc Cert.HgrnOutRefIdeal.main_arg1)
      ∧ r.2.mem ((c.tc : Thread Cert.HgrnOutRefIdeal.nD Cert.HgrnOutRefIdeal.τ).loc Cert.HgrnOutRefIdeal.main_arg2) = m ((c.tc : Thread Cert.HgrnOutRefIdeal.nD Cert.HgrnOutRefIdeal.τ).loc Cert.HgrnOutRefIdeal.main_arg2)
      ∧ r.2.mem ((c.tc : Thread Cert.HgrnOutRefIdeal.nD Cert.HgrnOutRefIdeal.τ).loc Cert.HgrnOutRefIdeal.main_arg3) = m ((c.tc : Thread Cert.HgrnOutRefIdeal.nD Cert.HgrnOutRefIdeal.τ).loc Cert.HgrnOutRefIdeal.main_arg3)
      ∧ r.2.mem ((c.tc : Thread Cert.HgrnOutRefIdeal.nD Cert.HgrnOutRefIdeal.τ).loc Cert.HgrnOutRefIdeal.main_arg4) = m ((c.tc : Thread Cert.HgrnOutRefIdeal.nD Cert.HgrnOutRefIdeal.τ).loc Cert.HgrnOutRefIdeal.main_arg4))
      ∧ r.2.sem = fun _ => 0)

def quiescent_MlaFwd [hMlaFwd : Cert.MlaFwd.Facts] : Prop :=
  ∀ (m : (ℓ : Loc Cert.MlaFwd.nD Cert.MlaFwd.τ Cert.MlaFwd.sig) → Buf (Elt Bits) ℓ) (g : Dev Cert.MlaFwd.nD → PrngReg), Pre_MlaFwd m →
    θ_run (Cert.MlaFwd.defs (F := Bits)) (onTc (τ := Cert.MlaFwd.τ) (Cert.MlaFwd.main (F := Bits))) ⟨m, fun _ => 0, g⟩ (fun r => (∀ c : Dev Cert.MlaFwd.nD,
      r.2.mem ((c.tc : Thread Cert.MlaFwd.nD Cert.MlaFwd.τ).loc Cert.MlaFwd.main_arg0) = m ((c.tc : Thread Cert.MlaFwd.nD Cert.MlaFwd.τ).loc Cert.MlaFwd.main_arg0)
      ∧ r.2.mem ((c.tc : Thread Cert.MlaFwd.nD Cert.MlaFwd.τ).loc Cert.MlaFwd.main_arg1) = m ((c.tc : Thread Cert.MlaFwd.nD Cert.MlaFwd.τ).loc Cert.MlaFwd.main_arg1)
      ∧ r.2.mem ((c.tc : Thread Cert.MlaFwd.nD Cert.MlaFwd.τ).loc Cert.MlaFwd.main_arg2) = m ((c.tc : Thread Cert.MlaFwd.nD Cert.MlaFwd.τ).loc Cert.MlaFwd.main_arg2))
      ∧ r.2.sem = fun _ => 0)

def quiescent_MlaFwdIdeal [hMlaFwdIdeal : Cert.MlaFwdIdeal.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ r.2.sem = fun _ => 0)

def quiescent_MlaFwdIdeal_pre_mla_fwd_finite [hMlaFwdIdeal : Cert.MlaFwdIdeal.Facts] [hPre_mla_fwd_finite : Cert.Pre_mla_fwd_finite.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal_mla_fwd_finite m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ r.2.sem = fun _ => 0)

def quiescent_MlaFwdRefIdeal [hMlaFwdRefIdeal : Cert.MlaFwdRefIdeal.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2))
      ∧ r.2.sem = fun _ => 0)

def quiescent_MlaFwdRefIdeal_pre_mla_fwd_finite [hMlaFwdRefIdeal : Cert.MlaFwdRefIdeal.Facts] [hPre_mla_fwd_finite : Cert.Pre_mla_fwd_finite.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal_mla_fwd_finite m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2))
      ∧ r.2.sem = fun _ => 0)

def quiescent_RmsCol [hRmsCol : Cert.RmsCol.Facts] : Prop :=
  ∀ (m : (ℓ : Loc Cert.RmsCol.nD Cert.RmsCol.τ Cert.RmsCol.sig) → Buf (Elt Bits) ℓ) (g : Dev Cert.RmsCol.nD → PrngReg), Pre_RmsCol m →
    θ_run (Cert.RmsCol.defs (F := Bits)) (onTc (τ := Cert.RmsCol.τ) (Cert.RmsCol.main (F := Bits))) ⟨m, fun _ => 0, g⟩ (fun r => (∀ c : Dev Cert.RmsCol.nD,
      r.2.mem ((c.tc : Thread Cert.RmsCol.nD Cert.RmsCol.τ).loc Cert.RmsCol.main_arg0) = m ((c.tc : Thread Cert.RmsCol.nD Cert.RmsCol.τ).loc Cert.RmsCol.main_arg0)
      ∧ r.2.mem ((c.tc : Thread Cert.RmsCol.nD Cert.RmsCol.τ).loc Cert.RmsCol.main_arg1) = m ((c.tc : Thread Cert.RmsCol.nD Cert.RmsCol.τ).loc Cert.RmsCol.main_arg1)
      ∧ r.2.mem ((c.tc : Thread Cert.RmsCol.nD Cert.RmsCol.τ).loc Cert.RmsCol.main_arg2) = m ((c.tc : Thread Cert.RmsCol.nD Cert.RmsCol.τ).loc Cert.RmsCol.main_arg2))
      ∧ r.2.sem = fun _ => 0)

def quiescent_RmsColIdeal [hRmsColIdeal : Cert.RmsColIdeal.Facts] : Prop :=
  ∀ (m : (ℓ : Loc Cert.RmsColIdeal.nD Cert.RmsColIdeal.τ Cert.RmsColIdeal.sig) → Buf (Elt Ideal) ℓ) (g : Dev Cert.RmsColIdeal.nD → PrngReg), Pre_RmsColIdeal m →
    θ_run (Cert.RmsColIdeal.defs (F := Ideal)) (onTc (τ := Cert.RmsColIdeal.τ) (Cert.RmsColIdeal.main (F := Ideal))) ⟨m, fun _ => 0, g⟩ (fun r => (∀ c : Dev Cert.RmsColIdeal.nD,
      r.2.mem ((c.tc : Thread Cert.RmsColIdeal.nD Cert.RmsColIdeal.τ).loc Cert.RmsColIdeal.main_arg0) = m ((c.tc : Thread Cert.RmsColIdeal.nD Cert.RmsColIdeal.τ).loc Cert.RmsColIdeal.main_arg0)
      ∧ r.2.mem ((c.tc : Thread Cert.RmsColIdeal.nD Cert.RmsColIdeal.τ).loc Cert.RmsColIdeal.main_arg1) = m ((c.tc : Thread Cert.RmsColIdeal.nD Cert.RmsColIdeal.τ).loc Cert.RmsColIdeal.main_arg1)
      ∧ r.2.mem ((c.tc : Thread Cert.RmsColIdeal.nD Cert.RmsColIdeal.τ).loc Cert.RmsColIdeal.main_arg2) = m ((c.tc : Thread Cert.RmsColIdeal.nD Cert.RmsColIdeal.τ).loc Cert.RmsColIdeal.main_arg2))
      ∧ r.2.sem = fun _ => 0)

def quiescent_RmsColIdeal_pre_rms_col_finite [hRmsColIdeal : Cert.RmsColIdeal.Facts] [hPre_rms_col_finite : Cert.Pre_rms_col_finite.Facts] : Prop :=
  ∀ (m : (ℓ : Loc Cert.RmsColIdeal.nD Cert.RmsColIdeal.τ Cert.RmsColIdeal.sig) → Buf (Elt Ideal) ℓ) (g : Dev Cert.RmsColIdeal.nD → PrngReg), Pre_RmsColIdeal_rms_col_finite m →
    θ_run (Cert.RmsColIdeal.defs (F := Ideal)) (onTc (τ := Cert.RmsColIdeal.τ) (Cert.RmsColIdeal.main (F := Ideal))) ⟨m, fun _ => 0, g⟩ (fun r => (∀ c : Dev Cert.RmsColIdeal.nD,
      r.2.mem ((c.tc : Thread Cert.RmsColIdeal.nD Cert.RmsColIdeal.τ).loc Cert.RmsColIdeal.main_arg0) = m ((c.tc : Thread Cert.RmsColIdeal.nD Cert.RmsColIdeal.τ).loc Cert.RmsColIdeal.main_arg0)
      ∧ r.2.mem ((c.tc : Thread Cert.RmsColIdeal.nD Cert.RmsColIdeal.τ).loc Cert.RmsColIdeal.main_arg1) = m ((c.tc : Thread Cert.RmsColIdeal.nD Cert.RmsColIdeal.τ).loc Cert.RmsColIdeal.main_arg1)
      ∧ r.2.mem ((c.tc : Thread Cert.RmsColIdeal.nD Cert.RmsColIdeal.τ).loc Cert.RmsColIdeal.main_arg2) = m ((c.tc : Thread Cert.RmsColIdeal.nD Cert.RmsColIdeal.τ).loc Cert.RmsColIdeal.main_arg2))
      ∧ r.2.sem = fun _ => 0)

def quiescent_RmsColRefIdeal [hRmsColRefIdeal : Cert.RmsColRefIdeal.Facts] : Prop :=
  ∀ (m : (ℓ : Loc Cert.RmsColRefIdeal.nD Cert.RmsColRefIdeal.τ Cert.RmsColRefIdeal.sig) → Buf (Elt Ideal) ℓ) (g : Dev Cert.RmsColRefIdeal.nD → PrngReg), Pre_RmsColRefIdeal m →
    θ_run (Cert.RmsColRefIdeal.defs (F := Ideal)) (onTc (τ := Cert.RmsColRefIdeal.τ) (Cert.RmsColRefIdeal.main (F := Ideal))) ⟨m, fun _ => 0, g⟩ (fun r => (∀ c : Dev Cert.RmsColRefIdeal.nD,
      r.2.mem ((c.tc : Thread Cert.RmsColRefIdeal.nD Cert.RmsColRefIdeal.τ).loc Cert.RmsColRefIdeal.main_arg0) = m ((c.tc : Thread Cert.RmsColRefIdeal.nD Cert.RmsColRefIdeal.τ).loc Cert.RmsColRefIdeal.main_arg0)
      ∧ r.2.mem ((c.tc : Thread Cert.RmsColRefIdeal.nD Cert.RmsColRefIdeal.τ).loc Cert.RmsColRefIdeal.main_arg1) = m ((c.tc : Thread Cert.RmsColRefIdeal.nD Cert.RmsColRefIdeal.τ).loc Cert.RmsColRefIdeal.main_arg1)
      ∧ r.2.mem ((c.tc : Thread Cert.RmsColRefIdeal.nD Cert.RmsColRefIdeal.τ).loc Cert.RmsColRefIdeal.main_arg2) = m ((c.tc : Thread Cert.RmsColRefIdeal.nD Cert.RmsColRefIdeal.τ).loc Cert.RmsColRefIdeal.main_arg2))
      ∧ r.2.sem = fun _ => 0)

def quiescent_RmsColRefIdeal_pre_rms_col_finite [hRmsColRefIdeal : Cert.RmsColRefIdeal.Facts] [hPre_rms_col_finite : Cert.Pre_rms_col_finite.Facts] : Prop :=
  ∀ (m : (ℓ : Loc Cert.RmsColRefIdeal.nD Cert.RmsColRefIdeal.τ Cert.RmsColRefIdeal.sig) → Buf (Elt Ideal) ℓ) (g : Dev Cert.RmsColRefIdeal.nD → PrngReg), Pre_RmsColRefIdeal_rms_col_finite m →
    θ_run (Cert.RmsColRefIdeal.defs (F := Ideal)) (onTc (τ := Cert.RmsColRefIdeal.τ) (Cert.RmsColRefIdeal.main (F := Ideal))) ⟨m, fun _ => 0, g⟩ (fun r => (∀ c : Dev Cert.RmsColRefIdeal.nD,
      r.2.mem ((c.tc : Thread Cert.RmsColRefIdeal.nD Cert.RmsColRefIdeal.τ).loc Cert.RmsColRefIdeal.main_arg0) = m ((c.tc : Thread Cert.RmsColRefIdeal.nD Cert.RmsColRefIdeal.τ).loc Cert.RmsColRefIdeal.main_arg0)
      ∧ r.2.mem ((c.tc : Thread Cert.RmsColRefIdeal.nD Cert.RmsColRefIdeal.τ).loc Cert.RmsColRefIdeal.main_arg1) = m ((c.tc : Thread Cert.RmsColRefIdeal.nD Cert.RmsColRefIdeal.τ).loc Cert.RmsColRefIdeal.main_arg1)
      ∧ r.2.mem ((c.tc : Thread Cert.RmsColRefIdeal.nD Cert.RmsColRefIdeal.τ).loc Cert.RmsColRefIdeal.main_arg2) = m ((c.tc : Thread Cert.RmsColRefIdeal.nD Cert.RmsColRefIdeal.τ).loc Cert.RmsColRefIdeal.main_arg2))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4)
      ∧ r.2.mem ((c.tc : Thread Cert.Swa.nD Cert.Swa.τ).loc Cert.Swa.main_arg5) = m ((c.tc : Thread Cert.Swa.nD Cert.Swa.τ).loc Cert.Swa.main_arg5))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
      ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3)
      ∧ r.2.mem ((c.tc : Thread Cert.Hgrn.nD Cert.Hgrn.τ).loc Cert.Hgrn.main_arg4) = m ((c.tc : Thread Cert.Hgrn.nD Cert.Hgrn.τ).loc Cert.Hgrn.main_arg4)
      ∧ r.2.mem ((c.tc : Thread Cert.Hgrn.nD Cert.Hgrn.τ).loc Cert.Hgrn.main_arg5) = m ((c.tc : Thread Cert.Hgrn.nD Cert.Hgrn.τ).loc Cert.Hgrn.main_arg5))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5))
      ∧ r.2.sem = fun _ => 0)

def quiescent_CrossFwd [hCrossFwd : Cert.CrossFwd.Facts] : Prop :=
  ∀ (m : (ℓ : Loc Cert.CrossFwd.nD Cert.CrossFwd.τ Cert.CrossFwd.sig) → Buf (Elt Bits) ℓ) (g : Dev Cert.CrossFwd.nD → PrngReg), Pre_CrossFwd m →
    θ_run (Cert.CrossFwd.defs (F := Bits)) (onTc (τ := Cert.CrossFwd.τ) (Cert.CrossFwd.main (F := Bits))) ⟨m, fun _ => 0, g⟩ (fun r => (∀ c : Dev Cert.CrossFwd.nD,
      r.2.mem ((c.tc : Thread Cert.CrossFwd.nD Cert.CrossFwd.τ).loc Cert.CrossFwd.main_arg0) = m ((c.tc : Thread Cert.CrossFwd.nD Cert.CrossFwd.τ).loc Cert.CrossFwd.main_arg0)
      ∧ r.2.mem ((c.tc : Thread Cert.CrossFwd.nD Cert.CrossFwd.τ).loc Cert.CrossFwd.main_arg1) = m ((c.tc : Thread Cert.CrossFwd.nD Cert.CrossFwd.τ).loc Cert.CrossFwd.main_arg1))
      ∧ r.2.sem = fun _ => 0)

def quiescent_CrossFwdIdeal [hCrossFwdIdeal : Cert.CrossFwdIdeal.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg), Pre_CrossFwdIdeal m →
    θ_run (Cert.CrossFwdIdeal.defs (F := Ideal)) (onTc (τ := Cert.CrossFwdIdeal.τ) (Cert.CrossFwdIdeal.main (F := Ideal))) ⟨m, fun _ => 0, g⟩ (fun r => (∀ c : Dev Cert.CrossFwdIdeal.nD,
      r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
      ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1))
      ∧ r.2.sem = fun _ => 0)

def quiescent_CrossFwdRefIdeal [hCrossFwdRefIdeal : Cert.CrossFwdRefIdeal.Facts] : Prop :=
  ∀ (m : (ℓ : Loc Cert.CrossFwdRefIdeal.nD Cert.CrossFwdRefIdeal.τ Cert.CrossFwdRefIdeal.sig) → Buf (Elt Ideal) ℓ) (g : Dev Cert.CrossFwdRefIdeal.nD → PrngReg), Pre_CrossFwdRefIdeal m →
    θ_run (Cert.CrossFwdRefIdeal.defs (F := Ideal)) (onTc (τ := Cert.CrossFwdRefIdeal.τ) (Cert.CrossFwdRefIdeal.main (F := Ideal))) ⟨m, fun _ => 0, g⟩ (fun r => (∀ c : Dev Cert.CrossFwdRefIdeal.nD,
      r.2.mem ((c.tc : Thread Cert.CrossFwdRefIdeal.nD Cert.CrossFwdRefIdeal.τ).loc Cert.CrossFwdRefIdeal.main_arg0) = m ((c.tc : Thread Cert.CrossFwdRefIdeal.nD Cert.CrossFwdRefIdeal.τ).loc Cert.CrossFwdRefIdeal.main_arg0)
      ∧ r.2.mem ((c.tc : Thread Cert.CrossFwdRefIdeal.nD Cert.CrossFwdRefIdeal.τ).loc Cert.CrossFwdRefIdeal.main_arg1) = m ((c.tc : Thread Cert.CrossFwdRefIdeal.nD Cert.CrossFwdRefIdeal.τ).loc Cert.CrossFwdRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7)
      ∧ r.2.mem ((c.tc : Thread Cert.MergeFwd.nD Cert.MergeFwd.τ).loc Cert.MergeFwd.main_arg8) = m ((c.tc : Thread Cert.MergeFwd.nD Cert.MergeFwd.τ).loc Cert.MergeFwd.main_arg8))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
      ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7)
      ∧ r.2.mem ((c.tc : Thread Cert.MergeFwdRefIdeal.nD Cert.MergeFwdRefIdeal.τ).loc Cert.MergeFwdRefIdeal.main_arg8) = m ((c.tc : Thread Cert.MergeFwdRefIdeal.nD Cert.MergeFwdRefIdeal.τ).loc Cert.MergeFwdRefIdeal.main_arg8))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_HgrnOutFwd [hHgrnOutFwd : Cert.HgrnOutFwd.Facts] : Prop :=
  ∀ (m : (ℓ : Loc Cert.HgrnOutFwd.nD Cert.HgrnOutFwd.τ Cert.HgrnOutFwd.sig) → Buf (Elt Bits) ℓ) (g : Dev Cert.HgrnOutFwd.nD → PrngReg), Pre_HgrnOutFwd m →
    θ_run (Cert.HgrnOutFwd.defs (F := Bits)) (onTc (τ := Cert.HgrnOutFwd.τ) (Cert.HgrnOutFwd.main (F := Bits))) ⟨m, fun _ => 0, g⟩ (fun r => (∀ c : Dev Cert.HgrnOutFwd.nD,
      r.2.mem ((c.tc : Thread Cert.HgrnOutFwd.nD Cert.HgrnOutFwd.τ).loc Cert.HgrnOutFwd.main_arg0) = m ((c.tc : Thread Cert.HgrnOutFwd.nD Cert.HgrnOutFwd.τ).loc Cert.HgrnOutFwd.main_arg0)
      ∧ r.2.mem ((c.tc : Thread Cert.HgrnOutFwd.nD Cert.HgrnOutFwd.τ).loc Cert.HgrnOutFwd.main_arg1) = m ((c.tc : Thread Cert.HgrnOutFwd.nD Cert.HgrnOutFwd.τ).loc Cert.HgrnOutFwd.main_arg1)
      ∧ r.2.mem ((c.tc : Thread Cert.HgrnOutFwd.nD Cert.HgrnOutFwd.τ).loc Cert.HgrnOutFwd.main_arg2) = m ((c.tc : Thread Cert.HgrnOutFwd.nD Cert.HgrnOutFwd.τ).loc Cert.HgrnOutFwd.main_arg2)
      ∧ r.2.mem ((c.tc : Thread Cert.HgrnOutFwd.nD Cert.HgrnOutFwd.τ).loc Cert.HgrnOutFwd.main_arg3) = m ((c.tc : Thread Cert.HgrnOutFwd.nD Cert.HgrnOutFwd.τ).loc Cert.HgrnOutFwd.main_arg3))
      ∧ r.2.sem = fun _ => 0)

def quiescent_HgrnOutFwdIdeal [hHgrnOutFwdIdeal : Cert.HgrnOutFwdIdeal.Facts] : Prop :=
  ∀ (m : (ℓ : Loc Cert.HgrnOutFwdIdeal.nD Cert.HgrnOutFwdIdeal.τ Cert.HgrnOutFwdIdeal.sig) → Buf (Elt Ideal) ℓ) (g : Dev Cert.HgrnOutFwdIdeal.nD → PrngReg), Pre_HgrnOutFwdIdeal m →
    θ_run (Cert.HgrnOutFwdIdeal.defs (F := Ideal)) (onTc (τ := Cert.HgrnOutFwdIdeal.τ) (Cert.HgrnOutFwdIdeal.main (F := Ideal))) ⟨m, fun _ => 0, g⟩ (fun r => (∀ c : Dev Cert.HgrnOutFwdIdeal.nD,
      r.2.mem ((c.tc : Thread Cert.HgrnOutFwdIdeal.nD Cert.HgrnOutFwdIdeal.τ).loc Cert.HgrnOutFwdIdeal.main_arg0) = m ((c.tc : Thread Cert.HgrnOutFwdIdeal.nD Cert.HgrnOutFwdIdeal.τ).loc Cert.HgrnOutFwdIdeal.main_arg0)
      ∧ r.2.mem ((c.tc : Thread Cert.HgrnOutFwdIdeal.nD Cert.HgrnOutFwdIdeal.τ).loc Cert.HgrnOutFwdIdeal.main_arg1) = m ((c.tc : Thread Cert.HgrnOutFwdIdeal.nD Cert.HgrnOutFwdIdeal.τ).loc Cert.HgrnOutFwdIdeal.main_arg1)
      ∧ r.2.mem ((c.tc : Thread Cert.HgrnOutFwdIdeal.nD Cert.HgrnOutFwdIdeal.τ).loc Cert.HgrnOutFwdIdeal.main_arg2) = m ((c.tc : Thread Cert.HgrnOutFwdIdeal.nD Cert.HgrnOutFwdIdeal.τ).loc Cert.HgrnOutFwdIdeal.main_arg2)
      ∧ r.2.mem ((c.tc : Thread Cert.HgrnOutFwdIdeal.nD Cert.HgrnOutFwdIdeal.τ).loc Cert.HgrnOutFwdIdeal.main_arg3) = m ((c.tc : Thread Cert.HgrnOutFwdIdeal.nD Cert.HgrnOutFwdIdeal.τ).loc Cert.HgrnOutFwdIdeal.main_arg3))
      ∧ r.2.sem = fun _ => 0)

def quiescent_HgrnOutFwdRefIdeal [hHgrnOutFwdRefIdeal : Cert.HgrnOutFwdRefIdeal.Facts] : Prop :=
  ∀ (m : (ℓ : Loc Cert.HgrnOutFwdRefIdeal.nD Cert.HgrnOutFwdRefIdeal.τ Cert.HgrnOutFwdRefIdeal.sig) → Buf (Elt Ideal) ℓ) (g : Dev Cert.HgrnOutFwdRefIdeal.nD → PrngReg), Pre_HgrnOutFwdRefIdeal m →
    θ_run (Cert.HgrnOutFwdRefIdeal.defs (F := Ideal)) (onTc (τ := Cert.HgrnOutFwdRefIdeal.τ) (Cert.HgrnOutFwdRefIdeal.main (F := Ideal))) ⟨m, fun _ => 0, g⟩ (fun r => (∀ c : Dev Cert.HgrnOutFwdRefIdeal.nD,
      r.2.mem ((c.tc : Thread Cert.HgrnOutFwdRefIdeal.nD Cert.HgrnOutFwdRefIdeal.τ).loc Cert.HgrnOutFwdRefIdeal.main_arg0) = m ((c.tc : Thread Cert.HgrnOutFwdRefIdeal.nD Cert.HgrnOutFwdRefIdeal.τ).loc Cert.HgrnOutFwdRefIdeal.main_arg0)
      ∧ r.2.mem ((c.tc : Thread Cert.HgrnOutFwdRefIdeal.nD Cert.HgrnOutFwdRefIdeal.τ).loc Cert.HgrnOutFwdRefIdeal.main_arg1) = m ((c.tc : Thread Cert.HgrnOutFwdRefIdeal.nD Cert.HgrnOutFwdRefIdeal.τ).loc Cert.HgrnOutFwdRefIdeal.main_arg1)
      ∧ r.2.mem ((c.tc : Thread Cert.HgrnOutFwdRefIdeal.nD Cert.HgrnOutFwdRefIdeal.τ).loc Cert.HgrnOutFwdRefIdeal.main_arg2) = m ((c.tc : Thread Cert.HgrnOutFwdRefIdeal.nD Cert.HgrnOutFwdRefIdeal.τ).loc Cert.HgrnOutFwdRefIdeal.main_arg2)
      ∧ r.2.mem ((c.tc : Thread Cert.HgrnOutFwdRefIdeal.nD Cert.HgrnOutFwdRefIdeal.τ).loc Cert.HgrnOutFwdRefIdeal.main_arg3) = m ((c.tc : Thread Cert.HgrnOutFwdRefIdeal.nD Cert.HgrnOutFwdRefIdeal.τ).loc Cert.HgrnOutFwdRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v7_0)) (v1 : (c : Dev Cert.MergeIdeal.nD) → Buf (Elt Ideal) ((c.tc : Thread Cert.MergeIdeal.nD Cert.MergeIdeal.τ).loc Cert.MergeIdeal.main_v7_1)) (v2 : (c : Dev Cert.MergeIdeal.nD) → Buf (Elt Ideal) ((c.tc : Thread Cert.MergeIdeal.nD Cert.MergeIdeal.τ).loc Cert.MergeIdeal.main_v7_2)) (v3 : (c : Dev Cert.MergeIdeal.nD) → Buf (Elt Ideal) ((c.tc : Thread Cert.MergeIdeal.nD Cert.MergeIdeal.τ).loc Cert.MergeIdeal.main_v7_3)) (v4 : (c : Dev Cert.MergeIdeal.nD) → Buf (Elt Ideal) ((c.tc : Thread Cert.MergeIdeal.nD Cert.MergeIdeal.τ).loc Cert.MergeIdeal.main_v7_4)) (v5 : (c : Dev Cert.MergeIdeal.nD) → Buf (Elt Ideal) ((c.tc : Thread Cert.MergeIdeal.nD Cert.MergeIdeal.τ).loc Cert.MergeIdeal.main_v7_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7_0) = v0 c
          ∧ r.2.mem ((c.tc : Thread Cert.MergeIdeal.nD Cert.MergeIdeal.τ).loc Cert.MergeIdeal.main_v7_1) = v1 c
          ∧ r.2.mem ((c.tc : Thread Cert.MergeIdeal.nD Cert.MergeIdeal.τ).loc Cert.MergeIdeal.main_v7_2) = v2 c
          ∧ r.2.mem ((c.tc : Thread Cert.MergeIdeal.nD Cert.MergeIdeal.τ).loc Cert.MergeIdeal.main_v7_3) = v3 c
          ∧ r.2.mem ((c.tc : Thread Cert.MergeIdeal.nD Cert.MergeIdeal.τ).loc Cert.MergeIdeal.main_v7_4) = v4 c
          ∧ r.2.mem ((c.tc : Thread Cert.MergeIdeal.nD Cert.MergeIdeal.τ).loc Cert.MergeIdeal.main_v7_5) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v46) = v0 c
          ∧ r.2.mem ((c.tc : Thread Cert.MergeRefIdeal.nD Cert.MergeRefIdeal.τ).loc Cert.MergeRefIdeal.main_v47) = v1 c
          ∧ r.2.mem ((c.tc : Thread Cert.MergeRefIdeal.nD Cert.MergeRefIdeal.τ).loc Cert.MergeRefIdeal.main_v48) = v2 c
          ∧ r.2.mem ((c.tc : Thread Cert.MergeRefIdeal.nD Cert.MergeRefIdeal.τ).loc Cert.MergeRefIdeal.main_v49) = v3 c
          ∧ r.2.mem ((c.tc : Thread Cert.MergeRefIdeal.nD Cert.MergeRefIdeal.τ).loc Cert.MergeRefIdeal.main_v50) = v4 c
          ∧ r.2.mem ((c.tc : Thread Cert.MergeRefIdeal.nD Cert.MergeRefIdeal.τ).loc Cert.MergeRefIdeal.main_v51) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Mla_MlaIdeal : Prop :=
  IdealRules.named_const.Statement Cert.MlaIdeal.κ "ln2" .f32 0x3F317218#32 ((Real.log 2 : ℝ) : EReal)

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v116)) (v1 : (c : Dev Cert.MlaIdeal.nD) → Buf (Elt Ideal) ((c.tc : Thread Cert.MlaIdeal.nD Cert.MlaIdeal.τ).loc Cert.MlaIdeal.main_v122)) (v2 : (c : Dev Cert.MlaIdeal.nD) → Buf (Elt Ideal) ((c.tc : Thread Cert.MlaIdeal.nD Cert.MlaIdeal.τ).loc Cert.MlaIdeal.main_v131)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v116) = v0 c
          ∧ r.2.mem ((c.tc : Thread Cert.MlaIdeal.nD Cert.MlaIdeal.τ).loc Cert.MlaIdeal.main_v122) = v1 c
          ∧ r.2.mem ((c.tc : Thread Cert.MlaIdeal.nD Cert.MlaIdeal.τ).loc Cert.MlaIdeal.main_v131) = v2 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v161) = v0 c
          ∧ r.2.mem ((c.tc : Thread Cert.MlaRefIdeal.nD Cert.MlaRefIdeal.τ).loc Cert.MlaRefIdeal.main_v125) = v1 c
          ∧ r.2.mem ((c.tc : Thread Cert.MlaRefIdeal.nD Cert.MlaRefIdeal.τ).loc Cert.MlaRefIdeal.main_v140) = v2 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3))

def preserves_Cross_CrossIdeal : Prop :=
  True

def algebraic_CrossIdeal_CrossRefIdeal_pre_cross_finite [hCrossIdeal : Cert.CrossIdeal.Facts] [hCrossRefIdeal : Cert.CrossRefIdeal.Facts] [hPre_cross_finite : Cert.Pre_cross_finite.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_cross_finite m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)) →
    ∃ (v0 : (c : Dev Cert.CrossIdeal.nD) → Buf (Elt Ideal) ((c.tc : Thread Cert.CrossIdeal.nD Cert.CrossIdeal.τ).loc Cert.CrossIdeal.main_v3_0)) (v1 : (c : Dev Cert.CrossIdeal.nD) → Buf (Elt Ideal) ((c.tc : Thread Cert.CrossIdeal.nD Cert.CrossIdeal.τ).loc Cert.CrossIdeal.main_v3_1)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v3_0) = v0 c
          ∧ r.2.mem ((c.tc : Thread Cert.CrossIdeal.nD Cert.CrossIdeal.τ).loc Cert.CrossIdeal.main_v3_1) = v1 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v70) = v0 c
          ∧ r.2.mem ((c.tc : Thread Cert.CrossRefIdeal.nD Cert.CrossRefIdeal.τ).loc Cert.CrossRefIdeal.main_v68) = v1 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2))

def preserves_Swiglu_SwigluIdeal : Prop :=
  True

def algebraic_SwigluIdeal_SwigluRefIdeal_pre_swiglu_finite [hSwigluIdeal : Cert.SwigluIdeal.Facts] [hSwigluRefIdeal : Cert.SwigluRefIdeal.Facts] [hPre_swiglu_finite : Cert.Pre_swiglu_finite.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_swiglu_finite m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)
      ∧ m' ((c.tc : Thread Cert.SwigluRefIdeal.nD Cert.SwigluRefIdeal.τ).loc Cert.SwigluRefIdeal.main_arg4) = m ((c.tc : Thread Cert.SwigluIdeal.nD Cert.SwigluIdeal.τ).loc Cert.SwigluIdeal.main_arg4)) →
    ∃ (v0 : (c : Dev Cert.SwigluIdeal.nD) → Buf (Elt Ideal) ((c.tc : Thread Cert.SwigluIdeal.nD Cert.SwigluIdeal.τ).loc Cert.SwigluIdeal.main_v5_0)) (v1 : (c : Dev Cert.SwigluIdeal.nD) → Buf (Elt Ideal) ((c.tc : Thread Cert.SwigluIdeal.nD Cert.SwigluIdeal.τ).loc Cert.SwigluIdeal.main_v5_1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v5_0) = v0 c
          ∧ r.2.mem ((c.tc : Thread Cert.SwigluIdeal.nD Cert.SwigluIdeal.τ).loc Cert.SwigluIdeal.main_v5_1) = v1 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
          ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v9) = v0 c
          ∧ r.2.mem ((c.tc : Thread Cert.SwigluRefIdeal.nD Cert.SwigluRefIdeal.τ).loc Cert.SwigluRefIdeal.main_v10) = v1 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3)
          ∧ r.2.mem ((c.tc : Thread Cert.SwigluRefIdeal.nD Cert.SwigluRefIdeal.τ).loc Cert.SwigluRefIdeal.main_arg4) = m' ((c.tc : Thread Cert.SwigluRefIdeal.nD Cert.SwigluRefIdeal.τ).loc Cert.SwigluRefIdeal.main_arg4))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v3)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v4) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v24) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v36) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Rms_RmsIdeal : Prop :=
  True

def algebraic_RmsIdeal_RmsRefIdeal_pre_rms_finite [hRmsIdeal : Cert.RmsIdeal.Facts] [hRmsRefIdeal : Cert.RmsRefIdeal.Facts] [hPre_rms_finite : Cert.Pre_rms_finite.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal_rms_finite m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v1_0)) (v1 : (c : Dev Cert.RmsIdeal.nD) → Buf (Elt Ideal) ((c.tc : Thread Cert.RmsIdeal.nD Cert.RmsIdeal.τ).loc Cert.RmsIdeal.main_v2)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1_0) = v0 c
          ∧ r.2.mem ((c.tc : Thread Cert.RmsIdeal.nD Cert.RmsIdeal.τ).loc Cert.RmsIdeal.main_v2) = v1 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v36) = v0 c
          ∧ r.2.mem ((c.tc : Thread Cert.RmsRefIdeal.nD Cert.RmsRefIdeal.τ).loc Cert.RmsRefIdeal.main_v21) = v1 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_HgrnOut_HgrnOutIdeal : Prop :=
  True

def algebraic_HgrnOutIdeal_HgrnOutRefIdeal_pre_hgrn_out_finite [hHgrnOutIdeal : Cert.HgrnOutIdeal.Facts] [hHgrnOutRefIdeal : Cert.HgrnOutRefIdeal.Facts] [hPre_hgrn_out_finite : Cert.Pre_hgrn_out_finite.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg)
    (m' : (ℓ : Loc Cert.HgrnOutRefIdeal.nD Cert.HgrnOutRefIdeal.τ Cert.HgrnOutRefIdeal.sig) → Buf (Elt Ideal) ℓ) (g' : Dev Cert.HgrnOutRefIdeal.nD → PrngReg), Pre_HgrnOutIdeal_hgrn_out_finite m →
    (∀ c : Dev Cert.HgrnOutIdeal.nD,
      m' ((c.tc : Thread Cert.HgrnOutRefIdeal.nD Cert.HgrnOutRefIdeal.τ).loc Cert.HgrnOutRefIdeal.main_arg0) = m ((c.tc : Thread Cert.HgrnOutIdeal.nD Cert.HgrnOutIdeal.τ).loc Cert.HgrnOutIdeal.main_arg0)
      ∧ m' ((c.tc : Thread Cert.HgrnOutRefIdeal.nD Cert.HgrnOutRefIdeal.τ).loc Cert.HgrnOutRefIdeal.main_arg1) = m ((c.tc : Thread Cert.HgrnOutIdeal.nD Cert.HgrnOutIdeal.τ).loc Cert.HgrnOutIdeal.main_arg1)
      ∧ m' ((c.tc : Thread Cert.HgrnOutRefIdeal.nD Cert.HgrnOutRefIdeal.τ).loc Cert.HgrnOutRefIdeal.main_arg2) = m ((c.tc : Thread Cert.HgrnOutIdeal.nD Cert.HgrnOutIdeal.τ).loc Cert.HgrnOutIdeal.main_arg2)
      ∧ m' ((c.tc : Thread Cert.HgrnOutRefIdeal.nD Cert.HgrnOutRefIdeal.τ).loc Cert.HgrnOutRefIdeal.main_arg3) = m ((c.tc : Thread Cert.HgrnOutIdeal.nD Cert.HgrnOutIdeal.τ).loc Cert.HgrnOutIdeal.main_arg3)
      ∧ m' ((c.tc : Thread Cert.HgrnOutRefIdeal.nD Cert.HgrnOutRefIdeal.τ).loc Cert.HgrnOutRefIdeal.main_arg4) = m ((c.tc : Thread Cert.HgrnOutIdeal.nD Cert.HgrnOutIdeal.τ).loc Cert.HgrnOutIdeal.main_arg4)) →
    ∃ (v0 : (c : Dev Cert.HgrnOutIdeal.nD) → Buf (Elt Ideal) ((c.tc : Thread Cert.HgrnOutIdeal.nD Cert.HgrnOutIdeal.τ).loc Cert.HgrnOutIdeal.main_v5_0)) (v1 : (c : Dev Cert.HgrnOutIdeal.nD) → Buf (Elt Ideal) ((c.tc : Thread Cert.HgrnOutIdeal.nD Cert.HgrnOutIdeal.τ).loc Cert.HgrnOutIdeal.main_v5_1)) (v2 : (c : Dev Cert.HgrnOutIdeal.nD) → Buf (Elt Ideal) ((c.tc : Thread Cert.HgrnOutIdeal.nD Cert.HgrnOutIdeal.τ).loc Cert.HgrnOutIdeal.main_v6)),
      θ_run (Cert.HgrnOutIdeal.defs (F := Ideal)) (onTc (τ := Cert.HgrnOutIdeal.τ) (Cert.HgrnOutIdeal.main (F := Ideal))) ⟨m, fun _ => 0, g⟩ (fun r => ∀ c : Dev Cert.HgrnOutIdeal.nD,
          r.2.mem ((c.tc : Thread Cert.HgrnOutIdeal.nD Cert.HgrnOutIdeal.τ).loc Cert.HgrnOutIdeal.main_v5_0) = v0 c
          ∧ r.2.mem ((c.tc : Thread Cert.HgrnOutIdeal.nD Cert.HgrnOutIdeal.τ).loc Cert.HgrnOutIdeal.main_v5_1) = v1 c
          ∧ r.2.mem ((c.tc : Thread Cert.HgrnOutIdeal.nD Cert.HgrnOutIdeal.τ).loc Cert.HgrnOutIdeal.main_v6) = v2 c
          ∧ r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
          ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
          ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
          ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3)
          ∧ r.2.mem ((c.tc : Thread Cert.HgrnOutIdeal.nD Cert.HgrnOutIdeal.τ).loc Cert.HgrnOutIdeal.main_arg4) = m ((c.tc : Thread Cert.HgrnOutIdeal.nD Cert.HgrnOutIdeal.τ).loc Cert.HgrnOutIdeal.main_arg4))
      ∧ θ_run (Cert.HgrnOutRefIdeal.defs (F := Ideal)) (onTc (τ := Cert.HgrnOutRefIdeal.τ) (Cert.HgrnOutRefIdeal.main (F := Ideal))) ⟨m', fun _ => 0, g'⟩ (fun r => ∀ c : Dev Cert.HgrnOutRefIdeal.nD,
          r.2.mem ((c.tc : Thread Cert.HgrnOutRefIdeal.nD Cert.HgrnOutRefIdeal.τ).loc Cert.HgrnOutRefIdeal.main_v46) = v0 c
          ∧ r.2.mem ((c.tc : Thread Cert.HgrnOutRefIdeal.nD Cert.HgrnOutRefIdeal.τ).loc Cert.HgrnOutRefIdeal.main_v25) = v1 c
          ∧ r.2.mem ((c.tc : Thread Cert.HgrnOutRefIdeal.nD Cert.HgrnOutRefIdeal.τ).loc Cert.HgrnOutRefIdeal.main_v31) = v2 c
          ∧ r.2.mem ((c.tc : Thread Cert.HgrnOutRefIdeal.nD Cert.HgrnOutRefIdeal.τ).loc Cert.HgrnOutRefIdeal.main_arg0) = m' ((c.tc : Thread Cert.HgrnOutRefIdeal.nD Cert.HgrnOutRefIdeal.τ).loc Cert.HgrnOutRefIdeal.main_arg0)
          ∧ r.2.mem ((c.tc : Thread Cert.HgrnOutRefIdeal.nD Cert.HgrnOutRefIdeal.τ).loc Cert.HgrnOutRefIdeal.main_arg1) = m' ((c.tc : Thread Cert.HgrnOutRefIdeal.nD Cert.HgrnOutRefIdeal.τ).loc Cert.HgrnOutRefIdeal.main_arg1)
          ∧ r.2.mem ((c.tc : Thread Cert.HgrnOutRefIdeal.nD Cert.HgrnOutRefIdeal.τ).loc Cert.HgrnOutRefIdeal.main_arg2) = m' ((c.tc : Thread Cert.HgrnOutRefIdeal.nD Cert.HgrnOutRefIdeal.τ).loc Cert.HgrnOutRefIdeal.main_arg2)
          ∧ r.2.mem ((c.tc : Thread Cert.HgrnOutRefIdeal.nD Cert.HgrnOutRefIdeal.τ).loc Cert.HgrnOutRefIdeal.main_arg3) = m' ((c.tc : Thread Cert.HgrnOutRefIdeal.nD Cert.HgrnOutRefIdeal.τ).loc Cert.HgrnOutRefIdeal.main_arg3)
          ∧ r.2.mem ((c.tc : Thread Cert.HgrnOutRefIdeal.nD Cert.HgrnOutRefIdeal.τ).loc Cert.HgrnOutRefIdeal.main_arg4) = m' ((c.tc : Thread Cert.HgrnOutRefIdeal.nD Cert.HgrnOutRefIdeal.τ).loc Cert.HgrnOutRefIdeal.main_arg4))

def preserves_MlaFwd_MlaFwdIdeal : Prop :=
  IdealRules.named_const.Statement Cert.MlaFwdIdeal.κ "log2e" .f32 0x3FB8AA3B#32 (((Real.log 2)⁻¹ : ℝ) : EReal)

def algebraic_MlaFwdIdeal_MlaFwdRefIdeal_pre_mla_fwd_finite [hMlaFwdIdeal : Cert.MlaFwdIdeal.Facts] [hMlaFwdRefIdeal : Cert.MlaFwdRefIdeal.Facts] [hPre_mla_fwd_finite : Cert.Pre_mla_fwd_finite.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg)
    (m' : (ℓ : Loc Cert.MlaFwdRefIdeal.nD Cert.MlaFwdRefIdeal.τ Cert.MlaFwdRefIdeal.sig) → Buf (Elt Ideal) ℓ) (g' : Dev Cert.MlaFwdRefIdeal.nD → PrngReg), Pre_MlaFwdIdeal_mla_fwd_finite m →
    (∀ c : Dev Cert.MlaFwdIdeal.nD,
      m' ((c.tc : Thread Cert.MlaFwdRefIdeal.nD Cert.MlaFwdRefIdeal.τ).loc Cert.MlaFwdRefIdeal.main_arg0) = m ((c.tc : Thread Cert.MlaFwdIdeal.nD Cert.MlaFwdIdeal.τ).loc Cert.MlaFwdIdeal.main_arg0)
      ∧ m' ((c.tc : Thread Cert.MlaFwdRefIdeal.nD Cert.MlaFwdRefIdeal.τ).loc Cert.MlaFwdRefIdeal.main_arg1) = m ((c.tc : Thread Cert.MlaFwdIdeal.nD Cert.MlaFwdIdeal.τ).loc Cert.MlaFwdIdeal.main_arg1)
      ∧ m' ((c.tc : Thread Cert.MlaFwdRefIdeal.nD Cert.MlaFwdRefIdeal.τ).loc Cert.MlaFwdRefIdeal.main_arg2) = m ((c.tc : Thread Cert.MlaFwdIdeal.nD Cert.MlaFwdIdeal.τ).loc Cert.MlaFwdIdeal.main_arg2)) →
    ∃ (v0 : (c : Dev Cert.MlaFwdIdeal.nD) → Buf (Elt Ideal) ((c.tc : Thread Cert.MlaFwdIdeal.nD Cert.MlaFwdIdeal.τ).loc Cert.MlaFwdIdeal.main_v76_0)) (v1 : (c : Dev Cert.MlaFwdIdeal.nD) → Buf (Elt Ideal) ((c.tc : Thread Cert.MlaFwdIdeal.nD Cert.MlaFwdIdeal.τ).loc Cert.MlaFwdIdeal.main_v76_1)),
      θ_run (Cert.MlaFwdIdeal.defs (F := Ideal)) (onTc (τ := Cert.MlaFwdIdeal.τ) (Cert.MlaFwdIdeal.main (F := Ideal))) ⟨m, fun _ => 0, g⟩ (fun r => ∀ c : Dev Cert.MlaFwdIdeal.nD,
          r.2.mem ((c.tc : Thread Cert.MlaFwdIdeal.nD Cert.MlaFwdIdeal.τ).loc Cert.MlaFwdIdeal.main_v76_0) = v0 c
          ∧ r.2.mem ((c.tc : Thread Cert.MlaFwdIdeal.nD Cert.MlaFwdIdeal.τ).loc Cert.MlaFwdIdeal.main_v76_1) = v1 c
          ∧ r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
          ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
          ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ θ_run (Cert.MlaFwdRefIdeal.defs (F := Ideal)) (onTc (τ := Cert.MlaFwdRefIdeal.τ) (Cert.MlaFwdRefIdeal.main (F := Ideal))) ⟨m', fun _ => 0, g'⟩ (fun r => ∀ c : Dev Cert.MlaFwdRefIdeal.nD,
          r.2.mem ((c.tc : Thread Cert.MlaFwdRefIdeal.nD Cert.MlaFwdRefIdeal.τ).loc Cert.MlaFwdRefIdeal.main_v78) = v0 c
          ∧ r.2.mem ((c.tc : Thread Cert.MlaFwdRefIdeal.nD Cert.MlaFwdRefIdeal.τ).loc Cert.MlaFwdRefIdeal.main_v84) = v1 c
          ∧ r.2.mem ((c.tc : Thread Cert.MlaFwdRefIdeal.nD Cert.MlaFwdRefIdeal.τ).loc Cert.MlaFwdRefIdeal.main_arg0) = m' ((c.tc : Thread Cert.MlaFwdRefIdeal.nD Cert.MlaFwdRefIdeal.τ).loc Cert.MlaFwdRefIdeal.main_arg0)
          ∧ r.2.mem ((c.tc : Thread Cert.MlaFwdRefIdeal.nD Cert.MlaFwdRefIdeal.τ).loc Cert.MlaFwdRefIdeal.main_arg1) = m' ((c.tc : Thread Cert.MlaFwdRefIdeal.nD Cert.MlaFwdRefIdeal.τ).loc Cert.MlaFwdRefIdeal.main_arg1)
          ∧ r.2.mem ((c.tc : Thread Cert.MlaFwdRefIdeal.nD Cert.MlaFwdRefIdeal.τ).loc Cert.MlaFwdRefIdeal.main_arg2) = m' ((c.tc : Thread Cert.MlaFwdRefIdeal.nD Cert.MlaFwdRefIdeal.τ).loc Cert.MlaFwdRefIdeal.main_arg2))

def preserves_RmsCol_RmsColIdeal : Prop :=
  True

def algebraic_RmsColIdeal_RmsColRefIdeal_pre_rms_col_finite [hRmsColIdeal : Cert.RmsColIdeal.Facts] [hRmsColRefIdeal : Cert.RmsColRefIdeal.Facts] [hPre_rms_col_finite : Cert.Pre_rms_col_finite.Facts] : Prop :=
  ∀ (m : (ℓ : Loc Cert.RmsColIdeal.nD Cert.RmsColIdeal.τ Cert.RmsColIdeal.sig) → Buf (Elt Ideal) ℓ) (g : Dev Cert.RmsColIdeal.nD → PrngReg)
    (m' : (ℓ : Loc Cert.RmsColRefIdeal.nD Cert.RmsColRefIdeal.τ Cert.RmsColRefIdeal.sig) → Buf (Elt Ideal) ℓ) (g' : Dev Cert.RmsColRefIdeal.nD → PrngReg), Pre_RmsColIdeal_rms_col_finite m →
    (∀ c : Dev Cert.RmsColIdeal.nD,
      m' ((c.tc : Thread Cert.RmsColRefIdeal.nD Cert.RmsColRefIdeal.τ).loc Cert.RmsColRefIdeal.main_arg0) = m ((c.tc : Thread Cert.RmsColIdeal.nD Cert.RmsColIdeal.τ).loc Cert.RmsColIdeal.main_arg0)
      ∧ m' ((c.tc : Thread Cert.RmsColRefIdeal.nD Cert.RmsColRefIdeal.τ).loc Cert.RmsColRefIdeal.main_arg1) = m ((c.tc : Thread Cert.RmsColIdeal.nD Cert.RmsColIdeal.τ).loc Cert.RmsColIdeal.main_arg1)
      ∧ m' ((c.tc : Thread Cert.RmsColRefIdeal.nD Cert.RmsColRefIdeal.τ).loc Cert.RmsColRefIdeal.main_arg2) = m ((c.tc : Thread Cert.RmsColIdeal.nD Cert.RmsColIdeal.τ).loc Cert.RmsColIdeal.main_arg2)) →
    ∃ (v0 : (c : Dev Cert.RmsColIdeal.nD) → Buf (Elt Ideal) ((c.tc : Thread Cert.RmsColIdeal.nD Cert.RmsColIdeal.τ).loc Cert.RmsColIdeal.main_v3_0)) (v1 : (c : Dev Cert.RmsColIdeal.nD) → Buf (Elt Ideal) ((c.tc : Thread Cert.RmsColIdeal.nD Cert.RmsColIdeal.τ).loc Cert.RmsColIdeal.main_v4)),
      θ_run (Cert.RmsColIdeal.defs (F := Ideal)) (onTc (τ := Cert.RmsColIdeal.τ) (Cert.RmsColIdeal.main (F := Ideal))) ⟨m, fun _ => 0, g⟩ (fun r => ∀ c : Dev Cert.RmsColIdeal.nD,
          r.2.mem ((c.tc : Thread Cert.RmsColIdeal.nD Cert.RmsColIdeal.τ).loc Cert.RmsColIdeal.main_v3_0) = v0 c
          ∧ r.2.mem ((c.tc : Thread Cert.RmsColIdeal.nD Cert.RmsColIdeal.τ).loc Cert.RmsColIdeal.main_v4) = v1 c
          ∧ r.2.mem ((c.tc : Thread Cert.RmsColIdeal.nD Cert.RmsColIdeal.τ).loc Cert.RmsColIdeal.main_arg0) = m ((c.tc : Thread Cert.RmsColIdeal.nD Cert.RmsColIdeal.τ).loc Cert.RmsColIdeal.main_arg0)
          ∧ r.2.mem ((c.tc : Thread Cert.RmsColIdeal.nD Cert.RmsColIdeal.τ).loc Cert.RmsColIdeal.main_arg1) = m ((c.tc : Thread Cert.RmsColIdeal.nD Cert.RmsColIdeal.τ).loc Cert.RmsColIdeal.main_arg1)
          ∧ r.2.mem ((c.tc : Thread Cert.RmsColIdeal.nD Cert.RmsColIdeal.τ).loc Cert.RmsColIdeal.main_arg2) = m ((c.tc : Thread Cert.RmsColIdeal.nD Cert.RmsColIdeal.τ).loc Cert.RmsColIdeal.main_arg2))
      ∧ θ_run (Cert.RmsColRefIdeal.defs (F := Ideal)) (onTc (τ := Cert.RmsColRefIdeal.τ) (Cert.RmsColRefIdeal.main (F := Ideal))) ⟨m', fun _ => 0, g'⟩ (fun r => ∀ c : Dev Cert.RmsColRefIdeal.nD,
          r.2.mem ((c.tc : Thread Cert.RmsColRefIdeal.nD Cert.RmsColRefIdeal.τ).loc Cert.RmsColRefIdeal.main_v36) = v0 c
          ∧ r.2.mem ((c.tc : Thread Cert.RmsColRefIdeal.nD Cert.RmsColRefIdeal.τ).loc Cert.RmsColRefIdeal.main_v21) = v1 c
          ∧ r.2.mem ((c.tc : Thread Cert.RmsColRefIdeal.nD Cert.RmsColRefIdeal.τ).loc Cert.RmsColRefIdeal.main_arg0) = m' ((c.tc : Thread Cert.RmsColRefIdeal.nD Cert.RmsColRefIdeal.τ).loc Cert.RmsColRefIdeal.main_arg0)
          ∧ r.2.mem ((c.tc : Thread Cert.RmsColRefIdeal.nD Cert.RmsColRefIdeal.τ).loc Cert.RmsColRefIdeal.main_arg1) = m' ((c.tc : Thread Cert.RmsColRefIdeal.nD Cert.RmsColRefIdeal.τ).loc Cert.RmsColRefIdeal.main_arg1)
          ∧ r.2.mem ((c.tc : Thread Cert.RmsColRefIdeal.nD Cert.RmsColRefIdeal.τ).loc Cert.RmsColRefIdeal.main_arg2) = m' ((c.tc : Thread Cert.RmsColRefIdeal.nD Cert.RmsColRefIdeal.τ).loc Cert.RmsColRefIdeal.main_arg2))

def preserves_Swa_SwaIdeal : Prop :=
  True

def preserves_Band_BandIdeal : Prop :=
  True

def algebraic_BandIdeal_BandRefIdeal [hBandIdeal : Cert.BandIdeal.Facts] [hBandRefIdeal : Cert.BandRefIdeal.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)
      ∧ m' ((c.tc : Thread Cert.BandRefIdeal.nD Cert.BandRefIdeal.τ).loc Cert.BandRefIdeal.main_arg2) = m ((c.tc : Thread Cert.BandIdeal.nD Cert.BandIdeal.τ).loc Cert.BandIdeal.main_arg2)) →
    ∃ (v0 : (c : Dev Cert.BandIdeal.nD) → Buf (Elt Ideal) ((c.tc : Thread Cert.BandIdeal.nD Cert.BandIdeal.τ).loc Cert.BandIdeal.main_v3)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v3) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
          ∧ r.2.mem ((c.tc : Thread Cert.BandIdeal.nD Cert.BandIdeal.τ).loc Cert.BandIdeal.main_arg2) = m ((c.tc : Thread Cert.BandIdeal.nD Cert.BandIdeal.τ).loc Cert.BandIdeal.main_arg2))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v50) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1)
          ∧ r.2.mem ((c.tc : Thread Cert.BandRefIdeal.nD Cert.BandRefIdeal.τ).loc Cert.BandRefIdeal.main_arg2) = m' ((c.tc : Thread Cert.BandRefIdeal.nD Cert.BandRefIdeal.τ).loc Cert.BandRefIdeal.main_arg2))

def preserves_Hgrn_HgrnIdeal : Prop :=
  True

def preserves_CrossFwd_CrossFwdIdeal : Prop :=
  True

def algebraic_CrossFwdIdeal_CrossFwdRefIdeal [hCrossFwdIdeal : Cert.CrossFwdIdeal.Facts] [hCrossFwdRefIdeal : Cert.CrossFwdRefIdeal.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg)
    (m' : (ℓ : Loc Cert.CrossFwdRefIdeal.nD Cert.CrossFwdRefIdeal.τ Cert.CrossFwdRefIdeal.sig) → Buf (Elt Ideal) ℓ) (g' : Dev Cert.CrossFwdRefIdeal.nD → PrngReg), Pre_CrossFwdIdeal m →
    (∀ c : Dev Cert.CrossFwdIdeal.nD,
      m' ((c.tc : Thread Cert.CrossFwdRefIdeal.nD Cert.CrossFwdRefIdeal.τ).loc Cert.CrossFwdRefIdeal.main_arg0) = m ((c.tc : Thread Cert.CrossFwdIdeal.nD Cert.CrossFwdIdeal.τ).loc Cert.CrossFwdIdeal.main_arg0)
      ∧ m' ((c.tc : Thread Cert.CrossFwdRefIdeal.nD Cert.CrossFwdRefIdeal.τ).loc Cert.CrossFwdRefIdeal.main_arg1) = m ((c.tc : Thread Cert.CrossFwdIdeal.nD Cert.CrossFwdIdeal.τ).loc Cert.CrossFwdIdeal.main_arg1)) →
    ∃ (v0 : (c : Dev Cert.CrossFwdIdeal.nD) → Buf (Elt Ideal) ((c.tc : Thread Cert.CrossFwdIdeal.nD Cert.CrossFwdIdeal.τ).loc Cert.CrossFwdIdeal.main_v2)),
      θ_run (Cert.CrossFwdIdeal.defs (F := Ideal)) (onTc (τ := Cert.CrossFwdIdeal.τ) (Cert.CrossFwdIdeal.main (F := Ideal))) ⟨m, fun _ => 0, g⟩ (fun r => ∀ c : Dev Cert.CrossFwdIdeal.nD,
          r.2.mem ((c.tc : Thread Cert.CrossFwdIdeal.nD Cert.CrossFwdIdeal.τ).loc Cert.CrossFwdIdeal.main_v2) = v0 c
          ∧ r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
          ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1))
      ∧ θ_run (Cert.CrossFwdRefIdeal.defs (F := Ideal)) (onTc (τ := Cert.CrossFwdRefIdeal.τ) (Cert.CrossFwdRefIdeal.main (F := Ideal))) ⟨m', fun _ => 0, g'⟩ (fun r => ∀ c : Dev Cert.CrossFwdRefIdeal.nD,
          r.2.mem ((c.tc : Thread Cert.CrossFwdRefIdeal.nD Cert.CrossFwdRefIdeal.τ).loc Cert.CrossFwdRefIdeal.main_v23) = v0 c
          ∧ r.2.mem ((c.tc : Thread Cert.CrossFwdRefIdeal.nD Cert.CrossFwdRefIdeal.τ).loc Cert.CrossFwdRefIdeal.main_arg0) = m' ((c.tc : Thread Cert.CrossFwdRefIdeal.nD Cert.CrossFwdRefIdeal.τ).loc Cert.CrossFwdRefIdeal.main_arg0)
          ∧ r.2.mem ((c.tc : Thread Cert.CrossFwdRefIdeal.nD Cert.CrossFwdRefIdeal.τ).loc Cert.CrossFwdRefIdeal.main_arg1) = m' ((c.tc : Thread Cert.CrossFwdRefIdeal.nD Cert.CrossFwdRefIdeal.τ).loc Cert.CrossFwdRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)
      ∧ m' ((c.tc : Thread Cert.MergeFwdRefIdeal.nD Cert.MergeFwdRefIdeal.τ).loc Cert.MergeFwdRefIdeal.main_arg8) = m ((c.tc : Thread Cert.MergeFwdIdeal.nD Cert.MergeFwdIdeal.τ).loc Cert.MergeFwdIdeal.main_arg8)) →
    ∃ (v0 : (c : Dev Cert.MergeFwdIdeal.nD) → Buf (Elt Ideal) ((c.tc : Thread Cert.MergeFwdIdeal.nD Cert.MergeFwdIdeal.τ).loc Cert.MergeFwdIdeal.main_v7)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v7) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
          ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v26) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7)
          ∧ r.2.mem ((c.tc : Thread Cert.MergeFwdRefIdeal.nD Cert.MergeFwdRefIdeal.τ).loc Cert.MergeFwdRefIdeal.main_arg8) = m' ((c.tc : Thread Cert.MergeFwdRefIdeal.nD Cert.MergeFwdRefIdeal.τ).loc Cert.MergeFwdRefIdeal.main_arg8))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v3_0)) (v1 : (c : Dev Cert.FfnUpIdeal.nD) → Buf (Elt Ideal) ((c.tc : Thread Cert.FfnUpIdeal.nD Cert.FfnUpIdeal.τ).loc Cert.FfnUpIdeal.main_v3_1)) (v2 : (c : Dev Cert.FfnUpIdeal.nD) → Buf (Elt Ideal) ((c.tc : Thread Cert.FfnUpIdeal.nD Cert.FfnUpIdeal.τ).loc Cert.FfnUpIdeal.main_v3_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v3_0) = v0 c
          ∧ r.2.mem ((c.tc : Thread Cert.FfnUpIdeal.nD Cert.FfnUpIdeal.τ).loc Cert.FfnUpIdeal.main_v3_1) = v1 c
          ∧ r.2.mem ((c.tc : Thread Cert.FfnUpIdeal.nD Cert.FfnUpIdeal.τ).loc Cert.FfnUpIdeal.main_v3_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v2) = v0 c
          ∧ r.2.mem ((c.tc : Thread Cert.FfnUpRefIdeal.nD Cert.FfnUpRefIdeal.τ).loc Cert.FfnUpRefIdeal.main_v3) = v1 c
          ∧ r.2.mem ((c.tc : Thread Cert.FfnUpRefIdeal.nD Cert.FfnUpRefIdeal.τ).loc Cert.FfnUpRefIdeal.main_v6) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_HgrnOutFwd_HgrnOutFwdIdeal : Prop :=
  True

def algebraic_HgrnOutFwdIdeal_HgrnOutFwdRefIdeal [hHgrnOutFwdIdeal : Cert.HgrnOutFwdIdeal.Facts] [hHgrnOutFwdRefIdeal : Cert.HgrnOutFwdRefIdeal.Facts] : Prop :=
  ∀ (m : (ℓ : Loc Cert.HgrnOutFwdIdeal.nD Cert.HgrnOutFwdIdeal.τ Cert.HgrnOutFwdIdeal.sig) → Buf (Elt Ideal) ℓ) (g : Dev Cert.HgrnOutFwdIdeal.nD → PrngReg)
    (m' : (ℓ : Loc Cert.HgrnOutFwdRefIdeal.nD Cert.HgrnOutFwdRefIdeal.τ Cert.HgrnOutFwdRefIdeal.sig) → Buf (Elt Ideal) ℓ) (g' : Dev Cert.HgrnOutFwdRefIdeal.nD → PrngReg), Pre_HgrnOutFwdIdeal m →
    (∀ c : Dev Cert.HgrnOutFwdIdeal.nD,
      m' ((c.tc : Thread Cert.HgrnOutFwdRefIdeal.nD Cert.HgrnOutFwdRefIdeal.τ).loc Cert.HgrnOutFwdRefIdeal.main_arg0) = m ((c.tc : Thread Cert.HgrnOutFwdIdeal.nD Cert.HgrnOutFwdIdeal.τ).loc Cert.HgrnOutFwdIdeal.main_arg0)
      ∧ m' ((c.tc : Thread Cert.HgrnOutFwdRefIdeal.nD Cert.HgrnOutFwdRefIdeal.τ).loc Cert.HgrnOutFwdRefIdeal.main_arg1) = m ((c.tc : Thread Cert.HgrnOutFwdIdeal.nD Cert.HgrnOutFwdIdeal.τ).loc Cert.HgrnOutFwdIdeal.main_arg1)
      ∧ m' ((c.tc : Thread Cert.HgrnOutFwdRefIdeal.nD Cert.HgrnOutFwdRefIdeal.τ).loc Cert.HgrnOutFwdRefIdeal.main_arg2) = m ((c.tc : Thread Cert.HgrnOutFwdIdeal.nD Cert.HgrnOutFwdIdeal.τ).loc Cert.HgrnOutFwdIdeal.main_arg2)
      ∧ m' ((c.tc : Thread Cert.HgrnOutFwdRefIdeal.nD Cert.HgrnOutFwdRefIdeal.τ).loc Cert.HgrnOutFwdRefIdeal.main_arg3) = m ((c.tc : Thread Cert.HgrnOutFwdIdeal.nD Cert.HgrnOutFwdIdeal.τ).loc Cert.HgrnOutFwdIdeal.main_arg3)) →
    ∃ (v0 : (c : Dev Cert.HgrnOutFwdIdeal.nD) → Buf (Elt Ideal) ((c.tc : Thread Cert.HgrnOutFwdIdeal.nD Cert.HgrnOutFwdIdeal.τ).loc Cert.HgrnOutFwdIdeal.main_v5)),
      θ_run (Cert.HgrnOutFwdIdeal.defs (F := Ideal)) (onTc (τ := Cert.HgrnOutFwdIdeal.τ) (Cert.HgrnOutFwdIdeal.main (F := Ideal))) ⟨m, fun _ => 0, g⟩ (fun r => ∀ c : Dev Cert.HgrnOutFwdIdeal.nD,
          r.2.mem ((c.tc : Thread Cert.HgrnOutFwdIdeal.nD Cert.HgrnOutFwdIdeal.τ).loc Cert.HgrnOutFwdIdeal.main_v5) = v0 c
          ∧ r.2.mem ((c.tc : Thread Cert.HgrnOutFwdIdeal.nD Cert.HgrnOutFwdIdeal.τ).loc Cert.HgrnOutFwdIdeal.main_arg0) = m ((c.tc : Thread Cert.HgrnOutFwdIdeal.nD Cert.HgrnOutFwdIdeal.τ).loc Cert.HgrnOutFwdIdeal.main_arg0)
          ∧ r.2.mem ((c.tc : Thread Cert.HgrnOutFwdIdeal.nD Cert.HgrnOutFwdIdeal.τ).loc Cert.HgrnOutFwdIdeal.main_arg1) = m ((c.tc : Thread Cert.HgrnOutFwdIdeal.nD Cert.HgrnOutFwdIdeal.τ).loc Cert.HgrnOutFwdIdeal.main_arg1)
          ∧ r.2.mem ((c.tc : Thread Cert.HgrnOutFwdIdeal.nD Cert.HgrnOutFwdIdeal.τ).loc Cert.HgrnOutFwdIdeal.main_arg2) = m ((c.tc : Thread Cert.HgrnOutFwdIdeal.nD Cert.HgrnOutFwdIdeal.τ).loc Cert.HgrnOutFwdIdeal.main_arg2)
          ∧ r.2.mem ((c.tc : Thread Cert.HgrnOutFwdIdeal.nD Cert.HgrnOutFwdIdeal.τ).loc Cert.HgrnOutFwdIdeal.main_arg3) = m ((c.tc : Thread Cert.HgrnOutFwdIdeal.nD Cert.HgrnOutFwdIdeal.τ).loc Cert.HgrnOutFwdIdeal.main_arg3))
      ∧ θ_run (Cert.HgrnOutFwdRefIdeal.defs (F := Ideal)) (onTc (τ := Cert.HgrnOutFwdRefIdeal.τ) (Cert.HgrnOutFwdRefIdeal.main (F := Ideal))) ⟨m', fun _ => 0, g'⟩ (fun r => ∀ c : Dev Cert.HgrnOutFwdRefIdeal.nD,
          r.2.mem ((c.tc : Thread Cert.HgrnOutFwdRefIdeal.nD Cert.HgrnOutFwdRefIdeal.τ).loc Cert.HgrnOutFwdRefIdeal.main_v18) = v0 c
          ∧ r.2.mem ((c.tc : Thread Cert.HgrnOutFwdRefIdeal.nD Cert.HgrnOutFwdRefIdeal.τ).loc Cert.HgrnOutFwdRefIdeal.main_arg0) = m' ((c.tc : Thread Cert.HgrnOutFwdRefIdeal.nD Cert.HgrnOutFwdRefIdeal.τ).loc Cert.HgrnOutFwdRefIdeal.main_arg0)
          ∧ r.2.mem ((c.tc : Thread Cert.HgrnOutFwdRefIdeal.nD Cert.HgrnOutFwdRefIdeal.τ).loc Cert.HgrnOutFwdRefIdeal.main_arg1) = m' ((c.tc : Thread Cert.HgrnOutFwdRefIdeal.nD Cert.HgrnOutFwdRefIdeal.τ).loc Cert.HgrnOutFwdRefIdeal.main_arg1)
          ∧ r.2.mem ((c.tc : Thread Cert.HgrnOutFwdRefIdeal.nD Cert.HgrnOutFwdRefIdeal.τ).loc Cert.HgrnOutFwdRefIdeal.main_arg2) = m' ((c.tc : Thread Cert.HgrnOutFwdRefIdeal.nD Cert.HgrnOutFwdRefIdeal.τ).loc Cert.HgrnOutFwdRefIdeal.main_arg2)
          ∧ r.2.mem ((c.tc : Thread Cert.HgrnOutFwdRefIdeal.nD Cert.HgrnOutFwdRefIdeal.τ).loc Cert.HgrnOutFwdRefIdeal.main_arg3) = m' ((c.tc : Thread Cert.HgrnOutFwdRefIdeal.nD Cert.HgrnOutFwdRefIdeal.τ).loc Cert.HgrnOutFwdRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def Claim : Prop :=
  ∃ (hMerge : Cert.Merge.Facts) (hMergeIdeal : Cert.MergeIdeal.Facts) (hMergeRefIdeal : Cert.MergeRefIdeal.Facts) (hMla : Cert.Mla.Facts) (hMlaIdeal : Cert.MlaIdeal.Facts) (hMlaRefIdeal : Cert.MlaRefIdeal.Facts) (hCross : Cert.Cross.Facts) (hCrossIdeal : Cert.CrossIdeal.Facts) (hCrossRefIdeal : Cert.CrossRefIdeal.Facts) (hSwiglu : Cert.Swiglu.Facts) (hSwigluIdeal : Cert.SwigluIdeal.Facts) (hSwigluRefIdeal : Cert.SwigluRefIdeal.Facts) (hLoss : Cert.Loss.Facts) (hLossIdeal : Cert.LossIdeal.Facts) (hLossRefIdeal : Cert.LossRefIdeal.Facts) (hRms : Cert.Rms.Facts) (hRmsIdeal : Cert.RmsIdeal.Facts) (hRmsRefIdeal : Cert.RmsRefIdeal.Facts) (hHgrnOut : Cert.HgrnOut.Facts) (hHgrnOutIdeal : Cert.HgrnOutIdeal.Facts) (hHgrnOutRefIdeal : Cert.HgrnOutRefIdeal.Facts) (hMlaFwd : Cert.MlaFwd.Facts) (hMlaFwdIdeal : Cert.MlaFwdIdeal.Facts) (hMlaFwdRefIdeal : Cert.MlaFwdRefIdeal.Facts) (hRmsCol : Cert.RmsCol.Facts) (hRmsColIdeal : Cert.RmsColIdeal.Facts) (hRmsColRefIdeal : Cert.RmsColRefIdeal.Facts) (hSwa : Cert.Swa.Facts) (hSwaIdeal : Cert.SwaIdeal.Facts) (hBand : Cert.Band.Facts) (hBandIdeal : Cert.BandIdeal.Facts) (hBandRefIdeal : Cert.BandRefIdeal.Facts) (hHgrn : Cert.Hgrn.Facts) (hHgrnIdeal : Cert.HgrnIdeal.Facts) (hCrossFwd : Cert.CrossFwd.Facts) (hCrossFwdIdeal : Cert.CrossFwdIdeal.Facts) (hCrossFwdRefIdeal : Cert.CrossFwdRefIdeal.Facts) (hMergeFwd : Cert.MergeFwd.Facts) (hMergeFwdIdeal : Cert.MergeFwdIdeal.Facts) (hMergeFwdRefIdeal : Cert.MergeFwdRefIdeal.Facts) (hFfnUp : Cert.FfnUp.Facts) (hFfnUpIdeal : Cert.FfnUpIdeal.Facts) (hFfnUpRefIdeal : Cert.FfnUpRefIdeal.Facts) (hHgrnOutFwd : Cert.HgrnOutFwd.Facts) (hHgrnOutFwdIdeal : Cert.HgrnOutFwdIdeal.Facts) (hHgrnOutFwdRefIdeal : Cert.HgrnOutFwdRefIdeal.Facts) (hRmsFwd : Cert.RmsFwd.Facts) (hRmsFwdIdeal : Cert.RmsFwdIdeal.Facts) (hRmsFwdRefIdeal : Cert.RmsFwdRefIdeal.Facts) (hPre_mla_finite : Cert.Pre_mla_finite.Facts) (hPre_cross_finite : Cert.Pre_cross_finite.Facts) (hPre_swiglu_finite : Cert.Pre_swiglu_finite.Facts) (hPre_loss_finite : Cert.Pre_loss_finite.Facts) (hPre_rms_finite : Cert.Pre_rms_finite.Facts) (hPre_hgrn_out_finite : Cert.Pre_hgrn_out_finite.Facts) (hPre_mla_fwd_finite : Cert.Pre_mla_fwd_finite.Facts) (hPre_rms_col_finite : Cert.Pre_rms_col_finite.Facts),
    quiescent_Merge (hMerge := hMerge)
    ∧ quiescent_MergeIdeal (hMergeIdeal := hMergeIdeal)
    ∧ quiescent_MergeRefIdeal (hMergeRefIdeal := hMergeRefIdeal)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Cross (hCross := hCross)
    ∧ quiescent_CrossIdeal (hCrossIdeal := hCrossIdeal)
    ∧ quiescent_CrossIdeal_pre_cross_finite (hCrossIdeal := hCrossIdeal) (hPre_cross_finite := hPre_cross_finite)
    ∧ quiescent_CrossRefIdeal (hCrossRefIdeal := hCrossRefIdeal)
    ∧ quiescent_CrossRefIdeal_pre_cross_finite (hCrossRefIdeal := hCrossRefIdeal) (hPre_cross_finite := hPre_cross_finite)
    ∧ quiescent_Swiglu (hSwiglu := hSwiglu)
    ∧ quiescent_SwigluIdeal (hSwigluIdeal := hSwigluIdeal)
    ∧ quiescent_SwigluIdeal_pre_swiglu_finite (hSwigluIdeal := hSwigluIdeal) (hPre_swiglu_finite := hPre_swiglu_finite)
    ∧ quiescent_SwigluRefIdeal (hSwigluRefIdeal := hSwigluRefIdeal)
    ∧ quiescent_SwigluRefIdeal_pre_swiglu_finite (hSwigluRefIdeal := hSwigluRefIdeal) (hPre_swiglu_finite := hPre_swiglu_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Rms (hRms := hRms)
    ∧ quiescent_RmsIdeal (hRmsIdeal := hRmsIdeal)
    ∧ quiescent_RmsIdeal_pre_rms_finite (hRmsIdeal := hRmsIdeal) (hPre_rms_finite := hPre_rms_finite)
    ∧ quiescent_RmsRefIdeal (hRmsRefIdeal := hRmsRefIdeal)
    ∧ quiescent_RmsRefIdeal_pre_rms_finite (hRmsRefIdeal := hRmsRefIdeal) (hPre_rms_finite := hPre_rms_finite)
    ∧ quiescent_HgrnOut (hHgrnOut := hHgrnOut)
    ∧ quiescent_HgrnOutIdeal (hHgrnOutIdeal := hHgrnOutIdeal)
    ∧ quiescent_HgrnOutIdeal_pre_hgrn_out_finite (hHgrnOutIdeal := hHgrnOutIdeal) (hPre_hgrn_out_finite := hPre_hgrn_out_finite)
    ∧ quiescent_HgrnOutRefIdeal (hHgrnOutRefIdeal := hHgrnOutRefIdeal)
    ∧ quiescent_HgrnOutRefIdeal_pre_hgrn_out_finite (hHgrnOutRefIdeal := hHgrnOutRefIdeal) (hPre_hgrn_out_finite := hPre_hgrn_out_finite)
    ∧ quiescent_MlaFwd (hMlaFwd := hMlaFwd)
    ∧ quiescent_MlaFwdIdeal (hMlaFwdIdeal := hMlaFwdIdeal)
    ∧ quiescent_MlaFwdIdeal_pre_mla_fwd_finite (hMlaFwdIdeal := hMlaFwdIdeal) (hPre_mla_fwd_finite := hPre_mla_fwd_finite)
    ∧ quiescent_MlaFwdRefIdeal (hMlaFwdRefIdeal := hMlaFwdRefIdeal)
    ∧ quiescent_MlaFwdRefIdeal_pre_mla_fwd_finite (hMlaFwdRefIdeal := hMlaFwdRefIdeal) (hPre_mla_fwd_finite := hPre_mla_fwd_finite)
    ∧ quiescent_RmsCol (hRmsCol := hRmsCol)
    ∧ quiescent_RmsColIdeal (hRmsColIdeal := hRmsColIdeal)
    ∧ quiescent_RmsColIdeal_pre_rms_col_finite (hRmsColIdeal := hRmsColIdeal) (hPre_rms_col_finite := hPre_rms_col_finite)
    ∧ quiescent_RmsColRefIdeal (hRmsColRefIdeal := hRmsColRefIdeal)
    ∧ quiescent_RmsColRefIdeal_pre_rms_col_finite (hRmsColRefIdeal := hRmsColRefIdeal) (hPre_rms_col_finite := hPre_rms_col_finite)
    ∧ quiescent_Swa (hSwa := hSwa)
    ∧ quiescent_SwaIdeal (hSwaIdeal := hSwaIdeal)
    ∧ quiescent_Band (hBand := hBand)
    ∧ quiescent_BandIdeal (hBandIdeal := hBandIdeal)
    ∧ quiescent_BandRefIdeal (hBandRefIdeal := hBandRefIdeal)
    ∧ quiescent_Hgrn (hHgrn := hHgrn)
    ∧ quiescent_HgrnIdeal (hHgrnIdeal := hHgrnIdeal)
    ∧ quiescent_CrossFwd (hCrossFwd := hCrossFwd)
    ∧ quiescent_CrossFwdIdeal (hCrossFwdIdeal := hCrossFwdIdeal)
    ∧ quiescent_CrossFwdRefIdeal (hCrossFwdRefIdeal := hCrossFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_HgrnOutFwd (hHgrnOutFwd := hHgrnOutFwd)
    ∧ quiescent_HgrnOutFwdIdeal (hHgrnOutFwdIdeal := hHgrnOutFwdIdeal)
    ∧ quiescent_HgrnOutFwdRefIdeal (hHgrnOutFwdRefIdeal := hHgrnOutFwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ preserves_Merge_MergeIdeal
    ∧ algebraic_MergeIdeal_MergeRefIdeal (hMergeIdeal := hMergeIdeal) (hMergeRefIdeal := hMergeRefIdeal)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Cross_CrossIdeal
    ∧ algebraic_CrossIdeal_CrossRefIdeal_pre_cross_finite (hCrossIdeal := hCrossIdeal) (hCrossRefIdeal := hCrossRefIdeal) (hPre_cross_finite := hPre_cross_finite)
    ∧ preserves_Swiglu_SwigluIdeal
    ∧ algebraic_SwigluIdeal_SwigluRefIdeal_pre_swiglu_finite (hSwigluIdeal := hSwigluIdeal) (hSwigluRefIdeal := hSwigluRefIdeal) (hPre_swiglu_finite := hPre_swiglu_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Rms_RmsIdeal
    ∧ algebraic_RmsIdeal_RmsRefIdeal_pre_rms_finite (hRmsIdeal := hRmsIdeal) (hRmsRefIdeal := hRmsRefIdeal) (hPre_rms_finite := hPre_rms_finite)
    ∧ preserves_HgrnOut_HgrnOutIdeal
    ∧ algebraic_HgrnOutIdeal_HgrnOutRefIdeal_pre_hgrn_out_finite (hHgrnOutIdeal := hHgrnOutIdeal) (hHgrnOutRefIdeal := hHgrnOutRefIdeal) (hPre_hgrn_out_finite := hPre_hgrn_out_finite)
    ∧ preserves_MlaFwd_MlaFwdIdeal
    ∧ algebraic_MlaFwdIdeal_MlaFwdRefIdeal_pre_mla_fwd_finite (hMlaFwdIdeal := hMlaFwdIdeal) (hMlaFwdRefIdeal := hMlaFwdRefIdeal) (hPre_mla_fwd_finite := hPre_mla_fwd_finite)
    ∧ preserves_RmsCol_RmsColIdeal
    ∧ algebraic_RmsColIdeal_RmsColRefIdeal_pre_rms_col_finite (hRmsColIdeal := hRmsColIdeal) (hRmsColRefIdeal := hRmsColRefIdeal) (hPre_rms_col_finite := hPre_rms_col_finite)
    ∧ preserves_Swa_SwaIdeal
    ∧ preserves_Band_BandIdeal
    ∧ algebraic_BandIdeal_BandRefIdeal (hBandIdeal := hBandIdeal) (hBandRefIdeal := hBandRefIdeal)
    ∧ preserves_Hgrn_HgrnIdeal
    ∧ preserves_CrossFwd_CrossFwdIdeal
    ∧ algebraic_CrossFwdIdeal_CrossFwdRefIdeal (hCrossFwdIdeal := hCrossFwdIdeal) (hCrossFwdRefIdeal := hCrossFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_FfnUp_FfnUpIdeal
    ∧ algebraic_FfnUpIdeal_FfnUpRefIdeal (hFfnUpIdeal := hFfnUpIdeal) (hFfnUpRefIdeal := hFfnUpRefIdeal)
    ∧ preserves_HgrnOutFwd_HgrnOutFwdIdeal
    ∧ algebraic_HgrnOutFwdIdeal_HgrnOutFwdRefIdeal (hHgrnOutFwdIdeal := hHgrnOutFwdIdeal) (hHgrnOutFwdRefIdeal := hHgrnOutFwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
-- ==== Pre_cross_finite.lean ====
abbrev S16384x1024 : Shape := ⟨2, ![16384, 1024]⟩
abbrev S256x2048 : Shape := ⟨2, ![256, 2048]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S16384x1024 .f32) (main_arg1 : FVec F S256x2048 .f32) (main_arg2 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  main_v13
-- ==== Pre_hgrn_out_finite.lean ====
abbrev S16384x8x64 : Shape := ⟨3, ![16384, 8, 64]⟩
abbrev S16384x512 : Shape := ⟨2, ![16384, 512]⟩
abbrev S64 : Shape := ⟨1, ![64]⟩
abbrev S_ : Shape := ⟨0, ![]⟩

class Facts : Prop where
  bcast_S_S16384x8x64 : S_.BroadcastsInDim S16384x8x64 (![] : Fin 0 → Fin S16384x8x64.rank)
  reducesTo_S16384x8x64_S_d0_1_2 : S16384x8x64.ReducesTo [0, 1, 2] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S16384x512 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16384x512 .f32 := Host.absf main_arg4
  let main_cst_6 : FVec F S_ .f32 := constant S_ .f32 0x7F800000#32
  let main_v20 : FVec F S16384x512 .f32 := broadcastInDim S16384x512 ![] bcast_S_S16384x512 main_cst_6
  let main_v21 : IVec S16384x512 1 := cmpf .olt main_v19 main_v20
  let main_c_7 : IVec S_ 1 := constantI S_ 1 1#1
  let main_v22 : IVec S_ 1 := (fun x v => Host.reduce IntOp.andi x v reducesTo_S16384x512_S_d0_1 h_S_) main_v21 main_c_7
  let main_v23 : IVec S_ 1 := andi main_v18 main_v22
  main_v23

def fn {F : FTy → Type} [FloatOps F] (main_arg0 : FVec F S16384x8x64 .f32) (main_arg1 : FVec F S16384x8x64 .f32) (main_arg2 : FVec F S16384x512 .f32) (main_arg3 : FVec F S64 .f32) (main_arg4 : FVec F S16384x512 .f32) : IVec S_ 1 :=
  let main_v0 : FVec F S16384x8x64 .f32 := Host.absf main_arg0
  let main_cst : FVec F S_ .f32 := constant S_ .f32 0x7F800000#32
  let main_v1 : FVec F S16384x8x64 .f32 := broadcastInDim S16384x8x64 ![] bcast_S_S16384x8x64 main_cst
  let main_v2 : IVec S16384x8x64 1 := cmpf .olt main_v0 main_v1
  let main_c : IVec S_ 1 := constantI S_ 1 1#1
  let main_v3 : IVec S_ 1 := (fun x v => Host.reduce IntOp.andi x v reducesTo_S16384x8x64_S_d0_1_2 h_S_) main_v2 main_c
  let main_v4 : FVec F S16384x8x64 .f32 := Host.absf main_arg1
  let main_cst_0 : FVec F S_ .f32 := constant S_ .f32 0x7F800000#32
  let main_v5 : FVec F S16384x8x64 .f32 := broadcastInDim S16384x8x64 ![] bcast_S_S16384x8x64 main_cst_0
  let main_v6 : IVec S16384x8x64 1 := cmpf .olt main_v4 main_v5
  let main_c_1 : IVec S_ 1 := constantI S_ 1 1#1
  let main_v7 : IVec S_ 1 := (fun x v => Host.reduce IntOp.andi x v reducesTo_S16384x8x64_S_d0_1_2 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Pre_loss_finite.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x1024 .f32) (main_arg1 : FVec F S1024 .f32) (main_arg2 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  main_v13
-- ==== Pre_mla_finite.lean ====
abbrev S16384x8x96 : Shape := ⟨3, ![16384, 8, 96]⟩
abbrev S16384x8x128 : Shape := ⟨3, ![16384, 8, 128]⟩
abbrev S16384x32 : Shape := ⟨2, ![16384, 32]⟩
abbrev S16384x512 : Shape := ⟨2, ![16384, 512]⟩
abbrev S_ : Shape := ⟨0, ![]⟩

class Facts : Prop where
  bcast_S_S16384x8x96 : S_.BroadcastsInDim S16384x8x96 (![] : Fin 0 → Fin S16384x8x96.rank)
  reducesTo_S16384x8x96_S_d0_1_2 : S16384x8x96.ReducesTo [0, 1, 2] S_
  h_S_ : 0 < S_.numel
  bcast_S_S16384x8x128 : S_.BroadcastsInDim S16384x8x128 (![] : Fin 0 → Fin S16384x8x128.rank)
  reducesTo_S16384x8x128_S_d0_1_2 : S16384x8x128.ReducesTo [0, 1, 2] S_
  bcast_S_S16384x32 : S_.BroadcastsInDim S16384x32 (![] : Fin 0 → Fin S16384x32.rank)
  reducesTo_S16384x32_S_d0_1 : S16384x32.ReducesTo [0, 1] S_
  bcast_S_S16384x512 : S_.BroadcastsInDim S16384x512 (![] : Fin 0 → Fin S16384x512.rank)
  reducesTo_S16384x512_S_d0_1 : S16384x512.ReducesTo [0, 1] S_

variable [Facts]

def fn_part1 {F : FTy → Type} [FloatOps F] (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  main_v18

def fn {F : FTy → Type} [FloatOps F] (main_arg0 : FVec F S16384x8x96 .f32) (main_arg1 : FVec F S16384x8x128 .f32) (main_arg2 : FVec F S16384x32 .f32) (main_arg3 : FVec F S16384x512 .f32) : IVec S_ 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_c : IVec S_ 1 := constantI S_ 1 1#1
  let main_v3 : IVec S_ 1 := (fun x v => Host.reduce IntOp.andi x v reducesTo_S16384x8x96_S_d0_1_2 h_S_) main_v2 main_c
  let main_v4 : FVec F S16384x8x128 .f32 := Host.absf main_arg1
  let main_cst_0 : FVec F S_ .f32 := constant S_ .f32 0x7F800000#32
  let main_v5 : FVec F S16384x8x128 .f32 := broadcastInDim S16384x8x128 ![] bcast_S_S16384x8x128 main_cst_0
  let main_v6 : IVec S16384x8x128 1 := cmpf .olt main_v4 main_v5
  let main_c_1 : IVec S_ 1 := constantI S_ 1 1#1
  let main_v7 : IVec S_ 1 := (fun x v => Host.reduce IntOp.andi x v reducesTo_S16384x8x128_S_d0_1_2 h_S_) main_v6 main_c_1
  let main_v8 : IVec S_ 1 := andi main_v3 main_v7
  let main_v9 : FVec F S16384x32 .f32 := Host.absf main_arg2
  let main_cst_2 : FVec F S_ .f32 := constant S_ .f32 0x7F800000#32
  let main_v10 : FVec F S16384x32 .f32 := broadcastInDim S16384x32 ![] bcast_S_S16384x32 main_cst_2
  let main_v11 : IVec S16384x32 1 := cmpf .olt main_v9 main_v10
  let main_c_3 : IVec S_ 1 := constantI S_ 1 1#1
  let main_v12 : IVec S_ 1 := (fun x v => Host.reduce IntOp.andi x v reducesTo_S16384x32_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_v13 main_v16
-- ==== Pre_mla_fwd_finite.lean ====
abbrev S16384x8x96 : Shape := ⟨3, ![16384, 8, 96]⟩
abbrev S16384x8x128 : Shape := ⟨3, ![16384, 8, 128]⟩
abbrev S16384x32 : Shape := ⟨2, ![16384, 32]⟩
abbrev S_ : Shape := ⟨0, ![]⟩

class Facts : Prop where
  bcast_S_S16384x8x96 : S_.BroadcastsInDim S16384x8x96 (![] : Fin 0 → Fin S16384x8x96.rank)
  reducesTo_S16384x8x96_S_d0_1_2 : S16384x8x96.ReducesTo [0, 1, 2] S_
  h_S_ : 0 < S_.numel
  bcast_S_S16384x8x128 : S_.BroadcastsInDim S16384x8x128 (![] : Fin 0 → Fin S16384x8x128.rank)
  reducesTo_S16384x8x128_S_d0_1_2 : S16384x8x128.ReducesTo [0, 1, 2] S_
  bcast_S_S16384x32 : S_.BroadcastsInDim S16384x32 (![] : Fin 0 → Fin S16384x32.rank)
  reducesTo_S16384x32_S_d0_1 : S16384x32.ReducesTo [0, 1] S_

variable [Facts]

def fn {F : FTy → Type} [FloatOps F] (main_arg0 : FVec F S16384x8x96 .f32) (main_arg1 : FVec F S16384x8x128 .f32) (main_arg2 : FVec F S16384x32 .f32) : IVec S_ 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_c : IVec S_ 1 := constantI S_ 1 1#1
  let main_v3 : IVec S_ 1 := (fun x v => Host.reduce IntOp.andi x v reducesTo_S16384x8x96_S_d0_1_2 h_S_) main_v2 main_c
  let main_v4 : FVec F S16384x8x128 .f32 := Host.absf main_arg1
  let main_cst_0 : FVec F S_ .f32 := constant S_ .f32 0x7F800000#32
  let main_v5 : FVec F S16384x8x128 .f32 := broadcastInDim S16384x8x128 ![] bcast_S_S16384x8x128 main_cst_0
  let main_v6 : IVec S16384x8x128 1 := cmpf .olt main_v4 main_v5
  let main_c_1 : IVec S_ 1 := constantI S_ 1 1#1
  let main_v7 : IVec S_ 1 := (fun x v => Host.reduce IntOp.andi x v reducesTo_S16384x8x128_S_d0_1_2 h_S_) main_v6 main_c_1
  let main_v8 : IVec S_ 1 := andi main_v3 main_v7
  let main_v9 : FVec F S16384x32 .f32 := Host.absf main_arg2
  let main_cst_2 : FVec F S_ .f32 := constant S_ .f32 0x7F800000#32
  let main_v10 : FVec F S16384x32 .f32 := broadcastInDim S16384x32 ![] bcast_S_S16384x32 main_cst_2
  let main_v11 : IVec S16384x32 1 := cmpf .olt main_v9 main_v10
  let main_c_3 : IVec S_ 1 := constantI S_ 1 1#1
  let main_v12 : IVec S_ 1 := (fun x v => Host.reduce IntOp.andi x v reducesTo_S16384x32_S_d0_1 h_S_) main_v11 main_c_3
  let main_v13 : IVec S_ 1 := andi main_v8 main_v12
  main_v13
-- ==== Pre_rms_col_finite.lean ====
abbrev S16384x256 : Shape := ⟨2, ![16384, 256]⟩
abbrev S256 : Shape := ⟨1, ![256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S16384x256 .f32) (main_arg1 : FVec F S256 .f32) (main_arg2 : FVec F S16384x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  main_v13
-- ==== Pre_rms_finite.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x1024 .f32) (main_arg1 : FVec F S1024 .f32) (main_arg2 : FVec F S16384x1024 .f32) (main_arg3 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  main_v13
-- ==== Pre_swiglu_finite.lean ====
abbrev S16384x1024 : Shape := ⟨2, ![16384, 1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S16384x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  main_v23

def fn {F : FTy → Type} [FloatOps F] (main_arg0 : FVec F S16384x1024 .f32) (main_arg1 : FVec F S1024x2816 .f32) (main_arg2 : FVec F S1024x2816 .f32) (main_arg3 : FVec F S2816x1024 .f32) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Merge.lean ====
abbrev S16384x512 : Shape := ⟨2, ![16384, 512]⟩
abbrev S512x1024 : Shape := ⟨2, ![512, 1024]⟩
abbrev S16384x1024 : Shape := ⟨2, ![16384, 1024]⟩
abbrev S16384x3072 : Shape := ⟨2, ![16384, 3072]⟩
abbrev S512x512 : Shape := ⟨2, ![512, 512]⟩

abbrev nBuf : Space → Nat
  | .hbm => 23
  | .vmem => 32
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x3072, .f32⟩
  | .hbm, ⟨11, _⟩ => ⟨S16384x3072, .bf16⟩
  | .hbm, ⟨12, _⟩ => ⟨S16384x512, .bf16⟩
  | .hbm, ⟨13, _⟩ => ⟨S16384x512, .bf16⟩
  | .hbm, ⟨14, _⟩ => ⟨S512x1024, .bf16⟩
  | .hbm, ⟨15, _⟩ => ⟨S512x1024, .bf16⟩
  | .hbm, ⟨16, _⟩ => ⟨S512x1024, .bf16⟩
  | .hbm, ⟨17, _⟩ => ⟨S16384x1024, .bf16⟩
  | .hbm, ⟨18, _⟩ => ⟨S16384x1024, .bf16⟩
  | .hbm, ⟨19, _⟩ => ⟨S16384x1024, .bf16⟩
  | .hbm, ⟨20, _⟩ => ⟨S16384x1024, .bf16⟩
  | .hbm, ⟨21, _⟩ => ⟨S16384x1024, .bf16⟩
  | .hbm, ⟨22, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergeRefIdeal.lean ====
abbrev S16384x512 : Shape := ⟨2, ![16384, 512]⟩
abbrev S512x1024 : Shape := ⟨2, ![512, 1024]⟩
abbrev S16384x1024 : Shape := ⟨2, ![16384, 1024]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .bf16⟩
  | .hbm, ⟨66, _⟩ => ⟨S16384x1024, .bf16⟩
  | .hbm, ⟨67, _⟩ => ⟨S16384x1024, .bf16⟩
  | .hbm, ⟨68, _⟩ => ⟨S16384x1024, .bf16⟩
  | .hbm, ⟨69, _⟩ => ⟨S16384x1024, .bf16⟩
  | .hbm, ⟨70, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Mla.lean ====
abbrev S16384x8x96 : Shape := ⟨3, ![16384, 8, 96]⟩
abbrev S16384x8x128 : Shape := ⟨3, ![16384, 8, 128]⟩
abbrev S16384x32 : Shape := ⟨2, ![16384, 32]⟩
abbrev S16384x512 : Shape := ⟨2, ![16384, 512]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16384x128 : Shape := ⟨2, ![16384, 128]⟩
abbrev S64x16384 : Shape := ⟨2, ![64, 16384]⟩
abbrev S16384x8x32 : Shape := ⟨3, ![16384, 8, 32]⟩
abbrev S16384x1024 : Shape := ⟨2, ![16384, 1024]⟩
abbrev S16384x8x64 : Shape := ⟨3, ![16384, 8, 64]⟩
abbrev S16384x8x16 : Shape := ⟨3, ![16384, 8, 16]⟩
abbrev S16384x1x32 : Shape := ⟨3, ![16384, 1, 32]⟩
abbrev S8x16384x16384 : Shape := ⟨3, ![8, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S512x512 : Shape := ⟨2, ![512, 512]⟩
abbrev S8x512x1 : Shape := ⟨3, ![8, 512, 1]⟩
abbrev S512x64 : Shape := ⟨2, ![512, 64]⟩
abbrev S512 : Shape := ⟨1, ![512]⟩
abbrev S512x1 : Shape := ⟨2, ![512, 1]⟩
abbrev S1x512x1 : Shape := ⟨3, ![1, 512, 1]⟩
abbrev S1024x16384 : Shape := ⟨2, ![1024, 16384]⟩
abbrev S512x16384 : Shape := ⟨2, ![512, 16384]⟩
abbrev S16x16384x1024 : Shape := ⟨3, ![16, 16384, 1024]⟩
abbrev S1024x1024 : Shape := ⟨2, ![1024, 1024]⟩
abbrev S1024x512 : Shape := ⟨2, ![1024, 512]⟩
abbrev S512x1024 : Shape := ⟨2, ![512, 1024]⟩
abbrev S8x1024x1 : Shape := ⟨3, ![8, 1024, 1]⟩
abbrev S1x1024x1024 : Shape := ⟨3, ![1, 1024, 1024]⟩
abbrev S1024x128 : Shape := ⟨2, ![1024, 128]⟩
abbrev S1024x64 : Shape := ⟨2, ![1024, 64]⟩
abbrev S1x1024x1 : Shape := ⟨3, ![1, 1024, 1]⟩
abbrev S1024x1 : Shape := ⟨2, ![1024, 1]⟩
abbrev S1x1024x128 : Shape := ⟨3, ![1, 1024, 128]⟩
abbrev S128x1024 : Shape := ⟨2, ![128, 1024]⟩
abbrev S64x1024 : Shape := ⟨2, ![64, 1024]⟩
abbrev S16384x2048 : Shape := ⟨2, ![16384, 2048]⟩
abbrev S16x256x1024 : Shape := ⟨3, ![16, 256, 1024]⟩
abbrev S256x128 : Shape := ⟨2, ![256, 128]⟩
abbrev S256x2048 : Shape := ⟨2, ![256, 2048]⟩
abbrev S1x256x1024 : Shape := ⟨3, ![1, 256, 1024]⟩
abbrev S256x1024 : Shape := ⟨2, ![256, 1024]⟩
abbrev S16384x2x8x128 : Shape := ⟨4, ![16384, 2, 8, 128]⟩
abbrev S128x16384 : Shape := ⟨2, ![128, 16384]⟩
abbrev S64x512 : Shape := ⟨2, ![64, 512]⟩
abbrev S128x512 : Shape := ⟨2, ![128, 512]⟩
abbrev S32x512 : Shape := ⟨2, ![32, 512]⟩
abbrev S16384x1x8x32 : Shape := ⟨4, ![16384, 1, 8, 32]⟩
abbrev S16384x1x8x96 : Shape := ⟨4, ![16384, 1, 8, 96]⟩

abbrev nBuf : Space → Nat
  | .hbm => 157
  | .vmem => 42
  | .smem => 0
  | _ => 0

abbrev hbmTy0_0 (i : Nat) : BufTy := match i % 128 with
  | 0 => ⟨S16384x8x96, .f32⟩
  | 1 => ⟨S16384x8x128, .f32⟩
  | 2 => ⟨S16384x32, .f32⟩
  | 3 => ⟨S16384x512, .f32⟩
  | 4 => ⟨S16, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S16384, .i32⟩
  | 13 => ⟨S16384, .f32⟩
  | 14 => ⟨S16384x1, .f32⟩
  | 15 => ⟨S1x16, .f32⟩
  | 16 => ⟨S16384x16, .f32⟩
  | 17 => ⟨S16384x16, .f32⟩
  | 18 => ⟨S16384x16, .f32⟩
  | 19 => ⟨S16384x16, .f32⟩
  | 20 => ⟨S16384x16, .f32⟩
  | 21 => ⟨S16384x32, .f32⟩
  | 22 => ⟨S16384x16, .f32⟩
  | 23 => ⟨S16384x16, .f32⟩
  | 24 => ⟨S16384x32, .f32⟩
  | 25 => ⟨S_, .f32⟩
  | 26 => ⟨S16384x64, .f32⟩
  | 27 => ⟨S_, .f32⟩
  | 28 => ⟨S16384x32, .f32⟩
  | 29 => ⟨S16384x128, .f32⟩
  | 30 => ⟨S_, .f32⟩
  | 31 => ⟨S16384x64, .f32⟩
  | 32 => ⟨S_, .f32⟩
  | 33 => ⟨S16384x32, .f32⟩
  | 34 => ⟨S16384x128, .f32⟩
  | 35 => ⟨S_, .f32⟩
  | 36 => ⟨S16384x64, .f32⟩
  | 37 => ⟨S16384x128, .f32⟩
  | 38 => ⟨S16384x64, .f32⟩
  | 39 => ⟨S64x16384, .f32⟩
  | 40 => ⟨S_, .f32⟩
  | 41 => ⟨S16384x8x32, .f32⟩
  | 42 => ⟨S16384x8x128, .f32⟩
  | 43 => ⟨S16384x1024, .f32⟩
  | 44 => ⟨S_, .f32⟩
  | 45 => ⟨S16384x8x64, .f32⟩
  | 46 => ⟨S16384x8x32, .f32⟩
  | 47 => ⟨S16384x8x16, .f32⟩
  | 48 => ⟨S16384x8x16, .f32⟩
  | 49 => ⟨S16384x8x16, .f32⟩
  | 50 => ⟨S16384x8x32, .f32⟩
  | 51 => ⟨S_, .f32⟩
  | 52 => ⟨S16384x8x32, .f32⟩
  | 53 => ⟨S16384x8x128, .f32⟩
  | 54 => ⟨S16384x1024, .f32⟩
  | 55 => ⟨S16384x1024, .f32⟩
  | 56 => ⟨S16384x1024, .f32⟩
  | 57 => ⟨S16384x1024, .f32⟩
  | 58 => ⟨S16384x1024, .f32⟩
  | 59 => ⟨S16384x1024, .f32⟩
  | 60 => ⟨S_, .f32⟩
  | 61 => ⟨S16384x1024, .f32⟩
  | 62 => ⟨S16384x1024, .f32⟩
  | 63 => ⟨S_, .f32⟩
  | 64 => ⟨S_, .f32⟩
  | 65 => ⟨S16384x1024, .f32⟩
  | 66 => ⟨S16384x1024, .f32⟩
  | 67 => ⟨S16384x16, .f32⟩
  | 68 => ⟨S16384x16, .f32⟩
  | 69 => ⟨S16384x16, .f32⟩
  | 70 => ⟨S16384x32, .f32⟩
  | 71 => ⟨S16384x64, .f32⟩
  | 72 => ⟨S16384x64, .f32⟩
  | 73 => ⟨S16384x64, .f32⟩
  | 74 => ⟨S16384x32, .f32⟩
  | 75 => ⟨S16384x32, .f32⟩
  | 76 => ⟨S16384x32, .f32⟩
  | 77 => ⟨S16384x8x64, .f32⟩
  | 78 => ⟨S16384x1x32, .f32⟩
  | 79 => ⟨S16384x8x32, .f32⟩
  | 80 => ⟨S_, .f32⟩
  | 81 => ⟨S16384x8x32, .f32⟩
  | 82 => ⟨S16384x8x128, .f32⟩
  | 83 => ⟨S16384x8x64, .f32⟩
  | 84 => ⟨S16384x8x128, .f32⟩
  | 85 => ⟨S8x16384x16384, .f32⟩
  | 86 => ⟨S_, .f32⟩
  | 87 => ⟨S8x16384x16384, .f32⟩
  | 88 => ⟨S8x16384x16384, .f32⟩
  | 89 => ⟨S_, .f32⟩
  | 90 => ⟨S8x16384, .f32⟩
  | 91 => ⟨S8x16384x1, .f32⟩
  | 92 => ⟨S8x16384x16384, .f32⟩
  | 93 => ⟨S8x16384x16384, .f32⟩
  | 94 => ⟨S8x16384x16384, .f32⟩
  | 95 => ⟨S_, .f32⟩
  | 96 => ⟨S8x16384, .f32⟩
  | 97 => ⟨S8x16384x1, .f32⟩
  | 98 => ⟨S8x16384x16384, .f32⟩
  | 99 => ⟨S8x16384x16384, .f32⟩
  | 100 => ⟨S8x64x16384, .f32⟩
  | 101 => ⟨S16384x8x64, .f32⟩
  | 102 => ⟨S16384x512, .f32⟩
  | 103 => ⟨S8x16384x1, .f32⟩
  | 104 => ⟨S8x16384x1, .f32⟩
  | 105 => ⟨S_, .f32⟩
  | 106 => ⟨S_, .f32⟩
  | 107 => ⟨S8x16384x1, .f32⟩
  | 108 => ⟨S8x16384x1, .f32⟩
  | 109 => ⟨S16384x8x64, .f32⟩
  | 110 => ⟨S16384x512, .f32⟩
  | 111 => ⟨S16384x512, .f32⟩
  | 112 => ⟨S16384x1024, .f32⟩
  | 113 => ⟨S16384x512, .bf16⟩
  | 114 => ⟨S8x16384x1, .f32⟩
  | 115 => ⟨S16384x1024, .bf16⟩
  | 116 => ⟨S16384x1024, .bf16⟩
  | 117 => ⟨S1024x16384, .bf16⟩
  | 118 => ⟨S16384x1024, .f32⟩
  | 119 => ⟨S16384x1024, .bf16⟩
  | 120 => ⟨S16384x1024, .bf16⟩
  | 121 => ⟨S512x16384, .bf16⟩
  | 122 => ⟨S16x16384x1024, .bf16⟩
  | 123 => ⟨S1024x16384, .f32⟩
  | 124 => ⟨S512x16384, .f32⟩
  | 125 => ⟨S16384x2048, .bf16⟩
  | 126 => ⟨S16384x2048, .f32⟩
  | 127 => ⟨S16384x2x8x128, .f32⟩
  | _ => ⟨S16384x8x96, .f32⟩

abbrev hbmTy0_1 (i : Nat) : BufTy := match i % 128 with
  | 0 => ⟨S512x16384, .bf16⟩
  | 1 => ⟨S128x16384, .bf16⟩
  | 2 => ⟨S_, .f32⟩
  | 3 => ⟨S16384x8x64, .f32⟩
  | 4 => ⟨S16384x1x8x32, .f32⟩
  | 5 => ⟨S16384x8x32, .f32⟩
  | 6 => ⟨S16384x8x16, .f32⟩
  | 7 => ⟨S16384x8x16, .f32⟩
  | 8 => ⟨S16384x8x16, .f32⟩
  | 9 => ⟨S16384x8x32, .f32⟩
  | 10 => ⟨S16384x8x96, .f32⟩
  | 11 => ⟨S16384x1x8x96, .f32⟩
  | 12 => ⟨S16384x8x96, .f32⟩
  | 13 => ⟨S16384x8x96, .f32⟩
  | 14 => ⟨S512x16384, .f32⟩
  | 15 => ⟨S16384x512, .f32⟩
  | 16 => ⟨S16384x8x64, .f32⟩
  | 17 => ⟨S16384x512, .f32⟩
  | 18 => ⟨S16384x8x64, .f32⟩
  | 19 => ⟨S16384x8x128, .f32⟩
  | 20 => ⟨S128x16384, .f32⟩
  | 21 => ⟨S16384x128, .f32⟩
  | 22 => ⟨S16384x32, .f32⟩
  | 23 => ⟨S16384x32, .f32⟩
  | 24 => ⟨S16384x16, .f32⟩
  | 25 => ⟨S16384x16, .f32⟩
  | 26 => ⟨S16384x16, .f32⟩
  | 27 => ⟨S16384x32, .f32⟩
  | 28 => ⟨S16384x32, .f32⟩
  | _ => ⟨S16384x8x96, .f32⟩

abbrev hbmTy (i : Nat) : BufTy := match i / 128 with
  | 0 => hbmTy0_0 i
  | 1 => hbmTy0_1 i
  | _ => ⟨S16384x8x96, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S8x512x1, .f32⟩
  | .local _ .vmem, ⟨5, _⟩ => ⟨S8x512x1, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S512x1024, .bf16⟩
  | .local _ .vmem, ⟨17, _⟩ => ⟨S512x1024, .bf16⟩
  | .local _ .vmem, ⟨18, _⟩ => ⟨S8x1024x1, .f32⟩
  | .local _ .vmem, ⟨19, _⟩ => ⟨S8x1024x1, .f32⟩
  | .local _ .vmem, ⟨20, _⟩ => ⟨S8x1024x1, .f32⟩
  | .local _ .vmem, ⟨21, _⟩ => ⟨S8x1024x1, .f32⟩
  | .local _ .vmem, ⟨22, _⟩ => ⟨S1x1024x1024, .bf16⟩
  | .local _ .vmem, ⟨23, _⟩ => ⟨S1x1024x1024, .bf16⟩
  | .local _ .vmem, ⟨24, _⟩ => ⟨S1024x1024, .f32⟩
  | .local _ .vmem, ⟨25, _⟩ => ⟨S512x1024, .f32⟩
  | .local _ .vmem, ⟨26, _⟩ => ⟨S16x256x1024, .bf16⟩
  | .local _ .vmem, ⟨27, _⟩ => ⟨S16x256x1024, .bf16⟩
  | .local _ .vmem, ⟨28, _⟩ => ⟨S256x128, .f32⟩
  | .local _ .vmem, ⟨29, _⟩ => ⟨S256x128, .f32⟩
  | .local _ .vmem, ⟨30, _⟩ => ⟨S256x128, .f32⟩
  | .local _ .vmem, ⟨31, _⟩ => ⟨S256x128, .f32⟩
  | .local _ .vmem, ⟨32, _⟩ => ⟨S256x2048, .bf16⟩
  | .local _ .vmem, ⟨33, _⟩ => ⟨S256x2048, .bf16⟩
  | .local _ .vmem, ⟨34, _⟩ => ⟨S1024x512, .f32⟩
  | .local _ .vmem, ⟨35, _⟩ => ⟨S1024x512, .f32⟩
  | .local _ .vmem, ⟨36, _⟩ => ⟨S64x512, .f32⟩
  | .local _ .vmem, ⟨37, _⟩ => ⟨S64x512, .f32⟩
  | .local _ .vmem, ⟨38, _⟩ => ⟨S512x512, .bf16⟩
  | .local _ .vmem, ⟨39, _⟩ => ⟨S512x512, .bf16⟩
  | .local _ .vmem, ⟨40, _⟩ => ⟨S128x512, .bf16⟩
  | .local _ .vmem, ⟨41, _⟩ => ⟨S128x512, .bf16⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_11 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_12 : Ref sig .tc := ⟨.hbm, 86, rfl⟩
abbrev main_v69 : Ref sig .tc := ⟨.hbm, 87, rfl⟩
abbrev main_v70 : Ref sig .tc := ⟨.hbm, 88, rfl⟩
abbrev main_cst_13 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_14 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_15 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101_0 : Ref sig .tc := ⟨.hbm, 122, rfl⟩
abbrev main_v101_1 : Ref sig .tc := ⟨.hbm, 123, rfl⟩
abbrev main_v101_2 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105_0 : Ref sig .tc := ⟨.hbm, 128, rfl⟩
abbrev main_v105_1 : Ref sig .tc := ⟨.hbm, 129, rfl⟩
abbrev main_cst_16 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg10_0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem10_0 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S8x1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S8x1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S1x1024x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 1 → Memref sig .tc .vmem S1024x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true, false]

abbrev stage1_10 : Fin 1 → Memref sig .tc .vmem S512x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true, false]

abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]
-- ==== MlaIdeal.lean ====
variable {F : FTy → Type} [FloatOps F] [Named F]
def κ : String → Option EReal := fun
  | "ln2" => some ((Real.log 2 : ℝ) : EReal)
  | _ => none
-- ==== MlaRefIdeal.lean ====
abbrev S16384x8x96 : Shape := ⟨3, ![16384, 8, 96]⟩
abbrev S16384x8x128 : Shape := ⟨3, ![16384, 8, 128]⟩
abbrev S16384x32 : Shape := ⟨2, ![16384, 32]⟩
abbrev S16384x512 : Shape := ⟨2, ![16384, 512]⟩
abbrev S16384x8x64 : Shape := ⟨3, ![16384, 8, 64]⟩
abbrev S16384x8x32 : Shape := ⟨3, ![16384, 8, 32]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x1x16 : Shape := ⟨3, ![16384, 1, 16]⟩
abbrev S16384x8x16 : Shape := ⟨3, ![16384, 8, 16]⟩
abbrev S16384x1x32 : Shape := ⟨3, ![16384, 1, 32]⟩
abbrev S8x16384x16384 : Shape := ⟨3, ![8, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x16384x96 : Shape := ⟨3, ![8, 16384, 96]⟩

abbrev nBuf : Space → Nat
  | .hbm => 194
  | .vmem => 0
  | .smem => 0
  | _ => 0

abbrev hbmTy0_0 (i : Nat) : BufTy := match i % 128 with
  | 0 => ⟨S16384x8x96, .f32⟩
  | 1 => ⟨S16384x8x128, .f32⟩
  | 2 => ⟨S16384x32, .f32⟩
  | 3 => ⟨S16384x512, .f32⟩
  | 4 => ⟨S16384x8x64, .f32⟩
  | 5 => ⟨S16384x8x32, .f32⟩
  | 6 => ⟨S16, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S16384, .i32⟩
  | 15 => ⟨S16384, .f32⟩
  | 16 => ⟨S16384x1, .f32⟩
  | 17 => ⟨S1x16, .f32⟩
  | 18 => ⟨S16384x16, .f32⟩
  | 19 => ⟨S16384x16, .f32⟩
  | 20 => ⟨S16384x16, .f32⟩
  | 21 => ⟨S16384x16, .f32⟩
  | 22 => ⟨S16384x1x16, .f32⟩
  | 23 => ⟨S16384x16, .f32⟩
  | 24 => ⟨S16384x1x16, .f32⟩
  | 25 => ⟨S16384x8x16, .f32⟩
  | 26 => ⟨S16384x8x16, .f32⟩
  | 27 => ⟨S16384x8x16, .f32⟩
  | 28 => ⟨S16384x8x16, .f32⟩
  | 29 => ⟨S16384x8x16, .f32⟩
  | 30 => ⟨S16384x8x16, .f32⟩
  | 31 => ⟨S16384x8x16, .f32⟩
  | 32 => ⟨S16384x8x16, .f32⟩
  | 33 => ⟨S16384x8x16, .f32⟩
  | 34 => ⟨S16384x8x16, .f32⟩
  | 35 => ⟨S16384x8x16, .f32⟩
  | 36 => ⟨S16384x8x16, .f32⟩
  | 37 => ⟨S16384x8x32, .f32⟩
  | 38 => ⟨S16384x8x96, .f32⟩
  | 39 => ⟨S16384x1x32, .f32⟩
  | 40 => ⟨S16, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S16384, .i32⟩
  | 49 => ⟨S16384, .f32⟩
  | 50 => ⟨S16384x1, .f32⟩
  | 51 => ⟨S1x16, .f32⟩
  | 52 => ⟨S16384x16, .f32⟩
  | 53 => ⟨S16384x16, .f32⟩
  | 54 => ⟨S16384x16, .f32⟩
  | 55 => ⟨S16384x16, .f32⟩
  | 56 => ⟨S16384x1x16, .f32⟩
  | 57 => ⟨S16384x16, .f32⟩
  | 58 => ⟨S16384x1x16, .f32⟩
  | 59 => ⟨S16384x1x16, .f32⟩
  | 60 => ⟨S16384x1x16, .f32⟩
  | 61 => ⟨S16384x1x16, .f32⟩
  | 62 => ⟨S16384x1x16, .f32⟩
  | 63 => ⟨S16384x1x16, .f32⟩
  | 64 => ⟨S16384x1x16, .f32⟩
  | 65 => ⟨S16384x1x16, .f32⟩
  | 66 => ⟨S16384x1x16, .f32⟩
  | 67 => ⟨S16384x1x32, .f32⟩
  | 68 => ⟨S16384x8x32, .f32⟩
  | 69 => ⟨S16384x8x64, .f32⟩
  | 70 => ⟨S16384x8x96, .f32⟩
  | 71 => ⟨S8x16384x16384, .f32⟩
  | 72 => ⟨S_, .f32⟩
  | 73 => ⟨S8x16384x16384, .f32⟩
  | 74 => ⟨S8x16384x16384, .f32⟩
  | 75 => ⟨S_, .f32⟩
  | 76 => ⟨S8x16384, .f32⟩
  | 77 => ⟨S8x16384x1, .f32⟩
  | 78 => ⟨S8x16384x16384, .f32⟩
  | 79 => ⟨S8x16384x16384, .i1⟩
  | 80 => ⟨S8x16384x16384, .f32⟩
  | 81 => ⟨S_, .f32⟩
  | 82 => ⟨S8x16384, .f32⟩
  | 83 => ⟨S_, .f32⟩
  | 84 => ⟨S8x16384, .f32⟩
  | 85 => ⟨S8x16384, .f32⟩
  | 86 => ⟨S_, .f32⟩
  | 87 => ⟨S8x16384, .f32⟩
  | 88 => ⟨S8x16384, .i1⟩
  | 89 => ⟨S_, .f32⟩
  | 90 => ⟨S8x16384, .f32⟩
  | 91 => ⟨S8x16384, .i1⟩
  | 92 => ⟨S_, .f32⟩
  | 93 => ⟨S8x16384, .f32⟩
  | 94 => ⟨S_, .f32⟩
  | 95 => ⟨S8x16384, .f32⟩
  | 96 => ⟨S_, .f32⟩
  | 97 => ⟨S8x16384, .f32⟩
  | 98 => ⟨S8x16384, .f32⟩
  | 99 => ⟨S8x16384, .f32⟩
  | 100 => ⟨S8x16384x1, .f32⟩
  | 101 => ⟨S8x16384x16384, .f32⟩
  | 102 => ⟨S8x16384x16384, .f32⟩
  | 103 => ⟨S8x16384x16384, .f32⟩
  | 104 => ⟨S_, .f32⟩
  | 105 => ⟨S8x16384, .f32⟩
  | 106 => ⟨S8x16384x1, .f32⟩
  | 107 => ⟨S8x16384x16384, .f32⟩
  | 108 => ⟨S8x16384x16384, .f32⟩
  | 109 => ⟨S8x16384x1, .f32⟩
  | 110 => ⟨S_, .f32⟩
  | 111 => ⟨S8x16384x1, .f32⟩
  | 112 => ⟨S8x16384x1, .f32⟩
  | 113 => ⟨S16384x8x64, .f32⟩
  | 114 => ⟨S8x64x16384, .f32⟩
  | 115 => ⟨S16384x8x64, .f32⟩
  | 116 => ⟨S16384x512, .f32⟩
  | 117 => ⟨S16384x8x64, .f32⟩
  | 118 => ⟨S8x64x16384, .f32⟩
  | 119 => ⟨S8x16384x16384, .f32⟩
  | 120 => ⟨S8x64x16384, .f32⟩
  | 121 => ⟨S16384x8x64, .f32⟩
  | 122 => ⟨S_, .f32⟩
  | 123 => ⟨S16384x8x128, .f32⟩
  | 124 => ⟨S8x16384x16384, .f32⟩
  | 125 => ⟨S8x16384x16384, .f32⟩
  | 126 => ⟨S8x16384x16384, .f32⟩
  | 127 => ⟨S_, .f32⟩
  | _ => ⟨S16384x8x96, .f32⟩

abbrev hbmTy0_1 (i : Nat) : BufTy := match i % 128 with
  | 0 => ⟨S8x16384, .f32⟩
  | 1 => ⟨S8x16384x1, .f32⟩
  | 2 => ⟨S8x16384x1, .f32⟩
  | 3 => ⟨S8x16384x16384, .f32⟩
  | 4 => ⟨S8x16384x16384, .f32⟩
  | 5 => ⟨S_, .f32⟩
  | 6 => ⟨S8x16384, .f32⟩
  | 7 => ⟨S8x16384x16384, .f32⟩
  | 8 => ⟨S8x16384x16384, .f32⟩
  | 9 => ⟨S8x16384x16384, .f32⟩
  | 10 => ⟨S_, .f32⟩
  | 11 => ⟨S8x16384x16384, .f32⟩
  | 12 => ⟨S8x16384x16384, .f32⟩
  | 13 => ⟨S8x16384x96, .f32⟩
  | 14 => ⟨S16384x8x96, .f32⟩
  | 15 => ⟨S8x16384x96, .f32⟩
  | 16 => ⟨S16384x8x96, .f32⟩
  | 17 => ⟨S16384x8x64, .f32⟩
  | 18 => ⟨S16384x8x32, .f32⟩
  | 19 => ⟨S_, .f32⟩
  | 20 => ⟨S16384x8x128, .f32⟩
  | 21 => ⟨S16384x8x128, .f32⟩
  | 22 => ⟨S_, .f32⟩
  | 23 => ⟨S16384x32, .f32⟩
  | 24 => ⟨S16384x1x32, .f32⟩
  | 25 => ⟨S16384x1x16, .f32⟩
  | 26 => ⟨S16384x1x16, .f32⟩
  | 27 => ⟨S16384x1x16, .f32⟩
  | 28 => ⟨S16384x1x16, .f32⟩
  | 29 => ⟨S16384x1x16, .f32⟩
  | 30 => ⟨S16384x1x16, .f32⟩
  | 31 => ⟨S16384x1x16, .f32⟩
  | 32 => ⟨S16384x1x16, .f32⟩
  | 33 => ⟨S16384x1x16, .f32⟩
  | 34 => ⟨S_, .f32⟩
  | 35 => ⟨S16384x1x32, .f32⟩
  | 36 => ⟨S_, .f32⟩
  | 37 => ⟨S16384x1x32, .f32⟩
  | 38 => ⟨S16384x1x32, .f32⟩
  | 39 => ⟨S_, .f32⟩
  | 40 => ⟨S16384x32, .f32⟩
  | 41 => ⟨S16384x8x64, .f32⟩
  | 42 => ⟨S16384x8x32, .f32⟩
  | 43 => ⟨S16384x8x16, .f32⟩
  | 44 => ⟨S16384x8x16, .f32⟩
  | 45 => ⟨S16384x8x16, .f32⟩
  | 46 => ⟨S16384x8x16, .f32⟩
  | 47 => ⟨S16384x8x16, .f32⟩
  | 48 => ⟨S16384x8x16, .f32⟩
  | 49 => ⟨S16384x8x16, .f32⟩
  | 50 => ⟨S16384x8x16, .f32⟩
  | 51 => ⟨S16384x8x16, .f32⟩
  | 52 => ⟨S16384x8x16, .f32⟩
  | 53 => ⟨S16384x8x16, .f32⟩
  | 54 => ⟨S16384x8x16, .f32⟩
  | 55 => ⟨S16384x8x16, .f32⟩
  | 56 => ⟨S_, .f32⟩
  | 57 => ⟨S16384x8x32, .f32⟩
  | 58 => ⟨S_, .f32⟩
  | 59 => ⟨S16384x8x32, .f32⟩
  | 60 => ⟨S16384x8x32, .f32⟩
  | 61 => ⟨S_, .f32⟩
  | 62 => ⟨S16384x8x96, .f32⟩
  | 63 => ⟨S_, .f32⟩
  | 64 => ⟨S16384x8x96, .f32⟩
  | 65 => ⟨S16384x8x96, .f32⟩
  | _ => ⟨S16384x8x96, .f32⟩

abbrev hbmTy (i : Nat) : BufTy := match i / 128 with
  | 0 => hbmTy0_0 i
  | 1 => hbmTy0_1 i
  | _ => ⟨S16384x8x96, .f32⟩

abbrev bufTy : (tb : Table) → Fin (tcTables nBuf tb) → BufTy
  | .hbm, ⟨i, _⟩ => hbmTy i
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_3 : Ref sig .tc := ⟨.hbm, 72, rfl⟩
abbrev main_v64 : Ref sig .tc := ⟨.hbm, 73, rfl⟩
abbrev main_v65 : Ref sig .tc := ⟨.hbm, 74, rfl⟩
abbrev main_cst_4 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_5 : Ref sig .tc := ⟨.hbm, 81, rfl⟩
abbrev main_v71 : Ref sig .tc := ⟨.hbm, 82, rfl⟩
abbrev main_cst_6 : Ref sig .tc := ⟨.hbm, 83, rfl⟩
abbrev main_v72 : Ref sig .tc := ⟨.hbm, 84, rfl⟩
abbrev main_v73 : Ref sig .tc := ⟨.hbm, 85, rfl⟩
abbrev main_cst_7 : Ref sig .tc := ⟨.hbm, 86, rfl⟩
abbrev main_v74 : Ref sig .tc := ⟨.hbm, 87, rfl⟩
abbrev main_v75 : Ref sig .tc := ⟨.hbm, 88, rfl⟩
abbrev main_cst_8 : Ref sig .tc := ⟨.hbm, 89, rfl⟩
abbrev main_v76 : Ref sig .tc := ⟨.hbm, 90, rfl⟩
abbrev main_v77 : Ref sig .tc := ⟨.hbm, 91, rfl⟩
abbrev main_cst_9 : Ref sig .tc := ⟨.hbm, 92, rfl⟩
abbrev main_v78 : Ref sig .tc := ⟨.hbm, 93, rfl⟩
abbrev main_cst_10 : Ref sig .tc := ⟨.hbm, 94, rfl⟩
abbrev main_v79 : Ref sig .tc := ⟨.hbm, 95, rfl⟩
abbrev main_cst_11 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_12 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_13 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_cst_14 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_cst_15 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_cst_16 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_cst_17 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_cst_18 : Ref sig .tc := ⟨.hbm, 147, rfl⟩
abbrev main_v124 : Ref sig .tc := ⟨.hbm, 148, rfl⟩
abbrev main_v125 : Ref sig .tc := ⟨.hbm, 149, rfl⟩
abbrev main_cst_19 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_cst_20 : Ref sig .tc := ⟨.hbm, 162, rfl⟩
abbrev main_v137 : Ref sig .tc := ⟨.hbm, 163, rfl⟩
abbrev main_cst_21 : Ref sig .tc := ⟨.hbm, 164, rfl⟩
abbrev main_v138 : Ref sig .tc := ⟨.hbm, 165, rfl⟩
abbrev main_v139 : Ref sig .tc := ⟨.hbm, 166, rfl⟩
abbrev main_cst_22 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_cst_23 : Ref sig .tc := ⟨.hbm, 184, rfl⟩
abbrev main_v156 : Ref sig .tc := ⟨.hbm, 185, rfl⟩
abbrev main_cst_24 : Ref sig .tc := ⟨.hbm, 186, rfl⟩
abbrev main_v157 : Ref sig .tc := ⟨.hbm, 187, rfl⟩
abbrev main_v158 : Ref sig .tc := ⟨.hbm, 188, rfl⟩
abbrev main_cst_25 : Ref sig .tc := ⟨.hbm, 189, rfl⟩
abbrev main_v159 : Ref sig .tc := ⟨.hbm, 190, rfl⟩
abbrev main_cst_26 : Ref sig .tc := ⟨.hbm, 191, rfl⟩
abbrev main_v160 : Ref sig .tc := ⟨.hbm, 192, rfl⟩
abbrev main_v161 : Ref sig .tc := ⟨.hbm, 193, rfl⟩

abbrev nD : Nat := 1
abbrev τ : Topo := Topo.v7x

variable {F : FTy → Type} [FloatOps F]
-- ==== Cross.lean ====
abbrev S16384x1024 : Shape := ⟨2, ![16384, 1024]⟩
abbrev S256x2048 : Shape := ⟨2, ![256, 2048]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S256x2048, .f32⟩
  | .hbm, ⟨2, _⟩ => ⟨S16384x1024, .f32⟩
  | .hbm, ⟨3, _⟩ => ⟨S16384x1024, .bf16⟩
  | .hbm, ⟨4, _⟩ => ⟨S256x2048, .bf16⟩
  | .hbm, ⟨5, _⟩ => ⟨S16384x1024, .bf16⟩
  | .hbm, ⟨6, _⟩ => ⟨S16384x1024, .bf16⟩
  | .hbm, ⟨7, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S256x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== CrossRefIdeal.lean ====
abbrev S16384x1024 : Shape := ⟨2, ![16384, 1024]⟩
abbrev S256x2048 : Shape := ⟨2, ![256, 2048]⟩
abbrev S16384x4x256 : Shape := ⟨3, ![16384, 4, 256]⟩
abbrev S256x2x4x256 : Shape := ⟨4, ![256, 2, 4, 256]⟩
abbrev S256x1x4x256 : Shape := ⟨4, ![256, 1, 4, 256]⟩
abbrev S256x4x256 : Shape := ⟨3, ![256, 4, 256]⟩
abbrev S4x16384x256 : Shape := ⟨3, ![4, 16384, 256]⟩
abbrev S_ : Shape := ⟨0, ![]⟩
abbrev S4x16384 : Shape := ⟨2, ![4, 16384]⟩
abbrev S4x16384x1 : Shape := ⟨3, ![4, 16384, 1]⟩
abbrev S4x256x16384 : Shape := ⟨3, ![4, 256, 16384]⟩
abbrev S4x256x256 : Shape := ⟨3, ![4, 256, 256]⟩

abbrev nBuf : Space → Nat
  | .hbm => 90
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x2048, .f32⟩
  | .hbm, ⟨2, _⟩ => ⟨S16384x1024, .f32⟩
  | .hbm, ⟨3, _⟩ => ⟨S16384x4x256, .f32⟩
  | .hbm, ⟨4, _⟩ => ⟨S256x2x4x256, .f32⟩
  | .hbm, ⟨5, _⟩ => ⟨S256x1x4x256, .f32⟩
  | .hbm, ⟨6, _⟩ => ⟨S256x4x256, .f32⟩
  | .hbm, ⟨7, _⟩ => ⟨S4x16384x256, .f32⟩
  | .hbm, ⟨8, _⟩ => ⟨S_, .f32⟩
  | .hbm, ⟨9, _⟩ => ⟨S4x16384x256, .f32⟩
  | .hbm, ⟨10, _⟩ => ⟨S4x16384x256, .f32⟩
  | .hbm, ⟨11, _⟩ => ⟨S_, .f32⟩
  | .hbm, ⟨12, _⟩ => ⟨S4x16384, .f32⟩
  | .hbm, ⟨13, _⟩ => ⟨S4x16384x1, .f32⟩
  | .hbm, ⟨14, _⟩ => ⟨S4x16384x256, .f32⟩
  | .hbm, ⟨15, _⟩ => ⟨S4x16384x256, .i1⟩
  | .hbm, ⟨16, _⟩ => ⟨S4x16384x256, .f32⟩
  | .hbm, ⟨17, _⟩ => ⟨S_, .f32⟩
  | .hbm, ⟨18, _⟩ => ⟨S4x16384, .f32⟩
  | .hbm, ⟨19, _⟩ => ⟨S_, .f32⟩
  | .hbm, ⟨20, _⟩ => ⟨S4x16384, .f32⟩
  | .hbm, ⟨21, _⟩ => ⟨S4x16384, .f32⟩
  | .hbm, ⟨22, _⟩ => ⟨S_, .f32⟩
  | .hbm, ⟨23, _⟩ => ⟨S4x16384, .f32⟩
  | .hbm, ⟨24, _⟩ => ⟨S4x16384, .i1⟩
  | .hbm, ⟨25, _⟩ => ⟨S_, .f32⟩
  | .hbm, ⟨26, _⟩ => ⟨S4x16384, .f32⟩
  | .hbm, ⟨27, _⟩ => ⟨S4x16384, .i1⟩
  | .hbm, ⟨28, _⟩ => ⟨S_, .f32⟩
  | .hbm, ⟨29, _⟩ => ⟨S4x16384, .f32⟩
  | .hbm, ⟨30, _⟩ => ⟨S_, .f32⟩
  | .hbm, ⟨31, _⟩ => ⟨S4x16384, .f32⟩
  | .hbm, ⟨32, _⟩ => ⟨S_, .f32⟩
  | .hbm, ⟨33, _⟩ => ⟨S4x16384, .f32⟩
  | .hbm, ⟨34, _⟩ => ⟨S4x16384, .f32⟩
  | .hbm, ⟨35, _⟩ => ⟨S4x16384, .f32⟩
  | .hbm, ⟨36, _⟩ => ⟨S4x16384x1, .f32⟩
  | .hbm, ⟨37, _⟩ => ⟨S4x16384x256, .f32⟩
  | .hbm, ⟨38, _⟩ => ⟨S4x16384x256, .f32⟩
  | .hbm, ⟨39, _⟩ => ⟨S4x16384x256, .f32⟩
  | .hbm, ⟨40, _⟩ => ⟨S_, .f32⟩
  | .hbm, ⟨41, _⟩ => ⟨S4x16384, .f32⟩
  | .hbm, ⟨42, _⟩ => ⟨S4x16384x1, .f32⟩
  | .hbm, ⟨43, _⟩ => ⟨S4x16384x256, .f32⟩
  | .hbm, ⟨44, _⟩ => ⟨S4x16384x256, .f32⟩
  | .hbm, ⟨45, _⟩ => ⟨S4x16384x1, .f32⟩
  | .hbm, ⟨46, _⟩ => ⟨S_, .f32⟩
  | .hbm, ⟨47, _⟩ => ⟨S4x16384x1, .f32⟩
  | .hbm, ⟨48, _⟩ => ⟨S4x16384x1, .f32⟩
  | .hbm, ⟨49, _⟩ => ⟨S256x1x4x256, .f32⟩
  | .hbm, ⟨50, _⟩ => ⟨S256x4x256, .f32⟩
  | .hbm, ⟨51, _⟩ => ⟨S4x256x16384, .f32⟩
  | .hbm, ⟨52, _⟩ => ⟨S16384x4x256, .f32⟩
  | .hbm, ⟨53, _⟩ => ⟨S16384x1024, .f32⟩
  | .hbm, ⟨54, _⟩ => ⟨S16384x4x256, .f32⟩
  | .hbm, ⟨55, _⟩ => ⟨S4x256x16384, .f32⟩
  | .hbm, ⟨56, _⟩ => ⟨S4x16384x256, .f32⟩
  | .hbm, ⟨57, _⟩ => ⟨S4x256x256, .f32⟩
  | .hbm, ⟨58, _⟩ => ⟨S256x4x256, .f32⟩
  | .hbm, ⟨59, _⟩ => ⟨S256x1x4x256, .f32⟩
  | .hbm, ⟨60, _⟩ => ⟨S_, .f32⟩
  | .hbm, ⟨61, _⟩ => ⟨S256x2x4x256, .f32⟩
  | .hbm, ⟨62, _⟩ => ⟨S4x16384x256, .f32⟩
  | .hbm, ⟨63, _⟩ => ⟨S4x16384x256, .f32⟩
  | .hbm, ⟨64, _⟩ => ⟨S4x16384x256, .f32⟩
  | .hbm, ⟨65, _⟩ => ⟨S_, .f32⟩
  | .hbm, ⟨66, _⟩ => ⟨S4x16384, .f32⟩
  | .hbm, ⟨67, _⟩ => ⟨S4x16384x1, .f32⟩
  | .hbm, ⟨68, _⟩ => ⟨S4x16384x1, .f32⟩
  | .hbm, ⟨69, _⟩ => ⟨S4x16384x256, .f32⟩
  | .hbm, ⟨70, _⟩ => ⟨S4x16384x256, .f32⟩
  | .hbm, ⟨71, _⟩ => ⟨S_, .f32⟩
  | .hbm, ⟨72, _⟩ => ⟨S4x16384, .f32⟩
  | .hbm, ⟨73, _⟩ => ⟨S4x16384x256, .f32⟩
  | .hbm, ⟨74, _⟩ => ⟨S4x16384x256, .f32⟩
  | .hbm, ⟨75, _⟩ => ⟨S4x16384x256, .f32⟩
  | .hbm, ⟨76, _⟩ => ⟨S_, .f32⟩
  | .hbm, ⟨77, _⟩ => ⟨S4x16384x256, .f32⟩
  | .hbm, ⟨78, _⟩ => ⟨S4x16384x256, .f32⟩
  | .hbm, ⟨79, _⟩ => ⟨S4x256x256, .f32⟩
  | .hbm, ⟨80, _⟩ => ⟨S256x4x256, .f32⟩
  | .hbm, ⟨81, _⟩ => ⟨S4x16384x256, .f32⟩
  | .hbm, ⟨82, _⟩ => ⟨S16384x4x256, .f32⟩
  | .hbm, ⟨83, _⟩ => ⟨S256x1x4x256, .f32⟩
  | .hbm, ⟨84, _⟩ => ⟨S_, .f32⟩
  | .hbm, ⟨85, _⟩ => ⟨S256x2x4x256, .f32⟩
  | .hbm, ⟨86, _⟩ => ⟨S256x2x4x256, .f32⟩
  | .hbm, ⟨87, _⟩ => ⟨S256x2048, .f32⟩
  | .hbm, ⟨88, _⟩ => ⟨S16384x1024, .f32⟩
  | .hbm, ⟨89, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_10 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_11 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_12 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_13 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== Swiglu.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 14
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x1024, .bf16⟩
  | .hbm, ⟨6, _⟩ => ⟨S1024x2816, .bf16⟩
  | .hbm, ⟨7, _⟩ => ⟨S1024x2816, .bf16⟩
  | .hbm, ⟨8, _⟩ => ⟨S16384x2816, .bf16⟩
  | .hbm, ⟨9, _⟩ => ⟨S16384x2816, .bf16⟩
  | .hbm, ⟨10, _⟩ => ⟨S16384x2816, .bf16⟩
  | .hbm, ⟨11, _⟩ => ⟨S2816x1024, .bf16⟩
  | .hbm, ⟨12, _⟩ => ⟨S16384x2816, .bf16⟩
  | .hbm, ⟨13, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1024, .f32⟩
  | .local _ .vmem, ⟨13, _⟩ => ⟨S512x1024, .f32⟩
  | .local _ .vmem, ⟨14, _⟩ => ⟨S1408x1024, .bf16⟩
  | .local _ .vmem, ⟨15, _⟩ => ⟨S1408x1024, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![32, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== SwigluRefIdeal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .bf16⟩
  | .hbm, ⟨30, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Loss.lean ====
abbrev S16384x1024 : Shape := ⟨2, ![16384, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S1x128, .f32⟩
  | .hbm, ⟨5, _⟩ => ⟨S16384x1024, .f32⟩
  | .hbm, ⟨6, _⟩ => ⟨S1x1024, .f32⟩
  | .hbm, ⟨7, _⟩ => ⟨S1x1, .f32⟩
  | .hbm, ⟨8, _⟩ => ⟨S_, .f32⟩
  | .hbm, ⟨9, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_17 : BitVec 32 := 0#32
  let v46 : BitVec 1 := Scalar.cmpi .ne v45 c0_i32_17
  v46

def k0_cond2 (i : grid0.Coords) : BitVec 1 :=
  let arg0 : BitVec 32 := BitVec.ofNat 32 (i 0).val
  let c0_i32_18 : BitVec 32 := 0#32
  let v47 : BitVec 1 := Scalar.cmpi .sgt arg0 c0_i32_18
  let v48 : BitVec 32 := Scalar.extui v47
  let c0_i32_19 : BitVec 32 := 0#32
  let v49 : BitVec 1 := Scalar.cmpi .ne v48 c0_i32_19
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Rms.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S1x1024, .f32⟩
  | .hbm, ⟨7, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== HgrnOut.lean ====
abbrev S16384x8x64 : Shape := ⟨3, ![16384, 8, 64]⟩
abbrev S16384x512 : Shape := ⟨2, ![16384, 512]⟩
abbrev S64 : Shape := ⟨1, ![64]⟩
abbrev S_ : Shape := ⟨0, ![]⟩
abbrev S16384x3584 : Shape := ⟨2, ![16384, 3584]⟩
abbrev S16384x4096 : Shape := ⟨2, ![16384, 4096]⟩
abbrev S8x16384x64 : Shape := ⟨3, ![8, 16384, 64]⟩
abbrev S1x64 : Shape := ⟨2, ![1, 64]⟩
abbrev S8x512x64 : Shape := ⟨3, ![8, 512, 64]⟩
abbrev S512x512 : Shape := ⟨2, ![512, 512]⟩
abbrev S1x512x64 : Shape := ⟨3, ![1, 512, 64]⟩
abbrev S512x64 : Shape := ⟨2, ![512, 64]⟩
abbrev S512 : Shape := ⟨1, ![512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S16384x8x64, .f32⟩
  | .hbm, ⟨1, _⟩ => ⟨S16384x8x64, .f32⟩
  | .hbm, ⟨2, _⟩ => ⟨S16384x512, .f32⟩
  | .hbm, ⟨3, _⟩ => ⟨S64, .f32⟩
  | .hbm, ⟨4, _⟩ => ⟨S16384x512, .f32⟩
  | .hbm, ⟨5, _⟩ => ⟨S_, .f32⟩
  | .hbm, ⟨6, _⟩ => ⟨S16384x3584, .f32⟩
  | .hbm, ⟨7, _⟩ => ⟨S16384x4096, .f32⟩
  | .hbm, ⟨8, _⟩ => ⟨S8x16384x64, .f32⟩
  | .hbm, ⟨9, _⟩ => ⟨S8x16384x64, .f32⟩
  | .hbm, ⟨10, _⟩ => ⟨S1x64, .f32⟩
  | .hbm, ⟨11, _⟩ => ⟨S8x16384x64, .f32⟩
  | .hbm, ⟨12, _⟩ => ⟨S16384x512, .f32⟩
  | .hbm, ⟨13, _⟩ => ⟨S1x64, .f32⟩
  | .hbm, ⟨14, _⟩ => ⟨S64, .f32⟩
  | .local _ .vmem, ⟨0, _⟩ => ⟨S8x512x64, .f32⟩
  | .local _ .vmem, ⟨1, _⟩ => ⟨S8x512x64, .f32⟩
  | .local _ .vmem, ⟨2, _⟩ => ⟨S8x512x64, .f32⟩
  | .local _ .vmem, ⟨3, _⟩ => ⟨S8x512x64, .f32⟩
  | .local _ .vmem, ⟨4, _⟩ => ⟨S512x512, .f32⟩
  | .local _ .vmem, ⟨5, _⟩ => ⟨S512x512, .f32⟩
  | .local _ .vmem, ⟨6, _⟩ => ⟨S1x64, .f32⟩
  | .local _ .vmem, ⟨7, _⟩ => ⟨S512x512, .f32⟩
  | .local _ .vmem, ⟨8, _⟩ => ⟨S512x512, .f32⟩
  | .local _ .vmem, ⟨9, _⟩ => ⟨S8x512x64, .f32⟩
  | .local _ .vmem, ⟨10, _⟩ => ⟨S8x512x64, .f32⟩
  | .local _ .vmem, ⟨11, _⟩ => ⟨S512x512, .f32⟩
  | .local _ .vmem, ⟨12, _⟩ => ⟨S512x512, .f32⟩
  | .local _ .vmem, ⟨13, _⟩ => ⟨S1x64, .f32⟩
  | _, _ => ⟨S16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v411 : BitVec 1 := Scalar.cmpi .eq arg0 c0_i32
  let v412 : BitVec 32 := Scalar.extui v411
  let c0_i32_171 : BitVec 32 := 0#32
  let v413 : BitVec 1 := Scalar.cmpi .ne v412 c0_i32_171
  v413

def k0_cond2 (i : grid0.Coords) : BitVec 1 :=
  let arg0 : BitVec 32 := BitVec.ofNat 32 (i 0).val
  let c0_i32_172 : BitVec 32 := 0#32
  let v414 : BitVec 1 := Scalar.cmpi .sgt arg0 c0_i32_172
  let v415 : BitVec 32 := Scalar.extui v414
  let c0_i32_173 : BitVec 32 := 0#32
  let v416 : BitVec 1 := Scalar.cmpi .ne v415 c0_i32_173
  v416

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== HgrnOutRefIdeal.lean ====
abbrev S16384x8x64 : Shape := ⟨3, ![16384, 8, 64]⟩
abbrev S16384x512 : Shape := ⟨2, ![16384, 512]⟩
abbrev S64 : Shape := ⟨1, ![64]⟩
abbrev S_ : Shape := ⟨0, ![]⟩
abbrev S16384x8 : Shape := ⟨2, ![16384, 8]⟩
abbrev S16384x8x1 : Shape := ⟨3, ![16384, 8, 1]⟩
abbrev S1x1x64 : Shape := ⟨3, ![1, 1, 64]⟩
abbrev S8x16384x64 : Shape := ⟨3, ![8, 16384, 64]⟩

abbrev nBuf : Space → Nat
  | .hbm => 76
  | .vmem => 0
  | .smem => 0
  | _ => 0

abbrev bufTy : (tb : Table) → Fin (tcTables nBuf tb) → BufTy
  | .hbm, ⟨0, _⟩ => ⟨S16384x8x64, .f32⟩
  | .hbm, ⟨1, _⟩ => ⟨S16384x8x64, .f32⟩
  | .hbm, ⟨2, _⟩ => ⟨S16384x512, .f32⟩
  | .hbm, ⟨3, _⟩ => ⟨S64, .f32⟩
  | .hbm, ⟨4, _⟩ => ⟨S16384x512, .f32⟩
  | .hbm, ⟨5, _⟩ => ⟨S16384x8x64, .f32⟩
  | .hbm, ⟨6, _⟩ => ⟨S16384x8x64, .f32⟩
  | .hbm, ⟨7, _⟩ => ⟨S_, .f32⟩
  | .hbm, ⟨8, _⟩ => ⟨S16384x8, .f32⟩
  | .hbm, ⟨9, _⟩ => ⟨S16384x8x1, .f32⟩
  | .hbm, ⟨10, _⟩ => ⟨S_, .f32⟩
  | .hbm, ⟨11, _⟩ => ⟨S16384x8x1, .f32⟩
  | .hbm, ⟨12, _⟩ => ⟨S16384x8x1, .f32⟩
  | .hbm, ⟨13, _⟩ => ⟨S_, .f32⟩
  | .hbm, ⟨14, _⟩ => ⟨S16384x8x1, .f32⟩
  | .hbm, ⟨15, _⟩ => ⟨S16384x8x1, .f32⟩
  | .hbm, ⟨16, _⟩ => ⟨S16384x8x1, .f32⟩
  | .hbm, ⟨17, _⟩ => ⟨S16384x8x1, .f32⟩
  | .hbm, ⟨18, _⟩ => ⟨S_, .f32⟩
  | .hbm, ⟨19, _⟩ => ⟨S16384x8x1, .f32⟩
  | .hbm, ⟨20, _⟩ => ⟨S16384x8x1, .f32⟩
  | .hbm, ⟨21, _⟩ => ⟨S16384x8x64, .f32⟩
  | .hbm, ⟨22, _⟩ => ⟨S16384x8x64, .f32⟩
  | .hbm, ⟨23, _⟩ => ⟨S1x1x64, .f32⟩
  | .hbm, ⟨24, _⟩ => ⟨S16384x8x64, .f32⟩
  | .hbm, ⟨25, _⟩ => ⟨S16384x8x64, .f32⟩
  | .hbm, ⟨26, _⟩ => ⟨S16384x8x64, .f32⟩
  | .hbm, ⟨27, _⟩ => ⟨S16384x8x64, .f32⟩
  | .hbm, ⟨28, _⟩ => ⟨S16384x8x64, .f32⟩
  | .hbm, ⟨29, _⟩ => ⟨S_, .f32⟩
  | .hbm, ⟨30, _⟩ => ⟨S16384x8x64, .f32⟩
  | .hbm, ⟨31, _⟩ => ⟨S16384x8x64, .f32⟩
  | .hbm, ⟨32, _⟩ => ⟨S_, .f32⟩
  | .hbm, ⟨33, _⟩ => ⟨S16384x8x64, .f32⟩
  | .hbm, ⟨34, _⟩ => ⟨S16384x8x64, .f32⟩
  | .hbm, ⟨35, _⟩ => ⟨S_, .f32⟩
  | .hbm, ⟨36, _⟩ => ⟨S16384x8x64, .f32⟩
  | .hbm, ⟨37, _⟩ => ⟨S16384x8x64, .f32⟩
  | .hbm, ⟨38, _⟩ => ⟨S16384x8x64, .f32⟩
  | .hbm, ⟨39, _⟩ => ⟨S16384x8x64, .f32⟩
  | .hbm, ⟨40, _⟩ => ⟨S16384x8x64, .f32⟩
  | .hbm, ⟨41, _⟩ => ⟨S16384x512, .f32⟩
  | .hbm, ⟨42, _⟩ => ⟨S16384x8x64, .f32⟩
  | .hbm, ⟨43, _⟩ => ⟨S16384x8x64, .f32⟩
  | .hbm, ⟨44, _⟩ => ⟨S16384x8x64, .f32⟩
  | .hbm, ⟨45, _⟩ => ⟨S16384x8x64, .f32⟩
  | .hbm, ⟨46, _⟩ => ⟨S16384x8x64, .f32⟩
  | .hbm, ⟨47, _⟩ => ⟨S16384x8x64, .f32⟩
  | .hbm, ⟨48, _⟩ => ⟨S16384x8x64, .f32⟩
  | .hbm, ⟨49, _⟩ => ⟨S16384x512, .f32⟩
  | .hbm, ⟨50, _⟩ => ⟨S16384x8x64, .f32⟩
  | .hbm, ⟨51, _⟩ => ⟨S_, .f32⟩
  | .hbm, ⟨52, _⟩ => ⟨S64, .f32⟩
  | .hbm, ⟨53, _⟩ => ⟨S1x1x64, .f32⟩
  | .hbm, ⟨54, _⟩ => ⟨S16384x8x64, .f32⟩
  | .hbm, ⟨55, _⟩ => ⟨S16384x8x64, .f32⟩
  | .hbm, ⟨56, _⟩ => ⟨S_, .f32⟩
  | .hbm, ⟨57, _⟩ => ⟨S64, .f32⟩
  | .hbm, ⟨58, _⟩ => ⟨S16384x8x64, .f32⟩
  | .hbm, ⟨59, _⟩ => ⟨S_, .f32⟩
  | .hbm, ⟨60, _⟩ => ⟨S16384x8, .f32⟩
  | .hbm, ⟨61, _⟩ => ⟨S16384x8x1, .f32⟩
  | .hbm, ⟨62, _⟩ => ⟨S16384x8x64, .f32⟩
  | .hbm, ⟨63, _⟩ => ⟨S16384x8x64, .f32⟩
  | .hbm, ⟨64, _⟩ => ⟨S16384x8x1, .f32⟩
  | .hbm, ⟨65, _⟩ => ⟨S_, .f32⟩
  | .hbm, ⟨66, _⟩ => ⟨S16384x8x1, .f32⟩
  | .hbm, ⟨67, _⟩ => ⟨S16384x8x1, .f32⟩
  | .hbm, ⟨68, _⟩ => ⟨S_, .f32⟩
  | .hbm, ⟨69, _⟩ => ⟨S16384x8, .f32⟩
  | .hbm, ⟨70, _⟩ => ⟨S16384x8x64, .f32⟩
  | .hbm, ⟨71, _⟩ => ⟨S16384x8x64, .f32⟩
  | .hbm, ⟨72, _⟩ => ⟨S16384x8x64, .f32⟩
  | .hbm, ⟨73, _⟩ => ⟨S16384x8x64, .f32⟩
  | .hbm, ⟨74, _⟩ => ⟨S16384x8x64, .f32⟩
  | .hbm, ⟨75, _⟩ => ⟨S8x16384x64, .f32⟩
  | _, _ => ⟨S16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩

abbrev nD : Nat := 1
abbrev τ : Topo := Topo.v7x

variable {F : FTy → Type} [FloatOps F]
-- ==== MlaFwd.lean ====
abbrev S16384x8x96 : Shape := ⟨3, ![16384, 8, 96]⟩
abbrev S16384x8x128 : Shape := ⟨3, ![16384, 8, 128]⟩
abbrev S16384x32 : Shape := ⟨2, ![16384, 32]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16384x128 : Shape := ⟨2, ![16384, 128]⟩
abbrev S64x16384 : Shape := ⟨2, ![64, 16384]⟩
abbrev S16384x8x32 : Shape := ⟨3, ![16384, 8, 32]⟩
abbrev S16384x1024 : Shape := ⟨2, ![16384, 1024]⟩
abbrev S16384x8x64 : Shape := ⟨3, ![16384, 8, 64]⟩
abbrev S16384x8x16 : Shape := ⟨3, ![16384, 8, 16]⟩
abbrev S16384x1x32 : Shape := ⟨3, ![16384, 1, 32]⟩
abbrev S16384x8x1 : Shape := ⟨3, ![16384, 8, 1]⟩
abbrev S16384x8x63 : Shape := ⟨3, ![16384, 8, 63]⟩
abbrev S1024x16384 : Shape := ⟨2, ![1024, 16384]⟩
abbrev S16384x512 : Shape := ⟨2, ![16384, 512]⟩
abbrev S8x1x16384 : Shape := ⟨3, ![8, 1, 16384]⟩
abbrev S512x1024 : Shape := ⟨2, ![512, 1024]⟩
abbrev S4096x1024 : Shape := ⟨2, ![4096, 1024]⟩
abbrev S1024x4096 : Shape := ⟨2, ![1024, 4096]⟩
abbrev S512x512 : Shape := ⟨2, ![512, 512]⟩
abbrev S8x1x512 : Shape := ⟨3, ![8, 1, 512]⟩
abbrev S8x128x512 : Shape := ⟨3, ![8, 128, 512]⟩
abbrev S4096x128 : Shape := ⟨2, ![4096, 128]⟩
abbrev S512x128 : Shape := ⟨2, ![512, 128]⟩
abbrev S4096x512 : Shape := ⟨2, ![4096, 512]⟩
abbrev S1x1x512 : Shape := ⟨3, ![1, 1, 512]⟩
abbrev S1x512 : Shape := ⟨2, ![1, 512]⟩
abbrev S512 : Shape := ⟨1, ![512]⟩
abbrev S1x128x512 : Shape := ⟨3, ![1, 128, 512]⟩
abbrev S128x512 : Shape := ⟨2, ![128, 512]⟩
abbrev S128x4096 : Shape := ⟨2, ![128, 4096]⟩
abbrev S64x512 : Shape := ⟨2, ![64, 512]⟩
abbrev S512x64 : Shape := ⟨2, ![512, 64]⟩

abbrev nBuf : Space → Nat
  | .hbm => 96
  | .vmem => 12
  | .smem => 0
  | _ => 0

abbrev bufTy : (tb : Table) → Fin (tcTables nBuf tb) → BufTy
  | .hbm, ⟨0, _⟩ => ⟨S16384x8x96, .f32⟩
  | .hbm, ⟨1, _⟩ => ⟨S16384x8x128, .f32⟩
  | .hbm, ⟨2, _⟩ => ⟨S16384x32, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16384, .i32⟩
  | .hbm, ⟨12, _⟩ => ⟨S16384, .f32⟩
  | .hbm, ⟨13, _⟩ => ⟨S16384x1, .f32⟩
  | .hbm, ⟨14, _⟩ => ⟨S1x16, .f32⟩
  | .hbm, ⟨15, _⟩ => ⟨S16384x16, .f32⟩
  | .hbm, ⟨16, _⟩ => ⟨S16384x16, .f32⟩
  | .hbm, ⟨17, _⟩ => ⟨S16384x16, .f32⟩
  | .hbm, ⟨18, _⟩ => ⟨S16384x16, .f32⟩
  | .hbm, ⟨19, _⟩ => ⟨S16384x16, .f32⟩
  | .hbm, ⟨20, _⟩ => ⟨S16384x32, .f32⟩
  | .hbm, ⟨21, _⟩ => ⟨S16384x16, .f32⟩
  | .hbm, ⟨22, _⟩ => ⟨S16384x16, .f32⟩
  | .hbm, ⟨23, _⟩ => ⟨S16384x32, .f32⟩
  | .hbm, ⟨24, _⟩ => ⟨S_, .f32⟩
  | .hbm, ⟨25, _⟩ => ⟨S16384x64, .f32⟩
  | .hbm, ⟨26, _⟩ => ⟨S_, .f32⟩
  | .hbm, ⟨27, _⟩ => ⟨S16384x32, .f32⟩
  | .hbm, ⟨28, _⟩ => ⟨S16384x128, .f32⟩
  | .hbm, ⟨29, _⟩ => ⟨S_, .f32⟩
  | .hbm, ⟨30, _⟩ => ⟨S16384x64, .f32⟩
  | .hbm, ⟨31, _⟩ => ⟨S_, .f32⟩
  | .hbm, ⟨32, _⟩ => ⟨S16384x32, .f32⟩
  | .hbm, ⟨33, _⟩ => ⟨S16384x128, .f32⟩
  | .hbm, ⟨34, _⟩ => ⟨S_, .f32⟩
  | .hbm, ⟨35, _⟩ => ⟨S16384x64, .f32⟩
  | .hbm, ⟨36, _⟩ => ⟨S16384x128, .f32⟩
  | .hbm, ⟨37, _⟩ => ⟨S16384x64, .f32⟩
  | .hbm, ⟨38, _⟩ => ⟨S64x16384, .f32⟩
  | .hbm, ⟨39, _⟩ => ⟨S_, .f32⟩
  | .hbm, ⟨40, _⟩ => ⟨S16384x8x32, .f32⟩
  | .hbm, ⟨41, _⟩ => ⟨S16384x8x128, .f32⟩
  | .hbm, ⟨42, _⟩ => ⟨S16384x1024, .f32⟩
  | .hbm, ⟨43, _⟩ => ⟨S_, .f32⟩
  | .hbm, ⟨44, _⟩ => ⟨S16384x8x64, .f32⟩
  | .hbm, ⟨45, _⟩ => ⟨S16384x8x32, .f32⟩
  | .hbm, ⟨46, _⟩ => ⟨S16384x8x16, .f32⟩
  | .hbm, ⟨47, _⟩ => ⟨S16384x8x16, .f32⟩
  | .hbm, ⟨48, _⟩ => ⟨S16384x8x16, .f32⟩
  | .hbm, ⟨49, _⟩ => ⟨S16384x8x32, .f32⟩
  | .hbm, ⟨50, _⟩ => ⟨S_, .f32⟩
  | .hbm, ⟨51, _⟩ => ⟨S16384x8x32, .f32⟩
  | .hbm, ⟨52, _⟩ => ⟨S16384x8x128, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S16384x16, .f32⟩
  | .hbm, ⟨67, _⟩ => ⟨S16384x16, .f32⟩
  | .hbm, ⟨68, _⟩ => ⟨S16384x16, .f32⟩
  | .hbm, ⟨69, _⟩ => ⟨S16384x32, .f32⟩
  | .hbm, ⟨70, _⟩ => ⟨S16384x64, .f32⟩
  | .hbm, ⟨71, _⟩ => ⟨S16384x64, .f32⟩
  | .hbm, ⟨72, _⟩ => ⟨S16384x64, .f32⟩
  | .hbm, ⟨73, _⟩ => ⟨S16384x32, .f32⟩
  | .hbm, ⟨74, _⟩ => ⟨S16384x32, .f32⟩
  | .hbm, ⟨75, _⟩ => ⟨S16384x32, .f32⟩
  | .hbm, ⟨76, _⟩ => ⟨S16384x8x64, .f32⟩
  | .hbm, ⟨77, _⟩ => ⟨S16384x1x32, .f32⟩
  | .hbm, ⟨78, _⟩ => ⟨S16384x8x32, .f32⟩
  | .hbm, ⟨79, _⟩ => ⟨S_, .f32⟩
  | .hbm, ⟨80, _⟩ => ⟨S16384x8x32, .f32⟩
  | .hbm, ⟨81, _⟩ => ⟨S16384x8x128, .f32⟩
  | .hbm, ⟨82, _⟩ => ⟨S16384x8x64, .f32⟩
  | .hbm, ⟨83, _⟩ => ⟨S_, .f32⟩
  | .hbm, ⟨84, _⟩ => ⟨S16384x8x1, .f32⟩
  | .hbm, ⟨85, _⟩ => ⟨S_, .f32⟩
  | .hbm, ⟨86, _⟩ => ⟨S16384x8x63, .f32⟩
  | .hbm, ⟨87, _⟩ => ⟨S16384x8x128, .f32⟩
  | .hbm, ⟨88, _⟩ => ⟨S16384x1024, .bf16⟩
  | .hbm, ⟨89, _⟩ => ⟨S16384x1024, .f32⟩
  | .hbm, ⟨90, _⟩ => ⟨S16384x1024, .bf16⟩
  | .hbm, ⟨91, _⟩ => ⟨S16384x1024, .f32⟩
  | .hbm, ⟨92, _⟩ => ⟨S16384x1024, .bf16⟩
  | .hbm, ⟨93, _⟩ => ⟨S1024x16384, .bf16⟩
  | .hbm, ⟨94, _⟩ => ⟨S16384x512, .f32⟩
  | .hbm, ⟨95, _⟩ => ⟨S8x1x16384, .f32⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x4096, .bf16⟩
  | .local _ .vmem, ⟨5, _⟩ => ⟨S1024x4096, .bf16⟩
  | .local _ .vmem, ⟨6, _⟩ => ⟨S512x512, .f32⟩
  | .local _ .vmem, ⟨7, _⟩ => ⟨S512x512, .f32⟩
  | .local _ .vmem, ⟨8, _⟩ => ⟨S8x1x512, .f32⟩
  | .local _ .vmem, ⟨9, _⟩ => ⟨S8x1x512, .f32⟩
  | .local _ .vmem, ⟨10, _⟩ => ⟨S8x1x512, .f32⟩
  | .local _ .vmem, ⟨11, _⟩ => ⟨S8x128x512, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_9 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_11 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_12 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76_0 : Ref sig .tc := ⟨.hbm, 94, rfl⟩
abbrev main_v76_1 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v243 : BitVec 1 := Scalar.cmpi .eq arg1 c3_i32
  let v244 : BitVec 32 := Scalar.extui v243
  let c0_i32_153 : BitVec 32 := 0#32
  let v245 : BitVec 1 := Scalar.cmpi .ne v244 c0_i32_153
  v245

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlaFwdIdeal.lean ====
variable {F : FTy → Type} [FloatOps F] [Named F]
def κ : String → Option EReal := fun
  | "log2e" => some (((Real.log 2)⁻¹ : ℝ) : EReal)
  | _ => none
-- ==== MlaFwdRefIdeal.lean ====
abbrev S16384x8x96 : Shape := ⟨3, ![16384, 8, 96]⟩
abbrev S16384x8x128 : Shape := ⟨3, ![16384, 8, 128]⟩
abbrev S16384x32 : Shape := ⟨2, ![16384, 32]⟩
abbrev S16384x8x64 : Shape := ⟨3, ![16384, 8, 64]⟩
abbrev S16384x8x32 : Shape := ⟨3, ![16384, 8, 32]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x1x16 : Shape := ⟨3, ![16384, 1, 16]⟩
abbrev S16384x8x16 : Shape := ⟨3, ![16384, 8, 16]⟩
abbrev S16384x1x32 : Shape := ⟨3, ![16384, 1, 32]⟩
abbrev S8x16384x16384 : Shape := ⟨3, ![8, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S16384x512 : Shape := ⟨2, ![16384, 512]⟩
abbrev S8x1x16384 : Shape := ⟨3, ![8, 1, 16384]⟩

abbrev nBuf : Space → Nat
  | .hbm => 96
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x128, .f32⟩
  | .hbm, ⟨2, _⟩ => ⟨S16384x32, .f32⟩
  | .hbm, ⟨3, _⟩ => ⟨S16384x8x64, .f32⟩
  | .hbm, ⟨4, _⟩ => ⟨S16384x8x32, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16384, .i32⟩
  | .hbm, ⟨14, _⟩ => ⟨S16384, .f32⟩
  | .hbm, ⟨15, _⟩ => ⟨S16384x1, .f32⟩
  | .hbm, ⟨16, _⟩ => ⟨S1x16, .f32⟩
  | .hbm, ⟨17, _⟩ => ⟨S16384x16, .f32⟩
  | .hbm, ⟨18, _⟩ => ⟨S16384x16, .f32⟩
  | .hbm, ⟨19, _⟩ => ⟨S16384x16, .f32⟩
  | .hbm, ⟨20, _⟩ => ⟨S16384x16, .f32⟩
  | .hbm, ⟨21, _⟩ => ⟨S16384x1x16, .f32⟩
  | .hbm, ⟨22, _⟩ => ⟨S16384x16, .f32⟩
  | .hbm, ⟨23, _⟩ => ⟨S16384x1x16, .f32⟩
  | .hbm, ⟨24, _⟩ => ⟨S16384x8x16, .f32⟩
  | .hbm, ⟨25, _⟩ => ⟨S16384x8x16, .f32⟩
  | .hbm, ⟨26, _⟩ => ⟨S16384x8x16, .f32⟩
  | .hbm, ⟨27, _⟩ => ⟨S16384x8x16, .f32⟩
  | .hbm, ⟨28, _⟩ => ⟨S16384x8x16, .f32⟩
  | .hbm, ⟨29, _⟩ => ⟨S16384x8x16, .f32⟩
  | .hbm, ⟨30, _⟩ => ⟨S16384x8x16, .f32⟩
  | .hbm, ⟨31, _⟩ => ⟨S16384x8x16, .f32⟩
  | .hbm, ⟨32, _⟩ => ⟨S16384x8x16, .f32⟩
  | .hbm, ⟨33, _⟩ => ⟨S16384x8x16, .f32⟩
  | .hbm, ⟨34, _⟩ => ⟨S16384x8x16, .f32⟩
  | .hbm, ⟨35, _⟩ => ⟨S16384x8x16, .f32⟩
  | .hbm, ⟨36, _⟩ => ⟨S16384x8x32, .f32⟩
  | .hbm, ⟨37, _⟩ => ⟨S16384x8x96, .f32⟩
  | .hbm, ⟨38, _⟩ => ⟨S16384x1x32, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S16384, .i32⟩
  | .hbm, ⟨48, _⟩ => ⟨S16384, .f32⟩
  | .hbm, ⟨49, _⟩ => ⟨S16384x1, .f32⟩
  | .hbm, ⟨50, _⟩ => ⟨S1x16, .f32⟩
  | .hbm, ⟨51, _⟩ => ⟨S16384x16, .f32⟩
  | .hbm, ⟨52, _⟩ => ⟨S16384x16, .f32⟩
  | .hbm, ⟨53, _⟩ => ⟨S16384x16, .f32⟩
  | .hbm, ⟨54, _⟩ => ⟨S16384x16, .f32⟩
  | .hbm, ⟨55, _⟩ => ⟨S16384x1x16, .f32⟩
  | .hbm, ⟨56, _⟩ => ⟨S16384x16, .f32⟩
  | .hbm, ⟨57, _⟩ => ⟨S16384x1x16, .f32⟩
  | .hbm, ⟨58, _⟩ => ⟨S16384x1x16, .f32⟩
  | .hbm, ⟨59, _⟩ => ⟨S16384x1x16, .f32⟩
  | .hbm, ⟨60, _⟩ => ⟨S16384x1x16, .f32⟩
  | .hbm, ⟨61, _⟩ => ⟨S16384x1x16, .f32⟩
  | .hbm, ⟨62, _⟩ => ⟨S16384x1x16, .f32⟩
  | .hbm, ⟨63, _⟩ => ⟨S16384x1x16, .f32⟩
  | .hbm, ⟨64, _⟩ => ⟨S16384x1x16, .f32⟩
  | .hbm, ⟨65, _⟩ => ⟨S16384x1x16, .f32⟩
  | .hbm, ⟨66, _⟩ => ⟨S16384x1x32, .f32⟩
  | .hbm, ⟨67, _⟩ => ⟨S16384x8x32, .f32⟩
  | .hbm, ⟨68, _⟩ => ⟨S16384x8x64, .f32⟩
  | .hbm, ⟨69, _⟩ => ⟨S16384x8x96, .f32⟩
  | .hbm, ⟨70, _⟩ => ⟨S8x16384x16384, .f32⟩
  | .hbm, ⟨71, _⟩ => ⟨S_, .f32⟩
  | .hbm, ⟨72, _⟩ => ⟨S8x16384x16384, .f32⟩
  | .hbm, ⟨73, _⟩ => ⟨S8x16384x16384, .f32⟩
  | .hbm, ⟨74, _⟩ => ⟨S_, .f32⟩
  | .hbm, ⟨75, _⟩ => ⟨S8x16384, .f32⟩
  | .hbm, ⟨76, _⟩ => ⟨S8x16384x1, .f32⟩
  | .hbm, ⟨77, _⟩ => ⟨S8x16384x16384, .f32⟩
  | .hbm, ⟨78, _⟩ => ⟨S8x16384x16384, .f32⟩
  | .hbm, ⟨79, _⟩ => ⟨S8x16384x16384, .f32⟩
  | .hbm, ⟨80, _⟩ => ⟨S_, .f32⟩
  | .hbm, ⟨81, _⟩ => ⟨S8x16384, .f32⟩
  | .hbm, ⟨82, _⟩ => ⟨S8x16384x1, .f32⟩
  | .hbm, ⟨83, _⟩ => ⟨S8x16384x16384, .f32⟩
  | .hbm, ⟨84, _⟩ => ⟨S8x16384x16384, .f32⟩
  | .hbm, ⟨85, _⟩ => ⟨S16384x8x64, .f32⟩
  | .hbm, ⟨86, _⟩ => ⟨S8x64x16384, .f32⟩
  | .hbm, ⟨87, _⟩ => ⟨S16384x8x64, .f32⟩
  | .hbm, ⟨88, _⟩ => ⟨S16384x512, .f32⟩
  | .hbm, ⟨89, _⟩ => ⟨S8x16384x1, .f32⟩
  | .hbm, ⟨90, _⟩ => ⟨S8x16384x1, .f32⟩
  | .hbm, ⟨91, _⟩ => ⟨S_, .f32⟩
  | .hbm, ⟨92, _⟩ => ⟨S_, .f32⟩
  | .hbm, ⟨93, _⟩ => ⟨S8x16384x1, .f32⟩
  | .hbm, ⟨94, _⟩ => ⟨S8x16384x1, .f32⟩
  | .hbm, ⟨95, _⟩ => ⟨S8x1x16384, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_cst_3 : Ref sig .tc := ⟨.hbm, 71, rfl⟩
abbrev main_v64 : Ref sig .tc := ⟨.hbm, 72, rfl⟩
abbrev main_v65 : Ref sig .tc := ⟨.hbm, 73, rfl⟩
abbrev main_cst_4 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_5 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_6 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩

abbrev nD : Nat := 1
abbrev τ : Topo := Topo.v7x

variable {F : FTy → Type} [FloatOps F]
-- ==== RmsCol.lean ====
abbrev S16384x256 : Shape := ⟨2, ![16384, 256]⟩
abbrev S256 : Shape := ⟨1, ![256]⟩
abbrev S_ : Shape := ⟨0, ![]⟩
abbrev S16384x512 : Shape := ⟨2, ![16384, 512]⟩
abbrev S16384x768 : Shape := ⟨2, ![16384, 768]⟩
abbrev S1x256 : Shape := ⟨2, ![1, 256]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S16384x256, .f32⟩
  | .hbm, ⟨1, _⟩ => ⟨S256, .f32⟩
  | .hbm, ⟨2, _⟩ => ⟨S16384x256, .f32⟩
  | .hbm, ⟨3, _⟩ => ⟨S_, .f32⟩
  | .hbm, ⟨4, _⟩ => ⟨S16384x512, .f32⟩
  | .hbm, ⟨5, _⟩ => ⟨S16384x768, .f32⟩
  | .hbm, ⟨6, _⟩ => ⟨S1x256, .f32⟩
  | .hbm, ⟨7, _⟩ => ⟨S16384x256, .bf16⟩
  | .hbm, ⟨8, _⟩ => ⟨S1x256, .f32⟩
  | .hbm, ⟨9, _⟩ => ⟨S256, .f32⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .f32⟩
  | .local _ .vmem, ⟨4, _⟩ => ⟨S512x256, .f32⟩
  | .local _ .vmem, ⟨5, _⟩ => ⟨S512x256, .bf16⟩
  | .local _ .vmem, ⟨6, _⟩ => ⟨S512x256, .bf16⟩
  | .local _ .vmem, ⟨7, _⟩ => ⟨S1x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_12 : BitVec 32 := 0#32
  let v34 : BitVec 1 := Scalar.cmpi .ne v33 c0_i32_12
  v34

def k0_cond2 (i : grid0.Coords) : BitVec 1 :=
  let arg0 : BitVec 32 := BitVec.ofNat 32 (i 0).val
  let c0_i32_13 : BitVec 32 := 0#32
  let v35 : BitVec 1 := Scalar.cmpi .sgt arg0 c0_i32_13
  let v36 : BitVec 32 := Scalar.extui v35
  let c0_i32_14 : BitVec 32 := 0#32
  let v37 : BitVec 1 := Scalar.cmpi .ne v36 c0_i32_14
  v37

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsColRefIdeal.lean ====
abbrev S16384x256 : Shape := ⟨2, ![16384, 256]⟩
abbrev S256 : Shape := ⟨1, ![256]⟩
abbrev S_ : Shape := ⟨0, ![]⟩
abbrev S16384 : Shape := ⟨1, ![16384]⟩
abbrev S16384x1 : Shape := ⟨2, ![16384, 1]⟩
abbrev S1x256 : Shape := ⟨2, ![1, 256]⟩

abbrev nBuf : Space → Nat
  | .hbm => 49
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256, .f32⟩
  | .hbm, ⟨2, _⟩ => ⟨S16384x256, .f32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x256, .f32⟩
  | .hbm, ⟨19, _⟩ => ⟨S16384x256, .f32⟩
  | .hbm, ⟨20, _⟩ => ⟨S1x256, .f32⟩
  | .hbm, ⟨21, _⟩ => ⟨S16384x256, .f32⟩
  | .hbm, ⟨22, _⟩ => ⟨S16384x256, .f32⟩
  | .hbm, ⟨23, _⟩ => ⟨S16384x256, .f32⟩
  | .hbm, ⟨24, _⟩ => ⟨S_, .f32⟩
  | .hbm, ⟨25, _⟩ => ⟨S256, .f32⟩
  | .hbm, ⟨26, _⟩ => ⟨S1x256, .f32⟩
  | .hbm, ⟨27, _⟩ => ⟨S16384x256, .f32⟩
  | .hbm, ⟨28, _⟩ => ⟨S16384x256, .f32⟩
  | .hbm, ⟨29, _⟩ => ⟨S_, .f32⟩
  | .hbm, ⟨30, _⟩ => ⟨S256, .f32⟩
  | .hbm, ⟨31, _⟩ => ⟨S16384x256, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x256, .f32⟩
  | .hbm, ⟨36, _⟩ => ⟨S16384x256, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384, .f32⟩
  | .hbm, ⟨43, _⟩ => ⟨S16384x256, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S16384x256, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Swa.lean ====
abbrev S16384x512 : Shape := ⟨2, ![16384, 512]⟩
abbrev S16384x128 : Shape := ⟨2, ![16384, 128]⟩
abbrev S32x8 : Shape := ⟨2, ![32, 8]⟩
abbrev S8 : Shape := ⟨1, ![8]⟩
abbrev S16384x768 : Shape := ⟨2, ![16384, 768]⟩
abbrev S384 : Shape := ⟨1, ![384]⟩
abbrev S1x384 : Shape := ⟨2, ![1, 384]⟩
abbrev S_ : Shape := ⟨0, ![]⟩
abbrev S128 : Shape := ⟨1, ![128]⟩
abbrev S128x1 : Shape := ⟨2, ![128, 1]⟩
abbrev S128x384 : Shape := ⟨2, ![128, 384]⟩
abbrev S49152 : Shape := ⟨1, ![49152]⟩
abbrev S49152x1 : Shape := ⟨2, ![49152, 1]⟩
abbrev S32 : Shape := ⟨1, ![32]⟩
abbrev S1x32 : Shape := ⟨2, ![1, 32]⟩
abbrev S49152x32 : Shape := ⟨2, ![49152, 32]⟩
abbrev S8x32 : Shape := ⟨2, ![8, 32]⟩
abbrev S8x1x32 : Shape := ⟨3, ![8, 1, 32]⟩
abbrev S1x49152x32 : Shape := ⟨3, ![1, 49152, 32]⟩
abbrev S8x49152x32 : Shape := ⟨3, ![8, 49152, 32]⟩
abbrev S8x49152 : Shape := ⟨2, ![8, 49152]⟩
abbrev S8x128x384 : Shape := ⟨3, ![8, 128, 384]⟩
abbrev S128x384x128 : Shape := ⟨3, ![128, 384, 128]⟩
abbrev S8x128 : Shape := ⟨2, ![8, 128]⟩
abbrev S128x512 : Shape := ⟨2, ![128, 512]⟩
abbrev S128x128 : Shape := ⟨2, ![128, 128]⟩
abbrev S1x384x128 : Shape := ⟨3, ![1, 384, 128]⟩
abbrev S384x128 : Shape := ⟨2, ![384, 128]⟩
abbrev S128x64 : Shape := ⟨2, ![128, 64]⟩
abbrev S384x64 : Shape := ⟨2, ![384, 64]⟩
abbrev S1x128x384 : Shape := ⟨3, ![1, 128, 384]⟩
abbrev S1 : Shape := ⟨1, ![1]⟩
abbrev S1x1 : Shape := ⟨2, ![1, 1]⟩
abbrev S1x128 : Shape := ⟨2, ![1, 128]⟩
abbrev S1x384x64 : Shape := ⟨3, ![1, 384, 64]⟩
abbrev S49152x32x1 : Shape := ⟨3, ![49152, 32, 1]⟩
abbrev S49152x8 : Shape := ⟨2, ![49152, 8]⟩
abbrev S49152x1x8 : Shape := ⟨3, ![49152, 1, 8]⟩
abbrev S49152x32x8 : Shape := ⟨3, ![49152, 32, 8]⟩
abbrev S8x1 : Shape := ⟨2, ![8, 1]⟩

abbrev nBuf : Space → Nat
  | .hbm => 86
  | .vmem => 25
  | .smem => 1
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S32x8, .f32⟩
  | .hbm, ⟨4, _⟩ => ⟨S8, .f32⟩
  | .hbm, ⟨5, _⟩ => ⟨S16384x512, .f32⟩
  | .hbm, ⟨6, _⟩ => ⟨S16384x768, .f32⟩
  | .hbm, ⟨7, _⟩ => ⟨S16384x768, .bf16⟩
  | .hbm, ⟨8, _⟩ => ⟨S384, .i32⟩
  | .hbm, ⟨9, _⟩ => ⟨S1x384, .i32⟩
  | .hbm, ⟨10, _⟩ => ⟨S_, .i32⟩
  | .hbm, ⟨11, _⟩ => ⟨S1x384, .i32⟩
  | .hbm, ⟨12, _⟩ => ⟨S1x384, .i32⟩
  | .hbm, ⟨13, _⟩ => ⟨S128, .i32⟩
  | .hbm, ⟨14, _⟩ => ⟨S128x1, .i32⟩
  | .hbm, ⟨15, _⟩ => ⟨S128x384, .i32⟩
  | .hbm, ⟨16, _⟩ => ⟨S128x384, .i32⟩
  | .hbm, ⟨17, _⟩ => ⟨S128x384, .i32⟩
  | .hbm, ⟨18, _⟩ => ⟨S_, .i32⟩
  | .hbm, ⟨19, _⟩ => ⟨S128x384, .i32⟩
  | .hbm, ⟨20, _⟩ => ⟨S128x384, .i1⟩
  | .hbm, ⟨21, _⟩ => ⟨S128x384, .i32⟩
  | .hbm, ⟨22, _⟩ => ⟨S_, .i32⟩
  | .hbm, ⟨23, _⟩ => ⟨S128x384, .i32⟩
  | .hbm, ⟨24, _⟩ => ⟨S128x384, .i32⟩
  | .hbm, ⟨25, _⟩ => ⟨S128x384, .i32⟩
  | .hbm, ⟨26, _⟩ => ⟨S_, .i32⟩
  | .hbm, ⟨27, _⟩ => ⟨S128x384, .i32⟩
  | .hbm, ⟨28, _⟩ => ⟨S128x384, .i32⟩
  | .hbm, ⟨29, _⟩ => ⟨S128x384, .f32⟩
  | .hbm, ⟨30, _⟩ => ⟨S_, .f32⟩
  | .hbm, ⟨31, _⟩ => ⟨S128x384, .f32⟩
  | .hbm, ⟨32, _⟩ => ⟨S128x384, .f32⟩
  | .hbm, ⟨33, _⟩ => ⟨S128x384, .f32⟩
  | .hbm, ⟨34, _⟩ => ⟨S_, .f32⟩
  | .hbm, ⟨35, _⟩ => ⟨S128x384, .f32⟩
  | .hbm, ⟨36, _⟩ => ⟨S128x384, .f32⟩
  | .hbm, ⟨37, _⟩ => ⟨S_, .f32⟩
  | .hbm, ⟨38, _⟩ => ⟨S128x384, .f32⟩
  | .hbm, ⟨39, _⟩ => ⟨S128x384, .f32⟩
  | .hbm, ⟨40, _⟩ => ⟨S128x384, .i32⟩
  | .hbm, ⟨41, _⟩ => ⟨S_, .i32⟩
  | .hbm, ⟨42, _⟩ => ⟨S128x384, .i32⟩
  | .hbm, ⟨43, _⟩ => ⟨S128x384, .i32⟩
  | .hbm, ⟨44, _⟩ => ⟨S_, .i32⟩
  | .hbm, ⟨45, _⟩ => ⟨S128x384, .i32⟩
  | .hbm, ⟨46, _⟩ => ⟨S128x384, .i32⟩
  | .hbm, ⟨47, _⟩ => ⟨S_, .i32⟩
  | .hbm, ⟨48, _⟩ => ⟨S128x384, .i32⟩
  | .hbm, ⟨49, _⟩ => ⟨S128x384, .i1⟩
  | .hbm, ⟨50, _⟩ => ⟨S128x384, .i32⟩
  | .hbm, ⟨51, _⟩ => ⟨S128x384, .i32⟩
  | .hbm, ⟨52, _⟩ => ⟨S49152, .i32⟩
  | .hbm, ⟨53, _⟩ => ⟨S49152x1, .i32⟩
  | .hbm, ⟨54, _⟩ => ⟨S32, .i32⟩
  | .hbm, ⟨55, _⟩ => ⟨S1x32, .i32⟩
  | .hbm, ⟨56, _⟩ => ⟨S49152x32, .i32⟩
  | .hbm, ⟨57, _⟩ => ⟨S49152x32, .i32⟩
  | .hbm, ⟨58, _⟩ => ⟨S49152x32, .i1⟩
  | .hbm, ⟨59, _⟩ => ⟨S49152x32, .f32⟩
  | .hbm, ⟨60, _⟩ => ⟨S8x32, .f32⟩
  | .hbm, ⟨61, _⟩ => ⟨S8x1x32, .f32⟩
  | .hbm, ⟨62, _⟩ => ⟨S1x49152x32, .f32⟩
  | .hbm, ⟨63, _⟩ => ⟨S8x49152x32, .f32⟩
  | .hbm, ⟨64, _⟩ => ⟨S8x49152x32, .f32⟩
  | .hbm, ⟨65, _⟩ => ⟨S8x49152x32, .f32⟩
  | .hbm, ⟨66, _⟩ => ⟨S_, .f32⟩
  | .hbm, ⟨67, _⟩ => ⟨S8x49152, .f32⟩
  | .hbm, ⟨68, _⟩ => ⟨S8x128x384, .f32⟩
  | .hbm, ⟨69, _⟩ => ⟨S16384x512, .bf16⟩
  | .hbm, ⟨70, _⟩ => ⟨S16384x512, .bf16⟩
  | .hbm, ⟨71, _⟩ => ⟨S128x384x128, .f32⟩
  | .hbm, ⟨72, _⟩ => ⟨S128x384x128, .f32⟩
  | .hbm, ⟨73, _⟩ => ⟨S8x128x384, .f32⟩
  | .hbm, ⟨74, _⟩ => ⟨S8x128, .f32⟩
  | .hbm, ⟨75, _⟩ => ⟨S49152x32x1, .f32⟩
  | .hbm, ⟨76, _⟩ => ⟨S8x49152, .f32⟩
  | .hbm, ⟨77, _⟩ => ⟨S49152x8, .f32⟩
  | .hbm, ⟨78, _⟩ => ⟨S49152x1x8, .f32⟩
  | .hbm, ⟨79, _⟩ => ⟨S49152x32x8, .f32⟩
  | .hbm, ⟨80, _⟩ => ⟨S49152x32x8, .f32⟩
  | .hbm, ⟨81, _⟩ => ⟨S49152x32x8, .f32⟩
  | .hbm, ⟨82, _⟩ => ⟨S_, .f32⟩
  | .hbm, ⟨83, _⟩ => ⟨S32x8, .f32⟩
  | .hbm, ⟨84, _⟩ => ⟨S8x1, .f32⟩
  | .hbm, ⟨85, _⟩ => ⟨S8, .f32⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S8x128x384, .f32⟩
  | .local _ .vmem, ⟨15, _⟩ => ⟨S128x512, .bf16⟩
  | .local _ .vmem, ⟨16, _⟩ => ⟨S128x512, .bf16⟩
  | .local _ .vmem, ⟨17, _⟩ => ⟨S128x512, .bf16⟩
  | .local _ .vmem, ⟨18, _⟩ => ⟨S128x512, .bf16⟩
  | .local _ .vmem, ⟨19, _⟩ => ⟨S1x384x128, .f32⟩
  | .local _ .vmem, ⟨20, _⟩ => ⟨S1x384x128, .f32⟩
  | .local _ .vmem, ⟨21, _⟩ => ⟨S1x384x128, .f32⟩
  | .local _ .vmem, ⟨22, _⟩ => ⟨S1x384x128, .f32⟩
  | .local _ .vmem, ⟨23, _⟩ => ⟨S8x128x384, .f32⟩
  | .local _ .vmem, ⟨24, _⟩ => ⟨S8x128, .f32⟩
  | .local _ .smem, ⟨0, _⟩ => ⟨S8, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53_0 : Ref sig .tc := ⟨.hbm, 70, rfl⟩
abbrev main_v53_1 : Ref sig .tc := ⟨.hbm, 71, rfl⟩
abbrev main_v53_2 : Ref sig .tc := ⟨.hbm, 72, rfl⟩
abbrev main_v53_3 : Ref sig .tc := ⟨.hbm, 73, rfl⟩
abbrev main_v53_4 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c5_i32 : BitVec 32 := 5#32
  let c0_i32 : BitVec 32 := 0#32
  ![v1.toNat, c5_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x384x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x384x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Band.lean ====
abbrev S16384x512 : Shape := ⟨2, ![16384, 512]⟩
abbrev S1x128x384x2x64 : Shape := ⟨5, ![1, 128, 384, 2, 64]⟩
abbrev S128x384x128 : Shape := ⟨3, ![128, 384, 128]⟩
abbrev S16384x768 : Shape := ⟨2, ![16384, 768]⟩
abbrev S128x512 : Shape := ⟨2, ![128, 512]⟩
abbrev S1x128x128 : Shape := ⟨3, ![1, 128, 128]⟩
abbrev S128x768 : Shape := ⟨2, ![128, 768]⟩
abbrev S128x128 : Shape := ⟨2, ![128, 128]⟩

abbrev nBuf : Space → Nat
  | .hbm => 7
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S1x128x384x2x64, .f32⟩
  | .hbm, ⟨2, _⟩ => ⟨S1x128x384x2x64, .f32⟩
  | .hbm, ⟨3, _⟩ => ⟨S16384x512, .bf16⟩
  | .hbm, ⟨4, _⟩ => ⟨S128x384x128, .f32⟩
  | .hbm, ⟨5, _⟩ => ⟨S128x384x128, .f32⟩
  | .hbm, ⟨6, _⟩ => ⟨S16384x768, .bf16⟩
  | .local _ .vmem, ⟨0, _⟩ => ⟨S128x512, .bf16⟩
  | .local _ .vmem, ⟨1, _⟩ => ⟨S128x512, .bf16⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S128x768, .bf16⟩
  | .local _ .vmem, ⟨15, _⟩ => ⟨S128x768, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let c0_i32_1 : BitVec 32 := 0#32
  ![v1.toNat, c2_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let c0_i32_1 : BitVec 32 := 0#32
  ![v1.toNat, c2_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_6 (i : grid0.Coords) : Fin 3 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BandRefIdeal.lean ====
abbrev S16384x512 : Shape := ⟨2, ![16384, 512]⟩
abbrev S1x128x384x2x64 : Shape := ⟨5, ![1, 128, 384, 2, 64]⟩
abbrev S_ : Shape := ⟨0, ![]⟩
abbrev S16384x128 : Shape := ⟨2, ![16384, 128]⟩
abbrev S1x16384x2x64 : Shape := ⟨4, ![1, 16384, 2, 64]⟩
abbrev S1x128x2x64 : Shape := ⟨4, ![1, 128, 2, 64]⟩
abbrev S1x16640x2x64 : Shape := ⟨4, ![1, 16640, 2, 64]⟩
abbrev S1x130x128x2x64 : Shape := ⟨5, ![1, 130, 128, 2, 64]⟩
abbrev S1x128x128x2x64 : Shape := ⟨5, ![1, 128, 128, 2, 64]⟩
abbrev S16384x768 : Shape := ⟨2, ![16384, 768]⟩

abbrev nBuf : Space → Nat
  | .hbm => 69
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1x128x384x2x64, .f32⟩
  | .hbm, ⟨2, _⟩ => ⟨S1x128x384x2x64, .f32⟩
  | .hbm, ⟨3, _⟩ => ⟨S_, .f32⟩
  | .hbm, ⟨4, _⟩ => ⟨S16384x512, .f32⟩
  | .hbm, ⟨5, _⟩ => ⟨S_, .f32⟩
  | .hbm, ⟨6, _⟩ => ⟨S16384x128, .f32⟩
  | .hbm, ⟨7, _⟩ => ⟨S_, .f32⟩
  | .hbm, ⟨8, _⟩ => ⟨S16384x128, .f32⟩
  | .hbm, ⟨9, _⟩ => ⟨S1x16384x2x64, .f32⟩
  | .hbm, ⟨10, _⟩ => ⟨S_, .f32⟩
  | .hbm, ⟨11, _⟩ => ⟨S1x128x2x64, .f32⟩
  | .hbm, ⟨12, _⟩ => ⟨S1x16640x2x64, .f32⟩
  | .hbm, ⟨13, _⟩ => ⟨S_, .f32⟩
  | .hbm, ⟨14, _⟩ => ⟨S1x128x2x64, .f32⟩
  | .hbm, ⟨15, _⟩ => ⟨S_, .f32⟩
  | .hbm, ⟨16, _⟩ => ⟨S1x128x2x64, .f32⟩
  | .hbm, ⟨17, _⟩ => ⟨S1x130x128x2x64, .f32⟩
  | .hbm, ⟨18, _⟩ => ⟨S1x128x128x2x64, .f32⟩
  | .hbm, ⟨19, _⟩ => ⟨S1x128x128x2x64, .f32⟩
  | .hbm, ⟨20, _⟩ => ⟨S1x128x128x2x64, .f32⟩
  | .hbm, ⟨21, _⟩ => ⟨S1x128x384x2x64, .f32⟩
  | .hbm, ⟨22, _⟩ => ⟨S1x16384x2x64, .f32⟩
  | .hbm, ⟨23, _⟩ => ⟨S_, .f32⟩
  | .hbm, ⟨24, _⟩ => ⟨S1x128x2x64, .f32⟩
  | .hbm, ⟨25, _⟩ => ⟨S1x16640x2x64, .f32⟩
  | .hbm, ⟨26, _⟩ => ⟨S_, .f32⟩
  | .hbm, ⟨27, _⟩ => ⟨S1x128x2x64, .f32⟩
  | .hbm, ⟨28, _⟩ => ⟨S_, .f32⟩
  | .hbm, ⟨29, _⟩ => ⟨S1x128x2x64, .f32⟩
  | .hbm, ⟨30, _⟩ => ⟨S1x130x128x2x64, .f32⟩
  | .hbm, ⟨31, _⟩ => ⟨S1x128x128x2x64, .f32⟩
  | .hbm, ⟨32, _⟩ => ⟨S1x128x128x2x64, .f32⟩
  | .hbm, ⟨33, _⟩ => ⟨S1x128x128x2x64, .f32⟩
  | .hbm, ⟨34, _⟩ => ⟨S1x128x384x2x64, .f32⟩
  | .hbm, ⟨35, _⟩ => ⟨S1x128x128x2x64, .f32⟩
  | .hbm, ⟨36, _⟩ => ⟨S1x128x128x2x64, .f32⟩
  | .hbm, ⟨37, _⟩ => ⟨S1x128x128x2x64, .f32⟩
  | .hbm, ⟨38, _⟩ => ⟨S_, .f32⟩
  | .hbm, ⟨39, _⟩ => ⟨S1x130x128x2x64, .f32⟩
  | .hbm, ⟨40, _⟩ => ⟨S_, .f32⟩
  | .hbm, ⟨41, _⟩ => ⟨S1x130x128x2x64, .f32⟩
  | .hbm, ⟨42, _⟩ => ⟨S1x130x128x2x64, .f32⟩
  | .hbm, ⟨43, _⟩ => ⟨S_, .f32⟩
  | .hbm, ⟨44, _⟩ => ⟨S1x130x128x2x64, .f32⟩
  | .hbm, ⟨45, _⟩ => ⟨S1x130x128x2x64, .f32⟩
  | .hbm, ⟨46, _⟩ => ⟨S1x16640x2x64, .f32⟩
  | .hbm, ⟨47, _⟩ => ⟨S1x128x2x64, .f32⟩
  | .hbm, ⟨48, _⟩ => ⟨S1x16384x2x64, .f32⟩
  | .hbm, ⟨49, _⟩ => ⟨S1x128x2x64, .f32⟩
  | .hbm, ⟨50, _⟩ => ⟨S16384x128, .f32⟩
  | .hbm, ⟨51, _⟩ => ⟨S1x128x128x2x64, .f32⟩
  | .hbm, ⟨52, _⟩ => ⟨S1x128x128x2x64, .f32⟩
  | .hbm, ⟨53, _⟩ => ⟨S1x128x128x2x64, .f32⟩
  | .hbm, ⟨54, _⟩ => ⟨S_, .f32⟩
  | .hbm, ⟨55, _⟩ => ⟨S1x130x128x2x64, .f32⟩
  | .hbm, ⟨56, _⟩ => ⟨S_, .f32⟩
  | .hbm, ⟨57, _⟩ => ⟨S1x130x128x2x64, .f32⟩
  | .hbm, ⟨58, _⟩ => ⟨S1x130x128x2x64, .f32⟩
  | .hbm, ⟨59, _⟩ => ⟨S_, .f32⟩
  | .hbm, ⟨60, _⟩ => ⟨S1x130x128x2x64, .f32⟩
  | .hbm, ⟨61, _⟩ => ⟨S1x130x128x2x64, .f32⟩
  | .hbm, ⟨62, _⟩ => ⟨S1x16640x2x64, .f32⟩
  | .hbm, ⟨63, _⟩ => ⟨S1x128x2x64, .f32⟩
  | .hbm, ⟨64, _⟩ => ⟨S1x16384x2x64, .f32⟩
  | .hbm, ⟨65, _⟩ => ⟨S1x128x2x64, .f32⟩
  | .hbm, ⟨66, _⟩ => ⟨S16384x128, .f32⟩
  | .hbm, ⟨67, _⟩ => ⟨S16384x768, .f32⟩
  | .hbm, ⟨68, _⟩ => ⟨S16384x768, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_cst_4 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_cst_7 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_11 : Ref sig .tc := ⟨.hbm, 54, rfl⟩
abbrev main_v39 : Ref sig .tc := ⟨.hbm, 55, rfl⟩
abbrev main_cst_12 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Hgrn.lean ====
abbrev S16384x1024 : Shape := ⟨2, ![16384, 1024]⟩
abbrev S16384x512 : Shape := ⟨2, ![16384, 512]⟩
abbrev S1024 : Shape := ⟨1, ![1024]⟩
abbrev S16384x8x64 : Shape := ⟨3, ![16384, 8, 64]⟩
abbrev S8x1024x64x128 : Shape := ⟨4, ![8, 1024, 64, 128]⟩
abbrev S16384x4096 : Shape := ⟨2, ![16384, 4096]⟩
abbrev S1x1024 : Shape := ⟨2, ![1, 1024]⟩
abbrev S8x16384x64 : Shape := ⟨3, ![8, 16384, 64]⟩
abbrev S128x1024 : Shape := ⟨2, ![128, 1024]⟩
abbrev S128x512 : Shape := ⟨2, ![128, 512]⟩
abbrev S8x128x64 : Shape := ⟨3, ![8, 128, 64]⟩
abbrev S8x8x64x128 : Shape := ⟨4, ![8, 8, 64, 128]⟩
abbrev S8x64x128 : Shape := ⟨3, ![8, 64, 128]⟩
abbrev S128x128 : Shape := ⟨2, ![128, 128]⟩
abbrev S16x1024 : Shape := ⟨2, ![16, 1024]⟩
abbrev S1x128x64 : Shape := ⟨3, ![1, 128, 64]⟩
abbrev S128x64 : Shape := ⟨2, ![128, 64]⟩
abbrev S128x1 : Shape := ⟨2, ![128, 1]⟩
abbrev S1x128 : Shape := ⟨2, ![1, 128]⟩
abbrev S64x128 : Shape := ⟨2, ![64, 128]⟩
abbrev S512x128 : Shape := ⟨2, ![512, 128]⟩
abbrev S1x1x64x128 : Shape := ⟨4, ![1, 1, 64, 128]⟩
abbrev S1x64x128 : Shape := ⟨3, ![1, 64, 128]⟩
abbrev S64x1024 : Shape := ⟨2, ![64, 1024]⟩
abbrev S128 : Shape := ⟨1, ![128]⟩
abbrev S16x128 : Shape := ⟨2, ![16, 128]⟩
abbrev S128x256 : Shape := ⟨2, ![128, 256]⟩
abbrev S256x1024 : Shape := ⟨2, ![256, 1024]⟩

abbrev nBuf : Space → Nat
  | .hbm => 14
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x512, .f32⟩
  | .hbm, ⟨3, _⟩ => ⟨S1024, .f32⟩
  | .hbm, ⟨4, _⟩ => ⟨S16384x8x64, .f32⟩
  | .hbm, ⟨5, _⟩ => ⟨S8x1024x64x128, .f32⟩
  | .hbm, ⟨6, _⟩ => ⟨S16384x4096, .f32⟩
  | .hbm, ⟨7, _⟩ => ⟨S1x1024, .f32⟩
  | .hbm, ⟨8, _⟩ => ⟨S8x16384x64, .f32⟩
  | .hbm, ⟨9, _⟩ => ⟨S16384x1024, .f32⟩
  | .hbm, ⟨10, _⟩ => ⟨S16384x1024, .f32⟩
  | .hbm, ⟨11, _⟩ => ⟨S8x16384x64, .f32⟩
  | .hbm, ⟨12, _⟩ => ⟨S1x1024, .f32⟩
  | .hbm, ⟨13, _⟩ => ⟨S1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x512, .f32⟩
  | .local _ .vmem, ⟨5, _⟩ => ⟨S128x512, .f32⟩
  | .local _ .vmem, ⟨6, _⟩ => ⟨S1x1024, .f32⟩
  | .local _ .vmem, ⟨7, _⟩ => ⟨S8x128x64, .f32⟩
  | .local _ .vmem, ⟨8, _⟩ => ⟨S8x128x64, .f32⟩
  | .local _ .vmem, ⟨9, _⟩ => ⟨S8x8x64x128, .f32⟩
  | .local _ .vmem, ⟨10, _⟩ => ⟨S8x8x64x128, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S8x128x64, .f32⟩
  | .local _ .vmem, ⟨16, _⟩ => ⟨S8x128x64, .f32⟩
  | .local _ .vmem, ⟨17, _⟩ => ⟨S1x1024, .f32⟩
  | .local _ .vmem, ⟨18, _⟩ => ⟨S8x64x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.subi c127_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c127_i32 : BitVec 32 := 127#32
  let v0 : BitVec 32 := Scalar.subi c127_i32 arg0
  let c6_i32 : BitVec 32 := 6#32
  let c0_i32 : BitVec 32 := 0#32
  ![v0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_6 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x8x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== CrossFwd.lean ====
abbrev S16384x1024 : Shape := ⟨2, ![16384, 1024]⟩
abbrev S256x2048 : Shape := ⟨2, ![256, 2048]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S256x2048, .f32⟩
  | .hbm, ⟨2, _⟩ => ⟨S16384x1024, .bf16⟩
  | .hbm, ⟨3, _⟩ => ⟨S256x2048, .bf16⟩
  | .hbm, ⟨4, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CrossFwdRefIdeal.lean ====
abbrev S16384x1024 : Shape := ⟨2, ![16384, 1024]⟩
abbrev S256x2048 : Shape := ⟨2, ![256, 2048]⟩
abbrev S16384x4x256 : Shape := ⟨3, ![16384, 4, 256]⟩
abbrev S256x2x4x256 : Shape := ⟨4, ![256, 2, 4, 256]⟩
abbrev S256x1x4x256 : Shape := ⟨4, ![256, 1, 4, 256]⟩
abbrev S256x4x256 : Shape := ⟨3, ![256, 4, 256]⟩
abbrev S4x16384x256 : Shape := ⟨3, ![4, 16384, 256]⟩
abbrev S_ : Shape := ⟨0, ![]⟩
abbrev S4x16384 : Shape := ⟨2, ![4, 16384]⟩
abbrev S4x16384x1 : Shape := ⟨3, ![4, 16384, 1]⟩
abbrev S4x256x16384 : Shape := ⟨3, ![4, 256, 16384]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x2048, .f32⟩
  | .hbm, ⟨2, _⟩ => ⟨S16384x4x256, .f32⟩
  | .hbm, ⟨3, _⟩ => ⟨S256x2x4x256, .f32⟩
  | .hbm, ⟨4, _⟩ => ⟨S256x1x4x256, .f32⟩
  | .hbm, ⟨5, _⟩ => ⟨S256x4x256, .f32⟩
  | .hbm, ⟨6, _⟩ => ⟨S4x16384x256, .f32⟩
  | .hbm, ⟨7, _⟩ => ⟨S_, .f32⟩
  | .hbm, ⟨8, _⟩ => ⟨S4x16384x256, .f32⟩
  | .hbm, ⟨9, _⟩ => ⟨S4x16384x256, .f32⟩
  | .hbm, ⟨10, _⟩ => ⟨S_, .f32⟩
  | .hbm, ⟨11, _⟩ => ⟨S4x16384, .f32⟩
  | .hbm, ⟨12, _⟩ => ⟨S_, .f32⟩
  | .hbm, ⟨13, _⟩ => ⟨S4x16384, .f32⟩
  | .hbm, ⟨14, _⟩ => ⟨S4x16384, .f32⟩
  | .hbm, ⟨15, _⟩ => ⟨S4x16384x1, .f32⟩
  | .hbm, ⟨16, _⟩ => ⟨S4x16384x256, .f32⟩
  | .hbm, ⟨17, _⟩ => ⟨S4x16384x256, .f32⟩
  | .hbm, ⟨18, _⟩ => ⟨S4x16384x256, .f32⟩
  | .hbm, ⟨19, _⟩ => ⟨S_, .f32⟩
  | .hbm, ⟨20, _⟩ => ⟨S4x16384, .f32⟩
  | .hbm, ⟨21, _⟩ => ⟨S4x16384x1, .f32⟩
  | .hbm, ⟨22, _⟩ => ⟨S4x16384x256, .f32⟩
  | .hbm, ⟨23, _⟩ => ⟨S4x16384x256, .f32⟩
  | .hbm, ⟨24, _⟩ => ⟨S256x1x4x256, .f32⟩
  | .hbm, ⟨25, _⟩ => ⟨S256x4x256, .f32⟩
  | .hbm, ⟨26, _⟩ => ⟨S4x256x16384, .f32⟩
  | .hbm, ⟨27, _⟩ => ⟨S16384x4x256, .f32⟩
  | .hbm, ⟨28, _⟩ => ⟨S16384x1024, .f32⟩
  | .hbm, ⟨29, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== MergeFwd.lean ====
abbrev S16384x512 : Shape := ⟨2, ![16384, 512]⟩
abbrev S512x1024 : Shape := ⟨2, ![512, 1024]⟩
abbrev S16384x1024 : Shape := ⟨2, ![16384, 1024]⟩
abbrev S16384x3072 : Shape := ⟨2, ![16384, 3072]⟩
abbrev S512x512 : Shape := ⟨2, ![512, 512]⟩

abbrev nBuf : Space → Nat
  | .hbm => 17
  | .vmem => 20
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x3072, .f32⟩
  | .hbm, ⟨10, _⟩ => ⟨S16384x3072, .bf16⟩
  | .hbm, ⟨11, _⟩ => ⟨S16384x512, .bf16⟩
  | .hbm, ⟨12, _⟩ => ⟨S16384x512, .bf16⟩
  | .hbm, ⟨13, _⟩ => ⟨S512x1024, .bf16⟩
  | .hbm, ⟨14, _⟩ => ⟨S512x1024, .bf16⟩
  | .hbm, ⟨15, _⟩ => ⟨S512x1024, .bf16⟩
  | .hbm, ⟨16, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeFwdRefIdeal.lean ====
abbrev S16384x512 : Shape := ⟨2, ![16384, 512]⟩
abbrev S512x1024 : Shape := ⟨2, ![512, 1024]⟩
abbrev S16384x1024 : Shape := ⟨2, ![16384, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== FfnUp.lean ====
abbrev S16384x1024 : Shape := ⟨2, ![16384, 1024]⟩
abbrev S1024x2816 : Shape := ⟨2, ![1024, 2816]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S16384x1024, .bf16⟩
  | .hbm, ⟨4, _⟩ => ⟨S1024x2816, .bf16⟩
  | .hbm, ⟨5, _⟩ => ⟨S1024x2816, .bf16⟩
  | .hbm, ⟨6, _⟩ => ⟨S16384x2816, .bf16⟩
  | .hbm, ⟨7, _⟩ => ⟨S16384x2816, .bf16⟩
  | .hbm, ⟨8, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S16384x1024 : Shape := ⟨2, ![16384, 1024]⟩
abbrev S1024x2816 : Shape := ⟨2, ![1024, 2816]⟩
abbrev S16384x2816 : Shape := ⟨2, ![16384, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S16384x2816, .f32⟩
  | .hbm, ⟨4, _⟩ => ⟨S16384x2816, .f32⟩
  | .hbm, ⟨5, _⟩ => ⟨S16384x2816, .bf16⟩
  | .hbm, ⟨6, _⟩ => ⟨S16384x2816, .bf16⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== HgrnOutFwd.lean ====
abbrev S16384x8x64 : Shape := ⟨3, ![16384, 8, 64]⟩
abbrev S16384x512 : Shape := ⟨2, ![16384, 512]⟩
abbrev S64 : Shape := ⟨1, ![64]⟩
abbrev S_ : Shape := ⟨0, ![]⟩
abbrev S16384x3584 : Shape := ⟨2, ![16384, 3584]⟩
abbrev S16384x4096 : Shape := ⟨2, ![16384, 4096]⟩
abbrev S8x16384x64 : Shape := ⟨3, ![8, 16384, 64]⟩
abbrev S1x64 : Shape := ⟨2, ![1, 64]⟩
abbrev S8x512x64 : Shape := ⟨3, ![8, 512, 64]⟩
abbrev S512x512 : Shape := ⟨2, ![512, 512]⟩
abbrev S1x512x64 : Shape := ⟨3, ![1, 512, 64]⟩
abbrev S512x64 : Shape := ⟨2, ![512, 64]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S16384x8x64, .f32⟩
  | .hbm, ⟨1, _⟩ => ⟨S16384x8x64, .f32⟩
  | .hbm, ⟨2, _⟩ => ⟨S16384x512, .f32⟩
  | .hbm, ⟨3, _⟩ => ⟨S64, .f32⟩
  | .hbm, ⟨4, _⟩ => ⟨S_, .f32⟩
  | .hbm, ⟨5, _⟩ => ⟨S16384x3584, .f32⟩
  | .hbm, ⟨6, _⟩ => ⟨S16384x4096, .f32⟩
  | .hbm, ⟨7, _⟩ => ⟨S8x16384x64, .f32⟩
  | .hbm, ⟨8, _⟩ => ⟨S8x16384x64, .f32⟩
  | .hbm, ⟨9, _⟩ => ⟨S1x64, .f32⟩
  | .hbm, ⟨10, _⟩ => ⟨S16384x512, .bf16⟩
  | .local _ .vmem, ⟨0, _⟩ => ⟨S8x512x64, .f32⟩
  | .local _ .vmem, ⟨1, _⟩ => ⟨S8x512x64, .f32⟩
  | .local _ .vmem, ⟨2, _⟩ => ⟨S8x512x64, .f32⟩
  | .local _ .vmem, ⟨3, _⟩ => ⟨S8x512x64, .f32⟩
  | .local _ .vmem, ⟨4, _⟩ => ⟨S512x512, .f32⟩
  | .local _ .vmem, ⟨5, _⟩ => ⟨S512x512, .f32⟩
  | .local _ .vmem, ⟨6, _⟩ => ⟨S1x64, .f32⟩
  | .local _ .vmem, ⟨7, _⟩ => ⟨S512x512, .bf16⟩
  | .local _ .vmem, ⟨8, _⟩ => ⟨S512x512, .bf16⟩
  | _, _ => ⟨S16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== HgrnOutFwdRefIdeal.lean ====
abbrev S16384x8x64 : Shape := ⟨3, ![16384, 8, 64]⟩
abbrev S16384x512 : Shape := ⟨2, ![16384, 512]⟩
abbrev S64 : Shape := ⟨1, ![64]⟩
abbrev S_ : Shape := ⟨0, ![]⟩
abbrev S16384x8 : Shape := ⟨2, ![16384, 8]⟩
abbrev S16384x8x1 : Shape := ⟨3, ![16384, 8, 1]⟩
abbrev S1x1x64 : Shape := ⟨3, ![1, 1, 64]⟩

abbrev nBuf : Space → Nat
  | .hbm => 34
  | .vmem => 0
  | .smem => 0
  | _ => 0

abbrev bufTy : (tb : Table) → Fin (tcTables nBuf tb) → BufTy
  | .hbm, ⟨0, _⟩ => ⟨S16384x8x64, .f32⟩
  | .hbm, ⟨1, _⟩ => ⟨S16384x8x64, .f32⟩
  | .hbm, ⟨2, _⟩ => ⟨S16384x512, .f32⟩
  | .hbm, ⟨3, _⟩ => ⟨S64, .f32⟩
  | .hbm, ⟨4, _⟩ => ⟨S16384x8x64, .f32⟩
  | .hbm, ⟨5, _⟩ => ⟨S16384x8x64, .f32⟩
  | .hbm, ⟨6, _⟩ => ⟨S_, .f32⟩
  | .hbm, ⟨7, _⟩ => ⟨S16384x8, .f32⟩
  | .hbm, ⟨8, _⟩ => ⟨S16384x8x1, .f32⟩
  | .hbm, ⟨9, _⟩ => ⟨S_, .f32⟩
  | .hbm, ⟨10, _⟩ => ⟨S16384x8x1, .f32⟩
  | .hbm, ⟨11, _⟩ => ⟨S16384x8x1, .f32⟩
  | .hbm, ⟨12, _⟩ => ⟨S_, .f32⟩
  | .hbm, ⟨13, _⟩ => ⟨S16384x8x1, .f32⟩
  | .hbm, ⟨14, _⟩ => ⟨S16384x8x1, .f32⟩
  | .hbm, ⟨15, _⟩ => ⟨S16384x8x1, .f32⟩
  | .hbm, ⟨16, _⟩ => ⟨S16384x8x64, .f32⟩
  | .hbm, ⟨17, _⟩ => ⟨S16384x8x64, .f32⟩
  | .hbm, ⟨18, _⟩ => ⟨S1x1x64, .f32⟩
  | .hbm, ⟨19, _⟩ => ⟨S16384x8x64, .f32⟩
  | .hbm, ⟨20, _⟩ => ⟨S16384x8x64, .f32⟩
  | .hbm, ⟨21, _⟩ => ⟨S16384x8x64, .f32⟩
  | .hbm, ⟨22, _⟩ => ⟨S16384x8x64, .f32⟩
  | .hbm, ⟨23, _⟩ => ⟨S16384x8x64, .f32⟩
  | .hbm, ⟨24, _⟩ => ⟨S_, .f32⟩
  | .hbm, ⟨25, _⟩ => ⟨S16384x8x64, .f32⟩
  | .hbm, ⟨26, _⟩ => ⟨S16384x8x64, .f32⟩
  | .hbm, ⟨27, _⟩ => ⟨S_, .f32⟩
  | .hbm, ⟨28, _⟩ => ⟨S16384x8x64, .f32⟩
  | .hbm, ⟨29, _⟩ => ⟨S16384x8x64, .f32⟩
  | .hbm, ⟨30, _⟩ => ⟨S16384x8x64, .f32⟩
  | .hbm, ⟨31, _⟩ => ⟨S16384x8x64, .f32⟩
  | .hbm, ⟨32, _⟩ => ⟨S16384x512, .f32⟩
  | .hbm, ⟨33, _⟩ => ⟨S16384x512, .bf16⟩
  | _, _ => ⟨S16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]
-- ==== RmsFwd.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Merge.lean ====
/-
  The gated merge of the three branches, backward: `Σ sigmoid(gate) · u` over three branches `u = y @ w`, differentiated
  by hand in the kernel (`du = dm · σ`, `dgate = dm · u · σ · (1 - σ)`) and by `jax.vjp` in the reference. Over the
  extended reals both are the same products in another order, whatever the arguments.
-/
module

public import proofs.«01_k».proof.Defs
public import proofs.«01_k».proof.Proof.Gen.Merge.Frame
public import proofs.«01_k».proof.Proof.Gen.MergeIdeal.Frame
public import proofs.«01_k».proof.Proof.Gen.MergeRefIdeal.Run
public import proofs.«01_k».proof.Proof.Gen.MergeRefIdeal.Read
public import Idealize.ShloMosaic.Lib.Pipeline.ValueKit
public import Idealize.ShloMosaic.Lib.Pipeline.Value
public import Idealize.ShloMosaic.Lib.Quiescent
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.RefValue

open Cert.MergeIdeal Cert.MergeIdeal.Gen
open Cert.MergeRefIdeal.Read (val_main_v46 val_main_v46_eq val_main_v47 val_main_v47_eq val_main_v48 val_main_v48_eq
  val_main_v49 val_main_v49_eq val_main_v50 val_main_v50_eq val_main_v51 val_main_v51_eq)

variable (m : (ℓ : Loc nD τ sig) → Buf (Elt Ideal) ℓ) (ρ : Dev nD → PrngReg)

theorem idx : ∀ t : Fin cfg0.N, win0_0.index t = ![t.val / 2, 0] ∧ win0_1.index t = ![t.val / 2, 0]
    ∧ win0_2.index t = ![t.val / 2, 0] ∧ win0_3.index t = ![0, t.val % 2] ∧ win0_4.index t = ![0, t.val % 2]
    ∧ win0_5.index t = ![0, t.val % 2] ∧ win0_6.index t = ![t.val / 2, t.val % 2]
    ∧ win0_7.index t = ![t.val / 2, 2 + t.val % 2] ∧ win0_8.index t = ![t.val / 2, 4 + t.val % 2]
    ∧ win0_9.index t = ![t.val / 2, t.val % 2] ∧ win0_10.index t = ![t.val / 2, t.val % 2]
    ∧ win0_11.index t = ![t.val / 2, t.val % 2] ∧ win0_12.index t = ![t.val / 2, t.val % 2]
    ∧ win0_13.index t = ![t.val / 2, t.val % 2] ∧ win0_14.index t = ![t.val / 2, t.val % 2]
    ∧ win0_15.index t = ![t.val / 2, t.val % 2] :=
  (by decide +kernel : ∀ t : Fin grid0.N, _)

/-- The packed gates read at column `b * 1024 + j` are branch `b`'s gate at column `j`. -/
theorem gates (c : Dev nD) (i : S16384x3072.Idx) (j : S16384x1024.Idx) (h0 : (i 0 : ℕ) = j 0) :
    ((i 1 : ℕ) = j 1 → V m c main_v1 i = m ((c : Thread nD τ).loc main_arg6) j)
    ∧ ((i 1 : ℕ) = 1024 + j 1 → V m c main_v1 i = m ((c : Thread nD τ).loc main_arg7) j)
    ∧ ((i 1 : ℕ) = 2048 + j 1 → V m c main_v1 i = m ((c : Thread nD τ).loc main_arg8) j) := by
  have hj : (j 1 : ℕ) < 1024 := (j 1).isLt
  refine ⟨fun h => ?_, fun h => ?_, fun h => ?_⟩ <;> entry_read <;> pointwise <;>
    split_ifs <;> first | omega | (congr 1; idx_ext <;> omega)

set_option maxHeartbeats 800000 in
theorem final10 (c : Dev nD) : (dats m 0 c).arrAt 10 cfg0.N
    = val_main_v46 (F := Ideal) (m ((c : Thread nD τ).loc main_arg6)) (m ((c : Thread nD τ).loc main_arg9)) := by
  refine (dats m 0 c).arrAt_eq_of_covers 10 _ (by decide +kernel) fun t hf y => ?_
  blk_simp
  rw [after0_10]
  frame_out
  pointwise [k0_pay6, k0_pay5, Ideal.logistic, ← val_main_v46_eq]
  rw [mul_comm]
  blk_point [iblk, V, idx t]
  refine (gates m c _ _ ?_).1 ?_ <;> blk_simp [idx t] <;> try omega

set_option maxHeartbeats 800000 in
theorem final11 (c : Dev nD) : (dats m 0 c).arrAt 11 cfg0.N
    = val_main_v47 (F := Ideal) (m ((c : Thread nD τ).loc main_arg7)) (m ((c : Thread nD τ).loc main_arg9)) := by
  refine (dats m 0 c).arrAt_eq_of_covers 11 _ (by decide +kernel) fun t hf y => ?_
  blk_simp
  rw [after0_11]
  frame_out
  pointwise [k0_pay10, k0_pay9, Ideal.logistic, ← val_main_v47_eq]
  rw [mul_comm]
  blk_point [iblk, V, idx t]
  refine (gates m c _ _ ?_).2.1 ?_ <;> blk_simp [idx t] <;> try omega

set_option maxHeartbeats 800000 in
theorem final12 (c : Dev nD) : (dats m 0 c).arrAt 12 cfg0.N
    = val_main_v48 (F := Ideal) (m ((c : Thread nD τ).loc main_arg8)) (m ((c : Thread nD τ).loc main_arg9)) := by
  refine (dats m 0 c).arrAt_eq_of_covers 12 _ (by decide +kernel) fun t hf y => ?_
  blk_simp
  rw [after0_12]
  frame_out
  pointwise [k0_pay3, k0_pay2, Ideal.logistic, ← val_main_v48_eq]
  rw [mul_comm]
  blk_point [iblk, V, idx t]
  refine (gates m c _ _ ?_).2.2 ?_ <;> blk_simp [idx t] <;> try omega

set_option maxHeartbeats 800000 in
theorem final13 (c : Dev nD) : (dats m 0 c).arrAt 13 cfg0.N
    = val_main_v49 (F := Ideal) (m ((c : Thread nD τ).loc main_arg0)) (m ((c : Thread nD τ).loc main_arg3)) (m ((c : Thread nD τ).loc main_arg6)) (m ((c : Thread nD τ).loc main_arg9)) := by
  refine (dats m 0 c).arrAt_eq_of_covers 13 _ (by decide +kernel) fun t hf y => ?_
  blk_simp
  rw [after0_13]
  frame_out
  pointwise [k0_pay7, k0_pay5, Ideal.logistic, ← val_main_v49_eq]
  rw [mul_assoc]
  blk_point [iblk, V, idx t]
  refine (gates m c _ _ ?_).1 ?_ <;> blk_simp [idx t] <;> try omega

set_option maxHeartbeats 800000 in
theorem final14 (c : Dev nD) : (dats m 0 c).arrAt 14 cfg0.N
    = val_main_v50 (F := Ideal) (m ((c : Thread nD τ).loc main_arg1)) (m ((c : Thread nD τ).loc main_arg4)) (m ((c : Thread nD τ).loc main_arg7)) (m ((c : Thread nD τ).loc main_arg9)) := by
  refine (dats m 0 c).arrAt_eq_of_covers 14 _ (by decide +kernel) fun t hf y => ?_
  blk_simp
  rw [after0_14]
  frame_out
  pointwise [k0_pay1, k0_pay8, k0_pay9, Ideal.logistic, ← val_main_v50_eq]
  rw [mul_assoc]
  blk_point [iblk, V, idx t]
  refine (gates m c _ _ ?_).2.1 ?_ <;> blk_simp [idx t] <;> try omega

set_option maxHeartbeats 800000 in
theorem final15 (c : Dev nD) : (dats m 0 c).arrAt 15 cfg0.N
    = val_main_v51 (F := Ideal) (m ((c : Thread nD τ).loc main_arg2)) (m ((c : Thread nD τ).loc main_arg5)) (m ((c : Thread nD τ).loc main_arg8)) (m ((c : Thread nD τ).loc main_arg9)) := by
  refine (dats m 0 c).arrAt_eq_of_covers 15 _ (by decide +kernel) fun t hf y => ?_
  blk_simp
  rw [after0_15]
  frame_out
  pointwise [k0_pay4, k0_pay2, Ideal.logistic, ← val_main_v51_eq]
  rw [mul_assoc]
  blk_point [iblk, V, idx t]
  refine (gates m c _ _ ?_).2.2 ?_ <;> blk_simp [idx t] <;> try omega

end Cert.MergeIdeal.RefValue

/-! ## The claims -/

namespace Cert.Proof.MergeClaims

theorem frame : Cert.quiescent_Merge := fun m ρ _ => Cert.Merge.Gen.frame m ρ
theorem frame_ideal : Cert.quiescent_MergeIdeal := fun m ρ _ => Cert.MergeIdeal.Gen.frame m ρ
theorem frame_ref : Cert.quiescent_MergeRefIdeal := fun m ρ _ => by
  refine (θ_run Cert.MergeRefIdeal.defs _ _).mono (fun r h => ⟨fun c => ?_,
    Idealize.ShloMosaic.sem_eq_zero_of_no_sems (by decide) r.2⟩) (Cert.MergeRefIdeal.Value.run (F := Ideal) m ρ)
  exact (h c).2.2.2.2.2.2
theorem preserves : Cert.preserves_Merge_MergeIdeal := trivial

set_option maxHeartbeats 1600000 in
open Cert.MergeIdeal.RefValue in
/-- The six gradients of the kernel and of the reference agree, from any arguments. -/
theorem algebraic : Cert.algebraic_MergeIdeal_MergeRefIdeal := by
  pair_intro
  · run_from Cert.MergeIdeal.Gen.run_main m g
  · run_from Cert.MergeRefIdeal.Value.run m' g'
    · exact (final10 m c).symm
    · exact (final11 m c).symm
    · exact (final12 m c).symm
    · exact (final13 m c).symm
    · exact (final14 m c).symm
    · exact (final15 m c).symm

end Cert.Proof.MergeClaims

end
-- ==== Proof.Finite.lean ====
/-
  Reading a finiteness precondition: `jnp.all(jnp.abs(x) < jnp.inf)` says that every element of `x` is a real number, and
  an array of real numbers is a real function of its coordinates.
-/
module

public import Idealize.ShloMosaic.PureOps.Ideal.Laws
public import Idealize.ShloMosaic.Lib.ReduceAll
public import Idealize.ShloMosaic.Lib.Pointwise

@[expose] public section

noncomputable section

open Idealize.ShloMosaic

namespace Cert.Finite

/-- A number whose absolute value lies below infinity is real. -/
theorem real_of_abs {x : EReal} (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨r, rfl⟩

theorem real_of_all {s t u : Shape} {axes : List (Fin s.rank)} [Subsingleton t.Idx] (x : FVec Ideal s .f32) (y : FVec Ideal s .f32)
    (hy : ∀ i, y i = Ideal.ofBits .f32 0x7F800000#32) (init : u.Idx → BitVec 1) (h : s.ReducesTo axes t)
    (hu : 0 < u.numel) (j : t.Idx) (e : Host.reduce IntOp.andi (cmpf .olt (Host.absf x) y) init h hu j = 1#1) (i : s.Idx) :
    ∃ r : ℝ, x i = r := by
  have := Host.reduce_andi_all _ _ _ _ _ e i
  refine real_of_abs ?_
  rw [← hy i]
  exact this

/-- A conjunction that holds. -/
theorem both {s : Shape} {x y : IVec s 1} {i : s.Idx} (h : andi x y i = 1#1) : x i = 1#1 ∧ y i = 1#1 := by
  have e : ∀ a b : BitVec 1, a &&& b = 1#1 → a = 1#1 ∧ b = 1#1 := by decide
  exact e _ _ h

theorem real1_of {s : Fin 1 → ℕ} (x : (⟨1, s⟩ : Shape).Idx → EReal) (hx : ∀ i, ∃ r : ℝ, x i = r) :
    ∃ f : ℕ → ℝ, ∀ i, x i = (f (i 0) : EReal) := by
  choose g hg using hx
  classical
  refine ⟨fun p => if h : ∃ i : (⟨1, s⟩ : Shape).Idx, (i 0 : ℕ) = p then g h.choose else 0, fun i => ?_⟩
  have h : ∃ k : (⟨1, s⟩ : Shape).Idx, (k 0 : ℕ) = i 0 := ⟨i, rfl⟩
  dsimp only
  rw [dif_pos h, ← hg, show h.choose = i from funext fun d => by
    fin_cases d
    exact Fin.ext h.choose_spec]

theorem real2_of {s : Fin 2 → ℕ} (x : (⟨2, s⟩ : Shape).Idx → EReal) (hx : ∀ i, ∃ r : ℝ, x i = r) :
    ∃ f : ℕ → ℕ → ℝ, ∀ i, x i = (f (i 0) (i 1) : EReal) := by
  choose g hg using hx
  classical
  refine ⟨fun p q => if h : ∃ i : (⟨2, s⟩ : Shape).Idx, (i 0 : ℕ) = p ∧ (i 1 : ℕ) = q then g h.choose else 0, fun i => ?_⟩
  have h : ∃ k : (⟨2, s⟩ : Shape).Idx, (k 0 : ℕ) = i 0 ∧ (k 1 : ℕ) = i 1 := ⟨i, rfl, rfl⟩
  dsimp only
  rw [dif_pos h, ← hg, show h.choose = i from funext fun d => by
    fin_cases d
    · exact Fin.ext h.choose_spec.1
    · exact Fin.ext h.choose_spec.2]

theorem real3_of {s : Fin 3 → ℕ} (x : (⟨3, s⟩ : Shape).Idx → EReal) (hx : ∀ i, ∃ r : ℝ, x i = r) :
    ∃ f : ℕ → ℕ → ℕ → ℝ, ∀ i, x i = (f (i 0) (i 1) (i 2) : EReal) := by
  choose g hg using hx
  classical
  refine ⟨fun p q r => if h : ∃ i : (⟨3, s⟩ : Shape).Idx, (i 0 : ℕ) = p ∧ (i 1 : ℕ) = q ∧ (i 2 : ℕ) = r then g h.choose else 0, fun i => ?_⟩
  have h : ∃ k : (⟨3, s⟩ : Shape).Idx, (k 0 : ℕ) = i 0 ∧ (k 1 : ℕ) = i 1 ∧ (k 2 : ℕ) = i 2 := ⟨i, rfl, rfl, rfl⟩
  dsimp only
  rw [dif_pos h, ← hg, show h.choose = i from funext fun d => by
    fin_cases d
    · exact Fin.ext h.choose_spec.1
    · exact Fin.ext h.choose_spec.2.1
    · exact Fin.ext h.choose_spec.2.2]

end Cert.Finite

end
-- ==== Proof.Mla.Model.lean ====
/-
  The multi-head latent attention and its gradient over the real numbers: rotary position encoding of the queries and of
  the one shared key part, softmax over all 16384 keys, eight heads. Arrays are total functions of natural-number
  coordinates; sums run over the arrays' own extents. Both programs' results are shown to be these numbers.
-/
module

public import Idealize.ShloMosaic.PureOps.Ideal.Laws

@[expose] public section

noncomputable section

open Idealize.ShloMosaic

namespace Cert.MlaModel

/-- The softmax scale as both programs hold it: the single-precision number next to `1 / √96`. -/
def scale : ℝ := 13698540 / 2 ^ 27

/-- The rotation angle of position `t` in frequency `j`. -/
def angle (t j : ℕ) : ℝ := t * Real.rpow 10000 (-j / 16)

/-- A 32-column row rotated at position `t`. -/
def rope (x : ℕ → ℝ) (t d : ℕ) : ℝ :=
  if d < 16 then x d * Real.cos (angle t d) - x (16 + d) * Real.sin (angle t d)
  else x (d - 16) * Real.sin (angle t (d - 16)) + x (16 + (d - 16)) * Real.cos (angle t (d - 16))

/-- The transposed rotation. -/
def unrope (g : ℕ → ℝ) (t d : ℕ) : ℝ :=
  if d < 16 then g d * Real.cos (angle t d) + g (16 + d) * Real.sin (angle t d)
  else g (16 + (d - 16)) * Real.cos (angle t (d - 16)) - g (d - 16) * Real.sin (angle t (d - 16))

variable (q kv : ℕ → ℕ → ℕ → ℝ) (kr ct : ℕ → ℕ → ℝ)

/-- The rotated query of position `t`, head `h`. -/
def qr (t h d : ℕ) : ℝ := if d < 64 then q t h d else rope (fun e => q t h (64 + e)) t (d - 64)

/-- The key of position `u`, head `h`: its own 64 columns, then the rotated part that all heads share. -/
def kk (u h d : ℕ) : ℝ := if d < 64 then kv u h d else rope (kr u) u (d - 64)

/-- The scaled score. -/
def sc (h t u : ℕ) : ℝ := (∑ d : Fin 96, qr q t h d * kk kv kr u h d) * scale

/-- The softmax weight. -/
def pr (h t u : ℕ) : ℝ := Real.exp (sc q kv kr h t u) / ∑ v : Fin 16384, Real.exp (sc q kv kr h t v)

/-- The cotangent of the softmax weight. -/
def dp (h t u : ℕ) : ℝ := ∑ d : Fin 64, ct t (h * 64 + d) * kv u h (64 + d)

/-- The cotangent of the scaled score. -/
def ds (h t u : ℕ) : ℝ :=
  pr q kv kr h t u * (dp kv ct h t u - ∑ v : Fin 16384, pr q kv kr h t v * dp kv ct h t v)

/-- The cotangent of the rotated query. -/
def dqr (t h d : ℕ) : ℝ := ∑ u : Fin 16384, ds q kv kr ct h t u * scale * kk kv kr u h d

/-- The cotangent of the key. -/
def dkk (u h d : ℕ) : ℝ := ∑ t : Fin 16384, ds q kv kr ct h t u * scale * qr q t h d

/-- The cotangent of the value. -/
def dvv (u h d : ℕ) : ℝ := ∑ t : Fin 16384, pr q kv kr h t u * ct t (h * 64 + d)

/-- The gradient by the query. -/
def gq (t h d : ℕ) : ℝ :=
  if d < 64 then dqr q kv kr ct t h d else unrope (fun e => dqr q kv kr ct t h (64 + e)) t (d - 64)

/-- The gradient by the key's own columns and the value. -/
def gkv (u h d : ℕ) : ℝ := if d < 64 then dkk q kv kr ct u h d else dvv q kv kr ct u h (d - 64)

/-- The gradient by the shared key part. -/
def gkr (u d : ℕ) : ℝ := unrope (fun e => ∑ h : Fin 8, dkk q kv kr ct u h (64 + e)) u d

/-! ## The kernel's own arrangement -/

/-- The factor of column `d` of a head's 128 in the query's rotation: of the column itself, and of its partner. -/
def cosCol (t d : ℕ) : ℝ :=
  if d < 64 then 1 else if d < 80 then Real.cos (angle t (d - 64)) else if d < 96 then Real.cos (angle t (d - 80)) else 1
def sinCol (t d : ℕ) : ℝ :=
  if d < 64 then 0 else if d < 80 then Real.sin (angle t (d - 64)) else if d < 96 then Real.sin (angle t (d - 80)) else 0

/-- The rotated query and the key with each head padded from 96 to 128 columns by zeros. -/
def qp (t h d : ℕ) : ℝ := if d < 96 then qr q t h d else 0
def kp (u h d : ℕ) : ℝ := if d < 96 then kk kv kr u h d else 0

/-- The attention's output. -/
def out (t h d : ℕ) : ℝ := ∑ u : Fin 16384, pr q kv kr h t u * kv u h (64 + d)

/-- The row sum of output times cotangent, which is the row sum of weight times its cotangent. -/
def delta (h t : ℕ) : ℝ := ∑ v : Fin 16384, pr q kv kr h t v * dp kv ct h t v

theorem sum_out (h t : ℕ) : ∑ d : Fin 64, out q kv kr t h d * ct t (h * 64 + d) = delta q kv kr ct h t := by
  simp only [out, delta, dp, Finset.sum_mul, Finset.mul_sum]
  rw [Finset.sum_comm]
  exact Finset.sum_congr rfl fun u _ => Finset.sum_congr rfl fun d _ => by ring

/-- A sum over 128 columns of which the last 32 are zero. -/
theorem sum_pad (f : ℕ → ℝ) (g : ℕ → ℝ) (hg : ∀ d, g d = if d < 96 then f d else 0) :
    ∑ d : Fin 128, g d = ∑ d : Fin 96, f d := by
  rw [Fin.sum_univ_eq_sum_range (fun d => g d) 128, Fin.sum_univ_eq_sum_range (fun d => f d) 96,
    ← Finset.sum_range_add_sum_Ico _ (show 96 ≤ 128 by omega)]
  rw [Finset.sum_eq_zero (s := Finset.Ico 96 128) fun d hd => by
    rw [hg, if_neg]; have := Finset.mem_Ico.mp hd; omega, add_zero]
  exact Finset.sum_congr rfl fun d hd => by rw [hg, if_pos (Finset.mem_range.mp hd)]

/-- The score over the padded columns. -/
theorem sc_pad (h t u : ℕ) : (∑ d : Fin 128, qp q t h d * kp kv kr u h d) * scale = sc q kv kr h t u := by
  rw [sc, sum_pad (fun d => qr q t h d * kk kv kr u h d) fun d => qp q t h d * kp kv kr u h d]
  intro d; simp only [qp, kp]; split_ifs <;> simp

/-! ## Extended reals that are real numbers -/

theorem coe_sum {ι : Type*} (s : Finset ι) (f : ι → ℝ) : ∑ k ∈ s, (f k : EReal) = ((∑ k ∈ s, f k : ℝ) : EReal) := by
  classical
  induction s using Finset.induction_on with
  | empty => simp
  | insert a s h ih => rw [Finset.sum_insert h, Finset.sum_insert h, ih, EReal.coe_add]

/-- A sum of real numbers, from a termwise reading. -/
theorem sum_eq_coe {ι : Type*} [Fintype ι] {g : ι → EReal} {f : ι → ℝ} (h : ∀ k, g k = f k) :
    ∑ k, g k = ((∑ k, f k : ℝ) : EReal) := by
  rw [← coe_sum]; exact Finset.sum_congr rfl fun k _ => h k

/-- The greatest of at least one real number is a real number. -/
theorem fold_max_coe {n : ℕ} (g : Fin (n + 1) → EReal) (f : Fin (n + 1) → ℝ) (h : ∀ k, g k = f k) :
    ∃ M : ℝ, Finset.univ.fold max ⊥ g = M := by
  rw [funext h]
  have key : ∀ s : Finset (Fin (n + 1)), s.Nonempty → ∃ M : ℝ, s.fold max ⊥ (fun k => (f k : EReal)) = M := by
    intro s hs
    induction hs using Finset.Nonempty.cons_induction with
    | singleton a => exact ⟨f a, by simp⟩
    | cons a s ha hs ih =>
      obtain ⟨M, hM⟩ := ih
      exact ⟨max (f a) M, by rw [Finset.fold_cons, hM]; exact (EReal.coe_strictMono.monotone.map_max).symm⟩
  exact key _ Finset.univ_nonempty

/-- A quotient of real numbers by a nonzero one. -/
theorem div_coe' (x y : ℝ) (h : y ≠ 0) : Ideal.div x y = ((x / y : ℝ) : EReal) := by
  rw [Ideal.div_coe h, ← EReal.coe_mul, mul_one_div]

/-- Softmax does not see a shift of the scores. -/
theorem softmax_shift {ι : Type*} [Fintype ι] (s : ι → ℝ) (M : ℝ) (u : ι) :
    Real.exp (s u - M) / ∑ v, Real.exp (s v - M) = Real.exp (s u) / ∑ v, Real.exp (s v) := by
  simp only [Real.exp_sub, ← Finset.sum_div]
  rw [div_div_div_cancel_right₀ (Real.exp_pos M).ne']

theorem sum_exp_pos {n : ℕ} (s : Fin (n + 1) → ℝ) : 0 < ∑ v, Real.exp (s v) :=
  Finset.sum_pos (fun v _ => Real.exp_pos _) Finset.univ_nonempty

theorem mul_eq_coe {a b : EReal} {x y : ℝ} (ha : a = x) (hb : b = y) : a * b = ((x * y : ℝ) : EReal) := by
  rw [ha, hb, EReal.coe_mul]

theorem add_eq_coe {a b : EReal} {x y : ℝ} (ha : a = x) (hb : b = y) : a + b = ((x + y : ℝ) : EReal) := by
  rw [ha, hb, EReal.coe_add]

/-- A real read of an array, its coordinates rewritten. -/
theorem real2 (f : ℕ → ℕ → ℝ) {e : EReal} {a b a' b' : ℕ} (he : e = (f a b : EReal)) (ha : a = a') (hb : b = b') :
    e = (f a' b' : EReal) := by rw [he, ha, hb]

theorem real3 (f : ℕ → ℕ → ℕ → ℝ) {e : EReal} {a b c a' b' c' : ℕ} (he : e = (f a b c : EReal)) (ha : a = a') (hb : b = b')
    (hc : c = c') : e = (f a' b' c' : EReal) := by rw [he, ha, hb, hc]

end Cert.MlaModel

end
-- ==== Proof.Mla.Ref.lean ====
/-
  The reference's results, read off its operations one stage at a time: for real arguments every stage holds the real
  number that `Model.lean` names.
-/
module

public import proofs.«01_k».proof.Proof.Mla.Model
public import proofs.«01_k».proof.Proof.Gen.MlaRefIdeal.Run
public import proofs.«01_k».proof.Proof.Gen.MlaRefIdeal.Read
public import Idealize.ShloMosaic.Lib.Pipeline.Value
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.MlaRefIdeal.RefValue

open Cert.MlaRefIdeal Cert.MlaRefIdeal.Gen Cert.MlaRefIdeal.Read Cert.MlaModel

variable (q kv : ℕ → ℕ → ℕ → ℝ) (kr ct : ℕ → ℕ → ℝ)
  {x0 : (⟨S16384x8x96, .f32⟩ : BufTy).Contents (Elt Ideal)} {x1 : (⟨S16384x8x128, .f32⟩ : BufTy).Contents (Elt Ideal)}
  {x2 : (⟨S16384x32, .f32⟩ : BufTy).Contents (Elt Ideal)} {x3 : (⟨S16384x512, .f32⟩ : BufTy).Contents (Elt Ideal)}
  (h0 : ∀ i, x0 i = (q (i 0) (i 1) (i 2) : EReal)) (h1 : ∀ i, x1 i = (kv (i 0) (i 1) (i 2) : EReal))
  (h2 : ∀ i, x2 i = (kr (i 0) (i 1) : EReal)) (h3 : ∀ i, x3 i = (ct (i 0) (i 1) : EReal))

/-- A position or a frequency converted to a float is that number. -/
theorem sitofp_ofNat (n : ℕ) (h : n < 2 ^ 31) : (FloatOps.sitofp .f32 (BitVec.ofNat 32 n) : Ideal .f32) = ((n : ℝ) : EReal) := by
  show (((BitVec.ofNat 32 n).toInt : ℝ) : EReal) = _
  rw [show (BitVec.ofNat 32 n).toInt = (n : ℤ) by rw [BitVec.toInt_ofNat']; exact Int.bmod_eq_of_le (by omega) (by omega)]
  norm_cast

/-- The angles' literals: sixteen and ten thousand. -/
theorem lit_16 : Ideal.ofBits .f32 0x41800000#32 = ((16 : ℝ) : EReal) := by
  simp [Ideal.ofBits, Ideal.ieee, -EReal.coe_mul]; norm_num
theorem lit_10000 : Ideal.ofBits .f32 0x461C4000#32 = ((10000 : ℝ) : EReal) := by
  simp [Ideal.ofBits, Ideal.ieee, -EReal.coe_mul]; norm_num
theorem lit_scale : Ideal.ofBits .f32 0x3DD105EC#32 = ((scale : ℝ) : EReal) := by
  simp [Ideal.ofBits, Ideal.ieee, -EReal.coe_mul, scale]; norm_num

/-- The table of angles as both programs compute it. -/
theorem angle_coe (t j : ℕ) (ht : t < 2 ^ 31) (hj : j < 2 ^ 31) :
    (FloatOps.sitofp .f32 (BitVec.ofNat 32 t) : Ideal .f32) * Ideal.pow ((10000 : ℝ) : EReal)
      (Ideal.div (-(FloatOps.sitofp .f32 (BitVec.ofNat 32 j) : Ideal .f32)) ((16 : ℝ) : EReal)) = ((angle t j : ℝ) : EReal) := by
  rw [sitofp_ofNat t ht, sitofp_ofNat j hj, ← EReal.coe_neg, div_coe' _ _ (by norm_num), Ideal.pow_coe_coe, ← EReal.coe_mul]
  rfl

theorem v14 (i : S16384x16.Idx) : val_main_v14 (F := Ideal) i = ((angle (i 0) (i 1) : ℝ) : EReal) := by
  simp only [val_main_v14, val_main_v13, val_main_v12, val_main_v11, val_main_v10, val_main_v9, val_main_v8, val_main_v7,
    val_main_v6, val_main_v5, val_main_v4, val_main_v3, val_main_v2, val_main_cst, val_main_cst_0]
  pointwise
  have a : (i 0 : ℕ) < 16384 := (i 0).isLt
  have b : (i 1 : ℕ) < 16 := (i 1).isLt
  rw [lit_16, lit_10000]
  exact angle_coe _ _ (by omega) (by omega)

theorem v46 (i : S16384x16.Idx) : val_main_v46 (F := Ideal) i = ((angle (i 0) (i 1) : ℝ) : EReal) := by
  rw [← v14]; rfl

include h0 in
theorem v32 (i : S16384x8x96.Idx) : val_main_v32 (F := Ideal) x0 i = ((qr q (i 0) (i 1) (i 2) : ℝ) : EReal) := by
  simp only [val_main_v32, val_main_v31, val_main_v30, val_main_v25, val_main_v29, val_main_v24, val_main_v27, val_main_v22,
    val_main_v0, val_main_v1, val_main_v28, val_main_v26, val_main_v23, val_main_v21, val_main_v20, val_main_v19, val_main_v18,
    val_main_v17, val_main_v16, val_main_v15]
  pointwise
  simp only [h0, v14, Ideal.cos_coe, Ideal.sin_coe, qr, rope]
  split_ifs <;> norm_cast <;> rfl

include h1 h2 in
theorem v62 (j : S16384x8x96.Idx) : val_main_v62 (F := Ideal) x1 x2 j = ((kk kv kr (j 0) (j 1) (j 2) : ℝ) : EReal) := by
  simp only [val_main_v62, val_main_v61, val_main_v60, val_main_v59, val_main_v58, val_main_v57, val_main_v56, val_main_v55,
    val_main_v54, val_main_v53, val_main_v52, val_main_v51, val_main_v50, val_main_v49, val_main_v48, val_main_v47, val_main_v33]
  pointwise
  simp only [h1, h2, v46, Ideal.cos_coe, Ideal.sin_coe, kk, rope]
  split_ifs <;> norm_cast <;> rfl

include h0 h1 h2 in
theorem v65 (i : S8x16384x16384.Idx) :
    val_main_v65 (F := Ideal) x0 x1 x2 i = ((sc q kv kr (i 0) (i 1) (i 2) : ℝ) : EReal) := by
  simp only [val_main_v65, val_main_v64, val_main_v63, val_main_cst_3]
  pointwise
  rw [lit_scale, sc, EReal.coe_mul]
  exact congrArg (· * _) (sum_eq_coe fun k => by rw [v32 q h0, v62 kv kr h1 h2, ← EReal.coe_mul]; rfl)

theorem lit_bot : Ideal.ofBits .f32 0xFF800000#32 = ⊥ := by
  simp [Ideal.ofBits, Ideal.ieee]

include h0 h1 h2 in
/-- The row's greatest score is a real number. -/
theorem v66 (i : S8x16384.Idx) :
    val_main_v66 (F := Ideal) x0 x1 x2 i = ((val_main_v66 (F := Ideal) x0 x1 x2 i).toReal : EReal) := by
  have e : ∃ M : ℝ, val_main_v66 (F := Ideal) x0 x1 x2 i = M := by
    simp only [val_main_v66, val_main_cst_4]
    pointwise
    rw [lit_bot]
    exact fold_max_coe (n := 16383) _ _ fun k => v65 q kv kr h0 h1 h2 _
  obtain ⟨M, hM⟩ := e
  rw [hM, EReal.toReal_coe]

/-- The row's greatest score, by which the exponents are shifted. -/
def top (x0 : (⟨S16384x8x96, .f32⟩ : BufTy).Contents (Elt Ideal)) (x1 : (⟨S16384x8x128, .f32⟩ : BufTy).Contents (Elt Ideal))
    (x2 : (⟨S16384x32, .f32⟩ : BufTy).Contents (Elt Ideal)) (h : Fin 8) (t : Fin 16384) : ℝ :=
  (val_main_v66 (F := Ideal) x0 x1 x2 (ix2 h t)).toReal

include h0 h1 h2 in
theorem v86 (i : S8x16384x16384.Idx) : val_main_v86 (F := Ideal) x0 x1 x2 i
    = ((Real.exp (sc q kv kr (i 0) (i 1) (i 2) - top x0 x1 x2 (i 0) (i 1)) : ℝ) : EReal) := by
  rw [val_main_v86_apply, val_main_v85_apply, val_main_v84_apply, val_main_v83_apply, val_main_v73_apply, val_main_v72_apply,
    v65 q kv kr h0 h1 h2]
  rw [show val_main_v66 (F := Ideal) x0 x1 x2 (idx_main_v83 (idx_main_v84 i)) = (top x0 x1 x2 (i 0) (i 1) : EReal) from
    (v66 q kv kr h0 h1 h2 _).trans (congrArg (fun j => ((val_main_v66 (F := Ideal) x0 x1 x2 j).toReal : EReal)) (by idx_ext))]
  generalize sc q kv kr (i 0) (i 1) (i 2) = S
  generalize top x0 x1 x2 (i 0) (i 1) = M
  simp only [val_main_cst_6]
  pointwise
  rw [lit_bot, max_eq_right bot_le, ← EReal.coe_sub, Ideal.exp_coe]

include h0 h1 h2 in
theorem v87 (i : S8x16384.Idx) : val_main_v87 (F := Ideal) x0 x1 x2 i
    = ((∑ u : Fin 16384, Real.exp (sc q kv kr (i 0) (i 1) u - top x0 x1 x2 (i 0) (i 1)) : ℝ) : EReal) := by
  simp only [val_main_v87, val_main_cst_12]
  pointwise
  exact sum_eq_coe fun u => v86 q kv kr h0 h1 h2 _

include h0 h1 h2 in
theorem v90 (i : S8x16384x16384.Idx) :
    val_main_v90 (F := Ideal) x0 x1 x2 i = ((pr q kv kr (i 0) (i 1) (i 2) : ℝ) : EReal) := by
  simp only [val_main_v90, val_main_v89, val_main_v88]
  pointwise
  rw [v86 q kv kr h0 h1 h2, v87 q kv kr h0 h1 h2, div_coe' _ _ (sum_exp_pos (n := 16383) _).ne']
  exact congrArg _ (softmax_shift (fun u : Fin 16384 => sc q kv kr (i 0) (i 1) u) _ (i 2))

include h1 h3 in
theorem v100 (i : S8x16384x16384.Idx) :
    val_main_v100 (F := Ideal) x1 x3 i = ((dp kv ct (i 0) (i 1) (i 2) : ℝ) : EReal) := by
  simp only [val_main_v100, val_main_v99, val_main_v98, val_main_v94]
  pointwise
  refine sum_eq_coe fun k => ?_
  rw [h1, h3, ← EReal.coe_mul]
  rfl

/-- The softmax's derivative as it is taken apart at the exponentials `E` with sum `L`: the quotient's two parts together
    are the weight times the difference. -/
theorem ds_of_parts {n : ℕ} (e d p : Fin (n + 1) → ℝ) (hl : ∑ v, e v ≠ 0) (hp : ∀ v, e v / (∑ v, e v) = p v) (u : Fin (n + 1)) {E D : Fin (n + 1) → EReal}
    {L Eu Du : EReal} (hE : ∀ v, E v = e v) (hD : ∀ v, D v = d v) (hL : L = ((∑ v, e v : ℝ) : EReal)) (hEu : Eu = e u)
    (hDu : Du = d u) :
    (Ideal.div Du L + ∑ _x : Fin 1, -∑ v, D v * Ideal.div 1 (L * L) * E v) * Eu
      = ((p u * (d u - ∑ v, p v * d v) : ℝ) : EReal) := by
  simp only [← hp]
  have hs : ∑ v, D v * Ideal.div 1 (L * L) * E v = ((∑ v, d v * (1 / ((∑ v, e v) * (∑ v, e v))) * e v : ℝ) : EReal) :=
    sum_eq_coe fun v => by
      rw [hE, hD, hL, ← EReal.coe_mul, ← EReal.coe_one, div_coe' _ _ (mul_ne_zero hl hl), ← EReal.coe_mul, ← EReal.coe_mul]
  rw [Fintype.sum_unique, hs, hEu, hDu, hL, div_coe' _ _ hl]
  norm_cast
  generalize ∑ v, e v = l at hl ⊢
  have : ∑ v, d v * (1 / (l * l)) * e v = (∑ v, e v / l * d v) / l := by
    rw [Finset.sum_div]; exact Finset.sum_congr rfl fun v _ => by field_simp
  rw [this]; field_simp; ring

include h0 h1 h2 h3 in
theorem v117 (i : S8x16384x16384.Idx) :
    val_main_v117 (F := Ideal) x0 x1 x2 x3 i = ((ds q kv kr ct (i 0) (i 1) (i 2) * scale : ℝ) : EReal) := by
  simp only [val_main_v117, val_main_v116, val_main_cst_17, val_main_v115, val_main_v114, val_main_v113, val_main_v112,
    val_main_v111, val_main_cst_16, val_main_v110, val_main_v109, val_main_v108, val_main_v107, val_main_v106, val_main_v105,
    val_main_v104, val_main_cst_15, val_main_v93, val_main_v92, val_main_cst_13, val_main_v91, val_main_v88]
  pointwise
  rw [lit_scale, EReal.coe_mul]
  have key := ds_of_parts (fun v : Fin 16384 => Real.exp (sc q kv kr (i 0) (i 1) v - top x0 x1 x2 (i 0) (i 1)))
    (fun v => dp kv ct (i 0) (i 1) v) (fun v => pr q kv kr (i 0) (i 1) v) (sum_exp_pos (n := 16383) _).ne'
    (softmax_shift (fun u : Fin 16384 => sc q kv kr (i 0) (i 1) u) _) (i 2)
    (E := fun v => val_main_v86 (F := Ideal) x0 x1 x2 (ix3 (i 0) (i 1) v))
    (D := fun v => val_main_v100 (F := Ideal) x1 x3 (ix3 (i 0) (i 1) v)) (fun v => v86 q kv kr h0 h1 h2 _)
    (fun v => v100 kv ct h1 h3 _) (v87 q kv kr h0 h1 h2 (ix2 (i 0) (i 1))) (v86 q kv kr h0 h1 h2 i) (v100 kv ct h1 h3 i)
  exact congrArg (· * (scale : EReal)) key

/-- The transposed rotation's two halves. -/
theorem unrope_hi {A B : EReal} {a b : ℝ} (c s : ℝ) (hA : A = a) (hB : B = b) :
    A * (c : EReal) + -B * (s : EReal) + 0 = ((a * c - b * s : ℝ) : EReal) := by
  rw [hA, hB, add_zero, sub_eq_add_neg, ← neg_mul]; norm_cast
theorem unrope_lo {A B : EReal} {a b : ℝ} (c s : ℝ) (hA : A = a) (hB : B = b) :
    0 + (B * (s : EReal) + A * (c : EReal)) = ((a * c + b * s : ℝ) : EReal) := by
  rw [hA, hB, zero_add, add_comm (a * c)]; norm_cast

include h0 h1 h2 h3 in
/-- The gradient by the query. -/
theorem v161 (i : S16384x8x96.Idx) :
    val_main_v161 (F := Ideal) x0 x1 x2 x3 i = ((gq q kv kr ct (i 0) (i 1) (i 2) : ℝ) : EReal) := by
  have hd (d : Fin 96) : ∑ u : Fin 16384, val_main_v117 (F := Ideal) x0 x1 x2 x3 (ix3 (i 1) (i 0) u)
      * val_main_v62 (F := Ideal) x1 x2 (ix3 u (i 1) d) = ((dqr q kv kr ct (i 0) (i 1) d : ℝ) : EReal) :=
    sum_eq_coe fun u => by rw [v117 q kv kr ct h0 h1 h2 h3, v62 kv kr h1 h2, ← EReal.coe_mul]; rfl
  simp only [val_main_v161, val_main_v160, val_main_v159, val_main_cst_26, val_main_cst_25, val_main_v158, val_main_v157,
    val_main_v156, val_main_cst_24, val_main_cst_23, val_main_v155, val_main_v154, val_main_v153, val_main_v152, val_main_v151,
    val_main_v150, val_main_v149, val_main_v148, val_main_v147, val_main_v146, val_main_v145, val_main_v144, val_main_v143,
    val_main_v142, val_main_v141, val_main_v121, val_main_v120, val_main_v18, val_main_v17, val_main_v16, val_main_v15]
  pointwise
  have b : (i 2 : ℕ) < 96 := (i 2).isLt
  simp only [v14, Ideal.cos_coe, Ideal.sin_coe, gq, unrope]
  split_ifs <;> try omega
  · rw [add_zero]; exact unrope_hi _ _ (hd _) (hd _)
  · rw [add_zero]; exact unrope_lo _ _ (hd _) (hd _)
  · rw [zero_add]; exact hd _

include h0 h1 h2 h3 in
/-- The gradient by the key's own columns and the value. -/
theorem v125 (i : S16384x8x128.Idx) :
    val_main_v125 (F := Ideal) x0 x1 x2 x3 i = ((gkv q kv kr ct (i 0) (i 1) (i 2) : ℝ) : EReal) := by
  simp only [val_main_v125, val_main_v103, val_main_v124, val_main_cst_14, val_main_cst_18, val_main_v122, val_main_v119,
    val_main_v118, val_main_v102, val_main_v101, val_main_v99, val_main_v98]
  pointwise
  have b : (i 2 : ℕ) < 128 := (i 2).isLt
  rw [gkv]
  split_ifs with c d
  · omega
  · rw [add_zero]
    refine sum_eq_coe fun t => ?_
    rw [h3, v90 q kv kr h0 h1 h2, ← EReal.coe_mul, mul_comm]
    rfl
  · rw [zero_add]
    exact sum_eq_coe fun t => by rw [v117 q kv kr ct h0 h1 h2 h3, v32 q h0, ← EReal.coe_mul]; rfl
  · omega

include h0 h1 h2 h3 in
/-- The gradient by the shared key part. -/
theorem v140 (i : S16384x32.Idx) :
    val_main_v140 (F := Ideal) x0 x1 x2 x3 i = ((gkr q kv kr ct (i 0) (i 1) : ℝ) : EReal) := by
  have hd (d : Fin 96) : ∑ h : Fin 8, val_main_v118 (F := Ideal) x0 x1 x2 x3 (ix3 h (i 0) d)
      = ((∑ h : Fin 8, dkk q kv kr ct (i 0) h d : ℝ) : EReal) :=
    sum_eq_coe fun h => by
      rw [val_main_v118_apply]
      exact sum_eq_coe fun t => by rw [v117 q kv kr ct h0 h1 h2 h3, v32 q h0, ← EReal.coe_mul]; rfl
  simp only [val_main_v140, val_main_cst_22, val_main_v139, val_main_v138, val_main_v137, val_main_cst_20, val_main_cst_21,
    val_main_v136, val_main_v135, val_main_v134, val_main_v133, val_main_v132, val_main_v131, val_main_v130, val_main_v129,
    val_main_v128, val_main_v127, val_main_v126, val_main_cst_19, val_main_v123, val_main_v119, val_main_v50, val_main_v48,
    val_main_v47, val_main_v49]
  pointwise
  rw [Fintype.sum_unique]
  have b : (i 1 : ℕ) < 32 := (i 1).isLt
  simp only [v46, Ideal.cos_coe, Ideal.sin_coe, gkr, unrope]
  split_ifs <;> try omega
  · exact unrope_hi _ _ (hd ⟨64 + (16 + ((i 1 : ℕ) - 16)), by omega⟩) (hd ⟨64 + ((i 1 : ℕ) - 16), by omega⟩)
  · exact unrope_lo _ _ (hd ⟨64 + (i 1 : ℕ), by omega⟩) (hd ⟨64 + (16 + (i 1 : ℕ)), by omega⟩)

end Cert.MlaRefIdeal.RefValue

end
-- ==== Proof.Mla.Delta.lean ====
/-
  The first region of the kernel program: each head's row sum of output times cotangent.
-/
module

public import proofs.«01_k».proof.Proof.Mla.Model
public import proofs.«01_k».proof.Proof.Gen.MlaIdeal.Frame
public import Idealize.ShloMosaic.Lib.StableHlo.RunRead
public import Idealize.ShloMosaic.Lib.Pipeline.ValueKit
public import Idealize.ShloMosaic.Lib.Pipeline.Value
public import Idealize.ShloMosaic.Lib.Claim
public import Idealize.ShloMosaic.Lib.Pointwise

@[expose] public section

set_option maxRecDepth 16384

noncomputable section

open Idealize.ShloMosaic Idealize.ShloMosaic.TcCoe Idealize.SL.Sem Idealize.ShloMosaic.StableHlo

namespace Cert.MlaIdeal.RefValue

open Cert.MlaIdeal Cert.MlaIdeal.Gen Cert.MlaModel

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![0, t.val, 0] :=
  (by decide +kernel : ∀ t : Fin grid0.N, _)

/-- One block's row sums: head `y 0`, row `y 1`. -/
theorem out0_2_coe (x0 : Vec Ideal S512x512 .f32) (x1 : Vec Ideal S512x512 .bf16) (f g : ℕ → ℕ → ℝ)
    (ef : ∀ i, x0 i = (f (i 0) (i 1) : EReal)) (eg : ∀ i, x1 i = (g (i 0) (i 1) : EReal)) (y : S8x512x1.Idx) :
    out0_2 x0 x1 y = ((∑ d : Fin 64, f (y 1) ((y 0 : ℕ) * 64 + d) * g (y 1) ((y 0 : ℕ) * 64 + d) : ℝ) : EReal) := by
  unfold_out out0_2
  canon_tiles x h
  all_goals
    open_payloads; pointwise
    have e : (x 0 : ℕ) = 0 := by omega
    refine sum_eq_coe fun d => ?_
    rw [ef, eg, ← EReal.coe_mul, h0, h1, e]
    first | rfl | exact congrArg (fun j : ℕ => ((f (x 1) j * g (x 1) j : ℝ) : EReal)) (show (d : ℕ) = 0 * 64 + d by omega)

theorem final0_2 (c : Dev nD) (f g : ℕ → ℕ → ℝ) (ef : ∀ i : S16384x512.Idx, V c main_v82 i = (f (i 0) (i 1) : EReal))
    (eg : ∀ i : S16384x512.Idx, V c main_v92 i = (g (i 0) (i 1) : EReal)) : (dat0 V c).arrAt 2 cfg0.N
    = fun i : S8x16384x1.Idx => ((∑ d : Fin 64, f (i 1) ((i 0 : ℕ) * 64 + d) * g (i 1) ((i 0 : ℕ) * 64 + d) : ℝ) : EReal) := by
  refine (dat0 V c).arrAt_eq_of_covers 2 _ (by decide +kernel) fun t hf y => ?_
  blk_simp [idx0 t]
  rw [after0_2]
  refine out0_2_coe _ _ (fun a b => f (t.val * 512 + a) b) (fun a b => g (t.val * 512 + a) b) (fun i => ?_) (fun i => ?_) y
  · unfold iblk0
    rw [View.read_apply]
    exact (ef _).trans (by blk_simp [idx0 t])
  · unfold iblk0
    rw [View.read_apply]
    exact (eg _).trans (by blk_simp [idx0 t])

end Cert.MlaIdeal.RefValue

end
-- ==== Proof.Mla.DqSum.lean ====
/-
  The third region of the kernel program: the query's gradient summed over the key tiles, by each table of the rotation.
-/
module

public import proofs.«01_k».proof.Proof.Mla.Model
public import proofs.«01_k».proof.Proof.Gen.MlaIdeal.Frame
public import Idealize.ShloMosaic.Lib.StableHlo.RunRead
public import Idealize.ShloMosaic.Lib.Pipeline.ValueKit
public import Idealize.ShloMosaic.Lib.Pipeline.Value
public import Idealize.ShloMosaic.Lib.Claim
public import Idealize.ShloMosaic.Lib.Pointwise

@[expose] public section

set_option maxRecDepth 16384

noncomputable section

open Idealize.ShloMosaic Idealize.ShloMosaic.TcCoe Idealize.SL.Sem Idealize.ShloMosaic.StableHlo

namespace Cert.MlaIdeal.RefValue

open Cert.MlaIdeal Cert.MlaIdeal.Gen Cert.MlaModel

variable (V : (c : Dev nD) → (b : Ref sig .tc) → Buf (Elt Ideal) ((c : Thread nD τ).loc b))

theorem idx2 : ∀ t : Fin cfg2.N, win2_0.index t = ![0, t.val, 0] ∧ win2_1.index t = ![t.val, 0] ∧ win2_2.index t = ![t.val, 0] ∧
    win2_3.index t = ![t.val, 0] :=
  (by decide +kernel : ∀ t : Fin grid2.N, _)

/-- The scale's literal. -/
theorem lit_scale : Ideal.ofBits .f32 0x3DD105EC#32 = (scale : EReal) := by
  unfold scale; simp [Ideal.ofBits, Ideal.ieee, -EReal.coe_mul]; norm_num

/-- One block: the sum over the key tiles, scaled, by the first table in the left half and by the second in the right. -/
theorem out2_3_coe (x0 : Vec Ideal S16x256x1024 .bf16) (x1 x2 : Vec Ideal S256x128 .f32) (p : ℕ → ℕ → ℕ → ℝ) (f g : ℕ → ℕ → ℝ)
    (ep : ∀ i, x0 i = (p (i 0) (i 1) (i 2) : EReal)) (ef : ∀ i, x1 i = (f (i 0) (i 1) : EReal))
    (eg : ∀ i, x2 i = (g (i 0) (i 1) : EReal)) (y : S256x2048.Idx) :
    out2_3 x0 x1 x2 y = (((∑ j : Fin 16, p j (y 0) ((y 1 : ℕ) % 1024)) * scale *
      (if (y 1 : ℕ) < 1024 then f (y 0) ((y 1 : ℕ) % 128) else g (y 0) ((y 1 : ℕ) % 128)) : ℝ) : EReal) := by
  unfold_out out2_3
  canon_tiles x h
  all_goals
    open_payloads; pointwise
    refine mul_eq_coe (mul_eq_coe ((?_ : _ = ∑ j : Fin 16, x0 (ix3 j (x 0) (x 1))).trans (sum_eq_coe fun j => real3 p (ep _) rfl ?_ ?_))
      lit_scale) ?_
    · simp only [Fin.sum_univ_castSucc, Fin.sum_univ_zero, zero_add]; rfl
    · exact h0.symm
    · show (x 1 : ℕ) = _; omega
    have h2 : ∀ (n : ℕ) (hn : n < 128), n = (y 1 : ℕ) % 128 → x1 (ix2 (x 0) ⟨n, hn⟩) = (f (y 0) ((y 1 : ℕ) % 128) : EReal) :=
      fun n hn e => real2 f (ef _) h0.symm e
    have h3 : ∀ (n : ℕ) (hn : n < 128), n = (y 1 : ℕ) % 128 → x2 (ix2 (x 0) ⟨n, hn⟩) = (g (y 0) ((y 1 : ℕ) % 128) : EReal) :=
      fun n hn e => real2 g (eg _) h0.symm e
    first
    | rw [if_pos (by omega : (y 1 : ℕ) < 1024)]
      split_ifs <;> exact h2 _ _ (by omega)
    | rw [if_neg (by omega : ¬(y 1 : ℕ) < 1024)]
      split_ifs <;> exact h3 _ _ (by omega)

theorem final2_3 (c : Dev nD) (p : ℕ → ℕ → ℕ → ℝ) (f g : ℕ → ℕ → ℝ)
    (ep : ∀ i : S16x16384x1024.Idx, V c main_v101_0 i = (p (i 0) (i 1) (i 2) : EReal))
    (ef : ∀ i : S16384x128.Idx, V c main_v21 i = (f (i 0) (i 1) : EReal))
    (eg : ∀ i : S16384x128.Idx, V c main_v24 i = (g (i 0) (i 1) : EReal)) : (dat2 V c).arrAt 3 cfg2.N
    = fun i : S16384x2048.Idx => (((∑ j : Fin 16, p j (i 0) ((i 1 : ℕ) % 1024)) * scale *
      (if (i 1 : ℕ) < 1024 then f (i 0) ((i 1 : ℕ) % 128) else g (i 0) ((i 1 : ℕ) % 128)) : ℝ) : EReal) := by
  refine (dat2 V c).arrAt_eq_of_covers 3 _ (by decide +kernel) fun t hf y => ?_
  blk_simp [idx2 t]
  rw [after2_3]
  refine out2_3_coe _ _ _ (fun j a b => p j (t.val * 256 + a) b) (fun a b => f (t.val * 256 + a) b) (fun a b => g (t.val * 256 + a) b)
    (fun i => ?_) (fun i => ?_) (fun i => ?_) y
  all_goals
    unfold iblk2
    rw [View.read_apply]
    first
    | exact (ep _).trans (by blk_simp [idx2 t])
    | exact (ef _).trans (by blk_simp [idx2 t])
    | exact (eg _).trans (by blk_simp [idx2 t])

end Cert.MlaIdeal.RefValue

end
-- ==== Proof.Mla.Kprep.lean ====
/-
  The fourth region of the kernel program: the key's gradient split into each head's own rows and the shared rotated rows.
-/
module

public import proofs.«01_k».proof.Proof.Mla.Model
public import proofs.«01_k».proof.Proof.Gen.MlaIdeal.Frame
public import Idealize.ShloMosaic.Lib.StableHlo.RunRead
public import Idealize.ShloMosaic.Lib.Pipeline.ValueKit
public import Idealize.ShloMosaic.Lib.Pipeline.Value
public import Idealize.ShloMosaic.Lib.Claim
public import Idealize.ShloMosaic.Lib.Pointwise

@[expose] public section

set_option maxRecDepth 16384

noncomputable section

open Idealize.ShloMosaic Idealize.ShloMosaic.TcCoe Idealize.SL.Sem Idealize.ShloMosaic.StableHlo

namespace Cert.MlaIdeal.RefValue

open Cert.MlaIdeal Cert.MlaIdeal.Gen Cert.MlaModel

variable (V : (c : Dev nD) → (b : Ref sig .tc) → Buf (Elt Ideal) ((c : Thread nD τ).loc b))

theorem idx3 : ∀ t : Fin cfg3.N, win3_0.index t = ![0, t.val] ∧ win3_1.index t = ![0, t.val] ∧ win3_2.index t = ![0, t.val] ∧
    win3_3.index t = ![0, t.val] :=
  (by decide +kernel : ∀ t : Fin grid3.N, _)

variable {V} {c : Dev nD} {g f : ℕ → ℕ → ℝ}

/-- One block: each head's first 64 of its 128 rows. -/
theorem dkn_coe (t : Fin cfg3.N) (eg : ∀ i, iblk3 V c 0 t i = (g (i 0) (i 1) : EReal)) (y : S512x512.Idx) :
    (outsAt3 V c t).1 y = (g ((y 0 : ℕ) / 64 * 128 + (y 0 : ℕ) % 64) (y 1) : EReal) := by
  unfold outsAt3
  dsimp only
  generalize iblk3 V c 0 t = x0 at *
  generalize iblk3 V c 1 t = x1 at *
  frame_out
  canon_tiles x h
  all_goals
    open_payloads; pointwise
    refine real2 g (eg _) ?_ ?_
    all_goals first | (blk_simp; try omega) | skip
    all_goals (dsimp only; omega)

/-- One block: the rotated rows summed over the heads, by the two halves of the table. -/
theorem dkr_coe (t : Fin cfg3.N) (eg : ∀ i, iblk3 V c 0 t i = (g (i 0) (i 1) : EReal))
    (ef : ∀ i, iblk3 V c 1 t i = (f (i 0) (i 1) : EReal)) (y : S128x512.Idx) :
    (outsAt3 V c t).2 y = ((if (y 0 : ℕ) < 64 then (∑ h : Fin 8, g ((h : ℕ) * 128 + 64 + (y 0 : ℕ) % 32) (y 1)) * f (y 0) (y 1) else 0 : ℝ) : EReal) := by
  unfold outsAt3
  dsimp only
  generalize iblk3 V c 0 t = x0 at *
  generalize iblk3 V c 1 t = x1 at *
  frame_out
  canon_tiles x h using View.cover_of_tiledBy [_, _, _] ![32, 512] (by sl_kernel_rfl) y
  case piece0 =>
    open_payloads; pointwise
    rw [if_neg (by omega)]
    rfl
  all_goals
    open_payloads; pointwise
    rw [if_pos (by omega)]
    refine mul_eq_coe ?_ (real2 f (ef _) ?_ ?_)
    · simp only [Fin.sum_univ_castSucc, Fin.sum_univ_zero, zero_add]
      refine add_eq_coe (add_eq_coe (add_eq_coe (add_eq_coe (add_eq_coe (add_eq_coe (add_eq_coe ?_ ?_) ?_) ?_) ?_) ?_) ?_) ?_
      all_goals refine real2 g (eg _) ?_ ?_
      all_goals first | (blk_simp; try omega) | skip
      all_goals simp only [Fin.val_last, Fin.val_castSucc]
      all_goals omega
    all_goals first | (blk_simp; try omega) | skip
    all_goals (dsimp only; omega)

theorem final3_2 (eg : ∀ i : S1024x16384.Idx, V c main_v101_1 i = (g (i 0) (i 1) : EReal)) : (dat3 V c).arrAt 2 cfg3.N
    = fun i : S512x16384.Idx => (g ((i 0 : ℕ) / 64 * 128 + (i 0 : ℕ) % 64) (i 1) : EReal) := by
  refine (dat3 V c).arrAt_eq_of_covers 2 _ (by decide +kernel) fun t hf y => ?_
  blk_simp [idx3 t]
  rw [after3_2]
  refine dkn_coe (g := fun a b => g a (t.val * 512 + b)) t (fun i => ?_) y
  unfold iblk3
  rw [View.read_apply]
  exact (eg _).trans (by blk_simp [idx3 t])

theorem final3_3 (eg : ∀ i : S1024x16384.Idx, V c main_v101_1 i = (g (i 0) (i 1) : EReal))
    (ef : ∀ i : S64x16384.Idx, V c main_v28 i = (f (i 0) (i 1) : EReal)) : (dat3 V c).arrAt 3 cfg3.N
    = fun i : S128x16384.Idx => ((if (i 0 : ℕ) < 64 then (∑ h : Fin 8, g ((h : ℕ) * 128 + 64 + (i 0 : ℕ) % 32) (i 1)) * f (i 0) (i 1) else 0 : ℝ) : EReal) := by
  refine (dat3 V c).arrAt_eq_of_covers 3 _ (by decide +kernel) fun t hf y => ?_
  blk_simp [idx3 t]
  rw [after3_3]
  refine dkr_coe (g := fun a b => g a (t.val * 512 + b)) (f := fun a b => f a (t.val * 512 + b)) t (fun i => ?_) (fun i => ?_) y
  all_goals
    unfold iblk3
    rw [View.read_apply]
    first
    | exact (eg _).trans (by blk_simp [idx3 t])
    | exact (ef _).trans (by blk_simp [idx3 t])

end Cert.MlaIdeal.RefValue

end
-- ==== Proof.Mla.Back.lean ====
/-
  The second region of the kernel program, one grid point at a time: the gradients of one block of keys against one block
  of queries.
-/
module

public import proofs.«01_k».proof.Proof.Mla.Model
public import proofs.«01_k».proof.Proof.Gen.MlaIdeal.Frame
public import Idealize.ShloMosaic.Lib.StableHlo.RunRead
public import Idealize.ShloMosaic.Lib.Pipeline.ValueKit
public import Idealize.ShloMosaic.Lib.Pipeline.ReadBack
public import Idealize.ShloMosaic.Lib.Pipeline.Value
public import Idealize.ShloMosaic.Lib.Claim
public import Idealize.ShloMosaic.Lib.Pointwise

@[expose] public section

set_option maxRecDepth 16384

noncomputable section

open Idealize.ShloMosaic Idealize.ShloMosaic.TcCoe Idealize.SL.Sem Idealize.ShloMosaic.StableHlo

namespace Cert.MlaIdeal.RefValue

open Cert.MlaIdeal Cert.MlaIdeal.Gen Cert.MlaModel

variable (V : (c : Dev nD) → (b : Ref sig .tc) → Buf (Elt Ideal) ((c : Thread nD τ).loc b))

/-! ## One head of one block

  The blocks hold real numbers: `q` the scaled query rows, `qt` their transpose, `k` the key rows, `v` the value rows,
  `o` the cotangent's rows, `ot` its transpose, `l` and `δ` the rows' log-sums and row sums. -/

variable (q qt k v o ot l δ : ℕ → ℕ → ℝ)

/-- The weight of query row `i` on key row `j`. -/
def wt (h i j : ℕ) : ℝ := Real.rpow 2 ((∑ d : Fin 128, q i (h * 128 + d) * k j (h * 128 + d)) - l h i)

/-- The score's cotangent. -/
def dsc (h i j : ℕ) : ℝ := wt q k l h i j * ((∑ d : Fin 64, o i (h * 64 + d) * v j (h * 64 + d)) - δ h i)

/-- The block's contribution to the query's, the key's and the value's gradients: column `n` of the heads side by side. -/
def dqAt (i n : ℕ) : ℝ := ∑ j : Fin 1024, dsc q k v o l δ (n / 128) i j * k j n
def dkAt (n j : ℕ) : ℝ := ∑ i : Fin 1024, qt n i * dsc q k v o l δ (n / 128) i j
def dvAt (n j : ℕ) : ℝ := ∑ i : Fin 1024, ot n i * wt q k l (n / 64) i j

theorem wt_coe {h i j : ℕ} {X K : Fin 128 → EReal} {L : EReal}
    (hX : ∀ d, X d = (q i (h * 128 + d) : EReal)) (hK : ∀ d, K d = (k j (h * 128 + d) : EReal))
    (hL : L = (l h i : EReal)) :
    FloatOps.exp2 (F := Ideal) (φ := .f32) ((∑ d, X d * K d) - L) = (wt q k l h i j : EReal) := by
  rw [show (∑ d, X d * K d) = ((∑ d : Fin 128, q i (h * 128 + d) * k j (h * 128 + d) : ℝ) : EReal) from
    sum_eq_coe fun d => by rw [hX, hK, ← EReal.coe_mul], hL, ← EReal.coe_sub]
  exact Ideal.exp2_coe _

theorem dsc_coe {h i j : ℕ} {X K : Fin 128 → EReal} {O W : Fin 64 → EReal} {L D : EReal}
    (hX : ∀ d, X d = (q i (h * 128 + d) : EReal)) (hK : ∀ d, K d = (k j (h * 128 + d) : EReal))
    (hL : L = (l h i : EReal)) (hO : ∀ d, O d = (o i (h * 64 + d) : EReal))
    (hW : ∀ d, W d = (v j (h * 64 + d) : EReal)) (hD : D = (δ h i : EReal)) :
    FloatOps.exp2 (F := Ideal) (φ := .f32) ((∑ d, X d * K d) - L) * ((∑ d, O d * W d) - D)
      = (dsc q k v o l δ h i j : EReal) := by
  rw [wt_coe q k l hX hK hL, show (∑ d, O d * W d) = ((∑ d : Fin 64, o i (h * 64 + d) * v j (h * 64 + d) : ℝ) : EReal) from
    sum_eq_coe fun d => by rw [hO, hW, ← EReal.coe_mul], hD, ← EReal.coe_sub, ← EReal.coe_mul]
  rfl

theorem pay1_apply (w : FVec Ideal S1024x1024 .f32) (y : S1024x1024.Idx) :
    k1_pay1 (F := Ideal) w y = w y * ((Real.log 2 : ℝ) : EReal) := by
  unfold k1_pay1
  pointwise
  rw [IdealRules.named_const.ideal_named_scalar _ _ _ _ rfl]

theorem canon_append_of_cover {S : Shape} {e : EltTy} {Val : EltTy → Type} [∀ e, Nonempty (Val e)] :
    ∀ (L L' : List (View.Piece Val S e)) (y : S.Idx), (∃ p ∈ L, y ∈ p.1.set) → View.canon (L ++ L') y = View.canon L y
  | [], _, _, h => by simp at h
  | p :: L, L', y, h => by
    by_cases hy : y ∈ p.1.set
    · obtain ⟨x, rfl⟩ : ∃ x, p.1.emb x = y := by
        rw [← Rect.map_emb_univ, Finset.mem_map] at hy; exact hy.imp fun _ h => h.2
      rw [List.cons_append, View.canon_cons_emb, View.canon_cons_emb]
    · obtain ⟨q, hq, hyq⟩ := h
      rw [List.cons_append, View.canon_cons_of_not_mem p _ hy, View.canon_cons_of_not_mem p _ hy]
      refine canon_append_of_cover L L' y ⟨q, ?_, hyq⟩
      rcases List.mem_cons.mp hq with rfl | hq
      · exact absurd hyq hy
      · exact hq

/-- The blocks that grid point `t` reads hold these numbers. -/
structure Blocks (c : Dev nD) (t : Fin cfg1.N) : Prop where
  e0 : ∀ i, iblk1 V c 0 t i = (q (i 0) (i 1) : EReal)
  e1 : ∀ i, iblk1 V c 1 t i = (qt (i 0) (i 1) : EReal)
  e2 : ∀ i, iblk1 V c 2 t i = (k (i 0) (i 1) : EReal)
  e3 : ∀ i, iblk1 V c 3 t i = (v (i 0) (i 1) : EReal)
  e4 : ∀ i, iblk1 V c 4 t i = (o (i 0) (i 1) : EReal)
  e5 : ∀ i, iblk1 V c 5 t i = (ot (i 0) (i 1) : EReal)
  e6 : ∀ i, iblk1 V c 6 t i = (l (i 0) (i 1) : EReal)
  e7 : ∀ i, iblk1 V c 7 t i = (δ (i 0) (i 1) : EReal)

variable {q qt k v o ot l δ} {c : Dev nD} {t : Fin cfg1.N} (B : Blocks V q qt k v o ot l δ c t)
include B

theorem dq_A (h0 : t.val % 16 = 0) (h1 : ¬t.val % 16 = 15) (y : S1x1024x1024.Idx) :
    (outsAt1 V c t.val t.isLt).1 y = (dqAt q k v o l δ (y 1) (y 2) : EReal) := by
  obtain ⟨e0, e1, e2, e3, e4, e5, e6, e7⟩ := B
  rw [outsAt1_A V c t h0 h1]
  dsimp only
  generalize iblk1 V c 0 t = x0 at *
  generalize iblk1 V c 1 t = x1 at *
  generalize iblk1 V c 2 t = x2 at *
  generalize iblk1 V c 3 t = x3 at *
  generalize iblk1 V c 4 t = x4 at *
  generalize iblk1 V c 5 t = x5 at *
  generalize iblk1 V c 6 t = x6 at *
  generalize iblk1 V c 7 t = x7 at *
  frame_out
  clear h0 h1
  canon_tiles x h
  all_goals
    open_payloads; pointwise
    refine sum_eq_coe fun j => ?_
    rw [EReal.coe_mul]
    refine congrArg₂ (· * ·) (dsc_coe q k v o l δ (fun d => real2 q (e0 _) ?_ ?_) (fun d => real2 k (e2 _) ?_ ?_)
      (real2 l (e6 _) ?_ ?_) (fun d => real2 o (e4 _) ?_ ?_) (fun d => real2 v (e3 _) ?_ ?_) (real2 δ (e7 _) ?_ ?_))
      (real2 k (e2 _) ?_ ?_)
    all_goals first | (blk_simp; try omega) | skip
    all_goals first | (dsimp only; omega) | exact (show (1 : ℕ) = _ by omega) | exact (show (0 : ℕ) = _ by omega)

theorem dq_B (h0 : ¬t.val % 16 = 0) (h1 : ¬t.val % 16 = 15) (y : S1x1024x1024.Idx) :
    (outsAt1 V c t.val t.isLt).1 y = (dqAt q k v o l δ (y 1) (y 2) : EReal) := by
  obtain ⟨e0, e1, e2, e3, e4, e5, e6, e7⟩ := B
  rw [outsAt1_B V c t h0 h1]
  dsimp only
  generalize iblk1 V c 0 t = x0 at *
  generalize iblk1 V c 1 t = x1 at *
  generalize iblk1 V c 2 t = x2 at *
  generalize iblk1 V c 3 t = x3 at *
  generalize iblk1 V c 4 t = x4 at *
  generalize iblk1 V c 5 t = x5 at *
  generalize iblk1 V c 6 t = x6 at *
  generalize iblk1 V c 7 t = x7 at *
  frame_out
  clear h0 h1
  canon_tiles x h
  all_goals
    open_payloads; pointwise
    refine sum_eq_coe fun j => ?_
    rw [EReal.coe_mul]
    refine congrArg₂ (· * ·) (dsc_coe q k v o l δ (fun d => real2 q (e0 _) ?_ ?_) (fun d => real2 k (e2 _) ?_ ?_)
      (real2 l (e6 _) ?_ ?_) (fun d => real2 o (e4 _) ?_ ?_) (fun d => real2 v (e3 _) ?_ ?_) (real2 δ (e7 _) ?_ ?_))
      (real2 k (e2 _) ?_ ?_)
    all_goals first | (blk_simp; try omega) | skip
    all_goals first | (dsimp only; omega) | exact (show (1 : ℕ) = _ by omega) | exact (show (0 : ℕ) = _ by omega)

theorem dq_C (h0 : ¬t.val % 16 = 0) (h1 : t.val % 16 = 15) (y : S1x1024x1024.Idx) :
    (outsAt1 V c t.val t.isLt).1 y = (dqAt q k v o l δ (y 1) (y 2) : EReal) := by
  obtain ⟨e0, e1, e2, e3, e4, e5, e6, e7⟩ := B
  rw [outsAt1_C V c t h0 h1]
  dsimp only
  generalize iblk1 V c 0 t = x0 at *
  generalize iblk1 V c 1 t = x1 at *
  generalize iblk1 V c 2 t = x2 at *
  generalize iblk1 V c 3 t = x3 at *
  generalize iblk1 V c 4 t = x4 at *
  generalize iblk1 V c 5 t = x5 at *
  generalize iblk1 V c 6 t = x6 at *
  generalize iblk1 V c 7 t = x7 at *
  frame_out
  clear h0 h1
  canon_tiles x h
  all_goals
    open_payloads; pointwise
    refine sum_eq_coe fun j => ?_
    rw [EReal.coe_mul]
    refine congrArg₂ (· * ·) (dsc_coe q k v o l δ (fun d => real2 q (e0 _) ?_ ?_) (fun d => real2 k (e2 _) ?_ ?_)
      (real2 l (e6 _) ?_ ?_) (fun d => real2 o (e4 _) ?_ ?_) (fun d => real2 v (e3 _) ?_ ?_) (real2 δ (e7 _) ?_ ?_))
      (real2 k (e2 _) ?_ ?_)
    all_goals first | (blk_simp; try omega) | skip
    all_goals first | (dsimp only; omega) | exact (show (1 : ℕ) = _ by omega) | exact (show (0 : ℕ) = _ by omega)

theorem dk_A (h0 : t.val % 16 = 0) (h1 : ¬t.val % 16 = 15) (y : S1024x1024.Idx) :
    (outsAt1 V c t.val t.isLt).2.1 y = (dkAt q qt k v o l δ (y 0) (y 1) : ℝ) := by
  obtain ⟨e0, e1, e2, e3, e4, e5, e6, e7⟩ := B
  rw [outsAt1_A V c t h0 h1]
  dsimp only
  generalize iblk1 V c 0 t = x0 at *
  generalize iblk1 V c 1 t = x1 at *
  generalize iblk1 V c 2 t = x2 at *
  generalize iblk1 V c 3 t = x3 at *
  generalize iblk1 V c 4 t = x4 at *
  generalize iblk1 V c 5 t = x5 at *
  generalize iblk1 V c 6 t = x6 at *
  generalize iblk1 V c 7 t = x7 at *
  frame_open
  simp (disch := decide) only [↓ View.readCov_skip, ↓ View.readCov_cons_toLoadRect, ↓ View.readCov_fill]
  frame_out
  clear h0 h1
  refine (canon_append_of_cover [_, _, _, _, _, _, _, _] [_] y (View.cover_of_tiled_head _ _ _ (by rfl) y)).trans ?_
  canon_tiles x h
  all_goals
    open_payloads; pointwise
    refine sum_eq_coe fun j => ?_
    rw [EReal.coe_mul]
    refine congrArg₂ (· * ·) (real2 qt (e1 _) ?_ ?_)
      (dsc_coe q k v o l δ (fun d => real2 q (e0 _) ?_ ?_) (fun d => real2 k (e2 _) ?_ ?_)
      (real2 l (e6 _) ?_ ?_) (fun d => real2 o (e4 _) ?_ ?_) (fun d => real2 v (e3 _) ?_ ?_) (real2 δ (e7 _) ?_ ?_))
    all_goals first | (blk_simp; try omega) | skip
    all_goals first | (dsimp only; omega) | exact (show (1 : ℕ) = _ by omega) | exact (show (0 : ℕ) = _ by omega)

theorem dk_B (h0 : ¬t.val % 16 = 0) (h1 : ¬t.val % 16 = 15)
    (p : ℕ → ℕ → ℝ) (hp : ∀ i, (outsAt1 V c (t.val - 1) (Nat.lt_of_le_of_lt (Nat.sub_le _ _) t.isLt)).2.1 i = (p (i 0) (i 1) : EReal)) (y : S1024x1024.Idx) :
    (outsAt1 V c t.val t.isLt).2.1 y = (p (y 0) (y 1) + dkAt q qt k v o l δ (y 0) (y 1) : ℝ) := by
  obtain ⟨e0, e1, e2, e3, e4, e5, e6, e7⟩ := B
  rw [outsAt1_B V c t h0 h1]
  dsimp only
  generalize iblk1 V c 0 t = x0 at *
  generalize iblk1 V c 1 t = x1 at *
  generalize iblk1 V c 2 t = x2 at *
  generalize iblk1 V c 3 t = x3 at *
  generalize iblk1 V c 4 t = x4 at *
  generalize iblk1 V c 5 t = x5 at *
  generalize iblk1 V c 6 t = x6 at *
  generalize iblk1 V c 7 t = x7 at *
  frame_out
  clear h0 h1
  canon_tiles x h
  all_goals
    open_payloads; pointwise
    rw [EReal.coe_add]
    refine congrArg₂ (· + ·) (real2 p (hp _) ?_ ?_) ?_
    rotate_left 2
    refine sum_eq_coe fun j => ?_
    rw [EReal.coe_mul]
    refine congrArg₂ (· * ·) (real2 qt (e1 _) ?_ ?_)
      (dsc_coe q k v o l δ (fun d => real2 q (e0 _) ?_ ?_) (fun d => real2 k (e2 _) ?_ ?_)
      (real2 l (e6 _) ?_ ?_) (fun d => real2 o (e4 _) ?_ ?_) (fun d => real2 v (e3 _) ?_ ?_) (real2 δ (e7 _) ?_ ?_))
    all_goals first | (blk_simp; try omega) | skip
    all_goals first | (dsimp only; omega) | exact (show (1 : ℕ) = _ by omega) | exact (show (0 : ℕ) = _ by omega)

set_option maxHeartbeats 800000 in
theorem dk_C (h0 : ¬t.val % 16 = 0) (h1 : t.val % 16 = 15)
    (p : ℕ → ℕ → ℝ) (hp : ∀ i, (outsAt1 V c (t.val - 1) (Nat.lt_of_le_of_lt (Nat.sub_le _ _) t.isLt)).2.1 i = (p (i 0) (i 1) : EReal)) (y : S1024x1024.Idx) :
    (outsAt1 V c t.val t.isLt).2.1 y = ((p (y 0) (y 1) + dkAt q qt k v o l δ (y 0) (y 1)) * Real.log 2 : ℝ) := by
  obtain ⟨e0, e1, e2, e3, e4, e5, e6, e7⟩ := B
  rw [outsAt1_C V c t h0 h1]
  dsimp only
  generalize iblk1 V c 0 t = x0 at *
  generalize iblk1 V c 1 t = x1 at *
  generalize iblk1 V c 2 t = x2 at *
  generalize iblk1 V c 3 t = x3 at *
  generalize iblk1 V c 4 t = x4 at *
  generalize iblk1 V c 5 t = x5 at *
  generalize iblk1 V c 6 t = x6 at *
  generalize iblk1 V c 7 t = x7 at *
  frame_out
  clear h0 h1
  refine (pay1_apply _ y).trans ?_
  rw [EReal.coe_mul]
  refine congrArg (· * ((Real.log 2 : ℝ) : EReal)) ?_
  refine (congrFun (View.readCov_eq_canon' (Val := Elt Ideal) (s := S1024x1024) (e := .f32) _ _
    (Rect.unit (s := S1024x1024) ![0, 0] S1024x1024.size inb_S1024x1024_S1024x1024_0_0).toLoadRect) y).trans ?_
  rw [show (Rect.unit (s := S1024x1024) ![0, 0] S1024x1024.size inb_S1024x1024_S1024x1024_0_0).toLoadRect.idx y = y from
    funext fun a => Fin.ext (by fin_cases a <;> simp [Rect.toLoadRect])]
  canon_tiles x h
  all_goals
    open_payloads; pointwise
    rw [EReal.coe_add]
    refine congrArg₂ (· + ·) (real2 p (hp _) ?_ ?_) ?_
    rotate_left 2
    refine sum_eq_coe fun j => ?_
    rw [EReal.coe_mul]
    refine congrArg₂ (· * ·) (real2 qt (e1 _) ?_ ?_)
      (dsc_coe q k v o l δ (fun d => real2 q (e0 _) ?_ ?_) (fun d => real2 k (e2 _) ?_ ?_)
      (real2 l (e6 _) ?_ ?_) (fun d => real2 o (e4 _) ?_ ?_) (fun d => real2 v (e3 _) ?_ ?_) (real2 δ (e7 _) ?_ ?_))
    all_goals first | (blk_simp; try omega) | skip
    all_goals first | (dsimp only; omega) | exact (show (1 : ℕ) = _ by omega) | exact (show (0 : ℕ) = _ by omega)

theorem dv_A (h0 : t.val % 16 = 0) (h1 : ¬t.val % 16 = 15) (y : S512x1024.Idx) :
    (outsAt1 V c t.val t.isLt).2.2 y = (dvAt q k ot l (y 0) (y 1) : ℝ) := by
  obtain ⟨e0, e1, e2, e3, e4, e5, e6, e7⟩ := B
  rw [outsAt1_A V c t h0 h1]
  dsimp only
  generalize iblk1 V c 0 t = x0 at *
  generalize iblk1 V c 1 t = x1 at *
  generalize iblk1 V c 2 t = x2 at *
  generalize iblk1 V c 3 t = x3 at *
  generalize iblk1 V c 4 t = x4 at *
  generalize iblk1 V c 5 t = x5 at *
  generalize iblk1 V c 6 t = x6 at *
  generalize iblk1 V c 7 t = x7 at *
  frame_open
  simp (disch := decide) only [↓ View.readCov_skip, ↓ View.readCov_cons_toLoadRect, ↓ View.readCov_fill]
  frame_out
  clear h0 h1
  refine (canon_append_of_cover [_, _, _, _, _, _, _, _] [_] y (View.cover_of_tiled_head _ _ _ (by rfl) y)).trans ?_
  canon_tiles x h
  all_goals
    open_payloads; pointwise
    refine sum_eq_coe fun j => ?_
    rw [EReal.coe_mul]
    refine congrArg₂ (· * ·) (real2 ot (e5 _) ?_ ?_)
      (wt_coe q k l (fun d => real2 q (e0 _) ?_ ?_) (fun d => real2 k (e2 _) ?_ ?_) (real2 l (e6 _) ?_ ?_))
    all_goals first | (blk_simp; try omega) | skip
    all_goals first | (dsimp only; omega) | exact (show (1 : ℕ) = _ by omega) | exact (show (0 : ℕ) = _ by omega)

theorem dv_B (h0 : ¬t.val % 16 = 0) (h1 : ¬t.val % 16 = 15)
    (p : ℕ → ℕ → ℝ) (hp : ∀ i, (outsAt1 V c (t.val - 1) (Nat.lt_of_le_of_lt (Nat.sub_le _ _) t.isLt)).2.2 i = (p (i 0) (i 1) : EReal)) (y : S512x1024.Idx) :
    (outsAt1 V c t.val t.isLt).2.2 y = (p (y 0) (y 1) + dvAt q k ot l (y 0) (y 1) : ℝ) := by
  obtain ⟨e0, e1, e2, e3, e4, e5, e6, e7⟩ := B
  rw [outsAt1_B V c t h0 h1]
  dsimp only
  generalize iblk1 V c 0 t = x0 at *
  generalize iblk1 V c 1 t = x1 at *
  generalize iblk1 V c 2 t = x2 at *
  generalize iblk1 V c 3 t = x3 at *
  generalize iblk1 V c 4 t = x4 at *
  generalize iblk1 V c 5 t = x5 at *
  generalize iblk1 V c 6 t = x6 at *
  generalize iblk1 V c 7 t = x7 at *
  frame_out
  clear h0 h1
  canon_tiles x h
  all_goals
    open_payloads; pointwise
    rw [EReal.coe_add]
    refine congrArg₂ (· + ·) (real2 p (hp _) ?_ ?_) ?_
    rotate_left 2
    refine sum_eq_coe fun j => ?_
    rw [EReal.coe_mul]
    refine congrArg₂ (· * ·) (real2 ot (e5 _) ?_ ?_)
      (wt_coe q k l (fun d => real2 q (e0 _) ?_ ?_) (fun d => real2 k (e2 _) ?_ ?_) (real2 l (e6 _) ?_ ?_))
    all_goals first | (blk_simp; try omega) | skip
    all_goals first | (dsimp only; omega) | exact (show (1 : ℕ) = _ by omega) | exact (show (0 : ℕ) = _ by omega)

theorem dv_C (h0 : ¬t.val % 16 = 0) (h1 : t.val % 16 = 15)
    (p : ℕ → ℕ → ℝ) (hp : ∀ i, (outsAt1 V c (t.val - 1) (Nat.lt_of_le_of_lt (Nat.sub_le _ _) t.isLt)).2.2 i = (p (i 0) (i 1) : EReal)) (y : S512x1024.Idx) :
    (outsAt1 V c t.val t.isLt).2.2 y = (p (y 0) (y 1) + dvAt q k ot l (y 0) (y 1) : ℝ) := by
  obtain ⟨e0, e1, e2, e3, e4, e5, e6, e7⟩ := B
  rw [outsAt1_C V c t h0 h1]
  dsimp only
  generalize iblk1 V c 0 t = x0 at *
  generalize iblk1 V c 1 t = x1 at *
  generalize iblk1 V c 2 t = x2 at *
  generalize iblk1 V c 3 t = x3 at *
  generalize iblk1 V c 4 t = x4 at *
  generalize iblk1 V c 5 t = x5 at *
  generalize iblk1 V c 6 t = x6 at *
  generalize iblk1 V c 7 t = x7 at *
  frame_out
  clear h0 h1
  canon_tiles x h
  all_goals
    open_payloads; pointwise
    rw [EReal.coe_add]
    refine congrArg₂ (· + ·) (real2 p (hp _) ?_ ?_) ?_
    rotate_left 2
    refine sum_eq_coe fun j => ?_
    rw [EReal.coe_mul]
    refine congrArg₂ (· * ·) (real2 ot (e5 _) ?_ ?_)
      (wt_coe q k l (fun d => real2 q (e0 _) ?_ ?_) (fun d => real2 k (e2 _) ?_ ?_) (real2 l (e6 _) ?_ ?_))
    all_goals first | (blk_simp; try omega) | skip
    all_goals first | (dsimp only; omega) | exact (show (1 : ℕ) = _ by omega) | exact (show (0 : ℕ) = _ by omega)

end Cert.MlaIdeal.RefValue

end
-- ==== Proof.Mla.BackSum.lean ====
/-
  The second region of the kernel program: the key's and the value's gradients summed over the query tiles, the query's
  gradient kept apart for each key tile.
-/
module

public import proofs.«01_k».proof.Proof.Mla.Back
public import proofs.«01_k».proof.Proof.Gen.MlaIdeal.Frame
public import Idealize.ShloMosaic.Lib.StableHlo.RunRead
public import Idealize.ShloMosaic.Lib.Pipeline.ValueKit
public import Idealize.ShloMosaic.Lib.Pipeline.Value
public import Idealize.ShloMosaic.Lib.Claim
public import Idealize.ShloMosaic.Lib.Pointwise

@[expose] public section

set_option maxRecDepth 16384

noncomputable section

open Idealize.ShloMosaic Idealize.ShloMosaic.TcCoe Idealize.SL.Sem Idealize.ShloMosaic.StableHlo

namespace Cert.MlaIdeal.RefValue

open Cert.MlaIdeal Cert.MlaIdeal.Gen Cert.MlaModel

variable {V : (c : Dev nD) → (b : Ref sig .tc) → Buf (Elt Ideal) ((c : Thread nD τ).loc b)}

/-- The whole arrays that the second region reads hold these numbers. -/
structure Arrays (V : (c : Dev nD) → (b : Ref sig .tc) → Buf (Elt Ideal) ((c : Thread nD τ).loc b))
    (c : Dev nD) (q k v o l δ : ℕ → ℕ → ℝ) : Prop where
  a94 : ∀ i : S16384x1024.Idx, V c main_v94 i = (q (i 0) (i 1) : EReal)
  a96 : ∀ i : S1024x16384.Idx, V c main_v96 i = (q (i 1) (i 0) : EReal)
  a98 : ∀ i : S16384x1024.Idx, V c main_v98 i = (k (i 0) (i 1) : EReal)
  a99 : ∀ i : S16384x1024.Idx, V c main_v99 i = (v (i 0) (i 1) : EReal)
  a92 : ∀ i : S16384x512.Idx, V c main_v92 i = (o (i 0) (i 1) : EReal)
  a100 : ∀ i : S512x16384.Idx, V c main_v100 i = (o (i 1) (i 0) : EReal)
  a87 : ∀ i : S8x16384x1.Idx, V c main_v87 i = (l (i 0) (i 1) : EReal)
  a93 : ∀ i : S8x16384x1.Idx, V c main_v93 i = (δ (i 0) (i 1) : EReal)

theorem idx1 : ∀ t : Fin cfg1.N, win1_0.index t = ![t.val % 16, 0] ∧ win1_1.index t = ![0, t.val % 16] ∧
    win1_2.index t = ![t.val / 16, 0] ∧ win1_3.index t = ![t.val / 16, 1] ∧ win1_4.index t = ![t.val % 16, 0] ∧
    win1_5.index t = ![0, t.val % 16] ∧ win1_6.index t = ![0, t.val % 16, 0] ∧ win1_7.index t = ![0, t.val % 16, 0] ∧
    win1_8.index t = ![t.val / 16, t.val % 16, 0] ∧ win1_9.index t = ![0, t.val / 16] ∧ win1_10.index t = ![0, t.val / 16] :=
  (by decide +kernel : ∀ t : Fin grid1.N, _)

variable {c : Dev nD} {q k v o l δ : ℕ → ℕ → ℝ} (A : Arrays V c q k v o l δ)
include A

/-- Each grid point's blocks are the arrays' tiles. -/
theorem blocks (t : Fin cfg1.N) : Blocks V (fun a b => q (t.val % 16 * 1024 + a) b) (fun a b => q (t.val % 16 * 1024 + b) a)
    (fun a b => k (t.val / 16 * 1024 + a) b) (fun a b => v (t.val / 16 * 1024 + a) (512 + b))
    (fun a b => o (t.val % 16 * 1024 + a) b) (fun a b => o (t.val % 16 * 1024 + b) a)
    (fun a b => l a (t.val % 16 * 1024 + b)) (fun a b => δ a (t.val % 16 * 1024 + b)) c t := by
  obtain ⟨a94, a96, a98, a99, a92, a100, a87, a93⟩ := A
  refine ⟨fun i => ?_, fun i => ?_, fun i => ?_, fun i => ?_, fun i => ?_, fun i => ?_, fun i => ?_, fun i => ?_⟩
  all_goals
    unfold iblk1
    rw [View.read_apply]
    first
    | exact (a94 _).trans (by blk_simp [idx1 t])
    | exact (a96 _).trans (by blk_simp [idx1 t])
    | exact (a98 _).trans (by blk_simp [idx1 t])
    | exact (a99 _).trans (by blk_simp [idx1 t])
    | exact (a92 _).trans (by blk_simp [idx1 t])
    | exact (a100 _).trans (by blk_simp [idx1 t])
    | exact (a87 _).trans (by blk_simp [idx1 t])
    | exact (a93 _).trans (by blk_simp [idx1 t])

/-- The key's and the value's gradients summed over the first `n` query rows. -/
def dkSum (q k v o l δ : ℕ → ℕ → ℝ) (n a u : ℕ) : ℝ :=
  ∑ r ∈ Finset.range n, q r a * dsc q k (fun b d => v b (512 + d)) o l δ (a / 128) r u
def dvSum (q k o l : ℕ → ℕ → ℝ) (n a u : ℕ) : ℝ := ∑ r ∈ Finset.range n, o r a * wt q k l (a / 64) r u

omit A in
theorem dk_tile (q k v o l δ : ℕ → ℕ → ℝ) (i j a b : ℕ) :
    dkAt (fun a b => q (i * 1024 + a) b) (fun a b => q (i * 1024 + b) a) (fun a b => k (j * 1024 + a) b)
      (fun a b => v (j * 1024 + a) (512 + b)) (fun a b => o (i * 1024 + a) b) (fun a b => l a (i * 1024 + b))
      (fun a b => δ a (i * 1024 + b)) a b
    = ∑ r ∈ Finset.range 1024, q (i * 1024 + r) a * dsc q k (fun b d => v b (512 + d)) o l δ (a / 128) (i * 1024 + r) (j * 1024 + b) :=
  Fin.sum_univ_eq_sum_range (fun r => q (i * 1024 + r) a * dsc q k (fun b d => v b (512 + d)) o l δ (a / 128) (i * 1024 + r) (j * 1024 + b)) 1024

omit A in
theorem dv_tile (q k o l : ℕ → ℕ → ℝ) (i j a b : ℕ) :
    dvAt (fun a b => q (i * 1024 + a) b) (fun a b => k (j * 1024 + a) b) (fun a b => o (i * 1024 + b) a)
      (fun a b => l a (i * 1024 + b)) a b
    = ∑ r ∈ Finset.range 1024, o (i * 1024 + r) a * wt q k l (a / 64) (i * 1024 + r) (j * 1024 + b) :=
  Fin.sum_univ_eq_sum_range (fun r => o (i * 1024 + r) a * wt q k l (a / 64) (i * 1024 + r) (j * 1024 + b)) 1024

/-- Before the last query tile the first output holds the sum so far. -/
theorem dk_acc (n : ℕ) : ∀ (h : n < cfg1.N), n % 16 < 15 → ∀ y : S1024x1024.Idx,
    (outsAt1 V c n h).2.1 y = (dkSum q k v o l δ ((n % 16 + 1) * 1024) (y 0) (n / 16 * 1024 + y 1) : EReal) := by
  induction n with
  | zero =>
    intro h _ y
    rw [dk_A V (blocks A ⟨0, h⟩) (by simp) (by simp) y, dk_tile]
    simp [dkSum]
  | succ n ih =>
    intro h hn y
    by_cases h0 : (n + 1) % 16 = 0
    · rw [dk_A V (blocks A ⟨n + 1, h⟩) h0 (by show ¬(n + 1) % 16 = 15; omega) y, dk_tile]
      simp [dkSum, h0]
    · have e1 : n % 16 + 1 = (n + 1) % 16 := by omega
      have e2 : n / 16 = (n + 1) / 16 := by omega
      rw [dk_B V (blocks A ⟨n + 1, h⟩) h0 (by show ¬(n + 1) % 16 = 15; omega) (fun a b => dkSum q k v o l δ ((n % 16 + 1) * 1024) a (n / 16 * 1024 + b))
        (fun i => ih _ (by omega) i) y, dk_tile]
      simp only [dkSum, e1, e2, add_mul, Finset.sum_range_add, one_mul]

theorem dv_acc (n : ℕ) : ∀ (h : n < cfg1.N), ∀ y : S512x1024.Idx,
    (outsAt1 V c n h).2.2 y = (dvSum q k o l ((n % 16 + 1) * 1024) (y 0) (n / 16 * 1024 + y 1) : EReal) := by
  induction n with
  | zero =>
    intro h y
    rw [dv_A V (blocks A ⟨0, h⟩) (by simp) (by simp) y, dv_tile]
    simp [dvSum]
  | succ n ih =>
    intro h y
    by_cases h0 : (n + 1) % 16 = 0
    · rw [dv_A V (blocks A ⟨n + 1, h⟩) h0 (by show ¬(n + 1) % 16 = 15; omega) y, dv_tile]
      simp [dvSum, h0]
    · have e1 : n % 16 + 1 = (n + 1) % 16 := by omega
      have e2 : n / 16 = (n + 1) / 16 := by omega
      by_cases h1 : (n + 1) % 16 = 15
      · rw [dv_C V (blocks A ⟨n + 1, h⟩) h0 h1 (fun a b => dvSum q k o l ((n % 16 + 1) * 1024) a (n / 16 * 1024 + b))
          (fun i => ih _ i) y, dv_tile]
        simp only [dvSum, e1, e2, add_mul, Finset.sum_range_add, one_mul]
      · rw [dv_B V (blocks A ⟨n + 1, h⟩) h0 h1 (fun a b => dvSum q k o l ((n % 16 + 1) * 1024) a (n / 16 * 1024 + b))
          (fun i => ih _ i) y, dv_tile]
        simp only [dvSum, e1, e2, add_mul, Finset.sum_range_add, one_mul]

/-- The key's gradient, transposed. -/
theorem final1_9 : (dat1 V c).arrAt 9 cfg1.N
    = fun i : S1024x16384.Idx => ((dkSum q k v o l δ 16384 (i 0) (i 1) * Real.log 2 : ℝ) : EReal) := by
  refine (dat1 V c).arrAt_eq_of_covers 9 _ (by decide +kernel) fun t hf y => ?_
  have h1 : t.val % 16 = 15 := (flush1_9 t).mp hf
  blk_simp [idx1 t]
  rw [after1_9]
  refine (dk_C V (blocks A t) (by omega) h1 (fun a b => dkSum q k v o l δ (((t.val - 1) % 16 + 1) * 1024) a ((t.val - 1) / 16 * 1024 + b))
    (fun i => dk_acc A _ _ (by omega) i) y).trans ?_
  rw [dk_tile]
  have e1 : (t.val - 1) % 16 = 14 := by omega
  have e2 : (t.val - 1) / 16 = t.val / 16 := by omega
  rw [e1, e2, h1]
  simp only [dkSum, show 16384 = (14 + 1) * 1024 + 1024 from rfl, Finset.sum_range_add]

/-- The value's gradient, transposed. -/
theorem final1_10 : (dat1 V c).arrAt 10 cfg1.N
    = fun i : S512x16384.Idx => (dvSum q k o l 16384 (i 0) (i 1) : EReal) := by
  refine (dat1 V c).arrAt_eq_of_covers 10 _ (by decide +kernel) fun t hf y => ?_
  have h1 : t.val % 16 = 15 := (flush1_10 t).mp hf
  blk_simp [idx1 t]
  rw [after1_10]
  refine (dv_acc A _ _ y).trans ?_
  rw [h1]

/-- The query's gradient from each key tile. -/
theorem final1_8 : (dat1 V c).arrAt 8 cfg1.N
    = fun i : S16x16384x1024.Idx => ((∑ m : Fin 1024, dsc q k (fun b d => v b (512 + d)) o l δ ((i 2 : ℕ) / 128) (i 1) ((i 0 : ℕ) * 1024 + m)
      * k ((i 0 : ℕ) * 1024 + m) (i 2) : ℝ) : EReal) := by
  refine (dat1 V c).arrAt_eq_of_covers 8 _ (by decide +kernel) fun t hf y => ?_
  blk_simp [idx1 t]
  rw [after1_8]
  by_cases h0 : t.val % 16 = 0
  · exact dq_A V (blocks A t) h0 (by omega) y
  · by_cases h1 : t.val % 16 = 15
    · exact dq_C V (blocks A t) h0 h1 y
    · exact dq_B V (blocks A t) h0 h1 y

end Cert.MlaIdeal.RefValue

end
-- ==== Proof.Mla.Host.lean ====
/-
  The kernel program's host lines before its first region: for real arguments every buffer they leave holds the real
  numbers of `Model.lean`, padded and laid out as the regions read them.
-/
module

public import proofs.«01_k».proof.Proof.Mla.Model
public import proofs.«01_k».proof.Proof.Mla.Ref
public import proofs.«01_k».proof.Proof.Gen.MlaIdeal.Frame
public import Idealize.ShloMosaic.Lib.StableHlo.RunRead
public import Idealize.ShloMosaic.Lib.Pipeline.ValueKit
public import Idealize.ShloMosaic.Lib.Pipeline.Value
public import Idealize.ShloMosaic.Lib.Claim
public import Idealize.ShloMosaic.Lib.Pointwise

@[expose] public section

set_option maxRecDepth 16384

noncomputable section

open Idealize.ShloMosaic Idealize.ShloMosaic.TcCoe Idealize.SL.Sem Idealize.ShloMosaic.StableHlo

namespace Cert.MlaIdeal.RefValue

open Cert.MlaIdeal Cert.MlaIdeal.Gen Cert.MlaModel Cert.MlaRefIdeal.RefValue

/-- Each buffer is written once, so what the line leaves in it is there as soon as it is written. -/
theorem upto_hostOps0 (V : Valuation τ sig (Elt Ideal)) (n : ℕ) (r : Ref sig .tc) (h : r ∉ hostOps0_W.drop n) :
    upto (hostOps0 (F := Ideal)) V n (Proc.devRef .tc r) = after (hostOps0 (F := Ideal)) V (Proc.devRef .tc r) := by
  have hW : (hostOps0 (F := Ideal)).map HloOp.writes = hostOps0_W.map fun w => {Proc.devRef (τ := τ) .tc w} := rfl
  have hd : ((hostOps0 (F := Ideal)).drop n).map HloOp.writes = (hostOps0_W.drop n).map fun w => {Proc.devRef (τ := τ) .tc w} := by
    rw [List.map_drop, hW, List.map_drop]
  have e := after_unwritten (hostOps0_W.drop n) hd h (upto (hostOps0 (F := Ideal)) V n)
  rw [← e, upto, ← after_append, List.take_append_drop]

/-- What the whole line leaves in a buffer, as a rule that stops a read at any later operation. -/
theorem stop {V : Valuation τ sig (Elt Ideal)} {r : Ref sig .tc} {v : (Proc.devRef (τ := τ) .tc r).ty.Contents (Elt Ideal)}
    (hr : after (hostOps0 (F := Ideal)) V (Proc.devRef .tc r) = v) (n : ℕ) (h : r ∉ hostOps0_W.drop n) :
    upto (hostOps0 (F := Ideal)) V n (no_index (Proc.devRef .tc r)) = v := (upto_hostOps0 V n r h).trans hr

variable (V : Valuation τ sig (Elt Ideal)) (q kv : ℕ → ℕ → ℕ → ℝ) (kr ct : ℕ → ℕ → ℝ)

/-- The buffers hold these real arrays as their arguments. -/
structure Args : Prop where
  a0 : ∀ i : S16384x8x96.Idx, V (Proc.devRef .tc main_arg0) i = (q (i 0) (i 1) (i 2) : EReal)
  a1 : ∀ i : S16384x8x128.Idx, V (Proc.devRef .tc main_arg1) i = (kv (i 0) (i 1) (i 2) : EReal)
  a2 : ∀ i : S16384x32.Idx, V (Proc.devRef .tc main_arg2) i = (kr (i 0) (i 1) : EReal)
  a3 : ∀ i : S16384x512.Idx, V (Proc.devRef .tc main_arg3) i = (ct (i 0) (i 1) : EReal)

/-! ## The tables of the rotation -/

theorem h12 : after (hostOps0 (F := Ideal)) V (Proc.devRef .tc main_v12)
    = fun i : S16384x16.Idx => ((angle (i 0) (i 1) : ℝ) : EReal) := by
  refine funext fun (i : S16384x16.Idx) => ?_
  after_reads_simp
  pointwise
  have a : (i 0 : ℕ) < 16384 := (i 0).isLt
  have b : (i 1 : ℕ) < 16 := (i 1).isLt
  rw [lit_16, lit_10000]
  exact angle_coe _ _ (by omega) (by omega)

theorem h15 : after (hostOps0 (F := Ideal)) V (Proc.devRef .tc main_v15)
    = fun i : S16384x32.Idx => ((Real.cos (angle (i 0) ((i 1 : ℕ) % 16)) : ℝ) : EReal) := by
  refine funext fun (i : S16384x32.Idx) => ?_
  after_reads_simp [stop (h12 V)]
  pointwise
  have b : (i 1 : ℕ) < 32 := (i 1).isLt
  simp only [Ideal.cos_coe]
  split_ifs <;> congr 3 <;> omega

theorem h18 : after (hostOps0 (F := Ideal)) V (Proc.devRef .tc main_v18)
    = fun i : S16384x32.Idx => ((Real.sin (angle (i 0) ((i 1 : ℕ) % 16)) : ℝ) : EReal) := by
  refine funext fun (i : S16384x32.Idx) => ?_
  after_reads_simp [stop (h12 V)]
  pointwise
  have b : (i 1 : ℕ) < 32 := (i 1).isLt
  simp only [Ideal.sin_coe]
  split_ifs <;> congr 3 <;> omega

theorem h21 : after (hostOps0 (F := Ideal)) V (Proc.devRef .tc main_v21)
    = fun i : S16384x128.Idx => ((cosCol (i 0) (i 1) : ℝ) : EReal) := by
  refine funext fun (i : S16384x128.Idx) => ?_
  simp (disch := decide) only [readAfter, nary_result']
  pointwise
  after_reads_simp [stop (h15 V)]
  pointwise
  have b : (i 1 : ℕ) < 128 := (i 1).isLt
  simp only [cosCol]
  split_ifs <;> first | omega | rfl | (congr 3; omega)

theorem h24 : after (hostOps0 (F := Ideal)) V (Proc.devRef .tc main_v24)
    = fun i : S16384x128.Idx => ((sinCol (i 0) (i 1) : ℝ) : EReal) := by
  refine funext fun (i : S16384x128.Idx) => ?_
  simp (disch := decide) only [readAfter, nary_result']
  pointwise
  after_reads_simp [stop (h18 V)]
  pointwise
  have b : (i 1 : ℕ) < 128 := (i 1).isLt
  simp only [sinCol]
  split_ifs <;> first | omega | rfl | (congr 3; omega)

theorem h28 : after (hostOps0 (F := Ideal)) V (Proc.devRef .tc main_v28)
    = fun i : S64x16384.Idx => ((if (i 0 : ℕ) < 32 then Real.cos (angle (i 1) ((i 0 : ℕ) % 16))
        else Real.sin (angle (i 1) ((i 0 : ℕ) % 16)) : ℝ) : EReal) := by
  refine funext fun (i : S64x16384.Idx) => ?_
  after_reads_simp
  pointwise
  simp (disch := decide) only [stop (h15 V), stop (h18 V)]
  have b : (i 0 : ℕ) < 64 := (i 0).isLt
  by_cases c : (i 0 : ℕ) < 32
  · rw [dif_pos c, if_pos c]; rfl
  · rw [dif_neg c, if_neg c]
    refine congrArg (fun j => ((Real.sin (angle (i 1) j) : ℝ) : EReal)) ?_
    show ((i 0 : ℕ) - 32) % 16 = _
    omega

/-! ## Queries and keys -/

theorem lit_2 : Ideal.ofBits .f32 0x40000000#32 = ((2 : ℝ) : EReal) := by
  simp [Ideal.ofBits, Ideal.ieee, -EReal.coe_mul]; norm_num

variable {V} {q kv kr ct} (hV : Args V q kv kr ct)

include hV in
theorem h31 : after (hostOps0 (F := Ideal)) V (Proc.devRef .tc main_v31)
    = fun i : S16384x1024.Idx => ((if (i 1 : ℕ) % 128 < 96 then q (i 0) ((i 1 : ℕ) / 128) ((i 1 : ℕ) % 128) else 0 : ℝ) : EReal) := by
  refine funext fun (i : S16384x1024.Idx) => ?_
  after_reads_simp
  pointwise
  after_reads_simp
  pointwise
  simp only [hV.a0]
  split_ifs <;> rfl

include hV in
theorem h40 : after (hostOps0 (F := Ideal)) V (Proc.devRef .tc main_v40)
    = fun i : S16384x1024.Idx => ((if (i 1 : ℕ) % 128 < 64 then 0
        else if (i 1 : ℕ) % 128 - 64 < 32 then
          if (i 1 : ℕ) % 128 - 64 < 16 then -q (i 0) ((i 1 : ℕ) / 128) (64 + (16 + ((i 1 : ℕ) % 128 - 64)))
          else q (i 0) ((i 1 : ℕ) / 128) (64 + ((i 1 : ℕ) % 128 - 64 - 16))
        else 0 : ℝ) : EReal) := by
  refine funext fun (i : S16384x1024.Idx) => ?_
  after_reads_simp
  pointwise
  after_reads_simp
  pointwise
  simp only [hV.a0]
  split_ifs <;> rfl

theorem h41 : after (hostOps0 (F := Ideal)) V (Proc.devRef .tc main_v41)
    = fun i : S16384x1024.Idx => ((cosCol (i 0) ((i 1 : ℕ) % 128) : ℝ) : EReal) := by
  refine funext fun (i : S16384x1024.Idx) => ?_
  simp (disch := decide) only [readAfter, nary_result']
  pointwise
  simp (disch := decide) only [stop (h21 V)]
  pointwise
  have b : (i 1 : ℕ) < 1024 := (i 1).isLt
  split_ifs <;> congr 2 <;> omega

theorem h43 : after (hostOps0 (F := Ideal)) V (Proc.devRef .tc main_v43)
    = fun i : S16384x1024.Idx => ((sinCol (i 0) ((i 1 : ℕ) % 128) : ℝ) : EReal) := by
  refine funext fun (i : S16384x1024.Idx) => ?_
  simp (disch := decide) only [readAfter, nary_result']
  pointwise
  simp (disch := decide) only [stop (h24 V)]
  pointwise
  have b : (i 1 : ℕ) < 1024 := (i 1).isLt
  split_ifs <;> congr 2 <;> omega

include hV in
theorem h45 : after (hostOps0 (F := Ideal)) V (Proc.devRef .tc main_v45)
    = fun i : S16384x1024.Idx => ((qp q (i 0) ((i 1 : ℕ) / 128) ((i 1 : ℕ) % 128) : ℝ) : EReal) := by
  refine funext fun (i : S16384x1024.Idx) => ?_
  after_reads_simp [stop (h31 hV), stop (h40 hV), stop (h41 (V := V)), stop (h43 (V := V))]
  pointwise
  rw [← EReal.coe_mul, ← EReal.coe_mul, ← EReal.coe_add]
  refine congrArg _ ?_
  have b : (i 1 : ℕ) % 128 < 128 := Nat.mod_lt _ (by omega)
  generalize (i 1 : ℕ) % 128 = d at b ⊢
  generalize (i 1 : ℕ) / 128 = h
  simp only [qp, qr, rope, cosCol, sinCol]
  split_ifs <;> first | omega | simp only [mul_zero, add_zero, mul_one, zero_mul] | skip
  · rw [neg_mul, ← sub_eq_add_neg, show 64 + (d - 64) = d by omega]
  · rw [add_comm, show d - 64 - 16 = d - 80 by omega, show 64 + (16 + (d - 80)) = d by omega]

include hV in
theorem h50 : after (hostOps0 (F := Ideal)) V (Proc.devRef .tc main_v50)
    = fun i : S16384x1024.Idx => ((qp q (i 0) ((i 1 : ℕ) / 128) ((i 1 : ℕ) % 128) * scale / Real.log 2 : ℝ) : EReal) := by
  refine funext fun (i : S16384x1024.Idx) => ?_
  after_reads_simp [stop (h45 hV)]
  pointwise
  rw [lit_scale, lit_2, Ideal.log_coe, if_neg (by norm_num), ← EReal.coe_mul, div_coe' _ _ (Real.log_pos one_lt_two).ne']

include hV in
theorem h60 : after (hostOps0 (F := Ideal)) V (Proc.devRef .tc main_v60)
    = fun i : S16384x32.Idx => ((rope (fun j => kr (i 0) j) (i 0) (i 1) : ℝ) : EReal) := by
  refine funext fun (i : S16384x32.Idx) => ?_
  after_reads_simp [stop (h15 V), stop (h18 V)]
  pointwise
  after_reads_simp [stop (h15 V), stop (h18 V)]
  pointwise
  have b : (i 1 : ℕ) < 32 := (i 1).isLt
  simp only [hV.a2, rope]
  by_cases c : (i 1 : ℕ) < 16
  · rw [dif_pos c, if_pos c, Nat.mod_eq_of_lt c, sub_eq_add_neg, ← neg_mul]; norm_cast
  · rw [dif_neg c, if_neg c, show (i 1 : ℕ) % 16 = (i 1 : ℕ) - 16 by omega, show 16 + ((i 1 : ℕ) - 16) = (i 1 : ℕ) by omega, add_comm]; norm_cast

include hV in
theorem h65 : after (hostOps0 (F := Ideal)) V (Proc.devRef .tc main_v65)
    = fun i : S16384x8x128.Idx => ((kp kv kr (i 0) (i 1) (i 2) : ℝ) : EReal) := by
  refine funext fun (i : S16384x8x128.Idx) => ?_
  simp (disch := decide) only [readAfter, nary_result']
  pointwise
  after_reads_simp [stop (h60 hV)]
  pointwise
  simp only [hV.a1, kp, kk]
  by_cases c : (i 2 : ℕ) < 64
  · rw [dif_pos c, if_pos (by omega), if_pos c]
  · rw [dif_neg c]
    by_cases d : (i 2 : ℕ) - 64 < 32
    · rw [dif_pos d, if_pos (by omega), if_neg c]
    · rw [dif_neg d, if_neg (by omega)]; rfl

/-! ## Scores and weights -/

include hV in
theorem h70 : after (hostOps0 (F := Ideal)) V (Proc.devRef .tc main_v70)
    = fun i : S8x16384x16384.Idx => ((sc q kv kr (i 0) (i 1) (i 2) : ℝ) : EReal) := by
  refine funext fun (i : S8x16384x16384.Idx) => ?_
  after_reads_simp [stop (h45 hV), stop (h65 hV)]
  pointwise
  rw [lit_scale, ← sc_pad, EReal.coe_mul]
  have b : (i 0 : ℕ) < 8 := (i 0).isLt
  refine congrArg (· * _) (sum_eq_coe fun k => ?_)
  have c : (k : ℕ) < 128 := k.isLt
  rw [show ((i 0 : ℕ) * 128 + k) / 128 = i 0 by omega, show ((i 0 : ℕ) * 128 + k) % 128 = k by omega, EReal.coe_mul]

theorem lit_bot : Ideal.ofBits .f32 0xFF800000#32 = ⊥ := by
  simp [Ideal.ofBits, Ideal.ieee]

variable (q kv kr) in
/-- The row's greatest score, a real number. -/
def top (h t : ℕ) : ℝ := (Finset.univ.fold max ⊥ fun u : Fin 16384 => ((sc q kv kr h t u : ℝ) : EReal)).toReal

variable (q kv kr) in
theorem top_coe (h t : ℕ) :
    Finset.univ.fold max ⊥ (fun u : Fin 16384 => ((sc q kv kr h t u : ℝ) : EReal)) = (top q kv kr h t : EReal) := by
  obtain ⟨M, hM⟩ := fold_max_coe (n := 16383) (fun u => ((sc q kv kr h t u : ℝ) : EReal)) (fun u => sc q kv kr h t u) fun _ => rfl
  rw [top, hM, EReal.toReal_coe]

include hV in
theorem h71 : after (hostOps0 (F := Ideal)) V (Proc.devRef .tc main_v71)
    = fun i : S8x16384.Idx => ((top q kv kr (i 0) (i 1) : ℝ) : EReal) := by
  refine funext fun (i : S8x16384.Idx) => ?_
  after_reads_simp [stop (h70 hV)]
  pointwise
  rw [lit_bot]
  exact top_coe q kv kr _ _

include hV in
theorem h75 : after (hostOps0 (F := Ideal)) V (Proc.devRef .tc main_v75)
    = fun i : S8x16384x16384.Idx => ((Real.exp (sc q kv kr (i 0) (i 1) (i 2) - top q kv kr (i 0) (i 1)) : ℝ) : EReal) := by
  refine funext fun (i : S8x16384x16384.Idx) => ?_
  after_reads_simp [stop (h70 hV), stop (h71 hV)]
  pointwise
  rw [← EReal.coe_sub, Ideal.exp_coe]

variable (q kv kr) in
/-- The row's sum of exponentials. -/
def rowSum (h t : ℕ) : ℝ := ∑ u : Fin 16384, Real.exp (sc q kv kr h t u - top q kv kr h t)

variable (q kv kr) in
theorem rowSum_pos (h t : ℕ) : 0 < rowSum q kv kr h t := sum_exp_pos (n := 16383) _

include hV in
theorem h77 : after (hostOps0 (F := Ideal)) V (Proc.devRef .tc main_v77)
    = fun i : S8x16384x1.Idx => ((rowSum q kv kr (i 0) (i 1) : ℝ) : EReal) := by
  refine funext fun (i : S8x16384x1.Idx) => ?_
  after_reads_simp [stop (h75 hV)]
  pointwise
  exact sum_eq_coe fun u => rfl

include hV in
theorem h79 : after (hostOps0 (F := Ideal)) V (Proc.devRef .tc main_v79)
    = fun i : S8x16384x16384.Idx => ((pr q kv kr (i 0) (i 1) (i 2) : ℝ) : EReal) := by
  refine funext fun (i : S8x16384x16384.Idx) => ?_
  after_reads_simp [stop (h75 hV), stop (h77 hV)]
  pointwise
  rw [div_coe' _ _ (rowSum_pos q kv kr _ _).ne']
  exact congrArg _ (softmax_shift (fun u : Fin 16384 => sc q kv kr (i 0) (i 1) u) _ (i 2))

include hV in
theorem h82 : after (hostOps0 (F := Ideal)) V (Proc.devRef .tc main_v82)
    = fun i : S16384x512.Idx => ((out q kv kr (i 0) ((i 1 : ℕ) / 64) ((i 1 : ℕ) % 64) : ℝ) : EReal) := by
  refine funext fun (i : S16384x512.Idx) => ?_
  after_reads_simp [stop (h79 hV)]
  pointwise
  simp only [hV.a1]
  refine sum_eq_coe fun u => ?_
  rw [← EReal.coe_mul, mul_comm]
  rfl

include hV in
/-- The row's log-sum in powers of two. -/
theorem h87 : after (hostOps0 (F := Ideal)) V (Proc.devRef .tc main_v87)
    = fun i : S8x16384x1.Idx => (((top q kv kr (i 0) (i 1) + Real.log (rowSum q kv kr (i 0) (i 1))) / Real.log 2 : ℝ) : EReal) := by
  refine funext fun (i : S8x16384x1.Idx) => ?_
  after_reads_simp [stop (h71 hV), stop (h77 hV)]
  pointwise
  rw [lit_2, show Ideal.log ((2 : ℝ) : EReal) = (Real.log 2 : ℝ) by rw [Ideal.log_coe, if_neg (by norm_num)], Ideal.log_coe,
    if_neg (rowSum_pos q kv kr _ _).not_ge, ← EReal.coe_add, div_coe' _ _ (Real.log_pos one_lt_two).ne']

include hV in
theorem h91 : after (hostOps0 (F := Ideal)) V (Proc.devRef .tc main_v91)
    = fun i : S16384x1024.Idx => ((if (i 1 : ℕ) < 512 then kv (i 0) ((i 1 : ℕ) / 64) ((i 1 : ℕ) % 64)
        else kv (i 0) (((i 1 : ℕ) - 512) / 64) (64 + ((i 1 : ℕ) - 512) % 64) : ℝ) : EReal) := by
  refine funext fun (i : S16384x1024.Idx) => ?_
  after_reads_simp
  pointwise
  simp only [hV.a1]
  split_ifs <;> rfl

include hV in
theorem h92 : after (hostOps0 (F := Ideal)) V (Proc.devRef .tc main_v92)
    = fun i : S16384x512.Idx => ((ct (i 0) (i 1) : ℝ) : EReal) := by
  refine funext fun (i : S16384x512.Idx) => ?_
  after_reads_simp
  pointwise
  exact hV.a3 i

end Cert.MlaIdeal.RefValue

end
-- ==== Proof.Mla.Math.lean ====
/-
  The flash attention's backward arrangement over the real numbers: powers of two against a saved row constant, scores of
  padded heads, and the sums it forms are the softmax weights and the gradients of the plain attention.
-/
module

public import proofs.«01_k».proof.Proof.Mla.BackSum
public import proofs.«01_k».proof.Proof.Mla.Host

@[expose] public section

noncomputable section

open Cert.MlaModel

namespace Cert.MlaIdeal.RefValue

variable (q kv : ℕ → ℕ → ℕ → ℝ) (kr ct : ℕ → ℕ → ℝ)

/-- What the second region is given: scaled padded queries, padded keys, keys and values side by side, row constants. -/
def qIn (t n : ℕ) : ℝ := qp q t (n / 128) (n % 128) * scale / Real.log 2
def kIn (u n : ℕ) : ℝ := kp kv kr u (n / 128) (n % 128)
def vIn (u n : ℕ) : ℝ := if n < 512 then kv u (n / 64) (n % 64) else kv u ((n - 512) / 64) (64 + (n - 512) % 64)
def lIn (h t : ℕ) : ℝ := (top q kv kr h t + Real.log (rowSum q kv kr h t)) / Real.log 2

theorem log2_ne : Real.log 2 ≠ 0 := (Real.log_pos (by norm_num)).ne'

theorem score_eq (h t u : ℕ) :
    ∑ d : Fin 128, qIn q t (h * 128 + d) * kIn kv kr u (h * 128 + d) = sc q kv kr h t u / Real.log 2 := by
  rw [← sc_pad, mul_div_assoc, Finset.sum_mul]
  refine Finset.sum_congr rfl fun d _ => ?_
  have c : (d : ℕ) < 128 := d.isLt
  rw [qIn, kIn, show (h * 128 + d) / 128 = h by omega, show (h * 128 + d) % 128 = (d : ℕ) by omega]
  ring

/-- The power of two is the softmax weight. -/
theorem wt_eq (h t u : ℕ) : wt (qIn q) (kIn kv kr) (lIn q kv kr) h t u = pr q kv kr h t u := by
  have hp := rowSum_pos q kv kr h t
  rw [wt, score_eq, lIn, ← sub_div, Real.rpow_eq_pow, Real.rpow_def_of_pos (by norm_num), mul_div_cancel₀ _ log2_ne, ← sub_sub,
    Real.exp_sub, Real.exp_log hp, rowSum, pr]
  simp only [Real.exp_sub, ← Finset.sum_div]
  rw [div_div_div_cancel_right₀ (Real.exp_pos _).ne']

/-- The score's cotangent. -/
theorem dsc_eq (h t u : ℕ) (hh : h < 8) :
    dsc (qIn q) (kIn kv kr) (fun b d => vIn kv b (512 + d)) ct (lIn q kv kr) (delta q kv kr ct) h t u = ds q kv kr ct h t u := by
  rw [dsc, wt_eq, ds, dp, delta]
  congr 2
  refine Finset.sum_congr rfl fun d _ => ?_
  have c : (d : ℕ) < 64 := d.isLt
  rw [vIn, if_neg (by omega), show (512 + (h * 64 + (d : ℕ)) - 512) / 64 = h by omega, show (512 + (h * 64 + (d : ℕ)) - 512) % 64 = d by omega]

/-- The key's gradient, on a head's first 96 columns. -/
theorem dk_eq (h d u : ℕ) (hh : h < 8) (hd : d < 96) :
    dkSum (qIn q) (kIn kv kr) (vIn kv) ct (lIn q kv kr) (delta q kv kr ct) 16384 (h * 128 + d) u * Real.log 2 = dkk q kv kr ct u h d := by
  rw [dkSum, ← Fin.sum_univ_eq_sum_range (fun r => qIn q r (h * 128 + d) * _) 16384, dkk, Finset.sum_mul]
  refine Finset.sum_congr rfl fun r _ => ?_
  rw [show (h * 128 + d) / 128 = h by omega, dsc_eq q kv kr ct h r u hh, qIn, show (h * 128 + d) / 128 = h by omega,
    show (h * 128 + d) % 128 = d by omega, qp, if_pos hd]
  field_simp [log2_ne]

/-- The value's gradient. -/
theorem dv_eq (h d u : ℕ) (hd : d < 64) :
    dvSum (qIn q) (kIn kv kr) ct (lIn q kv kr) 16384 (h * 64 + d) u = dvv q kv kr ct u h d := by
  rw [dvSum, ← Fin.sum_univ_eq_sum_range (fun r => ct r (h * 64 + d) * _) 16384, dvv]
  refine Finset.sum_congr rfl fun r _ => ?_
  rw [show (h * 64 + d) / 64 = h by omega, wt_eq]
  exact mul_comm _ _

/-- The query's gradient, from the sixteen key tiles' sums. -/
theorem dq_eq (h d t : ℕ) (hh : h < 8) (hd : d < 96) :
    (∑ j : Fin 16, ∑ m : Fin 1024, dsc (qIn q) (kIn kv kr) (fun b d => vIn kv b (512 + d)) ct (lIn q kv kr) (delta q kv kr ct)
        ((h * 128 + d) / 128) t ((j : ℕ) * 1024 + m) * kIn kv kr ((j : ℕ) * 1024 + m) (h * 128 + d)) * scale
      = dqr q kv kr ct t h d := by
  have e : ∀ u : ℕ, dsc (qIn q) (kIn kv kr) (fun b d => vIn kv b (512 + d)) ct (lIn q kv kr) (delta q kv kr ct) ((h * 128 + d) / 128) t u
      * kIn kv kr u (h * 128 + d) = ds q kv kr ct h t u * kk kv kr u h d := fun u => by
    rw [show (h * 128 + d) / 128 = h by omega, dsc_eq q kv kr ct h t u hh, kIn, show (h * 128 + d) / 128 = h by omega,
      show (h * 128 + d) % 128 = d by omega, kp, if_pos hd]
  simp only [e]
  have s := Fin.sum_univ_eq_sum_range (fun u : ℕ => ds q kv kr ct h t u * kk kv kr u h d) (16 * 1024)
  have p : ∑ j : Fin 16, ∑ m : Fin 1024, ds q kv kr ct h t ((j : ℕ) * 1024 + m) * kk kv kr ((j : ℕ) * 1024 + m) h d
      = ∑ u : Fin 16384, ds q kv kr ct h t u * kk kv kr u h d := by
    rw [show (∑ u : Fin 16384, ds q kv kr ct h t u * kk kv kr u h d) = ∑ u : Fin (16 * 1024), ds q kv kr ct h t u * kk kv kr u h d from rfl,
      ← finProdFinEquiv.sum_comp, Fintype.sum_prod_type]
    refine Finset.sum_congr rfl fun j _ => Finset.sum_congr rfl fun m _ => ?_
    rw [show ((finProdFinEquiv (j, m) : Fin (16 * 1024)) : ℕ) = (j : ℕ) * 1024 + m by simp [finProdFinEquiv]; omega]
  rw [p, dqr, Finset.sum_mul]
  exact Finset.sum_congr rfl fun u _ => by ring

end Cert.MlaIdeal.RefValue

end
-- ==== Proof.Mla.Tail.lean ====
/-
  The kernel program's host lines between and after its regions.
-/
module

public import proofs.«01_k».proof.Proof.Mla.Model
public import proofs.«01_k».proof.Proof.Gen.MlaIdeal.Frame
public import Idealize.ShloMosaic.Lib.StableHlo.RunRead
public import Idealize.ShloMosaic.Lib.Pipeline.ValueKit
public import Idealize.ShloMosaic.Lib.Pipeline.Value
public import Idealize.ShloMosaic.Lib.Claim
public import Idealize.ShloMosaic.Lib.Pointwise

@[expose] public section

set_option maxRecDepth 16384

noncomputable section

open Idealize.ShloMosaic Idealize.ShloMosaic.TcCoe Idealize.SL.Sem Idealize.ShloMosaic.StableHlo

namespace Cert.MlaIdeal.RefValue

open Cert.MlaIdeal Cert.MlaIdeal.Gen Cert.MlaModel

variable {V : Valuation τ sig (Elt Ideal)}

theorem h94 {g : ℕ → ℕ → ℝ} (hg : ∀ i : S16384x1024.Idx, V (Proc.devRef .tc main_v50) i = (g (i 0) (i 1) : EReal)) (i : S16384x1024.Idx) :
    after (hostOps1 (F := Ideal)) V (Proc.devRef .tc main_v94) i = (g (i 0) (i 1) : EReal) := by
  after_reads_simp
  pointwise
  exact hg _

theorem h96 {g : ℕ → ℕ → ℝ} (hg : ∀ i : S16384x1024.Idx, V (Proc.devRef .tc main_v50) i = (g (i 0) (i 1) : EReal)) (i : S1024x16384.Idx) :
    after (hostOps1 (F := Ideal)) V (Proc.devRef .tc main_v96) i = (g (i 1) (i 0) : EReal) := by
  after_reads_simp
  pointwise
  exact hg _

theorem h98 {g : ℕ → ℕ → ℕ → ℝ} (hg : ∀ i : S16384x8x128.Idx, V (Proc.devRef .tc main_v65) i = (g (i 0) (i 1) (i 2) : EReal))
    (i : S16384x1024.Idx) :
    after (hostOps1 (F := Ideal)) V (Proc.devRef .tc main_v98) i = (g (i 0) ((i 1 : ℕ) / 128) ((i 1 : ℕ) % 128) : EReal) := by
  after_reads_simp
  pointwise
  refine real3 g (hg _) ?_ ?_ ?_
  all_goals first | (blk_simp; try omega) | skip

theorem h99 {g : ℕ → ℕ → ℝ} (hg : ∀ i : S16384x1024.Idx, V (Proc.devRef .tc main_v91) i = (g (i 0) (i 1) : EReal)) (i : S16384x1024.Idx) :
    after (hostOps1 (F := Ideal)) V (Proc.devRef .tc main_v99) i = (g (i 0) (i 1) : EReal) := by
  after_reads_simp
  pointwise
  exact hg _

theorem h100 {g : ℕ → ℕ → ℝ} (hg : ∀ i : S16384x512.Idx, V (Proc.devRef .tc main_v92) i = (g (i 0) (i 1) : EReal)) (i : S512x16384.Idx) :
    after (hostOps1 (F := Ideal)) V (Proc.devRef .tc main_v100) i = (g (i 1) (i 0) : EReal) := by
  after_reads_simp
  pointwise
  exact hg _

theorem h104 {g : ℕ → ℕ → ℝ} (hg : ∀ i : S16384x2048.Idx, V (Proc.devRef .tc main_v102) i = (g (i 0) (i 1) : EReal))
    (i : S16384x2x8x128.Idx) :
    after (hostOps3 (F := Ideal)) V (Proc.devRef .tc main_v104) i = (g (i 0) ((i 1 : ℕ) * 1024 + (i 2 : ℕ) * 128 + i 3) : EReal) := by
  after_reads_simp
  pointwise
  refine real2 g (hg _) ?_ ?_
  all_goals first | (blk_simp; try omega) | skip

/-- Each buffer is written once, so what the line leaves in it is there as soon as it is written. -/
theorem upto_hostOps4 (V : Valuation τ sig (Elt Ideal)) (n : ℕ) (r : Ref sig .tc) (h : r ∉ hostOps4_W.drop n) :
    upto (hostOps4 (F := Ideal)) V n (Proc.devRef .tc r) = after (hostOps4 (F := Ideal)) V (Proc.devRef .tc r) := by
  have hW : (hostOps4 (F := Ideal)).map HloOp.writes = hostOps4_W.map fun w => {Proc.devRef (τ := τ) .tc w} := rfl
  have hd : ((hostOps4 (F := Ideal)).drop n).map HloOp.writes = (hostOps4_W.drop n).map fun w => {Proc.devRef (τ := τ) .tc w} := by
    rw [List.map_drop, hW, List.map_drop]
  have e := after_unwritten (hostOps4_W.drop n) hd h (upto (hostOps4 (F := Ideal)) V n)
  rw [← e, upto, ← after_append, List.take_append_drop]

/-- The query's gradient: the columns by the first table, and by the second the rotated columns' partners. -/
theorem h116 {g : ℕ → ℕ → ℕ → ℕ → ℝ} (hg : ∀ i : S16384x2x8x128.Idx, V (Proc.devRef .tc main_v104) i = (g (i 0) (i 1) (i 2) (i 3) : EReal))
    (i : S16384x8x96.Idx) : after (hostOps4 (F := Ideal)) V (Proc.devRef .tc main_v116) i
    = ((g (i 0) 0 (i 1) (i 2) + (if (i 2 : ℕ) < 64 then 0 else if (i 2 : ℕ) - 64 < 16 then g (i 0) 1 (i 1) (64 + (16 + ((i 2 : ℕ) - 64)))
        else -g (i 0) 1 (i 1) (64 + ((i 2 : ℕ) - 64 - 16))) : ℝ) : EReal) := by
  after_reads_simp
  pointwise
  have b2 : (i 2 : ℕ) < 96 := (i 2).isLt
  have key : ∀ p r n (hr : r < 2) (hn : n < 128), r = p → V (Proc.devRef .tc main_v104) (ix4 (i 0) ⟨r, hr⟩ (i 1) ⟨n, hn⟩) = (g (i 0) p (i 1) n : EReal) := by
    intro p r n hr hn e
    subst e
    exact hg _
  refine add_eq_coe (key _ _ _ _ _ rfl) ?_
  by_cases c : (i 2 : ℕ) < 64
  · rw [dif_pos c, if_pos c, upto_hostOps4 V 8 _ (by decide)]
    after_reads_simp
    pointwise
    simp
  · rw [dif_neg c, if_neg c, upto_hostOps4 V 8 _ (by decide)]
    after_reads_simp
    pointwise
    by_cases c' : (i 2 : ℕ) - 64 < 16
    · refine (dif_pos c').trans ((key 1 1 (64 + (16 + ((i 2 : ℕ) - 64))) (by decide) (by omega) rfl).trans ?_)
      rw [if_pos c']
    · refine (dif_neg c').trans ((congrArg (fun v : EReal => -v) (key 1 1 (64 + ((i 2 : ℕ) - 64 - 16)) (by decide) (by omega) rfl)).trans ?_)
      rw [if_neg c', EReal.coe_neg]

theorem h122 {f g : ℕ → ℕ → ℝ} (hf : ∀ i : S512x16384.Idx, V (Proc.devRef .tc main_v105_0) i = (f (i 0) (i 1) : EReal))
    (hg : ∀ i : S512x16384.Idx, V (Proc.devRef .tc main_v101_2) i = (g (i 0) (i 1) : EReal)) (i : S16384x8x128.Idx) :
    after (hostOps4 (F := Ideal)) V (Proc.devRef .tc main_v122) i
    = ((if (i 2 : ℕ) < 64 then f ((i 1 : ℕ) * 64 + i 2) (i 0) else g ((i 1 : ℕ) * 64 + ((i 2 : ℕ) - 64)) (i 0) : ℝ) : EReal) := by
  after_reads_simp
  pointwise
  have kf : ∀ n (hn : n < 512), V (Proc.devRef .tc main_v105_0) (ix2 ⟨n, hn⟩ (i 0)) = (f n (i 0) : EReal) := fun n hn => hf _
  have kg : ∀ n (hn : n < 512), V (Proc.devRef .tc main_v101_2) (ix2 ⟨n, hn⟩ (i 0)) = (g n (i 0) : EReal) := fun n hn => hg _
  have b1 : (i 1 : ℕ) < 8 := (i 1).isLt
  have b2 : (i 2 : ℕ) < 128 := (i 2).isLt
  by_cases c : (i 2 : ℕ) < 64
  · refine (dif_pos c).trans ((kf ((i 1 : ℕ) * 64 + i 2) (by omega)).trans ?_)
    rw [if_pos c]
  · refine (dif_neg c).trans ((kg ((i 1 : ℕ) * 64 + ((i 2 : ℕ) - 64)) (by omega)).trans ?_)
    rw [if_neg c]

theorem h131 {g : ℕ → ℕ → ℝ} (hg : ∀ i : S128x16384.Idx, V (Proc.devRef .tc main_v105_1) i = (g (i 0) (i 1) : EReal)) (i : S16384x32.Idx) :
    after (hostOps4 (F := Ideal)) V (Proc.devRef .tc main_v131) i
    = ((g (i 1) (i 0) + (if (i 1 : ℕ) < 16 then g (32 + (16 + (i 1 : ℕ))) (i 0) else -g (32 + ((i 1 : ℕ) - 16)) (i 0)) : ℝ) : EReal) := by
  after_reads_simp
  pointwise
  have b : (i 1 : ℕ) < 32 := (i 1).isLt
  refine add_eq_coe (real2 g (hg _) rfl rfl) ?_
  by_cases c : (i 1 : ℕ) < 16
  · rw [dif_pos c, if_pos c, upto_hostOps4 V 25 _ (by decide)]
    after_reads_simp
    pointwise
    refine real2 g (hg _) ?_ ?_ <;> first | (blk_simp; done) | (dsimp only; omega)
  · rw [dif_neg c, if_neg c, upto_hostOps4 V 25 _ (by decide)]
    after_reads_simp
    pointwise
    rw [EReal.coe_neg]
    refine congrArg Neg.neg (real2 g (hg _) ?_ ?_) <;> first | (blk_simp; done) | (dsimp only; omega)

end Cert.MlaIdeal.RefValue

end
-- ==== Proof.Mla.Chain.lean ====
/-
  The kernel program's three results, carried from the arguments through its host lines and its four regions.
-/
module

public import proofs.«01_k».proof.Proof.Mla.Delta
public import proofs.«01_k».proof.Proof.Mla.DqSum
public import proofs.«01_k».proof.Proof.Mla.Kprep
public import proofs.«01_k».proof.Proof.Mla.Math
public import proofs.«01_k».proof.Proof.Mla.Tail
public import proofs.«01_k».proof.Proof.Gen.MlaIdeal.Frame
public import Idealize.ShloMosaic.Lib.StableHlo.RunRead
public import Idealize.ShloMosaic.Lib.Pipeline.ValueKit
public import Idealize.ShloMosaic.Lib.Pipeline.Value
public import Idealize.ShloMosaic.Lib.Claim
public import Idealize.ShloMosaic.Lib.Pointwise

@[expose] public section

set_option maxRecDepth 16384

noncomputable section

open Idealize.ShloMosaic Idealize.ShloMosaic.TcCoe Idealize.SL.Sem Idealize.ShloMosaic.StableHlo

namespace Cert.MlaIdeal.RefValue

open Cert.MlaIdeal Cert.MlaIdeal.Gen Cert.MlaModel

variable (m : (ℓ : Loc nD τ sig) → Buf (Elt Ideal) ℓ) (ρ : Dev nD → PrngReg) (c : Dev nD)
variable {q kv : ℕ → ℕ → ℕ → ℝ} {kr ct : ℕ → ℕ → ℝ} (hV : Args (W0 m ρ c) q kv kr ct)

include hV

/-- What the first region leaves: the row sums of output times cotangent. -/
theorem d93 (i : S8x16384x1.Idx) : W3 m ρ c (Proc.devRef .tc main_v93) i = (delta q kv kr ct (i 0) (i 1) : EReal) := by
  rw [W3_of m ρ c main_v93 (by decide), show W2 m ρ c (Proc.devRef .tc main_v93) = _ from W2_arr m ρ c 2,
    final0_2 (V1 m ρ) c (fun t n => out q kv kr t (n / 64) (n % 64)) ct (fun i => congrFun (h82 hV) i) (fun i => congrFun (h92 hV) i),
    ← sum_out]
  refine congrArg Real.toEReal (Finset.sum_congr rfl fun d _ => ?_)
  have b : (d : ℕ) < 64 := d.isLt
  rw [show ((i 0 : ℕ) * 64 + d) / 64 = i 0 by omega, show ((i 0 : ℕ) * 64 + d) % 64 = d by omega]

/-- What the second region is given. -/
theorem arrays : Arrays (V3 m ρ) c (qIn q) (kIn kv kr) (vIn kv) ct (lIn q kv kr) (delta q kv kr ct) where
  a94 := h94 fun i => by
    rw [W2_of m ρ c main_v50 (by decide)]; exact congrFun (h50 hV) i
  a96 := h96 fun i => by
    rw [W2_of m ρ c main_v50 (by decide)]; exact congrFun (h50 hV) i
  a98 := h98 fun i => by
    rw [W2_of m ρ c main_v65 (by decide)]; exact congrFun (h65 hV) i
  a99 := h99 fun i => by
    rw [W2_of m ρ c main_v91 (by decide)]; exact congrFun (h91 hV) i
  a92 i := by
    rw [show V3 m ρ c main_v92 = _ from W3_of m ρ c main_v92 (by decide), W2_of m ρ c main_v92 (by decide)]; exact congrFun (h92 hV) i
  a100 := h100 fun i => by
    rw [W2_of m ρ c main_v92 (by decide)]; exact congrFun (h92 hV) i
  a87 i := by
    rw [show V3 m ρ c main_v87 = _ from W3_of m ρ c main_v87 (by decide), W2_of m ρ c main_v87 (by decide)]; exact congrFun (h87 hV) i
  a93 := d93 m ρ c hV

omit hV in
variable (q kv kr ct) in
/-- The query's gradient as the third region leaves it, times the two tables. -/
def dqTab (t n : ℕ) : ℝ := (∑ j : Fin 16, ∑ k : Fin 1024, dsc (qIn q) (kIn kv kr) (fun b d => vIn kv b (512 + d)) ct (lIn q kv kr)
    (delta q kv kr ct) ((n % 1024) / 128) t ((j : ℕ) * 1024 + k) * kIn kv kr ((j : ℕ) * 1024 + k) (n % 1024)) * scale
  * (if n < 1024 then cosCol t (n % 128) else sinCol t (n % 128))

omit hV in
theorem dqTab_eq (t a h d : ℕ) (ha : a < 2) (hh : h < 8) (hd : d < 96) : dqTab q kv kr ct t (a * 1024 + h * 128 + d)
    = dqr q kv kr ct t h d * (if a = 0 then cosCol t d else sinCol t d) := by
  rw [dqTab, show (a * 1024 + h * 128 + d) % 1024 = h * 128 + d by omega, dq_eq q kv kr ct h d t hh hd,
    show (a * 1024 + h * 128 + d) % 128 = d by omega]
  congr 1
  exact if_congr (by omega) rfl rfl

theorem d102 (i : S16384x2048.Idx) : W5 m ρ c (Proc.devRef .tc main_v102) i = (dqTab q kv kr ct (i 0) (i 1) : EReal) := by
  rw [show W5 m ρ c (Proc.devRef .tc main_v102) = _ from W5_arr m ρ c 3]
  refine congrFun (final2_3 (V4 m ρ) c (fun j t n => ∑ k : Fin 1024, dsc (qIn q) (kIn kv kr) (fun b d => vIn kv b (512 + d)) ct (lIn q kv kr)
    (delta q kv kr ct) (n / 128) t (j * 1024 + k) * kIn kv kr (j * 1024 + k) n) cosCol sinCol (fun i => ?_) (fun i => ?_) (fun i => ?_)) i
  · rw [show V4 m ρ c main_v101_0 = _ from W4_arr m ρ c 8]
    exact congrFun (final1_8 (arrays m ρ c hV)) i
  · rw [show V4 m ρ c main_v21 = _ from W4_of m ρ c main_v21 (by decide), W3_of m ρ c main_v21 (by decide), W2_of m ρ c main_v21 (by decide)]
    exact congrFun (h21 (W0 m ρ c)) i
  · rw [show V4 m ρ c main_v24 = _ from W4_of m ρ c main_v24 (by decide), W3_of m ρ c main_v24 (by decide), W2_of m ρ c main_v24 (by decide)]
    exact congrFun (h24 (W0 m ρ c)) i

/-- The gradient by the query. -/
theorem d116 (i : S16384x8x96.Idx) : W8 m ρ c (Proc.devRef .tc main_v116) i = (gq q kv kr ct (i 0) (i 1) (i 2) : EReal) := by
  refine (h116 (g := fun t a h d => dqTab q kv kr ct t (a * 1024 + h * 128 + d)) (fun i => ?_) i).trans ?_
  · rw [W7_of m ρ c main_v104 (by decide)]
    exact h104 (d102 m ρ c hV) i
  have b1 : (i 1 : ℕ) < 8 := (i 1).isLt
  have b2 : (i 2 : ℕ) < 96 := (i 2).isLt
  generalize (i 0 : ℕ) = t; generalize (i 1 : ℕ) = h at *; generalize (i 2 : ℕ) = d at *
  refine congrArg Real.toEReal ?_
  have key : ∀ a d, a < 2 → d < 96 → dqTab q kv kr ct t (a * 1024 + h * 128 + d)
    = dqr q kv kr ct t h d * (if a = 0 then cosCol t d else sinCol t d) := fun a d ha hd => dqTab_eq t a h d ha b1 hd
  rw [key 0 d (by omega) b2, gq, if_pos rfl]
  by_cases c1 : d < 64
  · rw [if_pos c1, if_pos c1, cosCol, if_pos c1, mul_one, add_zero]
  · rw [if_neg c1, if_neg c1, cosCol, if_neg c1, unrope]
    by_cases c2 : d - 64 < 16
    · rw [if_pos c2, if_pos c2, if_pos (show d < 80 by omega), key 1 _ (by omega) (by omega), if_neg (by decide), sinCol, if_neg (by omega),
        if_neg (by omega), if_pos (by omega), show 64 + (16 + (d - 64)) - 80 = d - 64 by omega, show 64 + (d - 64) = d by omega]
    · rw [if_neg c2, if_neg c2, if_neg (show ¬d < 80 by omega), if_pos b2, key 1 _ (by omega) (by omega), if_neg (by decide), sinCol,
        if_neg (by omega), if_pos (by omega), show 64 + (d - 64 - 16) - 64 = d - 80 by omega, show 64 + (16 + (d - 64 - 16)) = d by omega,
        show d - 64 - 16 = d - 80 by omega]
      ring

/-- The key's gradient as the second region leaves it. -/
theorem d101 (i : S1024x16384.Idx) : W6 m ρ c (Proc.devRef .tc main_v101_1) i
    = ((dkSum (qIn q) (kIn kv kr) (vIn kv) ct (lIn q kv kr) (delta q kv kr ct) 16384 (i 0) (i 1) * Real.log 2 : ℝ) : EReal) := by
  rw [W6_of m ρ c main_v101_1 (by decide), W5_of m ρ c main_v101_1 (by decide), show W4 m ρ c (Proc.devRef .tc main_v101_1) = _ from W4_arr m ρ c 9]
  exact congrFun (final1_9 (arrays m ρ c hV)) i

/-- The gradient by the key's own columns and the value. -/
theorem d122 (i : S16384x8x128.Idx) : W8 m ρ c (Proc.devRef .tc main_v122) i = (gkv q kv kr ct (i 0) (i 1) (i 2) : EReal) := by
  refine (h122 (f := fun a u => dkSum (qIn q) (kIn kv kr) (vIn kv) ct (lIn q kv kr) (delta q kv kr ct) 16384 (a / 64 * 128 + a % 64) u * Real.log 2)
    (g := fun a u => dvSum (qIn q) (kIn kv kr) ct (lIn q kv kr) 16384 a u) (fun i => ?_) (fun i => ?_) i).trans ?_
  · rw [show W7 m ρ c (Proc.devRef .tc main_v105_0) = _ from W7_arr m ρ c 2]
    exact congrFun (final3_2 (g := fun a u => dkSum (qIn q) (kIn kv kr) (vIn kv) ct (lIn q kv kr) (delta q kv kr ct) 16384 a u * Real.log 2)
      (d101 m ρ c hV)) i
  · rw [W7_of m ρ c main_v101_2 (by decide), W6_of m ρ c main_v101_2 (by decide), W5_of m ρ c main_v101_2 (by decide),
      show W4 m ρ c (Proc.devRef .tc main_v101_2) = _ from W4_arr m ρ c 10]
    exact congrFun (final1_10 (arrays m ρ c hV)) i
  have b1 : (i 1 : ℕ) < 8 := (i 1).isLt
  have b2 : (i 2 : ℕ) < 128 := (i 2).isLt
  generalize (i 0 : ℕ) = u; generalize (i 1 : ℕ) = h at *; generalize (i 2 : ℕ) = d at *
  refine congrArg Real.toEReal ?_
  rw [gkv]
  by_cases c1 : d < 64
  · rw [if_pos c1, if_pos c1, show (h * 64 + d) / 64 * 128 + (h * 64 + d) % 64 = h * 128 + d by omega, dk_eq q kv kr ct h d u b1 (by omega)]
  · rw [if_neg c1, if_neg c1, dv_eq q kv kr ct h (d - 64) u (by omega)]

/-- The gradient by the shared key part. -/
theorem d131 (i : S16384x32.Idx) : W8 m ρ c (Proc.devRef .tc main_v131) i = (gkr q kv kr ct (i 0) (i 1) : EReal) := by
  refine (h131 (g := fun r u => if r < 64 then (∑ h : Fin 8, dkSum (qIn q) (kIn kv kr) (vIn kv) ct (lIn q kv kr) (delta q kv kr ct) 16384
      ((h : ℕ) * 128 + 64 + r % 32) u * Real.log 2) * (if r < 32 then Real.cos (angle u (r % 16)) else Real.sin (angle u (r % 16))) else 0)
    (fun i => ?_) i).trans ?_
  · rw [show W7 m ρ c (Proc.devRef .tc main_v105_1) = _ from W7_arr m ρ c 3]
    refine congrFun (final3_3 (g := fun a u => dkSum (qIn q) (kIn kv kr) (vIn kv) ct (lIn q kv kr) (delta q kv kr ct) 16384 a u * Real.log 2)
      (f := fun r u => if r < 32 then Real.cos (angle u (r % 16)) else Real.sin (angle u (r % 16))) (d101 m ρ c hV) (fun i => ?_)) i
    rw [show V6 m ρ c main_v28 = _ from W6_of m ρ c main_v28 (by decide), W5_of m ρ c main_v28 (by decide), W4_of m ρ c main_v28 (by decide),
      W3_of m ρ c main_v28 (by decide), W2_of m ρ c main_v28 (by decide)]
    exact congrFun (h28 (W0 m ρ c)) i
  have b1 : (i 1 : ℕ) < 32 := (i 1).isLt
  generalize (i 0 : ℕ) = u; generalize (i 1 : ℕ) = d at *
  refine congrArg Real.toEReal ?_
  have key : ∀ r, (∑ h : Fin 8, dkSum (qIn q) (kIn kv kr) (vIn kv) ct (lIn q kv kr) (delta q kv kr ct) 16384
      ((h : ℕ) * 128 + 64 + r % 32) u * Real.log 2) = ∑ h : Fin 8, dkk q kv kr ct u h (64 + r % 32) := fun r =>
    Finset.sum_congr rfl fun h _ => by
      rw [add_assoc, dk_eq q kv kr ct h (64 + r % 32) u h.isLt (by omega)]
  simp only [key]
  rw [gkr, unrope, if_pos (show d < 64 by omega), if_pos b1, Nat.mod_eq_of_lt b1]
  by_cases c1 : d < 16
  · rw [if_pos c1, if_pos c1, if_pos (show 32 + (16 + d) < 64 by omega), if_neg (show ¬32 + (16 + d) < 32 by omega),
      show (32 + (16 + d)) % 32 = 16 + d by omega, show (32 + (16 + d)) % 16 = d by omega, Nat.mod_eq_of_lt c1]
  · rw [if_neg c1, if_neg c1, if_pos (show 32 + (d - 16) < 64 by omega), if_neg (show ¬32 + (d - 16) < 32 by omega),
      show (32 + (d - 16)) % 32 = d - 16 by omega, show (32 + (d - 16)) % 16 = d - 16 by omega, show d % 16 = d - 16 by omega,
      show 16 + (d - 16) = d by omega]
    ring

end Cert.MlaIdeal.RefValue

end
-- ==== Proof.Mla.Run.lean ====
/-
  The kernel program's run: every final state holds, in each buffer outside the regions, what the chain of host lines and
  regions leaves there.
-/
module

public import proofs.«01_k».proof.Proof.Gen.MlaIdeal.Frame

@[expose] public section

set_option maxRecDepth 16384

noncomputable section

namespace Cert.MlaIdeal.RefValue

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r =>
    ∀ c : Dev nD, ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

end Cert.MlaIdeal.RefValue

end
-- ==== Proof.Mla.lean ====
/-
  The claims about the latent attention's gradient.
-/
module

public import proofs.«01_k».proof.Defs
public import proofs.«01_k».proof.Proof.Finite
public import proofs.«01_k».proof.Proof.Gen.Pre_mla_finite
public import proofs.«01_k».proof.Proof.Gen.Mla.Frame
public import proofs.«01_k».proof.Proof.Gen.MlaRefIdeal.Run
public import proofs.«01_k».proof.Proof.Mla.Ref
public import proofs.«01_k».proof.Proof.Mla.Chain
public import proofs.«01_k».proof.Proof.Mla.Run

@[expose] public section

set_option maxRecDepth 16384

noncomputable section

open Idealize.ShloMosaic Idealize.ShloMosaic.TcCoe Idealize.SL.Sem Idealize.ShloMosaic.StableHlo

namespace Cert.Proof.MlaClaims

theorem frame : Cert.quiescent_Mla := fun m ρ _ => Cert.Mla.Gen.frame m ρ
theorem frame_ideal : Cert.quiescent_MlaIdeal := fun m ρ _ => Cert.MlaIdeal.Gen.frame m ρ
theorem frame_ideal_pre : Cert.quiescent_MlaIdeal_pre_mla_finite := fun m ρ _ => Cert.MlaIdeal.Gen.frame m ρ
theorem frame_ref : Cert.quiescent_MlaRefIdeal := fun m ρ _ => by
  refine (θ_run Cert.MlaRefIdeal.defs _ _).mono (fun r h => ⟨fun c => ?_,
    Idealize.ShloMosaic.sem_eq_zero_of_no_sems (by decide) r.2⟩) (Cert.MlaRefIdeal.Value.run (F := Ideal) m ρ)
  exact (h c).2.2.2
theorem frame_ref_pre : Cert.quiescent_MlaRefIdeal_pre_mla_finite := fun m ρ _ => frame_ref m ρ trivial
theorem preserves : Cert.preserves_Mla_MlaIdeal := IdealRules.named_const.statement _ _ _ _ _ rfl

/-- Under the precondition the arguments are real functions of their coordinates. -/
theorem args_of_pre {m : (ℓ : Loc Cert.MlaIdeal.nD Cert.MlaIdeal.τ Cert.MlaIdeal.sig) → Buf (Elt Ideal) ℓ}
    (h : Cert.Pre_MlaIdeal_mla_finite m) (ρ : Dev Cert.MlaIdeal.nD → PrngReg) (c : Dev Cert.MlaIdeal.nD) :
    ∃ q kv kr ct, Cert.MlaIdeal.RefValue.Args (Cert.MlaIdeal.Gen.W0 m ρ c) q kv kr ct := by
  have e := congrFun (h c) ix0
  dsimp only [Cert.Pre_mla_finite.fn, Cert.Pre_mla_finite.fn_part1] at e
  obtain ⟨e, e3⟩ := Cert.Finite.both e
  obtain ⟨e, e2⟩ := Cert.Finite.both e
  obtain ⟨e0, e1⟩ := Cert.Finite.both e
  obtain ⟨q, hq⟩ := Cert.Finite.real3_of _ (Cert.Finite.real_of_all _ _ (fun _ => rfl) _ _ _ _ e0)
  obtain ⟨kv, hkv⟩ := Cert.Finite.real3_of _ (Cert.Finite.real_of_all _ _ (fun _ => rfl) _ _ _ _ e1)
  obtain ⟨kr, hkr⟩ := Cert.Finite.real2_of _ (Cert.Finite.real_of_all _ _ (fun _ => rfl) _ _ _ _ e2)
  obtain ⟨ct, hct⟩ := Cert.Finite.real2_of _ (Cert.Finite.real_of_all _ _ (fun _ => rfl) _ _ _ _ e3)
  exact ⟨q, kv, kr, ct, hq, hkv, hkr, hct⟩

open Cert.MlaIdeal.RefValue Cert.MlaIdeal.Gen in
/-- The three gradients of the kernel and of the reference agree, from finite arguments. -/
theorem algebraic : Cert.algebraic_MlaIdeal_MlaRefIdeal_pre_mla_finite := by
  intro m g m' g' hpre hagree
  refine ⟨fun c => W8 m g c (Proc.devRef .tc Cert.MlaIdeal.main_v116), fun c => W8 m g c (Proc.devRef .tc Cert.MlaIdeal.main_v122),
    fun c => W8 m g c (Proc.devRef .tc Cert.MlaIdeal.main_v131), ?_, ?_⟩
  · exact (θ_run Cert.MlaIdeal.defs _ _).mono (fun r h c => ⟨h c _ (mem_uc Cert.MlaIdeal.main_v116 (by decide)),
      h c _ (mem_uc Cert.MlaIdeal.main_v122 (by decide)), h c _ (mem_uc Cert.MlaIdeal.main_v131 (by decide)),
      (h c _ (mem_uc Cert.MlaIdeal.main_arg0 (by decide))).trans (W8_main_arg0 m g c),
      (h c _ (mem_uc Cert.MlaIdeal.main_arg1 (by decide))).trans (W8_main_arg1 m g c),
      (h c _ (mem_uc Cert.MlaIdeal.main_arg2 (by decide))).trans (W8_main_arg2 m g c),
      (h c _ (mem_uc Cert.MlaIdeal.main_arg3 (by decide))).trans (W8_main_arg3 m g c)⟩) (run m g)
  · refine (θ_run Cert.MlaRefIdeal.defs _ _).mono (fun r h c => ?_) (Cert.MlaRefIdeal.Value.run m' g')
    obtain ⟨q, kv, kr, ct, A⟩ := args_of_pre hpre g c
    obtain ⟨e0, e1, e2, e3⟩ := hagree c
    have h0 : ∀ i, m' ((c.tc : Thread Cert.MlaRefIdeal.nD Cert.MlaRefIdeal.τ).loc Cert.MlaRefIdeal.main_arg0) i = (q (i 0) (i 1) (i 2) : EReal) :=
      fun i => (congrFun e0 i).trans (A.a0 i)
    have h1 : ∀ i, m' ((c.tc : Thread Cert.MlaRefIdeal.nD Cert.MlaRefIdeal.τ).loc Cert.MlaRefIdeal.main_arg1) i = (kv (i 0) (i 1) (i 2) : EReal) :=
      fun i => (congrFun e1 i).trans (A.a1 i)
    have h2 : ∀ i, m' ((c.tc : Thread Cert.MlaRefIdeal.nD Cert.MlaRefIdeal.τ).loc Cert.MlaRefIdeal.main_arg2) i = (kr (i 0) (i 1) : EReal) :=
      fun i => (congrFun e2 i).trans (A.a2 i)
    have h3 : ∀ i, m' ((c.tc : Thread Cert.MlaRefIdeal.nD Cert.MlaRefIdeal.τ).loc Cert.MlaRefIdeal.main_arg3) i = (ct (i 0) (i 1) : EReal) :=
      fun i => (congrFun e3 i).trans (A.a3 i)
    obtain ⟨r0, r1, r2, ra⟩ := h c
    refine ⟨r0.trans ?_, r1.trans ?_, r2.trans ?_, ra⟩
    · rw [Cert.MlaRefIdeal.Read.val_main_v161_eq]
      exact funext fun i => (Cert.MlaRefIdeal.RefValue.v161 q kv kr ct h0 h1 h2 h3 i).trans (d116 m g c A i).symm
    · rw [Cert.MlaRefIdeal.Read.val_main_v125_eq]
      exact funext fun i => (Cert.MlaRefIdeal.RefValue.v125 q kv kr ct h0 h1 h2 h3 i).trans (d122 m g c A i).symm
    · rw [Cert.MlaRefIdeal.Read.val_main_v140_eq]
      exact funext fun i => (Cert.MlaRefIdeal.RefValue.v140 q kv kr ct h0 h1 h2 h3 i).trans (d131 m g c A i).symm

end Cert.Proof.MlaClaims

end
-- ==== Proof.Cross.Model.lean ====
/-
  The gradient of the cross attention over the real numbers: four heads of 256 columns, 16384 queries over 256 memory rows.
  Arrays are total functions of natural-number coordinates; `k` and `v` are the two halves of the memory's projection.
-/
module

public import proofs.«01_k».proof.Proof.Mla.Model

@[expose] public section

noncomputable section

open Idealize.ShloMosaic

namespace Cert.CrossModel

open Cert.MlaModel

variable (q k v ct : ℕ → ℕ → ℝ)

/-- The scaled score. -/
def sc (h t u : ℕ) : ℝ := (∑ d : Fin 256, q t (h * 256 + d) * k u (h * 256 + d)) * (1 / 16)

/-- The softmax weight. -/
def pr (h t u : ℕ) : ℝ := Real.exp (sc q k h t u) / ∑ w : Fin 256, Real.exp (sc q k h t w)

/-- The cotangent of the softmax weight. -/
def dp (h t u : ℕ) : ℝ := ∑ d : Fin 256, ct t (h * 256 + d) * v u (h * 256 + d)

/-- The cotangent of the product of query and key. -/
def ds (h t u : ℕ) : ℝ := pr q k h t u * (dp v ct h t u - ∑ w : Fin 256, pr q k h t w * dp v ct h t w) * (1 / 16)

/-- The gradient by the query. -/
def gq (t c : ℕ) : ℝ := ∑ u : Fin 256, ds q k v ct (c / 256) t u * k u c

/-- The part of row `t` in the gradient by the key and the value, whose columns follow each other. -/
def row (t u c : ℕ) : ℝ :=
  if c < 1024 then ds q k v ct (c / 256) t u * q t c else pr q k ((c - 1024) / 256) t u * ct t (c - 1024)

/-- The gradient by the key and the value. -/
def gkv (u c : ℕ) : ℝ := ∑ t : Fin 16384, row q k v ct t u c

theorem row_k {q k v ct : ℕ → ℕ → ℝ} {t u c : ℕ} {A B : EReal} (hc : c < 1024) (hA : A = ds q k v ct (c / 256) t u) (hB : B = q t c) :
    A * B = (row q k v ct t u c : EReal) := by
  rw [row, if_pos hc]; exact mul_eq_coe hA hB

theorem row_v {q k v ct : ℕ → ℕ → ℝ} {t u c : ℕ} {A B : EReal} (hc : 1024 ≤ c) (hA : A = pr q k ((c - 1024) / 256) t u)
    (hB : B = ct t (c - 1024)) : A * B = (row q k v ct t u c : EReal) := by
  rw [row, if_neg (by omega)]; exact mul_eq_coe hA hB

/-- A softmax weight shifted by the row's greatest score. -/
theorem soft_coe {n : ℕ} {Eu : EReal} {E E' E'' : Fin (n + 1) → EReal} (s : Fin (n + 1) → ℝ) (u : Fin (n + 1)) (hu : Eu = s u)
    (h : ∀ w, E w = s w) (h' : ∀ w, E' w = s w) (h'' : ∀ w, E'' w = s w) :
    Ideal.div (Ideal.exp (Eu - Finset.univ.fold max ⊥ E)) (∑ w, Ideal.exp (E' w - Finset.univ.fold max ⊥ E''))
      = ((Real.exp (s u) / ∑ w, Real.exp (s w) : ℝ) : EReal) := by
  obtain rfl := hu
  obtain rfl := funext h
  obtain rfl := funext h'
  obtain rfl := funext h''
  obtain ⟨M, hM⟩ := fold_max_coe (fun w => (s w : EReal)) s fun _ => rfl
  rw [hM, sum_eq_coe (f := fun w => Real.exp (s w - M)) fun w => by rw [← EReal.coe_sub, Ideal.exp_coe], ← EReal.coe_sub,
    Ideal.exp_coe, div_coe' _ _ (sum_exp_pos (fun w => s w - M)).ne', softmax_shift]

/-- The softmax's derivative. -/
theorem soft_grad {n : ℕ} {P D S : EReal} {P' D' : Fin (n + 1) → EReal} {p d : ℝ} {p' d' : Fin (n + 1) → ℝ} (hP : P = p)
    (hD : D = d) (hP' : ∀ w, P' w = p' w) (hD' : ∀ w, D' w = d' w) (hS : S = ((1 / 16 : ℝ) : EReal)) :
    P * (D - ∑ w, P' w * D' w) * S = ((p * (d - ∑ w, p' w * d' w) * (1 / 16) : ℝ) : EReal) := by
  rw [hP, hD, hS, sum_eq_coe fun w => mul_eq_coe (hP' w) (hD' w), ← EReal.coe_sub, ← EReal.coe_mul, ← EReal.coe_mul]

theorem lit_scale : Ideal.ofBits .f32 0x3D800000#32 = ((1 / 16 : ℝ) : EReal) := by
  simp [Ideal.ofBits, Ideal.ieee, -EReal.coe_mul]; norm_num

theorem lit_bot : Ideal.ofBits .f32 0xFF800000#32 = ⊥ := by
  simp [Ideal.ofBits, Ideal.ieee]

end Cert.CrossModel

end
-- ==== Proof.Cross.Ref.lean ====
/-
  The cross attention's reference read over the real numbers.
-/
module

public import proofs.«01_k».proof.Proof.Cross.Model
public import proofs.«01_k».proof.Proof.Mla.Ref
public import proofs.«01_k».proof.Proof.Gen.CrossRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo

namespace Cert.CrossRefIdeal.RefValue

open Cert.CrossRefIdeal Cert.CrossRefIdeal.Read Cert.MlaModel Cert.CrossModel
open Cert.MlaRefIdeal.RefValue (ds_of_parts)

variable {q k v ct : ℕ → ℕ → ℝ}
  {x0 : (⟨S16384x1024, .f32⟩ : BufTy).Contents (Elt Ideal)} {x1 : (⟨S256x2048, .f32⟩ : BufTy).Contents (Elt Ideal)}
  {x2 : (⟨S16384x1024, .f32⟩ : BufTy).Contents (Elt Ideal)}
  (h0 : ∀ i, x0 i = (q (i 0) (i 1) : EReal))
  (hk : ∀ i, (i 1 : ℕ) < 1024 → x1 i = (k (i 0) (i 1) : EReal))
  (hv : ∀ i, 1024 ≤ (i 1 : ℕ) → x1 i = (v (i 0) (i 1 - 1024) : EReal))
  (h2 : ∀ i, x2 i = (ct (i 0) (i 1) : EReal))

include h0 in
theorem v0 (i : S16384x4x256.Idx) : val_main_v0 (F := Ideal) x0 i = ((q (i 0) (i 1 * 256 + i 2) : ℝ) : EReal) := by
  simp only [val_main_v0]
  pointwise
  exact real2 q (h0 _) (by blk_simp; try omega) (by blk_simp; try omega)

include hk in
theorem v3 (i : S256x4x256.Idx) : val_main_v3 (F := Ideal) x1 i = ((k (i 0) (i 1 * 256 + i 2) : ℝ) : EReal) := by
  simp only [val_main_v3, val_main_v2, val_main_v1]
  pointwise
  have a : (i 1 : ℕ) < 4 := (i 1).isLt
  have b : (i 2 : ℕ) < 256 := (i 2).isLt
  refine real2 k (hk _ ?_) ?_ ?_
  all_goals (blk_simp; try dsimp only; try omega)

include hv in
theorem v36 (i : S256x4x256.Idx) : val_main_v36 (F := Ideal) x1 i = ((v (i 0) (i 1 * 256 + i 2) : ℝ) : EReal) := by
  simp only [val_main_v36, val_main_v35, val_main_v1]
  pointwise
  refine real2 v (hv _ ?_) ?_ ?_
  all_goals (blk_simp; try dsimp only; try omega)

include h2 in
theorem v41 (i : S4x256x16384.Idx) : val_main_v41 (F := Ideal) x2 i = ((ct (i 2) (i 0 * 256 + i 1) : ℝ) : EReal) := by
  simp only [val_main_v41, val_main_v40]
  pointwise
  exact real2 ct (h2 _) (by blk_simp; try omega) (by blk_simp; try omega)

include h0 hk in
theorem v6 (i : S4x16384x256.Idx) : val_main_v6 (F := Ideal) x0 x1 i = ((sc q k (i 0) (i 1) (i 2) : ℝ) : EReal) := by
  simp only [val_main_v6, val_main_v5, val_main_v4, val_main_cst]
  pointwise
  rw [lit_scale]
  exact mul_eq_coe (sum_eq_coe fun d => mul_eq_coe (v0 h0 _) (v3 hk _)) rfl

include h0 hk in
/-- The row's greatest score is a real number. -/
theorem v7 (i : S4x16384.Idx) :
    val_main_v7 (F := Ideal) x0 x1 i = ((val_main_v7 (F := Ideal) x0 x1 i).toReal : EReal) := by
  have e : ∃ M : ℝ, val_main_v7 (F := Ideal) x0 x1 i = M := by
    simp only [val_main_v7, val_main_cst_0]
    pointwise
    rw [lit_bot]
    exact fold_max_coe (n := 255) _ _ fun k => v6 h0 hk _
  obtain ⟨M, hM⟩ := e
  rw [hM, EReal.toReal_coe]

/-- The row's greatest score, by which the exponents are shifted. -/
def top (x0 : (⟨S16384x1024, .f32⟩ : BufTy).Contents (Elt Ideal)) (x1 : (⟨S256x2048, .f32⟩ : BufTy).Contents (Elt Ideal))
    (h : Fin 4) (t : Fin 16384) : ℝ :=
  (val_main_v7 (F := Ideal) x0 x1 (ix2 h t)).toReal

include h0 hk in
theorem v27 (i : S4x16384x256.Idx) : val_main_v27 (F := Ideal) x0 x1 i
    = ((Real.exp (sc q k (i 0) (i 1) (i 2) - top x0 x1 (i 0) (i 1)) : ℝ) : EReal) := by
  rw [val_main_v27_apply, val_main_v26_apply, val_main_v25_apply, val_main_v24_apply, val_main_v14_apply, val_main_v13_apply,
    v6 h0 hk]
  rw [show val_main_v7 (F := Ideal) x0 x1 (idx_main_v24 (idx_main_v25 i)) = (top x0 x1 (i 0) (i 1) : EReal) from
    (v7 h0 hk _).trans (congrArg (fun j => ((val_main_v7 (F := Ideal) x0 x1 j).toReal : EReal)) (by idx_ext))]
  generalize sc q k (i 0) (i 1) (i 2) = S
  generalize top x0 x1 (i 0) (i 1) = M
  simp only [val_main_cst_2]
  pointwise
  rw [lit_bot, max_eq_right bot_le, ← EReal.coe_sub, Ideal.exp_coe]

include h0 hk in
theorem v28 (i : S4x16384.Idx) : val_main_v28 (F := Ideal) x0 x1 i
    = ((∑ u : Fin 256, Real.exp (sc q k (i 0) (i 1) u - top x0 x1 (i 0) (i 1)) : ℝ) : EReal) := by
  simp only [val_main_v28, val_main_cst_8]
  pointwise
  exact sum_eq_coe fun u => v27 h0 hk _

include h0 hk in
theorem v31 (i : S4x16384x256.Idx) :
    val_main_v31 (F := Ideal) x0 x1 i = ((pr q k (i 0) (i 1) (i 2) : ℝ) : EReal) := by
  simp only [val_main_v31, val_main_v30, val_main_v29]
  pointwise
  rw [v27 h0 hk, v28 h0 hk, div_coe' _ _ (sum_exp_pos (n := 255) _).ne']
  exact congrArg _ (softmax_shift (fun u : Fin 256 => sc q k (i 0) (i 1) u) _ (i 2))

include hv h2 in
theorem v42 (i : S4x16384x256.Idx) :
    val_main_v42 (F := Ideal) x1 x2 i = ((dp v ct (i 0) (i 1) (i 2) : ℝ) : EReal) := by
  simp only [val_main_v42]
  pointwise
  exact sum_eq_coe fun d => mul_eq_coe (v41 h2 _) (v36 hv _)

include h0 hk hv h2 in
theorem v60 (i : S4x16384x256.Idx) :
    val_main_v60 (F := Ideal) x0 x1 x2 i = ((ds q k v ct (i 0) (i 1) (i 2) : ℝ) : EReal) := by
  simp only [val_main_v60, val_main_v59, val_main_cst_13, val_main_v58, val_main_v57, val_main_v56, val_main_v55, val_main_cst_12,
    val_main_v54, val_main_v53, val_main_v52, val_main_v51, val_main_v50, val_main_cst_11, val_main_v49, val_main_v48,
    val_main_v47, val_main_v34, val_main_v33, val_main_cst_9, val_main_v32, val_main_v29]
  pointwise
  rw [lit_scale]
  have key := ds_of_parts (fun w : Fin 256 => Real.exp (sc q k (i 0) (i 1) w - top x0 x1 (i 0) (i 1)))
    (fun w => dp v ct (i 0) (i 1) w) (fun w => pr q k (i 0) (i 1) w) (sum_exp_pos (n := 255) _).ne'
    (softmax_shift (fun u : Fin 256 => sc q k (i 0) (i 1) u) _) (i 2)
    (E := fun w => val_main_v27 (F := Ideal) x0 x1 (ix3 (i 0) (i 1) w))
    (D := fun w => val_main_v42 (F := Ideal) x1 x2 (ix3 (i 0) (i 1) w)) (fun w => v27 h0 hk _)
    (fun w => v42 hv h2 _) (v28 h0 hk (ix2 (i 0) (i 1))) (v27 h0 hk i) (v42 hv h2 i)
  exact mul_eq_coe key rfl

include h0 hk hv h2 in
/-- The gradient by the query. -/
theorem v70 (i : S16384x1024.Idx) :
    val_main_v70 (F := Ideal) x0 x1 x2 i = ((gq q k v ct (i 0) (i 1) : ℝ) : EReal) := by
  simp only [val_main_v70, val_main_v69, val_main_v64, val_main_v63]
  pointwise
  refine sum_eq_coe fun u => mul_eq_coe (real3 (ds q k v ct) (v60 h0 hk hv h2 _) ?_ ?_ ?_) (real2 k (v3 hk _) ?_ ?_)
  all_goals (blk_simp; try dsimp only; try omega)

/-- Two zero-padded halves side by side. -/
theorem either {p q : Prop} [Decidable p] [Decidable q] {f : p → EReal} {g : q → EReal} {r : EReal} (h : p ↔ ¬q)
    (hf : ∀ h, f h = r) (hg : ∀ h, g h = r) : (if h : p then f h else 0) + (if h : q then g h else 0) = r := by
  by_cases hp : p
  · rw [dif_pos hp, dif_neg (h.mp hp), hf, add_zero]
  · rw [dif_neg hp, dif_pos (not_not.mp fun hq => hp (h.mpr hq)), hg, zero_add]

include h0 hk hv h2 in
/-- The gradient by the key and the value. -/
theorem v68 (i : S256x2048.Idx) :
    val_main_v68 (F := Ideal) x0 x1 x2 i = ((gkv q k v ct (i 0) (i 1) : ℝ) : EReal) := by
  simp only [val_main_v68, val_main_v67, val_main_v46, val_main_v66, val_main_v45, val_main_v65, val_main_v44, val_main_v62,
    val_main_v43, val_main_v61, val_main_cst_10, val_main_cst_14]
  pointwise
  have b : (i 1 : ℕ) < 2048 := (i 1).isLt
  refine either (by omega) (fun h => ?_) (fun h => ?_)
  · refine sum_eq_coe fun t => (mul_comm _ _).trans (row_v (by omega) (real3 (pr q k) (v31 h0 hk _) ?_ ?_ ?_) (real2 ct (v41 h2 _) ?_ ?_))
    all_goals (blk_simp; try dsimp only; try omega)
  · refine sum_eq_coe fun t => row_k (by omega) (real3 (ds q k v ct) (v60 h0 hk hv h2 _) ?_ ?_ ?_) (real2 q (v0 h0 _) ?_ ?_)
    all_goals (blk_simp; try dsimp only; try omega)

end Cert.CrossRefIdeal.RefValue

end
-- ==== Proof.Cross.Block.lean ====
/-
  What one grid point of the cross attention's kernel stores, of blocks that hold real numbers.
-/
module

public import proofs.«01_k».proof.Proof.Cross.Model
public import proofs.«01_k».proof.Proof.Mla.Back
public import proofs.«01_k».proof.Proof.Gen.CrossIdeal.Value
public import Idealize.ShloMosaic.Lib.Pipeline.ValueKit
public import Idealize.ShloMosaic.Lib.Pipeline.Value
public import Idealize.ShloMosaic.Lib.Claim
public import Idealize.ShloMosaic.Lib.StableHlo.RunRead
public import Idealize.ShloMosaic.Lib.Pointwise

@[expose] public section

set_option maxRecDepth 16384
set_option maxHeartbeats 2000000

noncomputable section

open Idealize.ShloMosaic Idealize.ShloMosaic.TcCoe Idealize.SL.Sem Idealize.ShloMosaic.StableHlo

namespace Cert.CrossIdeal.RefValue

open Cert.CrossIdeal Cert.CrossIdeal.Gen Cert.MlaModel Cert.CrossModel
open Cert.MlaIdeal.RefValue (canon_append_of_cover)

variable (m : (ℓ : Loc nD τ sig) → Buf (Elt Ideal) ℓ) {q k v ct : ℕ → ℕ → ℝ}

/-- The blocks of grid point `t` hold these numbers. -/
structure Blocks (q k v ct : ℕ → ℕ → ℝ) (c : Dev nD) (t : Fin cfg0.N) : Prop where
  e0 : ∀ i, iblk m c 0 t i = (q (i 0) (i 1) : EReal)
  e1 : ∀ i, iblk m c 1 t i = (k (i 0) (i 1) : EReal)
  e2 : ∀ i, iblk m c 2 t i = (v (i 0) (i 1) : EReal)
  e3 : ∀ i, iblk m c 3 t i = (ct (i 0) (i 1) : EReal)

variable {c : Dev nD} {t : Fin cfg0.N} (B : Blocks m q k v ct c t)
include B

theorem dq_pt (y : S512x1024.Idx) :
    (outsAt0 m c t.val t.isLt).1 y = (gq q k v ct (y 0) (y 1) : EReal) := by
  obtain ⟨e0, e1, e2, e3⟩ := B
  by_cases h0 : t.val % 32 = 0
  rw [outsAt0_A m c t h0]
  rotate_left
  rw [outsAt0_B m c t h0]
  all_goals
    dsimp only
    generalize iblk m c 0 t = x0 at *
    generalize iblk m c 1 t = x1 at *
    generalize iblk m c 2 t = x2 at *
    generalize iblk m c 3 t = x3 at *
    frame_out
    clear h0
    canon_tiles x h
    all_goals
      have b : (x 1 : ℕ) < 256 := (x 1).isLt
      open_payloads; pointwise
      rw [lit_scale, lit_bot]
      refine sum_eq_coe fun u => mul_eq_coe (soft_grad
          (soft_coe (fun w => sc q k _ _ w) _ (mul_eq_coe (sum_eq_coe fun d => mul_eq_coe (real2 q (e0 _) ?_ ?_) (real2 k (e1 _) ?_ ?_)) rfl)
            (fun w => (mul_eq_coe (sum_eq_coe fun d => mul_eq_coe (real2 q (e0 _) ?_ ?_) (real2 k (e1 _) ?_ ?_)) rfl))
            (fun w => (mul_eq_coe (sum_eq_coe fun d => mul_eq_coe (real2 q (e0 _) ?_ ?_) (real2 k (e1 _) ?_ ?_)) rfl))
            (fun w => (mul_eq_coe (sum_eq_coe fun d => mul_eq_coe (real2 q (e0 _) ?_ ?_) (real2 k (e1 _) ?_ ?_)) rfl)))
          (sum_eq_coe fun d => mul_eq_coe (real2 ct (e3 _) ?_ ?_) (real2 v (e2 _) ?_ ?_))
          (fun w => (soft_coe (fun w => sc q k _ _ w) _ (mul_eq_coe (sum_eq_coe fun d => mul_eq_coe (real2 q (e0 _) ?_ ?_) (real2 k (e1 _) ?_ ?_)) rfl)
            (fun w => (mul_eq_coe (sum_eq_coe fun d => mul_eq_coe (real2 q (e0 _) ?_ ?_) (real2 k (e1 _) ?_ ?_)) rfl))
            (fun w => (mul_eq_coe (sum_eq_coe fun d => mul_eq_coe (real2 q (e0 _) ?_ ?_) (real2 k (e1 _) ?_ ?_)) rfl))
            (fun w => (mul_eq_coe (sum_eq_coe fun d => mul_eq_coe (real2 q (e0 _) ?_ ?_) (real2 k (e1 _) ?_ ?_)) rfl))))
          (fun w => (sum_eq_coe fun d => mul_eq_coe (real2 ct (e3 _) ?_ ?_) (real2 v (e2 _) ?_ ?_))) rfl)
        (real2 k (e1 _) ?_ ?_)
    all_goals first | (blk_simp; try omega) | skip
    all_goals first | (dsimp only; omega) | exact (show (0 : ℕ) = _ by omega) | exact (show (1 : ℕ) = _ by omega)

theorem dkv_B (h0 : ¬t.val % 32 = 0) (p : ℕ → ℕ → ℝ)
    (hp : ∀ i, (outsAt0 m c (t.val - 1) (Nat.lt_of_le_of_lt (Nat.sub_le _ _) t.isLt)).2 i = (p (i 0) (i 1) : EReal)) (y : S256x2048.Idx) :
    (outsAt0 m c t.val t.isLt).2 y = ((p (y 0) (y 1) + ∑ r : Fin 512, row q k v ct r (y 0) (y 1) : ℝ) : EReal) := by
  obtain ⟨e0, e1, e2, e3⟩ := B
  rw [outsAt0_B m c t h0]
  dsimp only
  generalize iblk m c 0 t = x0 at *
  generalize iblk m c 1 t = x1 at *
  generalize iblk m c 2 t = x2 at *
  generalize iblk m c 3 t = x3 at *
  frame_out
  clear h0
  canon_tiles x h
  all_goals
    have b : (x 1 : ℕ) < 256 := (x 1).isLt
    open_payloads; pointwise
    rw [lit_bot]
    try rw [lit_scale]
    refine add_eq_coe (real2 p (hp _) ?_ ?_) ?_
    rotate_left 2
    first
    | refine (sum_eq_coe fun r => row_k (by omega) (soft_grad
          (soft_coe (fun w => sc q k _ _ w) _ (mul_eq_coe (sum_eq_coe fun d => mul_eq_coe (real2 q (e0 _) ?_ ?_) (real2 k (e1 _) ?_ ?_)) rfl)
            (fun w => (mul_eq_coe (sum_eq_coe fun d => mul_eq_coe (real2 q (e0 _) ?_ ?_) (real2 k (e1 _) ?_ ?_)) rfl))
            (fun w => (mul_eq_coe (sum_eq_coe fun d => mul_eq_coe (real2 q (e0 _) ?_ ?_) (real2 k (e1 _) ?_ ?_)) rfl))
            (fun w => (mul_eq_coe (sum_eq_coe fun d => mul_eq_coe (real2 q (e0 _) ?_ ?_) (real2 k (e1 _) ?_ ?_)) rfl)))
          (sum_eq_coe fun d => mul_eq_coe (real2 ct (e3 _) ?_ ?_) (real2 v (e2 _) ?_ ?_))
          (fun w => (soft_coe (fun w => sc q k _ _ w) _ (mul_eq_coe (sum_eq_coe fun d => mul_eq_coe (real2 q (e0 _) ?_ ?_) (real2 k (e1 _) ?_ ?_)) rfl)
            (fun w => (mul_eq_coe (sum_eq_coe fun d => mul_eq_coe (real2 q (e0 _) ?_ ?_) (real2 k (e1 _) ?_ ?_)) rfl))
            (fun w => (mul_eq_coe (sum_eq_coe fun d => mul_eq_coe (real2 q (e0 _) ?_ ?_) (real2 k (e1 _) ?_ ?_)) rfl))
            (fun w => (mul_eq_coe (sum_eq_coe fun d => mul_eq_coe (real2 q (e0 _) ?_ ?_) (real2 k (e1 _) ?_ ?_)) rfl))))
          (fun w => (sum_eq_coe fun d => mul_eq_coe (real2 ct (e3 _) ?_ ?_) (real2 v (e2 _) ?_ ?_))) rfl)
          (real2 q (e0 _) ?_ ?_))
    | refine (sum_eq_coe fun r => row_v (by omega) (soft_coe (fun w => sc q k _ _ w) _ (mul_eq_coe (sum_eq_coe fun d => mul_eq_coe (real2 q (e0 _) ?_ ?_) (real2 k (e1 _) ?_ ?_)) rfl)
            (fun w => (mul_eq_coe (sum_eq_coe fun d => mul_eq_coe (real2 q (e0 _) ?_ ?_) (real2 k (e1 _) ?_ ?_)) rfl))
            (fun w => (mul_eq_coe (sum_eq_coe fun d => mul_eq_coe (real2 q (e0 _) ?_ ?_) (real2 k (e1 _) ?_ ?_)) rfl))
            (fun w => (mul_eq_coe (sum_eq_coe fun d => mul_eq_coe (real2 q (e0 _) ?_ ?_) (real2 k (e1 _) ?_ ?_)) rfl)))
          (real2 ct (e3 _) ?_ ?_))
    all_goals first | (blk_simp; try omega) | skip
    all_goals first | (dsimp only; omega) | exact (show (0 : ℕ) = _ by omega) | exact (show (1 : ℕ) = _ by omega)

theorem dkv_A (h0 : t.val % 32 = 0) (y : S256x2048.Idx) :
    (outsAt0 m c t.val t.isLt).2 y = ((∑ r : Fin 512, row q k v ct r (y 0) (y 1) : ℝ) : EReal) := by
  obtain ⟨e0, e1, e2, e3⟩ := B
  rw [outsAt0_A m c t h0]
  dsimp only
  generalize iblk m c 0 t = x0 at *
  generalize iblk m c 1 t = x1 at *
  generalize iblk m c 2 t = x2 at *
  generalize iblk m c 3 t = x3 at *
  frame_open
  simp (disch := decide) only [↓ View.readCov_skip, ↓ View.readCov_cons_toLoadRect, ↓ View.readCov_fill]
  frame_out
  clear h0
  refine (canon_append_of_cover [_, _, _, _, _, _, _, _] [_] y (View.cover_of_tiled_head _ _ _ (by rfl) y)).trans ?_
  canon_tiles x h
  all_goals
    have b : (x 1 : ℕ) < 256 := (x 1).isLt
    open_payloads; pointwise
    rw [lit_bot]
    try rw [lit_scale]
    first
    | refine (sum_eq_coe fun r => row_k (by omega) (soft_grad
          (soft_coe (fun w => sc q k _ _ w) _ (mul_eq_coe (sum_eq_coe fun d => mul_eq_coe (real2 q (e0 _) ?_ ?_) (real2 k (e1 _) ?_ ?_)) rfl)
            (fun w => (mul_eq_coe (sum_eq_coe fun d => mul_eq_coe (real2 q (e0 _) ?_ ?_) (real2 k (e1 _) ?_ ?_)) rfl))
            (fun w => (mul_eq_coe (sum_eq_coe fun d => mul_eq_coe (real2 q (e0 _) ?_ ?_) (real2 k (e1 _) ?_ ?_)) rfl))
            (fun w => (mul_eq_coe (sum_eq_coe fun d => mul_eq_coe (real2 q (e0 _) ?_ ?_) (real2 k (e1 _) ?_ ?_)) rfl)))
          (sum_eq_coe fun d => mul_eq_coe (real2 ct (e3 _) ?_ ?_) (real2 v (e2 _) ?_ ?_))
          (fun w => (soft_coe (fun w => sc q k _ _ w) _ (mul_eq_coe (sum_eq_coe fun d => mul_eq_coe (real2 q (e0 _) ?_ ?_) (real2 k (e1 _) ?_ ?_)) rfl)
            (fun w => (mul_eq_coe (sum_eq_coe fun d => mul_eq_coe (real2 q (e0 _) ?_ ?_) (real2 k (e1 _) ?_ ?_)) rfl))
            (fun w => (mul_eq_coe (sum_eq_coe fun d => mul_eq_coe (real2 q (e0 _) ?_ ?_) (real2 k (e1 _) ?_ ?_)) rfl))
            (fun w => (mul_eq_coe (sum_eq_coe fun d => mul_eq_coe (real2 q (e0 _) ?_ ?_) (real2 k (e1 _) ?_ ?_)) rfl))))
          (fun w => (sum_eq_coe fun d => mul_eq_coe (real2 ct (e3 _) ?_ ?_) (real2 v (e2 _) ?_ ?_))) rfl)
          (real2 q (e0 _) ?_ ?_))
    | refine (sum_eq_coe fun r => row_v (by omega) (soft_coe (fun w => sc q k _ _ w) _ (mul_eq_coe (sum_eq_coe fun d => mul_eq_coe (real2 q (e0 _) ?_ ?_) (real2 k (e1 _) ?_ ?_)) rfl)
            (fun w => (mul_eq_coe (sum_eq_coe fun d => mul_eq_coe (real2 q (e0 _) ?_ ?_) (real2 k (e1 _) ?_ ?_)) rfl))
            (fun w => (mul_eq_coe (sum_eq_coe fun d => mul_eq_coe (real2 q (e0 _) ?_ ?_) (real2 k (e1 _) ?_ ?_)) rfl))
            (fun w => (mul_eq_coe (sum_eq_coe fun d => mul_eq_coe (real2 q (e0 _) ?_ ?_) (real2 k (e1 _) ?_ ?_)) rfl)))
          (real2 ct (e3 _) ?_ ?_))
    all_goals first | (blk_simp; try omega) | skip
    all_goals first | (dsimp only; omega) | exact (show (0 : ℕ) = _ by omega) | exact (show (1 : ℕ) = _ by omega)

omit B

/-! ## The arrays -/

theorem idx : ∀ t : Fin cfg0.N, win0_0.index t = ![t.val, 0] ∧ win0_1.index t = ![0, 0] ∧ win0_2.index t = ![0, 1] ∧
    win0_3.index t = ![t.val, 0] ∧ win0_4.index t = ![t.val, 0] ∧ win0_5.index t = ![0, 0] :=
  (by decide +kernel : ∀ t : Fin grid0.N, _)

/-- The arguments hold these numbers. -/
structure Args (q k v ct : ℕ → ℕ → ℝ) (c : Dev nD) : Prop where
  a0 : ∀ i, m ((c.tc : Thread nD τ).loc main_arg0) i = (q (i 0) (i 1) : EReal)
  ak : ∀ i, (i 1 : ℕ) < 1024 → m ((c.tc : Thread nD τ).loc main_arg1) i = (k (i 0) (i 1) : EReal)
  av : ∀ i, 1024 ≤ (i 1 : ℕ) → m ((c.tc : Thread nD τ).loc main_arg1) i = (v (i 0) (i 1 - 1024) : EReal)
  a2 : ∀ i, m ((c.tc : Thread nD τ).loc main_arg2) i = (ct (i 0) (i 1) : EReal)

variable (A : Args m q k v ct c)
include A

omit t in
theorem query (i : S16384x1024.Idx) : V m c main_v0 i = (q (i 0) (i 1) : EReal) := by
  after_reads_simp [V, hostOps0]
  exact A.a0 _

omit t in
theorem key (i : S256x2048.Idx) (a b : ℕ) (h : (i 1 : ℕ) < 1024) (ha : (i 0 : ℕ) = a) (hb : (i 1 : ℕ) = b) :
    V m c main_v1 i = (k a b : EReal) := by
  after_reads_simp [V, hostOps0]
  exact real2 k (A.ak _ h) ha hb

omit t in
theorem value (i : S256x2048.Idx) (a b : ℕ) (ha : (i 0 : ℕ) = a) (hb : (i 1 : ℕ) = 1024 + b) :
    V m c main_v1 i = (v a b : EReal) := by
  after_reads_simp [V, hostOps0]
  exact real2 v (A.av _ (by omega)) ha (by omega)

omit t in
theorem cotangent (i : S16384x1024.Idx) : V m c main_v2 i = (ct (i 0) (i 1) : EReal) := by
  after_reads_simp [V, hostOps0]
  exact A.a2 _

theorem blocks (t : Fin cfg0.N) : Blocks m (fun r => q (t.val * 512 + r)) k v (fun r => ct (t.val * 512 + r)) c t := by
  refine ⟨fun i => ?_, fun i => ?_, fun i => ?_, fun i => ?_⟩
  all_goals
    unfold iblk
    rw [View.read_apply]
    first
    | exact (query m A _).trans (by blk_simp [idx t])
    | exact (cotangent m A _).trans (by blk_simp [idx t])
    | exact value m A _ _ _ (by blk_simp [idx t]) (by blk_simp [idx t])
    | exact key m A _ _ _ (by blk_simp [idx t]; exact (i 1).isLt) (by blk_simp [idx t]) (by blk_simp [idx t])

/-- The gradient by the key and the value summed over the first `n` rows. -/
def rowSum (q k v ct : ℕ → ℕ → ℝ) (n u d : ℕ) : ℝ := ∑ r ∈ Finset.range n, row q k v ct r u d

omit A in
theorem rowSum_fin (q k v ct : ℕ → ℕ → ℝ) (n u d : ℕ) : rowSum q k v ct n u d = ∑ r : Fin n, row q k v ct r u d :=
  (Fin.sum_univ_eq_sum_range (fun r => row q k v ct r u d) n).symm

omit A in
/-- One more tile of rows. -/
theorem rowSum_step (q k v ct : ℕ → ℕ → ℝ) (n u d : ℕ) :
    rowSum q k v ct ((n + 1) * 512) u d = rowSum q k v ct (n * 512) u d
      + ∑ r : Fin 512, row (fun r => q (n * 512 + r)) k v (fun r => ct (n * 512 + r)) r u d := by
  rw [Fin.sum_univ_eq_sum_range (fun r => row (fun r => q (n * 512 + r)) k v (fun r => ct (n * 512 + r)) r u d) 512]
  simp only [rowSum, add_mul, Finset.sum_range_add, one_mul]
  rfl

theorem dkv_acc (n : ℕ) : ∀ (h : n < cfg0.N) (y : S256x2048.Idx),
    (outsAt0 m c n h).2 y = (rowSum q k v ct ((n + 1) * 512) (y 0) (y 1) : EReal) := by
  induction n with
  | zero =>
    intro h y
    rw [dkv_A m (blocks m A ⟨0, h⟩) (by simp) y, rowSum_step]
    simp [rowSum]
  | succ n ih =>
    intro h y
    have hN : n + 1 < 32 := h
    rw [dkv_B m (blocks m A ⟨n + 1, h⟩) (by show ¬(n + 1) % 32 = 0; omega) _ (fun i => ih _ i) y]
    exact congrArg _ (rowSum_step q k v ct (n + 1) _ _).symm

theorem final4 : (dats m 0 c).arrAt 4 cfg0.N = fun i : S16384x1024.Idx => (gq q k v ct (i 0) (i 1) : EReal) := by
  refine (dats m 0 c).arrAt_eq_of_covers 4 _ (by decide +kernel) fun t hf y => ?_
  blk_simp [idx t]
  rw [after0_4]
  exact dq_pt m (blocks m A t) y

theorem final5 : (dats m 0 c).arrAt 5 cfg0.N = fun i : S256x2048.Idx => (rowSum q k v ct 16384 (i 0) (i 1) : EReal) := by
  refine (dats m 0 c).arrAt_eq_of_covers 5 _ (by decide +kernel) fun t hf y => ?_
  have h1 : t.val % 32 = 31 := (flush0_5 t).mp hf
  have hN : t.val < 32 := t.isLt
  blk_simp [idx t]
  rw [after0_5]
  refine (dkv_acc m A _ _ y).trans ?_
  rw [show t.val = 31 by omega]

end Cert.CrossIdeal.RefValue

end
-- ==== Proof.Cross.lean ====
/-
  The claims about the gradient of the cross attention over the memory.
-/
module

public import proofs.«01_k».proof.Defs
public import proofs.«01_k».proof.Proof.Finite
public import proofs.«01_k».proof.Proof.Gen.Pre_cross_finite
public import proofs.«01_k».proof.Proof.Gen.Cross.Frame
public import proofs.«01_k».proof.Proof.Gen.CrossRefIdeal.Run
public import proofs.«01_k».proof.Proof.Cross.Ref
public import proofs.«01_k».proof.Proof.Cross.Block

@[expose] public section

set_option maxRecDepth 16384

noncomputable section

open Idealize.ShloMosaic Idealize.ShloMosaic.TcCoe Idealize.SL.Sem Idealize.ShloMosaic.StableHlo

namespace Cert.Proof.CrossClaims

theorem frame : Cert.quiescent_Cross := fun m ρ _ => Cert.Cross.Gen.frame m ρ
theorem frame_ideal : Cert.quiescent_CrossIdeal := fun m ρ _ => Cert.CrossIdeal.Gen.frame m ρ
theorem frame_ideal_pre : Cert.quiescent_CrossIdeal_pre_cross_finite := fun m ρ _ => Cert.CrossIdeal.Gen.frame m ρ
theorem frame_ref : Cert.quiescent_CrossRefIdeal := fun m ρ _ => by
  refine (θ_run Cert.CrossRefIdeal.defs _ _).mono (fun r h => ⟨fun c => ?_,
    Idealize.ShloMosaic.sem_eq_zero_of_no_sems (by decide) r.2⟩) (Cert.CrossRefIdeal.Value.run (F := Ideal) m ρ)
  exact (h c).2.2
theorem frame_ref_pre : Cert.quiescent_CrossRefIdeal_pre_cross_finite := fun m ρ _ => frame_ref m ρ trivial
theorem preserves : Cert.preserves_Cross_CrossIdeal := trivial

/-- Under the precondition the arguments are real functions of their coordinates. -/
theorem args_of_pre {m : (ℓ : Loc Cert.CrossIdeal.nD Cert.CrossIdeal.τ Cert.CrossIdeal.sig) → Buf (Elt Ideal) ℓ}
    (h : Cert.Pre_CrossIdeal_cross_finite m) (c : Dev Cert.CrossIdeal.nD) :
    ∃ q k v ct, Cert.CrossIdeal.RefValue.Args m q k v ct c := by
  have e := congrFun (h c) ix0
  dsimp only [Cert.Pre_cross_finite.fn] at e
  obtain ⟨e, e2⟩ := Cert.Finite.both e
  obtain ⟨e0, e1⟩ := Cert.Finite.both e
  obtain ⟨q, hq⟩ := Cert.Finite.real2_of _ (Cert.Finite.real_of_all _ _ (fun _ => rfl) _ _ _ _ e0)
  obtain ⟨kv, hkv⟩ := Cert.Finite.real2_of _ (Cert.Finite.real_of_all _ _ (fun _ => rfl) _ _ _ _ e1)
  obtain ⟨ct, hct⟩ := Cert.Finite.real2_of _ (Cert.Finite.real_of_all _ _ (fun _ => rfl) _ _ _ _ e2)
  exact ⟨q, kv, fun u d => kv u (1024 + d), ct, hq, fun i _ => hkv i,
    fun i hi => Cert.MlaModel.real2 kv (hkv i) rfl (by omega), hct⟩

open Cert.CrossIdeal.RefValue Cert.CrossIdeal.Gen Cert.CrossRefIdeal in
/-- Both gradients of the kernel and of the reference agree, from finite arguments. -/
theorem algebraic : Cert.algebraic_CrossIdeal_CrossRefIdeal_pre_cross_finite := by
  intro m g m' g' hpre hagree
  refine ⟨fun c => (dats m 0 c).arrAt 4 Cert.CrossIdeal.cfg0.N, fun c => (dats m 0 c).arrAt 5 Cert.CrossIdeal.cfg0.N,
    Cert.CrossIdeal.Value.run_blocks m g, ?_⟩
  refine (θ_run Cert.CrossRefIdeal.defs _ _).mono (fun r h c => ?_) (Cert.CrossRefIdeal.Value.run m' g')
  obtain ⟨q, k, v, ct, A⟩ := args_of_pre hpre c
  obtain ⟨e0, e1, e2⟩ := hagree c
  have h0 : ∀ i, m' ((c.tc : Thread nD τ).loc main_arg0) i = (q (i 0) (i 1) : EReal) :=
    fun i => (congrFun e0 i).trans (A.a0 i)
  have hk : ∀ i, (i 1 : ℕ) < 1024 → m' ((c.tc : Thread nD τ).loc main_arg1) i = (k (i 0) (i 1) : EReal) :=
    fun i hi => (congrFun e1 i).trans (A.ak i hi)
  have hv : ∀ i, 1024 ≤ (i 1 : ℕ) → m' ((c.tc : Thread nD τ).loc main_arg1) i = (v (i 0) (i 1 - 1024) : EReal) :=
    fun i hi => (congrFun e1 i).trans (A.av i hi)
  have h2 : ∀ i, m' ((c.tc : Thread nD τ).loc main_arg2) i = (ct (i 0) (i 1) : EReal) :=
    fun i => (congrFun e2 i).trans (A.a2 i)
  obtain ⟨r0, r1, ra⟩ := h c
  refine ⟨r0.trans ?_, r1.trans ?_, ra⟩
  · refine (Read.val_main_v70_eq _ _).trans ?_
    refine Eq.trans ?_ (final4 m A).symm
    exact funext fun i => Cert.CrossRefIdeal.RefValue.v70 h0 hk hv h2 i
  · refine (Read.val_main_v68_eq _ _).trans ?_
    refine Eq.trans ?_ (final5 m A).symm
    exact funext fun i => (Cert.CrossRefIdeal.RefValue.v68 h0 hk hv h2 i).trans
      (congrArg (fun r : ℝ => (r : EReal)) (rowSum_fin q k v ct 16384 _ _)).symm

end Cert.Proof.CrossClaims

end
-- ==== Proof.Norm.lean ====
/-
  The gradient of a root-mean-square normalisation over the real numbers. One row is a function of the natural numbers
  read at `n` columns.
-/
module

public import proofs.«01_k».proof.Proof.Mla.Model

@[expose] public section

noncomputable section

open Idealize.ShloMosaic

namespace Cert.Norm

open Cert.MlaModel

/-- The constant under the root: the single-precision number next to a millionth. -/
def eps : ℝ := 8796093 / 2 ^ 43

theorem lit_eps : Ideal.ofBits .f32 0x358637BD#32 = ((eps : ℝ) : EReal) := by
  simp [Ideal.ofBits, Ideal.ieee, -EReal.coe_mul, eps]; norm_num
theorem lit_1024 : Ideal.ofBits .f32 0x44800000#32 = ((1024 : ℕ) : ℝ) := by
  simp [Ideal.ofBits, Ideal.ieee, -EReal.coe_mul]; norm_num
theorem lit_64 : Ideal.ofBits .f32 0x42800000#32 = ((64 : ℕ) : ℝ) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_1024_inv : Ideal.ofBits .f32 0x3A800000#32 = ((1 / 1024 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num

variable (n : ℕ) (x y : ℕ → ℝ)

/-- The mean square of a row, with the constant added. -/
def ms : ℝ := (∑ k : Fin n, x k * x k) / n + eps

theorem ms_pos : 0 < ms n x :=
  add_pos_of_nonneg_of_pos (div_nonneg (Finset.sum_nonneg fun k _ => mul_self_nonneg _) (Nat.cast_nonneg _)) (by norm_num [eps])

/-- One over the root mean square. -/
def rs : ℝ := (Real.sqrt (ms n x))⁻¹

/-- The gradient by `x k` of the normalised row, `y` the cotangent of the normalised row. -/
def dx (k : ℕ) : ℝ := rs n x * (y k - x k * rs n x * ((∑ j : Fin n, y j * (x j * rs n x)) / n))

theorem rsqrt_ms : Ideal.rsqrt ((ms n x : ℝ) : EReal) = ((rs n x : ℝ) : EReal) := by
  rw [Ideal.rsqrt_coe, if_neg (ms_pos n x).le.not_gt, if_neg (ms_pos n x).ne']; rfl

/-- The same gradient as the derivative of the root gives it. -/
def slope : ℝ := (∑ j : Fin n, x j * y j) * (-(1 / 2) * (rs n x / ms n x)) / n

theorem slope_dx (k : ℕ) : y k * rs n x + x k * slope n x y + slope n x y * x k = dx n x y k := by
  have h : rs n x / ms n x = rs n x * rs n x * rs n x := by
    have h2 : rs n x * rs n x = (ms n x)⁻¹ := by
      unfold rs; rw [← mul_inv, Real.mul_self_sqrt (ms_pos n x).le]
    rw [h2]; field_simp
  unfold slope dx
  rw [h, show ∑ j : Fin n, y j * (x j * rs n x) = (∑ j : Fin n, x j * y j) * rs n x by
    rw [Finset.sum_mul]; exact Finset.sum_congr rfl fun j _ => by ring]
  ring

variable {n x y}

/-- The mean square from the row's entries. -/
theorem ms_coe {X : Fin n → EReal} (hX : ∀ k, X k = x k) (h : (n : ℝ) ≠ 0) :
    Ideal.div (∑ k, X k * X k) ((n : ℝ) : EReal) + ((eps : ℝ) : EReal) = ((ms n x : ℝ) : EReal) := by
  rw [sum_eq_coe (f := fun k : Fin n => x k * x k) fun k => mul_eq_coe (hX k) (hX k), div_coe' _ _ h, ← EReal.coe_add]
  rfl

theorem rs_coe {X : Fin n → EReal} (hX : ∀ k, X k = x k) (h : (n : ℝ) ≠ 0) :
    Ideal.rsqrt (Ideal.div (∑ k, X k * X k) ((n : ℝ) : EReal) + ((eps : ℝ) : EReal)) = ((rs n x : ℝ) : EReal) := by
  rw [ms_coe hX h, rsqrt_ms]

theorem sub_eq_coe {a b : EReal} {x y : ℝ} (ha : a = x) (hb : b = y) : a - b = ((x - y : ℝ) : EReal) := by
  rw [ha, hb, EReal.coe_sub]

theorem div_eq_coe {a b : EReal} {x y : ℝ} (ha : a = x) (hb : b = y) (h : y ≠ 0) : Ideal.div a b = ((x / y : ℝ) : EReal) := by
  rw [ha, hb, div_coe' _ _ h]

/-- The gradient from the normalised row `R * X`, its cotangent `Y` and the row's scale `R`. -/
theorem dx_coe {R : EReal} {X Y : Fin n → EReal} {x0 y0 : EReal} {k : ℕ} (hR : R = rs n x) (hX : ∀ j, X j = x j)
    (hY : ∀ j, Y j = y j) (hx : x0 = x k) (hy : y0 = y k) (h : (n : ℝ) ≠ 0) :
    R * (y0 - x0 * R * Ideal.div (∑ j, Y j * (X j * R)) ((n : ℝ) : EReal)) = ((dx n x y k : ℝ) : EReal) :=
  mul_eq_coe hR (sub_eq_coe hy (mul_eq_coe (mul_eq_coe hx hR)
    (div_eq_coe (sum_eq_coe fun j => mul_eq_coe (hY j) (mul_eq_coe (hX j) hR)) rfl h)))

theorem real1 (f : ℕ → ℝ) {e : EReal} {a a' : ℕ} (he : e = (f a : EReal)) (ha : a = a') : e = (f a' : EReal) := by
  rw [he, ha]

/-! ## The squared error of a normalised row -/

/-- The row's error against its target. -/
def err (n : ℕ) (x g t : ℕ → ℝ) (k : ℕ) : ℝ := x k * rs n x * g k - t k

/-- The row's mean squared error. -/
def msq (n : ℕ) (x g t : ℕ → ℝ) : ℝ := (∑ k : Fin n, err n x g t k * err n x g t k) / n

theorem err_coe {g t : ℕ → ℝ} {R x0 g0 t0 : EReal} {k : ℕ} (hx : x0 = x k) (hR : R = rs n x) (hg : g0 = g k) (ht : t0 = t k) :
    x0 * R * g0 - t0 = (err n x g t k : EReal) := sub_eq_coe (mul_eq_coe (mul_eq_coe hx hR) hg) ht

end Cert.Norm

end
-- ==== Proof.HgrnOut.Model.lean ====
/-
  The gradient of the norm and the gate that end the recurrence, as real functions of ℕ coordinates.
-/
module

public import proofs.«01_k».proof.Proof.Norm

@[expose] public section

noncomputable section

open Idealize.ShloMosaic Cert.MlaModel Cert.Norm

namespace Cert.HgrnOutModel

/-- The logistic function. -/
def sg (v : ℝ) : ℝ := (1 + Real.exp (-v))⁻¹

/-- The slope of `v · sg v`. -/
def dsilu (v : ℝ) : ℝ := sg v * (1 + v * (1 - sg v))

theorem sg_coe {a : EReal} {x : ℝ} (h : a = x) : Ideal.logistic a = (sg x : EReal) := by
  rw [h, Ideal.logistic_coe, sg]

theorem sg_div (x : ℝ) : Ideal.div 1 (1 + Ideal.exp (-(x : EReal))) = (sg x : EReal) := by
  have h : (1 : ℝ) + Real.exp (-x) ≠ 0 := by positivity
  rw [← EReal.coe_neg, Ideal.exp_coe]
  refine (div_eq_coe (x := 1) (y := 1 + Real.exp (-x)) EReal.coe_one.symm (add_eq_coe EReal.coe_one.symm rfl) h).trans ?_
  rw [one_div]
  rfl

theorem dsilu_coe {a s s' o o' : EReal} {x : ℝ} (h : a = x) (hs : s = sg x) (hs' : s' = sg x) (ho : o = (1 : ℝ)) (ho' : o' = (1 : ℝ)) :
    s * (o + a * (o' - s')) = (dsilu x : EReal) :=
  mul_eq_coe hs (add_eq_coe ho (mul_eq_coe h (sub_eq_coe ho' hs')))

variable (a b : ℕ → ℕ → ℕ → ℝ) (g : ℕ → ℕ → ℝ) (w : ℕ → ℝ) (ct : ℕ → ℕ → ℝ)

/-- The two directions' states read out, added. -/
def o (h r k : ℕ) : ℝ := a h r k + b h r k

/-- The cotangent of the normalised, weighted row of head `h`. -/
def dn (h r k : ℕ) : ℝ := ct r (64 * h + k) * (g r (64 * h + k) * sg (g r (64 * h + k)))

/-- The gradient by the recurrence's output. -/
def dO (h r k : ℕ) : ℝ := dx 64 (o a b h r) (fun k => dn g ct h r k * w k) k

/-- The gradient by the gate. -/
def dG (r j : ℕ) : ℝ :=
  ct r j * (o a b (j / 64) r (j % 64) * rs 64 (o a b (j / 64) r) * w (j % 64)) * dsilu (g r j)

variable {a b g w ct} {h r k j : ℕ}

theorem o_coe {A B : EReal} (ha : A = a h r k) (hb : B = b h r k) : A + B = (o a b h r k : EReal) := add_eq_coe ha hb

theorem dn_coe {C G G' : EReal} (hc : C = ct r (64 * h + k)) (hg : G = g r (64 * h + k)) (hg' : G' = g r (64 * h + k)) :
    C * (G * Ideal.logistic G') = (dn g ct h r k : EReal) :=
  mul_eq_coe hc (mul_eq_coe hg (sg_coe hg'))

variable (a b g w ct)

/-- One row of one head of the gradient by the weight. -/
def dW (r h k : ℕ) : ℝ := dn g ct h r k * (o a b h r k * rs 64 (o a b h r))

variable {a b g w ct}

/-- Eight heads' sums over the rows, added one after another. -/
theorem heads_coe {n k : ℕ} {s0 s1 s2 s3 s4 s5 s6 s7 : EReal} (h0 : s0 = (∑ r : Fin n, dW a b g ct r 0 k : ℝ))
    (h1 : s1 = (∑ r : Fin n, dW a b g ct r 1 k : ℝ)) (h2 : s2 = (∑ r : Fin n, dW a b g ct r 2 k : ℝ))
    (h3 : s3 = (∑ r : Fin n, dW a b g ct r 3 k : ℝ)) (h4 : s4 = (∑ r : Fin n, dW a b g ct r 4 k : ℝ))
    (h5 : s5 = (∑ r : Fin n, dW a b g ct r 5 k : ℝ)) (h6 : s6 = (∑ r : Fin n, dW a b g ct r 6 k : ℝ))
    (h7 : s7 = (∑ r : Fin n, dW a b g ct r 7 k : ℝ)) :
    s0 + s1 + s2 + s3 + s4 + s5 + s6 + s7 = ((∑ r : Fin n, ∑ h : Fin 8, dW a b g ct r h k : ℝ) : EReal) := by
  rw [Finset.sum_comm, Fin.sum_univ_eight, h0, h1, h2, h3, h4, h5, h6, h7]
  simp only [EReal.coe_add]
  rfl

end Cert.HgrnOutModel

end
-- ==== Proof.Swiglu.Model.lean ====
/-
  The gradient of the gate `silu a · b` before a product, as real functions of ℕ coordinates.
-/
module

public import proofs.«01_k».proof.Proof.HgrnOut.Model

@[expose] public section

noncomputable section

open Idealize.ShloMosaic Cert.MlaModel Cert.Norm Cert.HgrnOutModel

namespace Cert.SwigluModel

/-- The product of a row with a column. -/
def mm (x w : ℕ → ℕ → ℝ) (r j : ℕ) : ℝ := ∑ k : Fin 1024, x r k * w k j

/-- The cotangent of the gate's output. -/
def dact (ct w2 : ℕ → ℕ → ℝ) (r j : ℕ) : ℝ := ∑ k : Fin 1024, ct r k * w2 j k

variable (x w1 w3 w2 ct : ℕ → ℕ → ℝ)

/-- The gradient by the gate's argument. -/
def dA (r j : ℕ) : ℝ := dact ct w2 r j * mm x w3 r j * dsilu (mm x w1 r j)

/-- The gradient by the gated factor. -/
def dB (r j : ℕ) : ℝ := dact ct w2 r j * (mm x w1 r j * sg (mm x w1 r j))

end Cert.SwigluModel

end
-- ==== Proof.Swiglu.Ref.lean ====
/-
  What the reference gradient of the gate computes, of real arguments.
-/
module

public import proofs.«01_k».proof.Proof.Swiglu.Model
public import proofs.«01_k».proof.Proof.Gen.SwigluRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.SwigluRefIdeal.RefValue

open Cert.SwigluRefIdeal Cert.SwigluRefIdeal.Gen Cert.SwigluRefIdeal.Read Cert.MlaModel Cert.Norm Cert.HgrnOutModel Cert.SwigluModel

variable {x w1 w3 w2 ct : ℕ → ℕ → ℝ}
  {x0 : (⟨S16384x1024, .f32⟩ : BufTy).Contents (Elt Ideal)} {x1 x2 : (⟨S1024x2816, .f32⟩ : BufTy).Contents (Elt Ideal)}
  {x3 : (⟨S2816x1024, .f32⟩ : BufTy).Contents (Elt Ideal)} {x4 : (⟨S16384x1024, .f32⟩ : BufTy).Contents (Elt Ideal)}
  (h0 : ∀ i, x0 i = (x (i 0) (i 1) : EReal)) (h1 : ∀ i, x1 i = (w1 (i 0) (i 1) : EReal)) (h2 : ∀ i, x2 i = (w3 (i 0) (i 1) : EReal))
  (h3 : ∀ i, x3 i = (w2 (i 0) (i 1) : EReal)) (h4 : ∀ i, x4 i = (ct (i 0) (i 1) : EReal))

include h0 h1 in
theorem v0 (i : S16384x2816.Idx) : val_main_v0 (F := Ideal) x0 x1 i = (mm x w1 (i 0) (i 1) : EReal) := by
  simp only [val_main_v0]
  pointwise
  exact sum_eq_coe fun k => mul_eq_coe (h0 _) (h1 _)

include h0 h2 in
theorem v1 (i : S16384x2816.Idx) : val_main_v1 (F := Ideal) x0 x2 i = (mm x w3 (i 0) (i 1) : EReal) := by
  simp only [val_main_v1]
  pointwise
  exact sum_eq_coe fun k => mul_eq_coe (h0 _) (h2 _)

include h3 h4 in
theorem v5 (i : S16384x2816.Idx) : val_main_v5 (F := Ideal) x3 x4 i = (dact ct w2 (i 0) (i 1) : EReal) := by
  simp only [val_main_v5]
  pointwise
  exact sum_eq_coe fun k => mul_eq_coe (h4 _) (h3 _)

include h0 h1 in
theorem v2_2 (i : S16384x2816.Idx) : val_main_v2_2 (F := Ideal) x0 x1 i = (sg (mm x w1 (i 0) (i 1)) : EReal) := by
  simp only [val_main_v2_2, val_main_call0_v4, val_main_call0_v3, val_main_call0_v2, val_main_call0_v1, val_main_call0_v0,
    val_main_call0_cst, val_main_call0_cst_0]
  pointwise
  rw [v0 h0 h1]
  exact sg_div _

include h0 h1 in
theorem v2_1 (i : S16384x2816.Idx) : val_main_v2_1 (F := Ideal) x0 x1 i
    = ((sg (mm x w1 (i 0) (i 1)) * (1 - sg (mm x w1 (i 0) (i 1))) : ℝ) : EReal) := by
  simp only [val_main_v2_1, val_main_call0_v7, val_main_call0_v6, val_main_call0_cst_1]
  pointwise
  rw [v2_2 h0 h1]
  exact mul_eq_coe rfl (sub_eq_coe rfl rfl)

include h0 h1 h2 h3 h4 in
/-- The gradient by the gate's argument. -/
theorem v9 (i : S16384x2816.Idx) : val_main_v9 (F := Ideal) x0 x1 x2 x3 x4 i = (dA x w1 w3 w2 ct (i 0) (i 1) : EReal) := by
  simp only [val_main_v9, val_main_v8, val_main_v7, val_main_call1_v0, val_main_call1_v1, val_main_call1_v2]
  pointwise
  rw [v0 h0 h1, v1 h0 h2, v5 h3 h4, v2_2 h0 h1, v2_1 h0 h1]
  refine (add_eq_coe (mul_eq_coe (mul_eq_coe rfl rfl) rfl) (mul_eq_coe (mul_eq_coe rfl (mul_eq_coe rfl rfl)) rfl)).trans (congrArg _ ?_)
  unfold dA dsilu
  ring

include h0 h1 h3 h4 in
/-- The gradient by the gated factor. -/
theorem v10 (i : S16384x2816.Idx) : val_main_v10 (F := Ideal) x0 x1 x3 x4 i = (dB x w1 w2 ct (i 0) (i 1) : EReal) := by
  simp only [val_main_v10, val_main_v6, val_main_v2_0]
  pointwise
  rw [v0 h0 h1, v5 h3 h4, v2_2 h0 h1]
  exact (mul_eq_coe (mul_eq_coe rfl rfl) rfl).trans (congrArg _ (mul_comm _ _))

end Cert.SwigluRefIdeal.RefValue

end
-- ==== Proof.Swiglu.Chain.lean ====
/-
  The kernel program of the gate's gradient: the forward call's two products, then the call that goes back through the gate.
-/
module

public import proofs.«01_k».proof.Proof.Swiglu.Model
public import proofs.«01_k».proof.Proof.Gen.SwigluIdeal.Frame
public import Idealize.ShloMosaic.Lib.StableHlo.RunRead
public import Idealize.ShloMosaic.Lib.Pipeline.ValueKit
public import Idealize.ShloMosaic.Lib.Pipeline.Value
public import Idealize.ShloMosaic.Lib.Claim
public import Idealize.ShloMosaic.Lib.Pointwise

@[expose] public section

set_option maxRecDepth 16384

noncomputable section

open Idealize.ShloMosaic Idealize.ShloMosaic.TcCoe Idealize.SL.Sem Idealize.ShloMosaic.StableHlo

namespace Cert.SwigluIdeal.RefValue

open Cert.SwigluIdeal Cert.SwigluIdeal.Gen Cert.MlaModel Cert.Norm Cert.SwigluModel Cert.HgrnOutModel

variable (V : (c : Dev nD) → (b : Ref sig .tc) → Buf (Elt Ideal) ((c : Thread nD τ).loc b))

theorem idx0 : ∀ t : Fin cfg0.N, win0_0.index t = ![t.val / 2, 0] ∧ win0_1.index t = ![0, t.val % 2] ∧ win0_2.index t = ![0, t.val % 2] ∧
    win0_3.index t = ![t.val / 2, t.val % 2] ∧ win0_4.index t = ![t.val / 2, t.val % 2] :=
  (by decide +kernel : ∀ t : Fin grid0.N, _)

theorem idx1 : ∀ t : Fin cfg1.N, win1_0.index t = ![t.val / 2, 0] ∧ win1_1.index t = ![t.val % 2, 0] ∧
    win1_2.index t = ![t.val / 2, t.val % 2] ∧ win1_3.index t = ![t.val / 2, t.val % 2] ∧ win1_4.index t = ![t.val / 2, t.val % 2] ∧
    win1_5.index t = ![t.val / 2, t.val % 2] :=
  (by decide +kernel : ∀ t : Fin grid1.N, _)

variable {x w1 w3 w2 ct a b : ℕ → ℕ → ℝ}

theorem out0_3_coe (x0 : Vec Ideal S512x1024 .bf16) (x1 x2 : Vec Ideal S1024x1408 .bf16)
    (e0 : ∀ i, x0 i = (x (i 0) (i 1) : EReal)) (e1 : ∀ i, x1 i = (w1 (i 0) (i 1) : EReal)) (y : S512x1408.Idx) :
    out0_3 x0 x1 x2 y = (mm x w1 (y 0) (y 1) : EReal) := by
  frame_out
  open_payloads; pointwise
  exact sum_eq_coe fun k => mul_eq_coe (e0 _) (e1 _)

theorem out0_4_coe (x0 : Vec Ideal S512x1024 .bf16) (x1 x2 : Vec Ideal S1024x1408 .bf16)
    (e0 : ∀ i, x0 i = (x (i 0) (i 1) : EReal)) (e2 : ∀ i, x2 i = (w3 (i 0) (i 1) : EReal)) (y : S512x1408.Idx) :
    out0_4 x0 x1 x2 y = (mm x w3 (y 0) (y 1) : EReal) := by
  frame_out
  open_payloads; pointwise
  exact sum_eq_coe fun k => mul_eq_coe (e0 _) (e2 _)

section
variable (x0 : Vec Ideal S512x1024 .f32) (x1 : Vec Ideal S1408x1024 .bf16) (x2 x3 : Vec Ideal S512x1408 .bf16)
  (e0 : ∀ i, x0 i = (ct (i 0) (i 1) : EReal)) (e1 : ∀ i, x1 i = (w2 (i 0) (i 1) : EReal))
  (e2 : ∀ i, x2 i = (a (i 0) (i 1) : EReal)) (e3 : ∀ i, x3 i = (b (i 0) (i 1) : EReal)) (y : S512x1408.Idx)
include e0 e1 e2

include e3 in
theorem out1_4_coe : out1_4 x0 x1 x2 x3 y = ((dact ct w2 (y 0) (y 1) * b (y 0) (y 1) * dsilu (a (y 0) (y 1)) : ℝ) : EReal) := by
  frame_out
  open_payloads; pointwise
  exact mul_eq_coe (mul_eq_coe (sum_eq_coe fun k => mul_eq_coe (e0 _) (e1 _)) (e3 _))
    (dsilu_coe (e2 _) (sg_coe (e2 _)) (sg_coe (e2 _)) rfl rfl)

theorem out1_5_coe : out1_5 x0 x1 x2 x3 y = ((dact ct w2 (y 0) (y 1) * (a (y 0) (y 1) * sg (a (y 0) (y 1))) : ℝ) : EReal) := by
  frame_out
  open_payloads; pointwise
  exact mul_eq_coe (sum_eq_coe fun k => mul_eq_coe (e0 _) (e1 _)) (mul_eq_coe (e2 _) (sg_coe (e2 _)))

end

/-! ## The first region -/

section
variable (c : Dev nD) (h0 : ∀ i : S16384x1024.Idx, V c main_v0 i = (x (i 0) (i 1) : EReal))
  (h1 : ∀ i : S1024x2816.Idx, V c main_v1 i = (w1 (i 0) (i 1) : EReal))
  (h2 : ∀ i : S1024x2816.Idx, V c main_v2 i = (w3 (i 0) (i 1) : EReal))
include h0

include h1 in
theorem final0_3 : (dat0 V c).arrAt 3 cfg0.N = fun i : S16384x2816.Idx => (mm x w1 (i 0) (i 1) : EReal) := by
  refine (dat0 V c).arrAt_eq_of_covers 3 _ (by decide +kernel) fun t hf y => ?_
  blk_simp [idx0 t]
  rw [after0_3]
  refine out0_3_coe (x := fun r => x (t.val / 2 * 512 + r)) (w1 := fun k j => w1 k (t.val % 2 * 1408 + j)) _ _ _ (fun i => ?_) (fun i => ?_) y
  all_goals
    unfold iblk0
    rw [View.read_apply]
    first
    | exact (h0 _).trans (by blk_simp [idx0 t])
    | exact (h1 _).trans (by blk_simp [idx0 t])

include h2 in
theorem final0_4 : (dat0 V c).arrAt 4 cfg0.N = fun i : S16384x2816.Idx => (mm x w3 (i 0) (i 1) : EReal) := by
  refine (dat0 V c).arrAt_eq_of_covers 4 _ (by decide +kernel) fun t hf y => ?_
  blk_simp [idx0 t]
  rw [after0_4]
  refine out0_4_coe (x := fun r => x (t.val / 2 * 512 + r)) (w3 := fun k j => w3 k (t.val % 2 * 1408 + j)) _ _ _ (fun i => ?_) (fun i => ?_) y
  all_goals
    unfold iblk0
    rw [View.read_apply]
    first
    | exact (h0 _).trans (by blk_simp [idx0 t])
    | exact (h2 _).trans (by blk_simp [idx0 t])

end

/-! ## The second region -/

section
variable (c : Dev nD) (h0 : ∀ i : S16384x1024.Idx, V c main_arg4 i = (ct (i 0) (i 1) : EReal))
  (h1 : ∀ i : S2816x1024.Idx, V c main_v4 i = (w2 (i 0) (i 1) : EReal))
  (h2 : ∀ i : S16384x2816.Idx, V c main_v3_0 i = (a (i 0) (i 1) : EReal))
  (h3 : ∀ i : S16384x2816.Idx, V c main_v3_1 i = (b (i 0) (i 1) : EReal))
include h0 h1 h2

include h3 in
theorem final1_4 : (dat1 V c).arrAt 4 cfg1.N = fun i : S16384x2816.Idx =>
    ((dact ct w2 (i 0) (i 1) * b (i 0) (i 1) * dsilu (a (i 0) (i 1)) : ℝ) : EReal) := by
  refine (dat1 V c).arrAt_eq_of_covers 4 _ (by decide +kernel) fun t hf y => ?_
  blk_simp [idx1 t]
  rw [after1_4]
  refine out1_4_coe (ct := fun r => ct (t.val / 2 * 512 + r)) (w2 := fun j => w2 (t.val % 2 * 1408 + j))
    (a := fun r j => a (t.val / 2 * 512 + r) (t.val % 2 * 1408 + j)) (b := fun r j => b (t.val / 2 * 512 + r) (t.val % 2 * 1408 + j))
    _ _ _ _ (fun i => ?_) (fun i => ?_) (fun i => ?_) (fun i => ?_) y
  all_goals
    unfold iblk1
    rw [View.read_apply]
    first
    | exact (h0 _).trans (by blk_simp [idx1 t])
    | exact (h1 _).trans (by blk_simp [idx1 t])
    | exact (h2 _).trans (by blk_simp [idx1 t])
    | exact (h3 _).trans (by blk_simp [idx1 t])

theorem final1_5 : (dat1 V c).arrAt 5 cfg1.N = fun i : S16384x2816.Idx =>
    ((dact ct w2 (i 0) (i 1) * (a (i 0) (i 1) * sg (a (i 0) (i 1))) : ℝ) : EReal) := by
  refine (dat1 V c).arrAt_eq_of_covers 5 _ (by decide +kernel) fun t hf y => ?_
  blk_simp [idx1 t]
  rw [after1_5]
  refine out1_5_coe (ct := fun r => ct (t.val / 2 * 512 + r)) (w2 := fun j => w2 (t.val % 2 * 1408 + j))
    (a := fun r j => a (t.val / 2 * 512 + r) (t.val % 2 * 1408 + j)) _ _ _ _ (fun i => ?_) (fun i => ?_) (fun i => ?_) y
  all_goals
    unfold iblk1
    rw [View.read_apply]
    first
    | exact (h0 _).trans (by blk_simp [idx1 t])
    | exact (h1 _).trans (by blk_simp [idx1 t])
    | exact (h2 _).trans (by blk_simp [idx1 t])

end

/-! ## The chain -/

/-- The arguments hold these numbers. -/
structure Args (W : Valuation τ sig (Elt Ideal)) (x w1 w3 w2 ct : ℕ → ℕ → ℝ) : Prop where
  a0 : ∀ i : S16384x1024.Idx, W (Proc.devRef .tc main_arg0) i = (x (i 0) (i 1) : EReal)
  a1 : ∀ i : S1024x2816.Idx, W (Proc.devRef .tc main_arg1) i = (w1 (i 0) (i 1) : EReal)
  a2 : ∀ i : S1024x2816.Idx, W (Proc.devRef .tc main_arg2) i = (w3 (i 0) (i 1) : EReal)
  a3 : ∀ i : S2816x1024.Idx, W (Proc.devRef .tc main_arg3) i = (w2 (i 0) (i 1) : EReal)
  a4 : ∀ i : S16384x1024.Idx, W (Proc.devRef .tc main_arg4) i = (ct (i 0) (i 1) : EReal)

variable (m : (ℓ : Loc nD τ sig) → Buf (Elt Ideal) ℓ) (ρ : Dev nD → PrngReg) (c : Dev nD)
  (A : Args (W0 m ρ c) x w1 w3 w2 ct)
include A

theorem v3_0 (i : S16384x2816.Idx) : V3 m ρ c main_v3_0 i = (mm x w1 (i 0) (i 1) : EReal) := by
  have e : V3 m ρ c main_v3_0 = (dat0 (V1 m ρ) c).arrAt 3 cfg0.N := (W3_of m ρ c main_v3_0 (by decide)).trans (W2_arr m ρ c 3)
  rw [e, final0_3 (V1 m ρ) c (x := x) (w1 := w1)]
  · intro i
    dsimp only [V1, W1]
    after_reads_simp [hostOps0]
    pointwise
    exact A.a0 _
  · intro i
    dsimp only [V1, W1]
    after_reads_simp [hostOps0]
    pointwise
    exact A.a1 _

theorem v3_1 (i : S16384x2816.Idx) : V3 m ρ c main_v3_1 i = (mm x w3 (i 0) (i 1) : EReal) := by
  have e : V3 m ρ c main_v3_1 = (dat0 (V1 m ρ) c).arrAt 4 cfg0.N := (W3_of m ρ c main_v3_1 (by decide)).trans (W2_arr m ρ c 4)
  rw [e, final0_4 (V1 m ρ) c (x := x) (w3 := w3)]
  · intro i
    dsimp only [V1, W1]
    after_reads_simp [hostOps0]
    pointwise
    exact A.a0 _
  · intro i
    dsimp only [V1, W1]
    after_reads_simp [hostOps0]
    pointwise
    exact A.a2 _

theorem v4 (i : S2816x1024.Idx) : V3 m ρ c main_v4 i = (w2 (i 0) (i 1) : EReal) := by
  have e : W2 m ρ c (Proc.devRef .tc main_arg3) = W0 m ρ c (Proc.devRef .tc main_arg3) := W2_args m ρ c main_arg3 (by decide)
  dsimp only [V3, W3]
  after_reads_simp [hostOps1]
  pointwise
  rw [e]
  exact A.a3 _

theorem arg4 (i : S16384x1024.Idx) : V3 m ρ c main_arg4 i = (ct (i 0) (i 1) : EReal) :=
  (congrFun (W3_args m ρ c main_arg4 (by decide)) i).trans (A.a4 i)

theorem v5_0 (i : S16384x2816.Idx) : W4 m ρ c (Proc.devRef .tc main_v5_0) i = (dA x w1 w3 w2 ct (i 0) (i 1) : EReal) := by
  rw [show W4 m ρ c (Proc.devRef .tc main_v5_0) = (dat1 (V3 m ρ) c).arrAt 4 cfg1.N from W4_arr m ρ c 4,
    final1_4 (V3 m ρ) c (arg4 m ρ c A) (v4 m ρ c A) (v3_0 m ρ c A) (v3_1 m ρ c A)]
  rfl

theorem v5_1 (i : S16384x2816.Idx) : W4 m ρ c (Proc.devRef .tc main_v5_1) i = (dB x w1 w2 ct (i 0) (i 1) : EReal) := by
  rw [show W4 m ρ c (Proc.devRef .tc main_v5_1) = (dat1 (V3 m ρ) c).arrAt 5 cfg1.N from W4_arr m ρ c 5,
    final1_5 (V3 m ρ) c (arg4 m ρ c A) (v4 m ρ c A) (v3_0 m ρ c A)]
  rfl

end Cert.SwigluIdeal.RefValue

end
-- ==== Proof.Swiglu.Run.lean ====
/-
  The kernel program's run: every final state holds, in each buffer outside the regions, what the chain of host lines and
  regions leaves there.
-/
module

public import proofs.«01_k».proof.Proof.Gen.SwigluIdeal.Frame

@[expose] public section

set_option maxRecDepth 16384

noncomputable section

namespace Cert.SwigluIdeal.RefValue

open Cert.SwigluIdeal Cert.SwigluIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r =>
    ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

end Cert.SwigluIdeal.RefValue

end
-- ==== Proof.Swiglu.lean ====
/-
  The claims about the gradient through the feed-forward layer's gate.
-/
module

public import proofs.«01_k».proof.Defs
public import proofs.«01_k».proof.Proof.Finite
public import proofs.«01_k».proof.Proof.Gen.Pre_swiglu_finite
public import proofs.«01_k».proof.Proof.Gen.Swiglu.Frame
public import proofs.«01_k».proof.Proof.Gen.SwigluRefIdeal.Run
public import proofs.«01_k».proof.Proof.Swiglu.Ref
public import proofs.«01_k».proof.Proof.Swiglu.Chain
public import proofs.«01_k».proof.Proof.Swiglu.Run

@[expose] public section

set_option maxRecDepth 16384

noncomputable section

open Idealize.ShloMosaic Idealize.ShloMosaic.TcCoe Idealize.SL.Sem Idealize.ShloMosaic.StableHlo

namespace Cert.Proof.SwigluClaims

theorem frame : Cert.quiescent_Swiglu := fun m ρ _ => Cert.Swiglu.Gen.frame m ρ
theorem frame_ideal : Cert.quiescent_SwigluIdeal := fun m ρ _ => Cert.SwigluIdeal.Gen.frame m ρ
theorem frame_ideal_pre : Cert.quiescent_SwigluIdeal_pre_swiglu_finite := fun m ρ _ => Cert.SwigluIdeal.Gen.frame m ρ
theorem frame_ref : Cert.quiescent_SwigluRefIdeal := fun m ρ _ => by
  refine (θ_run Cert.SwigluRefIdeal.defs _ _).mono (fun r h => ⟨fun c => ?_,
    Idealize.ShloMosaic.sem_eq_zero_of_no_sems (by decide) r.2⟩) (Cert.SwigluRefIdeal.Value.run (F := Ideal) m ρ)
  exact (h c).2.2
theorem frame_ref_pre : Cert.quiescent_SwigluRefIdeal_pre_swiglu_finite := fun m ρ _ => frame_ref m ρ trivial
theorem preserves : Cert.preserves_Swiglu_SwigluIdeal := trivial

/-- Under the precondition the arguments are real functions of their coordinates. -/
theorem args_of_pre {m : (ℓ : Loc Cert.SwigluIdeal.nD Cert.SwigluIdeal.τ Cert.SwigluIdeal.sig) → Buf (Elt Ideal) ℓ}
    (h : Cert.Pre_SwigluIdeal_swiglu_finite m) (ρ : Dev Cert.SwigluIdeal.nD → PrngReg) (c : Dev Cert.SwigluIdeal.nD) :
    ∃ x w1 w3 w2 ct, Cert.SwigluIdeal.RefValue.Args (Cert.SwigluIdeal.Gen.W0 m ρ c) x w1 w3 w2 ct := by
  have e := congrFun (h c) ix0
  dsimp only [Cert.Pre_swiglu_finite.fn] at e
  obtain ⟨e, e4⟩ := Cert.Finite.both e
  obtain ⟨e, e3⟩ := Cert.Finite.both e
  obtain ⟨e, e2⟩ := Cert.Finite.both e
  obtain ⟨e0, e1⟩ := Cert.Finite.both e
  obtain ⟨x, hx⟩ := Cert.Finite.real2_of _ (Cert.Finite.real_of_all _ _ (fun _ => rfl) _ _ _ _ e0)
  obtain ⟨w1, h1⟩ := Cert.Finite.real2_of _ (Cert.Finite.real_of_all _ _ (fun _ => rfl) _ _ _ _ e1)
  obtain ⟨w3, h3⟩ := Cert.Finite.real2_of _ (Cert.Finite.real_of_all _ _ (fun _ => rfl) _ _ _ _ e2)
  obtain ⟨w2, h2⟩ := Cert.Finite.real2_of _ (Cert.Finite.real_of_all _ _ (fun _ => rfl) _ _ _ _ e3)
  obtain ⟨ct, hct⟩ := Cert.Finite.real2_of _ (Cert.Finite.real_of_all _ _ (fun _ => rfl) _ _ _ _ e4)
  exact ⟨x, w1, w3, w2, ct, hx, h1, h3, h2, hct⟩

open Cert.SwigluIdeal.RefValue Cert.SwigluIdeal.Gen Cert.SwigluRefIdeal in
/-- Both gradients of the kernel and of the reference agree, from finite arguments. -/
theorem algebraic : Cert.algebraic_SwigluIdeal_SwigluRefIdeal_pre_swiglu_finite := by
  intro m g m' g' hpre hagree
  refine ⟨fun c => W4 m g c (Proc.devRef .tc Cert.SwigluIdeal.main_v5_0), fun c => W4 m g c (Proc.devRef .tc Cert.SwigluIdeal.main_v5_1), ?_, ?_⟩
  · exact (θ_run Cert.SwigluIdeal.defs _ _).mono (fun r h c => ⟨h c _ (mem_uc Cert.SwigluIdeal.main_v5_0 (by decide)),
      h c _ (mem_uc Cert.SwigluIdeal.main_v5_1 (by decide)),
      (h c _ (mem_uc Cert.SwigluIdeal.main_arg0 (by decide))).trans (W4_main_arg0 m g c),
      (h c _ (mem_uc Cert.SwigluIdeal.main_arg1 (by decide))).trans (W4_main_arg1 m g c),
      (h c _ (mem_uc Cert.SwigluIdeal.main_arg2 (by decide))).trans (W4_main_arg2 m g c),
      (h c _ (mem_uc Cert.SwigluIdeal.main_arg3 (by decide))).trans (W4_main_arg3 m g c),
      (h c _ (mem_uc Cert.SwigluIdeal.main_arg4 (by decide))).trans (W4_main_arg4 m g c)⟩)
      (Cert.SwigluIdeal.RefValue.run m g)
  · refine (θ_run Cert.SwigluRefIdeal.defs _ _).mono (fun r h c => ?_) (Cert.SwigluRefIdeal.Value.run m' g')
    obtain ⟨x, w1, w3, w2, ct, A⟩ := args_of_pre hpre g c
    obtain ⟨e0, e1, e2, e3, e4⟩ := hagree c
    have h0 : ∀ i, m' ((c.tc : Thread nD τ).loc main_arg0) i = (x (i 0) (i 1) : EReal) := fun i => (congrFun e0 i).trans (A.a0 i)
    have h1 : ∀ i, m' ((c.tc : Thread nD τ).loc main_arg1) i = (w1 (i 0) (i 1) : EReal) := fun i => (congrFun e1 i).trans (A.a1 i)
    have h2 : ∀ i, m' ((c.tc : Thread nD τ).loc main_arg2) i = (w3 (i 0) (i 1) : EReal) := fun i => (congrFun e2 i).trans (A.a2 i)
    have h3 : ∀ i, m' ((c.tc : Thread nD τ).loc main_arg3) i = (w2 (i 0) (i 1) : EReal) := fun i => (congrFun e3 i).trans (A.a3 i)
    have h4 : ∀ i, m' ((c.tc : Thread nD τ).loc main_arg4) i = (ct (i 0) (i 1) : EReal) := fun i => (congrFun e4 i).trans (A.a4 i)
    obtain ⟨r0, r1, ra⟩ := h c
    refine ⟨r0.trans ?_, r1.trans ?_, ra⟩
    · refine (Read.val_main_v9_eq _ _ _ _ _).trans ?_
      exact funext fun i => (Cert.SwigluRefIdeal.RefValue.v9 h0 h1 h2 h3 h4 i).trans (v5_0 m g c A i).symm
    · refine (Read.val_main_v10_eq _ _ _ _).trans ?_
      exact funext fun i => (Cert.SwigluRefIdeal.RefValue.v10 h0 h1 h3 h4 i).trans (v5_1 m g c A i).symm

end Cert.Proof.SwigluClaims

end
-- ==== Proof.Loss.Ref.lean ====
/-
  What the reference loss and its gradient compute, of real arguments.
-/
module

public import proofs.«01_k».proof.Proof.Norm
public import proofs.«01_k».proof.Proof.Gen.LossRefIdeal.Read
public import Idealize.ShloMosaic.Lib.Pointwise

@[expose] public section

set_option maxRecDepth 16384

noncomputable section

open Idealize.ShloMosaic Idealize.ShloMosaic.TcCoe Idealize.SL.Sem

namespace Cert.LossRefIdeal.RefValue

open Cert.LossRefIdeal Cert.LossRefIdeal.Gen Cert.LossRefIdeal.Read Cert.MlaModel Cert.Norm

variable {x tg : ℕ → ℕ → ℝ} {g : ℕ → ℝ}
  {x0 : (⟨S16384x1024, .f32⟩ : BufTy).Contents (Elt Ideal)} {x1 : (⟨S1024, .f32⟩ : BufTy).Contents (Elt Ideal)}
  {x2 : (⟨S16384x1024, .f32⟩ : BufTy).Contents (Elt Ideal)}
  (h0 : ∀ i, x0 i = (x (i 0) (i 1) : EReal)) (h1 : ∀ i, x1 i = (g (i 0) : EReal)) (h2 : ∀ i, x2 i = (tg (i 0) (i 1) : EReal))

include h0 in
theorem v6 (i : S16384x1.Idx) : val_main_v6 (F := Ideal) x0 i = (ms 1024 (x (i 0)) : EReal) := by
  simp only [val_main_v6, val_main_v5, val_main_v4, val_main_v3, val_main_v2, val_main_v1, val_main_v0, val_main_cst,
    val_main_cst_0, val_main_cst_1]
  pointwise
  rw [lit_1024, lit_eps]
  exact ms_coe (fun k => h0 _) (by norm_num)

include h0 in
theorem v7 (i : S16384x1.Idx) : val_main_v7 (F := Ideal) x0 i = (rs 1024 (x (i 0)) : EReal) := by
  rw [val_main_v7_apply, v6 h0]
  exact rsqrt_ms _ _

include h0 in
theorem v10 (i : S16384x1.Idx) : val_main_v10 (F := Ideal) x0 i = ((-(1 / 2) * (rs 1024 (x (i 0)) / ms 1024 (x (i 0))) : ℝ) : EReal) := by
  simp only [val_main_v10, val_main_v9, val_main_v8, val_main_cst_2]
  pointwise
  rw [lit_neg_half]
  exact mul_eq_coe rfl (div_eq_coe (v7 h0 i) (v6 h0 i) (ms_pos _ _).ne')

include h0 h1 h2 in
theorem v16 (i : S16384x1024.Idx) : val_main_v16 (F := Ideal) x0 x1 x2 i = (err 1024 (x (i 0)) g (tg (i 0)) (i 1) : EReal) := by
  simp only [val_main_v16, val_main_v15, val_main_v14, val_main_v13, val_main_v12, val_main_v11]
  pointwise
  exact err_coe (h0 _) (v7 h0 _) (h1 _) (h2 _)

include h0 h1 h2 in
/-- The loss. -/
theorem v24 (i : S_.Idx) : val_main_v24 (F := Ideal) x0 x1 x2 i = ((1 / 2 * ∑ r : Fin 16384, msq 1024 (x r) g (tg r) : ℝ) : EReal) := by
  simp only [val_main_v24, val_main_v23, val_main_v22, val_main_v21, val_main_v20, val_main_v17, val_main_cst_4, val_main_cst_5,
    val_main_cst_6, val_main_cst_7]
  pointwise
  rw [lit_1024, lit_half]
  have h : ((1024 : ℕ) : ℝ) ≠ 0 := by norm_num
  exact mul_eq_coe rfl (sum_eq_coe fun k : Fin 16384 => div_eq_coe (sum_eq_coe fun k : Fin 1024 =>
    mul_eq_coe (v16 h0 h1 h2 _) (v16 h0 h1 h2 _)) rfl h)

/-- The cotangent of the normalised, weighted row. -/
def dy (x tg : ℕ → ℕ → ℝ) (g : ℕ → ℝ) (r k : ℕ) : ℝ := err 1024 (x r) g (tg r) k * (1 / 1024)

include h0 h1 h2 in
theorem v30 (i : S16384x1024.Idx) : val_main_v30 (F := Ideal) x0 x1 x2 i = (dy x tg g (i 0) (i 1) : EReal) := by
  simp only [val_main_v30, val_main_v29, val_main_v28, val_main_v27, val_main_v26, val_main_v25, val_main_v19, val_main_v18,
    val_main_cst_3, val_main_cst_8, val_main_cst_9, val_main_cst_10]
  pointwise
  rw [lit_1024, lit_half, lit_two, v16 h0 h1 h2]
  have h : ((1024 : ℕ) : ℝ) ≠ 0 := by norm_num
  refine (mul_eq_coe (div_eq_coe rfl rfl h) (mul_eq_coe rfl rfl)).trans (congrArg _ ?_)
  unfold dy
  push_cast
  ring

include h0 h1 h2 in
theorem v35 (i : S16384x1024.Idx) : val_main_v35 (F := Ideal) x0 x1 x2 i = ((dy x tg g (i 0) (i 1) * g (i 1) : ℝ) : EReal) := by
  simp only [val_main_v35, val_main_v34, val_main_v13]
  pointwise
  exact mul_eq_coe (v30 h0 h1 h2 _) (h1 _)

include h0 h1 h2 in
theorem v46 (i : S16384x1024.Idx) : val_main_v46 (F := Ideal) x0 x1 x2 i
    = (slope 1024 (x (i 0)) (fun k => dy x tg g (i 0) k * g k) : EReal) := by
  simp only [val_main_v46, val_main_v45, val_main_v44, val_main_v43, val_main_v42, val_main_v39, val_main_v38, val_main_v37,
    val_main_cst_13, val_main_cst_14, val_main_cst_15]
  pointwise
  rw [lit_1024]
  unfold Norm.slope
  have h : ((1024 : ℕ) : ℝ) ≠ 0 := by norm_num
  refine (Fin.sum_univ_one _).trans ?_
  exact div_eq_coe (mul_eq_coe (sum_eq_coe fun k : Fin 1024 => mul_eq_coe (h0 _) (v35 h0 h1 h2 _)) (v10 h0 _)) rfl h

include h0 h1 h2 in
/-- The gradient by the row. -/
theorem v50 (i : S16384x1024.Idx) : val_main_v50 (F := Ideal) x0 x1 x2 i
    = (dx 1024 (x (i 0)) (fun k => dy x tg g (i 0) k * g k) (i 1) : EReal) := by
  rw [val_main_v50_apply, val_main_v48_apply, val_main_v41_apply, val_main_v47_apply, val_main_v49_apply,
    v46 h0 h1 h2, v35 h0 h1 h2, h0]
  rw [← slope_dx]
  simp only [val_main_v40]
  pointwise
  rw [v7 h0]
  simp only [EReal.coe_add, EReal.coe_mul]
  rfl

include h0 h1 h2 in
/-- The gradient by the weight. -/
theorem v36 (i : S1024.Idx) : val_main_v36 (F := Ideal) x0 x1 x2 i
    = ((∑ r : Fin 16384, dy x tg g r (i 0) * (x r (i 0) * rs 1024 (x r)) : ℝ) : EReal) := by
  simp only [val_main_v36, val_main_v33, val_main_v32, val_main_v31, val_main_v12, val_main_v11, val_main_cst_11, val_main_cst_12]
  pointwise
  refine (Fin.sum_univ_one _).trans (sum_eq_coe fun k => ?_)
  rw [h0, v30 h0 h1 h2, v7 h0, ← EReal.coe_mul, ← EReal.coe_mul, mul_comm (_ * _)]
  rfl

end Cert.LossRefIdeal.RefValue

end
-- ==== Proof.Loss.Block.lean ====
/-
  What one grid point of the loss kernel stores, of blocks that hold real numbers.
-/
module

public import proofs.«01_k».proof.Proof.Norm
public import proofs.«01_k».proof.Proof.Gen.LossIdeal.Frame
public import Idealize.ShloMosaic.Lib.Pipeline.ValueKit
public import Idealize.ShloMosaic.Lib.Pipeline.Value
public import Idealize.ShloMosaic.Lib.Claim
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem Idealize.ShloMosaic.StableHlo

namespace Cert.LossIdeal.RefValue

open Cert.LossIdeal Cert.LossIdeal.Gen Cert.MlaModel Cert.Norm

variable (m : (ℓ : Loc nD τ sig) → Buf (Elt Ideal) ℓ) {x tg : ℕ → ℕ → ℝ} {g : ℕ → ℝ}

/-- The blocks of grid point `t` hold these numbers. -/
structure Blocks (x tg : ℕ → ℕ → ℝ) (g : ℕ → ℝ) (c : Dev nD) (t : Fin cfg0.N) : Prop where
  e0 : ∀ i, iblk m c 0 t i = (x (i 0) (i 1) : EReal)
  e1 : ∀ i, iblk m c 1 t i = (g (i 1) : EReal)
  e2 : ∀ i, iblk m c 2 t i = (tg (i 0) (i 1) : EReal)

/-- The cotangent of the normalised, weighted row. -/
def dy (x tg : ℕ → ℕ → ℝ) (g : ℕ → ℝ) (r k : ℕ) : ℝ := err 1024 (x r) g (tg r) k * (1 / 1024)

variable {c : Dev nD} {t : Fin cfg0.N} (B : Blocks m x tg g c t)
include B

theorem loss_A (h0 : t.val % 32 = 0) (h1 : ¬1 ≤ t.val) (y : S1x128.Idx) :
    (outsAt0 m c t.val t.isLt).1 y = ((1 / 2 * ∑ r : Fin 512, msq 1024 (x r) g (tg r) : ℝ) : EReal) := by
  obtain ⟨e0, e1, e2⟩ := B
  rw [outsAt0_A m c t h0 h1]
  dsimp only
  generalize iblk m c 0 t = x0 at *
  generalize iblk m c 1 t = x1 at *
  generalize iblk m c 2 t = x2 at *
  frame_out
  clear h0 h1
  open_payloads; pointwise
  rw [lit_1024, lit_eps, lit_half]
  exact mul_eq_coe rfl (sum_eq_coe fun k => div_eq_coe (sum_eq_coe fun k =>
    mul_eq_coe (err_coe (e0 _) (rs_coe (fun k => e0 _) (by norm_num)) (e1 _) (e2 _))
      (err_coe (e0 _) (rs_coe (fun k => e0 _) (by norm_num)) (e1 _) (e2 _))) rfl (by norm_num))

theorem loss_B (h0 : ¬t.val % 32 = 0) (h1 : 1 ≤ t.val) (p : ℝ)
    (hp : ∀ i, (outsAt0 m c (t.val - 1) (Nat.lt_of_le_of_lt (Nat.sub_le _ _) t.isLt)).1 i = (p : EReal)) (y : S1x128.Idx) :
    (outsAt0 m c t.val t.isLt).1 y = ((p + 1 / 2 * ∑ r : Fin 512, msq 1024 (x r) g (tg r) : ℝ) : EReal) := by
  obtain ⟨e0, e1, e2⟩ := B
  rw [outsAt0_B m c t h0 h1]
  dsimp only
  generalize iblk m c 0 t = x0 at *
  generalize iblk m c 1 t = x1 at *
  generalize iblk m c 2 t = x2 at *
  frame_out
  clear h0 h1
  open_payloads; pointwise
  rw [lit_1024, lit_eps, lit_half]
  exact add_eq_coe (hp _) (mul_eq_coe rfl (sum_eq_coe fun k => div_eq_coe (sum_eq_coe fun k =>
    mul_eq_coe (err_coe (e0 _) (rs_coe (fun k => e0 _) (by norm_num)) (e1 _) (e2 _))
      (err_coe (e0 _) (rs_coe (fun k => e0 _) (by norm_num)) (e1 _) (e2 _))) rfl (by norm_num)))

theorem dx_A (h0 : t.val % 32 = 0) (h1 : ¬1 ≤ t.val) (y : S512x1024.Idx) :
    (outsAt0 m c t.val t.isLt).2.1 y = (dx 1024 (x (y 0)) (fun k => dy x tg g (y 0) k * g k) (y 1) : EReal) := by
  obtain ⟨e0, e1, e2⟩ := B
  rw [outsAt0_A m c t h0 h1]
  dsimp only
  generalize iblk m c 0 t = x0 at *
  generalize iblk m c 1 t = x1 at *
  generalize iblk m c 2 t = x2 at *
  frame_out
  clear h0 h1
  open_payloads; pointwise
  rw [lit_1024, lit_eps, lit_1024_inv]
  exact dx_coe (rs_coe (fun k => e0 _) (by norm_num)) (fun j => e0 _)
    (fun j => mul_eq_coe (mul_eq_coe (err_coe (e0 _) (rs_coe (fun k => e0 _) (by norm_num)) (e1 _) (e2 _)) rfl) (e1 _)) (e0 _)
    (mul_eq_coe (mul_eq_coe (err_coe (e0 _) (rs_coe (fun k => e0 _) (by norm_num)) (e1 _) (e2 _)) rfl) (e1 _)) (by norm_num)

theorem dx_B (h0 : ¬t.val % 32 = 0) (h1 : 1 ≤ t.val) (y : S512x1024.Idx) :
    (outsAt0 m c t.val t.isLt).2.1 y = (dx 1024 (x (y 0)) (fun k => dy x tg g (y 0) k * g k) (y 1) : EReal) := by
  obtain ⟨e0, e1, e2⟩ := B
  rw [outsAt0_B m c t h0 h1]
  dsimp only
  generalize iblk m c 0 t = x0 at *
  generalize iblk m c 1 t = x1 at *
  generalize iblk m c 2 t = x2 at *
  frame_out
  clear h0 h1
  open_payloads; pointwise
  rw [lit_1024, lit_eps, lit_1024_inv]
  exact dx_coe (rs_coe (fun k => e0 _) (by norm_num)) (fun j => e0 _)
    (fun j => mul_eq_coe (mul_eq_coe (err_coe (e0 _) (rs_coe (fun k => e0 _) (by norm_num)) (e1 _) (e2 _)) rfl) (e1 _)) (e0 _)
    (mul_eq_coe (mul_eq_coe (err_coe (e0 _) (rs_coe (fun k => e0 _) (by norm_num)) (e1 _) (e2 _)) rfl) (e1 _)) (by norm_num)

theorem dg_A (h0 : t.val % 32 = 0) (h1 : ¬1 ≤ t.val) (y : S1x1024.Idx) :
    (outsAt0 m c t.val t.isLt).2.2 y = ((∑ k : Fin 512, dy x tg g k (y 1) * (x k (y 1) * rs 1024 (x k)) : ℝ) : EReal) := by
  obtain ⟨e0, e1, e2⟩ := B
  rw [outsAt0_A m c t h0 h1]
  dsimp only
  generalize iblk m c 0 t = x0 at *
  generalize iblk m c 1 t = x1 at *
  generalize iblk m c 2 t = x2 at *
  frame_out
  clear h0 h1
  open_payloads; pointwise
  rw [lit_1024, lit_eps, lit_1024_inv]
  exact sum_eq_coe fun k => mul_eq_coe (mul_eq_coe (err_coe (e0 _) (rs_coe (fun k => e0 _) (by norm_num)) (e1 _) (e2 _)) rfl)
    (mul_eq_coe (e0 _) (rs_coe (fun k => e0 _) (by norm_num)))

theorem dg_B (h0 : ¬t.val % 32 = 0) (h1 : 1 ≤ t.val) (p : ℕ → ℝ)
    (hp : ∀ i, (outsAt0 m c (t.val - 1) (Nat.lt_of_le_of_lt (Nat.sub_le _ _) t.isLt)).2.2 i = (p (i 1) : EReal)) (y : S1x1024.Idx) :
    (outsAt0 m c t.val t.isLt).2.2 y = ((p (y 1) + ∑ k : Fin 512, dy x tg g k (y 1) * (x k (y 1) * rs 1024 (x k)) : ℝ) : EReal) := by
  obtain ⟨e0, e1, e2⟩ := B
  rw [outsAt0_B m c t h0 h1]
  dsimp only
  generalize iblk m c 0 t = x0 at *
  generalize iblk m c 1 t = x1 at *
  generalize iblk m c 2 t = x2 at *
  frame_out
  clear h0 h1
  open_payloads; pointwise
  rw [lit_1024, lit_eps, lit_1024_inv]
  exact add_eq_coe (hp _) (sum_eq_coe fun k => mul_eq_coe (mul_eq_coe (err_coe (e0 _) (rs_coe (fun k => e0 _) (by norm_num)) (e1 _) (e2 _)) rfl)
    (mul_eq_coe (e0 _) (rs_coe (fun k => e0 _) (by norm_num))))

omit B

/-! ## The arrays -/

theorem idx : ∀ t : Fin cfg0.N, win0_0.index t = ![t.val, 0] ∧ win0_1.index t = ![0, 0] ∧ win0_2.index t = ![t.val, 0] ∧
    win0_3.index t = ![0, 0] ∧ win0_4.index t = ![t.val, 0] ∧ win0_5.index t = ![0, 0] :=
  (by decide +kernel : ∀ t : Fin grid0.N, _)

/-- The arguments hold these numbers. -/
structure Args (x tg : ℕ → ℕ → ℝ) (g : ℕ → ℝ) (c : Dev nD) : Prop where
  a0 : ∀ i, m ((c.tc : Thread nD τ).loc main_arg0) i = (x (i 0) (i 1) : EReal)
  a1 : ∀ i, m ((c.tc : Thread nD τ).loc main_arg1) i = (g (i 0) : EReal)
  a2 : ∀ i, m ((c.tc : Thread nD τ).loc main_arg2) i = (tg (i 0) (i 1) : EReal)

variable (A : Args m x tg g c)
include A

omit t in
theorem row (i : S1x1024.Idx) : V m c main_v0 i = (g (i 1) : EReal) := by
  after_reads_simp [V, V0, hostOps0]
  pointwise
  refine real1 g (A.a1 _) ?_
  blk_simp
  try omega

theorem blocks (t : Fin cfg0.N) : Blocks m (fun a => x (t.val * 512 + a)) (fun a => tg (t.val * 512 + a)) g c t := by
  refine ⟨fun i => ?_, fun i => ?_, fun i => ?_⟩
  all_goals
    unfold iblk
    rw [View.read_apply]
    first
    | exact (A.a0 _).trans (by blk_simp [idx t])
    | exact (row m A _).trans (by blk_simp [idx t])
    | exact (A.a2 _).trans (by blk_simp [idx t])

/-- The loss and the weight's gradient summed over the first `n` rows. -/
def lossSum (x tg : ℕ → ℕ → ℝ) (g : ℕ → ℝ) (n : ℕ) : ℝ := 1 / 2 * ∑ r ∈ Finset.range n, msq 1024 (x r) g (tg r)
def dgSum (x tg : ℕ → ℕ → ℝ) (g : ℕ → ℝ) (n k : ℕ) : ℝ :=
  ∑ r ∈ Finset.range n, dy x tg g r k * (x r k * rs 1024 (x r))

omit A in
theorem lossSum_fin (x tg : ℕ → ℕ → ℝ) (g : ℕ → ℝ) (n : ℕ) : lossSum x tg g n = 1 / 2 * ∑ r : Fin n, msq 1024 (x r) g (tg r) :=
  congrArg _ (Fin.sum_univ_eq_sum_range (fun r => msq 1024 (x r) g (tg r)) n).symm

omit A in
theorem dgSum_fin (x tg : ℕ → ℕ → ℝ) (g : ℕ → ℝ) (n k : ℕ) :
    dgSum x tg g n k = ∑ r : Fin n, dy x tg g r k * (x r k * rs 1024 (x r)) :=
  (Fin.sum_univ_eq_sum_range (fun r => dy x tg g r k * (x r k * rs 1024 (x r))) n).symm

omit A in
/-- One more tile of rows. -/
theorem lossSum_step (x tg : ℕ → ℕ → ℝ) (g : ℕ → ℝ) (n : ℕ) :
    lossSum x tg g ((n + 1) * 512) = lossSum x tg g (n * 512) + 1 / 2 * ∑ r : Fin 512, msq 1024 (x (n * 512 + r)) g (tg (n * 512 + r)) := by
  rw [Fin.sum_univ_eq_sum_range (fun r => msq 1024 (x (n * 512 + r)) g (tg (n * 512 + r))) 512]
  simp only [lossSum, add_mul, Finset.sum_range_add, one_mul, mul_add]

omit A in
theorem dgSum_step (x tg : ℕ → ℕ → ℝ) (g : ℕ → ℝ) (n k : ℕ) :
    dgSum x tg g ((n + 1) * 512) k = dgSum x tg g (n * 512) k + ∑ r : Fin 512, dy (fun a => x (n * 512 + a))
      (fun a => tg (n * 512 + a)) g r k * (x (n * 512 + r) k * rs 1024 (x (n * 512 + r))) := by
  rw [Fin.sum_univ_eq_sum_range (fun r => dy (fun a => x (n * 512 + a)) (fun a => tg (n * 512 + a)) g r k
    * (x (n * 512 + r) k * rs 1024 (x (n * 512 + r)))) 512]
  simp only [dgSum, add_mul, Finset.sum_range_add, one_mul]
  rfl

theorem loss_acc (n : ℕ) : ∀ (h : n < cfg0.N) (y : S1x128.Idx),
    (outsAt0 m c n h).1 y = (lossSum x tg g ((n + 1) * 512) : EReal) := by
  induction n with
  | zero =>
    intro h y
    rw [loss_A m (blocks m A ⟨0, h⟩) (by simp) (by simp) y, lossSum_step]
    simp [lossSum]
  | succ n ih =>
    intro h y
    have hN : n + 1 < 32 := h
    rw [loss_B m (blocks m A ⟨n + 1, h⟩) (by show ¬(n + 1) % 32 = 0; omega) (by simp) _ (fun i => ih _ i) y]
    exact congrArg _ (lossSum_step x tg g (n + 1)).symm

theorem dg_acc (n : ℕ) : ∀ (h : n < cfg0.N) (y : S1x1024.Idx),
    (outsAt0 m c n h).2.2 y = (dgSum x tg g ((n + 1) * 512) (y 1) : EReal) := by
  induction n with
  | zero =>
    intro h y
    rw [dg_A m (blocks m A ⟨0, h⟩) (by simp) (by simp) y, dgSum_step]
    simp [dgSum]
  | succ n ih =>
    intro h y
    have hN : n + 1 < 32 := h
    rw [dg_B m (blocks m A ⟨n + 1, h⟩) (by show ¬(n + 1) % 32 = 0; omega) (by simp) _ (fun i => ih _ i) y]
    exact congrArg _ (dgSum_step x tg g (n + 1) _).symm

theorem final4 : (dats m 0 c).arrAt 4 cfg0.N = fun i : S16384x1024.Idx =>
    (dx 1024 (x (i 0)) (fun k => dy x tg g (i 0) k * g k) (i 1) : EReal) := by
  refine (dats m 0 c).arrAt_eq_of_covers 4 _ (by decide +kernel) fun t hf y => ?_
  blk_simp [idx t]
  rw [after0_4]
  by_cases h : 1 ≤ t.val
  · have hN : t.val < 32 := t.isLt
    exact dx_B m (blocks m A t) (by omega) h y
  · exact dx_A m (blocks m A t) (by omega) h y

theorem final3 : (dats m 0 c).arrAt 3 cfg0.N = fun _ : S1x128.Idx => (lossSum x tg g 16384 : EReal) := by
  refine (dats m 0 c).arrAt_eq_of_covers 3 _ (by decide +kernel) fun t hf y => ?_
  have h1 : t.val % 32 = 31 := (flush0_3 t).mp hf
  have hN : t.val < 32 := t.isLt
  blk_simp [idx t]
  rw [after0_3]
  refine (loss_acc m A _ _ y).trans ?_
  rw [show t.val = 31 by omega]

theorem final5 : (dats m 0 c).arrAt 5 cfg0.N = fun i : S1x1024.Idx => (dgSum x tg g 16384 (i 1) : EReal) := by
  refine (dats m 0 c).arrAt_eq_of_covers 5 _ (by decide +kernel) fun t hf y => ?_
  have h1 : t.val % 32 = 31 := (flush0_5 t).mp hf
  have hN : t.val < 32 := t.isLt
  blk_simp [idx t]
  rw [after0_5]
  refine (dg_acc m A _ _ y).trans ?_
  rw [show t.val = 31 by omega]

/-- The loss after the host's slice. -/
theorem tail3 (i : S_.Idx) : Pipeline.afterTail₀ cfgs (dats m) 0 (V0 m) [hostOps1] c main_v3 i = (lossSum x tg g 16384 : EReal) := by
  have e : Pipeline.withArrays spec0 c (V0 m c) (fun w => (dats m 0 c).arrAt w cfg0.N) (Proc.devRef .tc main_v1_0)
      = (dats m 0 c).arrAt 3 cfg0.N :=
    Pipeline.withArrays_arr spec0 launch0.win.arr_inj c (V0 m c) (fun w => (dats m 0 c).arrAt w cfg0.N) 3
  rw [final3 m A] at e
  generalize lossSum x tg g 16384 = D at *
  show StableHlo.after hostOps1 (Pipeline.withArrays spec0 c (V0 m c) (fun w => (dats m 0 c).arrAt w cfg0.N)) (Proc.devRef .tc main_v3) i = _
  generalize Pipeline.withArrays spec0 c (V0 m c) (fun w => (dats m 0 c).arrAt w cfg0.N) = W at *
  after_results_simp
  simp only [e]
  pointwise

/-- The weight's gradient after the host's reshape. -/
theorem tail4 (i : S1024.Idx) : Pipeline.afterTail₀ cfgs (dats m) 0 (V0 m) [hostOps1] c main_v4 i = (dgSum x tg g 16384 (i 0) : EReal) := by
  have e : Pipeline.withArrays spec0 c (V0 m c) (fun w => (dats m 0 c).arrAt w cfg0.N) (Proc.devRef .tc main_v1_2)
      = (dats m 0 c).arrAt 5 cfg0.N :=
    Pipeline.withArrays_arr spec0 launch0.win.arr_inj c (V0 m c) (fun w => (dats m 0 c).arrAt w cfg0.N) 5
  rw [final5 m A] at e
  generalize dgSum x tg g 16384 = D at *
  show StableHlo.after hostOps1 (Pipeline.withArrays spec0 c (V0 m c) (fun w => (dats m 0 c).arrAt w cfg0.N)) (Proc.devRef .tc main_v4) i = _
  generalize Pipeline.withArrays spec0 c (V0 m c) (fun w => (dats m 0 c).arrAt w cfg0.N) = W at *
  after_results_simp
  simp only [e]
  pointwise

end Cert.LossIdeal.RefValue

end
-- ==== Proof.Loss.lean ====
/-
  The claims about the loss and its gradients through the final norm.
-/
module

public import proofs.«01_k».proof.Defs
public import proofs.«01_k».proof.Proof.Finite
public import proofs.«01_k».proof.Proof.Gen.Pre_loss_finite
public import proofs.«01_k».proof.Proof.Gen.Loss.Frame
public import proofs.«01_k».proof.Proof.Gen.LossRefIdeal.Run
public import proofs.«01_k».proof.Proof.Loss.Ref
public import proofs.«01_k».proof.Proof.Loss.Block

@[expose] public section

set_option maxRecDepth 16384

noncomputable section

open Idealize.ShloMosaic Idealize.ShloMosaic.TcCoe Idealize.SL.Sem Idealize.ShloMosaic.StableHlo

namespace Cert.Proof.LossClaims

theorem frame : Cert.quiescent_Loss := fun m ρ _ => Cert.Loss.Gen.frame m ρ
theorem frame_ideal : Cert.quiescent_LossIdeal := fun m ρ _ => Cert.LossIdeal.Gen.frame m ρ
theorem frame_ideal_pre : Cert.quiescent_LossIdeal_pre_loss_finite := fun m ρ _ => Cert.LossIdeal.Gen.frame m ρ
theorem frame_ref : Cert.quiescent_LossRefIdeal := fun m ρ _ => by
  refine (θ_run Cert.LossRefIdeal.defs _ _).mono (fun r h => ⟨fun c => ?_,
    Idealize.ShloMosaic.sem_eq_zero_of_no_sems (by decide) r.2⟩) (Cert.LossRefIdeal.Value.run (F := Ideal) m ρ)
  exact (h c).2.2.2
theorem frame_ref_pre : Cert.quiescent_LossRefIdeal_pre_loss_finite := fun m ρ _ => frame_ref m ρ trivial
theorem preserves : Cert.preserves_Loss_LossIdeal := trivial

/-- Under the precondition the arguments are real functions of their coordinates. -/
theorem args_of_pre {m : (ℓ : Loc Cert.LossIdeal.nD Cert.LossIdeal.τ Cert.LossIdeal.sig) → Buf (Elt Ideal) ℓ}
    (h : Cert.Pre_LossIdeal_loss_finite m) (c : Dev Cert.LossIdeal.nD) : ∃ x tg g, Cert.LossIdeal.RefValue.Args m x tg g c := by
  have e := congrFun (h c) ix0
  dsimp only [Cert.Pre_loss_finite.fn] at e
  obtain ⟨e, e2⟩ := Cert.Finite.both e
  obtain ⟨e0, e1⟩ := Cert.Finite.both e
  obtain ⟨x, hx⟩ := Cert.Finite.real2_of _ (Cert.Finite.real_of_all _ _ (fun _ => rfl) _ _ _ _ e0)
  obtain ⟨g, hg⟩ := Cert.Finite.real1_of _ (Cert.Finite.real_of_all _ _ (fun _ => rfl) _ _ _ _ e1)
  obtain ⟨tg, htg⟩ := Cert.Finite.real2_of _ (Cert.Finite.real_of_all _ _ (fun _ => rfl) _ _ _ _ e2)
  exact ⟨x, tg, g, hx, hg, htg⟩

open Cert.LossIdeal.RefValue Cert.LossIdeal.Gen in
/-- The loss and both gradients of the kernel and of the reference agree, from finite arguments. -/
theorem algebraic : Cert.algebraic_LossIdeal_LossRefIdeal_pre_loss_finite := by
  intro m g m' g' hpre hagree
  refine ⟨fun c => Pipeline.afterTail₀ Cert.LossIdeal.cfgs (dats m) 0 (V0 m) [hostOps1] c Cert.LossIdeal.main_v3,
    fun c => (dats m 0 c).arrAt 4 Cert.LossIdeal.cfg0.N,
    fun c => Pipeline.afterTail₀ Cert.LossIdeal.cfgs (dats m) 0 (V0 m) [hostOps1] c Cert.LossIdeal.main_v4, ?_, ?_⟩
  · exact (θ_run Cert.LossIdeal.defs _ _).mono (fun r h c => ⟨
      (h.1 c).2 Cert.LossIdeal.main_v3 (Pipeline.mem_restRefs_of Cert.LossIdeal.main_v3 (by decide) (by decide)),
      (h.1 c).1 4,
      (h.1 c).2 Cert.LossIdeal.main_v4 (Pipeline.mem_restRefs_of Cert.LossIdeal.main_v4 (by decide) (by decide)),
      h.2 c⟩) (θ_run_and (run_main m g) (unchanged m g))
  · refine (θ_run Cert.LossRefIdeal.defs _ _).mono (fun r h c => ?_) (Cert.LossRefIdeal.Value.run m' g')
    obtain ⟨x, tg, w, A⟩ := args_of_pre hpre c
    obtain ⟨e0, e1, e2⟩ := hagree c
    have h0 : ∀ i, m' ((c.tc : Thread Cert.LossRefIdeal.nD Cert.LossRefIdeal.τ).loc Cert.LossRefIdeal.main_arg0) i = (x (i 0) (i 1) : EReal) :=
      fun i => (congrFun e0 i).trans (A.a0 i)
    have h1 : ∀ i, m' ((c.tc : Thread Cert.LossRefIdeal.nD Cert.LossRefIdeal.τ).loc Cert.LossRefIdeal.main_arg1) i = (w (i 0) : EReal) :=
      fun i => (congrFun e1 i).trans (A.a1 i)
    have h2 : ∀ i, m' ((c.tc : Thread Cert.LossRefIdeal.nD Cert.LossRefIdeal.τ).loc Cert.LossRefIdeal.main_arg2) i = (tg (i 0) (i 1) : EReal) :=
      fun i => (congrFun e2 i).trans (A.a2 i)
    obtain ⟨r0, r1, r2, ra⟩ := h c
    refine ⟨r0.trans ?_, r1.trans ?_, r2.trans ?_, ra⟩
    · rw [Cert.LossRefIdeal.Read.val_main_v24_eq]
      exact funext fun i => (Cert.LossRefIdeal.RefValue.v24 h0 h1 h2 i).trans
        ((tail3 m A i).trans (congrArg _ (lossSum_fin x tg w 16384))).symm
    · rw [Cert.LossRefIdeal.Read.val_main_v50_eq]
      refine Eq.trans ?_ (final4 m A).symm
      exact funext fun i => Cert.LossRefIdeal.RefValue.v50 h0 h1 h2 i
    · rw [Cert.LossRefIdeal.Read.val_main_v36_eq]
      exact funext fun i => (Cert.LossRefIdeal.RefValue.v36 h0 h1 h2 i).trans
        ((tail4 m A i).trans (congrArg _ (dgSum_fin x tg w 16384 _))).symm

end Cert.Proof.LossClaims

end
-- ==== Proof.Rms.Ref.lean ====
/-
  What the norm's reference gradient computes, of real arguments.
-/
module

public import proofs.«01_k».proof.Proof.Norm
public import proofs.«01_k».proof.Proof.Gen.RmsRefIdeal.Read
public import Idealize.ShloMosaic.Lib.Pointwise

@[expose] public section

set_option maxRecDepth 16384

noncomputable section

open Idealize.ShloMosaic Idealize.ShloMosaic.TcCoe Idealize.SL.Sem

namespace Cert.RmsRefIdeal.RefValue

open Cert.RmsRefIdeal Cert.RmsRefIdeal.Gen Cert.RmsRefIdeal.Read Cert.MlaModel Cert.Norm

variable {x dy : ℕ → ℕ → ℝ} {g : ℕ → ℝ}
  {x0 : (⟨S16384x1024, .f32⟩ : BufTy).Contents (Elt Ideal)} {x1 : (⟨S1024, .f32⟩ : BufTy).Contents (Elt Ideal)}
  {x2 : (⟨S16384x1024, .f32⟩ : BufTy).Contents (Elt Ideal)} {x3 : (⟨S16384x1024, .f32⟩ : BufTy).Contents (Elt Ideal)}
  (h0 : ∀ i, x0 i = (x (i 0) (i 1) : EReal)) (h1 : ∀ i, x1 i = (g (i 0) : EReal)) (h2 : ∀ i, x2 i = (dy (i 0) (i 1) : EReal))

include h0 in
theorem v6 (i : S16384x1.Idx) : val_main_v6 (F := Ideal) x0 i = (ms 1024 (x (i 0)) : EReal) := by
  simp only [val_main_v6, val_main_v5, val_main_v4, val_main_v3, val_main_v2, val_main_v1, val_main_v0, val_main_cst,
    val_main_cst_0, val_main_cst_1]
  pointwise
  rw [lit_1024, lit_eps]
  exact ms_coe (fun k => h0 _) (by norm_num)

include h0 in
theorem v7 (i : S16384x1.Idx) : val_main_v7 (F := Ideal) x0 i = (rs 1024 (x (i 0)) : EReal) := by
  rw [val_main_v7_apply, v6 h0]
  exact rsqrt_ms _ _

include h0 in
theorem v10 (i : S16384x1.Idx) : val_main_v10 (F := Ideal) x0 i = ((-(1 / 2) * (rs 1024 (x (i 0)) / ms 1024 (x (i 0))) : ℝ) : EReal) := by
  simp only [val_main_v10, val_main_v9, val_main_v8, val_main_cst_2]
  pointwise
  rw [lit_neg_half]
  exact mul_eq_coe rfl (div_eq_coe (v7 h0 i) (v6 h0 i) (ms_pos _ _).ne')

include h1 h2 in
theorem v20 (i : S16384x1024.Idx) : val_main_v20 (F := Ideal) x1 x2 i = ((dy (i 0) (i 1) * g (i 1) : ℝ) : EReal) := by
  simp only [val_main_v20, val_main_v19, val_main_v13]
  pointwise
  exact mul_eq_coe (h2 _) (h1 _)

include h0 h1 h2 in
theorem v32 (i : S16384x1024.Idx) : val_main_v32 (F := Ideal) x0 x1 x2 i
    = (slope 1024 (x (i 0)) (fun k => dy (i 0) k * g k) : EReal) := by
  simp only [val_main_v32, val_main_v31, val_main_v30, val_main_v29, val_main_v28, val_main_v24, val_main_v23, val_main_v22,
    val_main_cst_5, val_main_cst_6, val_main_cst_7]
  pointwise
  rw [lit_1024]
  unfold Norm.slope
  have h : ((1024 : ℕ) : ℝ) ≠ 0 := by norm_num
  refine (Fin.sum_univ_one _).trans ?_
  exact div_eq_coe (mul_eq_coe (sum_eq_coe fun k : Fin 1024 => mul_eq_coe (h0 _) (v20 h1 h2 _)) (v10 h0 _)) rfl h

include h0 h1 h2 in
/-- The gradient by the row, with the cotangent of the row itself. -/
theorem v36 (i : S16384x1024.Idx) : val_main_v36 (F := Ideal) x0 x1 x2 x3 i
    = (dx 1024 (x (i 0)) (fun k => dy (i 0) k * g k) (i 1) : EReal) + x3 i := by
  rw [val_main_v36_apply, val_main_v34_apply, val_main_v27_apply, val_main_v26_apply, val_main_v33_apply, val_main_v35_apply,
    v32 h0 h1 h2, v20 h1 h2, h0]
  rw [← slope_dx]
  simp only [val_main_v25]
  pointwise
  rw [v7 h0]
  simp only [EReal.coe_add, EReal.coe_mul]
  rw [add_assoc, add_assoc, add_comm (x3 i), ← add_assoc (_ * _ * _)]
  rfl

include h0 h2 in
/-- The gradient by the weight. -/
theorem v21 (i : S1024.Idx) : val_main_v21 (F := Ideal) x0 x2 i
    = ((∑ r : Fin 16384, dy r (i 0) * (x r (i 0) * rs 1024 (x r)) : ℝ) : EReal) := by
  simp only [val_main_v21, val_main_v18, val_main_v17, val_main_v16, val_main_v12, val_main_v11, val_main_cst_3, val_main_cst_4]
  pointwise
  refine (Fin.sum_univ_one _).trans (sum_eq_coe fun k => ?_)
  rw [h0, h2, v7 h0, ← EReal.coe_mul, ← EReal.coe_mul, mul_comm (_ * _)]
  rfl

end Cert.RmsRefIdeal.RefValue

end
-- ==== Proof.Rms.Block.lean ====
/-
  What one grid point of the norm's backward kernel stores, of blocks that hold real numbers.
-/
module

public import proofs.«01_k».proof.Proof.Norm
public import proofs.«01_k».proof.Proof.Gen.RmsIdeal.Frame
public import Idealize.ShloMosaic.Lib.Pipeline.ValueKit
public import Idealize.ShloMosaic.Lib.Pipeline.Value
public import Idealize.ShloMosaic.Lib.Claim
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem Idealize.ShloMosaic.StableHlo

namespace Cert.RmsIdeal.RefValue

open Cert.RmsIdeal Cert.RmsIdeal.Gen Cert.MlaModel Cert.Norm

variable (m : (ℓ : Loc nD τ sig) → Buf (Elt Ideal) ℓ) {x dy : ℕ → ℕ → ℝ} {g : ℕ → ℝ}

/-- The blocks of grid point `t` hold these numbers. -/
structure Blocks (x dy : ℕ → ℕ → ℝ) (g : ℕ → ℝ) (c : Dev nD) (t : Fin cfg0.N) : Prop where
  e0 : ∀ i, iblk m c 0 t i = (x (i 0) (i 1) : EReal)
  e1 : ∀ i, iblk m c 1 t i = (g (i 1) : EReal)
  e2 : ∀ i, iblk m c 2 t i = (dy (i 0) (i 1) : EReal)

variable {c : Dev nD} {t : Fin cfg0.N} (B : Blocks m x dy g c t)
include B

theorem dx_A (h0 : t.val % 32 = 0) (h1 : ¬1 ≤ t.val) (y : S512x1024.Idx) :
    (outsAt0 m c t.val t.isLt).1 y = (dx 1024 (x (y 0)) (fun k => dy (y 0) k * g k) (y 1) : EReal) + iblk m c 3 t y := by
  obtain ⟨e0, e1, e2⟩ := B
  rw [outsAt0_A m c t h0 h1]
  dsimp only
  generalize iblk m c 0 t = x0 at *
  generalize iblk m c 1 t = x1 at *
  generalize iblk m c 2 t = x2 at *
  generalize iblk m c 3 t = x3 at *
  frame_out
  clear h0 h1
  open_payloads; pointwise
  rw [lit_1024, lit_eps]
  exact congrArg (· + _) (dx_coe (rs_coe (fun k => e0 _) (by norm_num)) (fun j => e0 _)
    (fun j => mul_eq_coe (e2 _) (e1 _)) (e0 _) (mul_eq_coe (e2 _) (e1 _)) (by norm_num))

theorem dx_B (h0 : ¬t.val % 32 = 0) (h1 : 1 ≤ t.val) (y : S512x1024.Idx) :
    (outsAt0 m c t.val t.isLt).1 y = (dx 1024 (x (y 0)) (fun k => dy (y 0) k * g k) (y 1) : EReal) + iblk m c 3 t y := by
  obtain ⟨e0, e1, e2⟩ := B
  rw [outsAt0_B m c t h0 h1]
  dsimp only
  generalize iblk m c 0 t = x0 at *
  generalize iblk m c 1 t = x1 at *
  generalize iblk m c 2 t = x2 at *
  generalize iblk m c 3 t = x3 at *
  frame_out
  clear h0 h1
  open_payloads; pointwise
  rw [lit_1024, lit_eps]
  exact congrArg (· + _) (dx_coe (rs_coe (fun k => e0 _) (by norm_num)) (fun j => e0 _)
    (fun j => mul_eq_coe (e2 _) (e1 _)) (e0 _) (mul_eq_coe (e2 _) (e1 _)) (by norm_num))

theorem dg_A (h0 : t.val % 32 = 0) (h1 : ¬1 ≤ t.val) (y : S1x1024.Idx) :
    (outsAt0 m c t.val t.isLt).2 y = ((∑ k : Fin 512, dy k (y 1) * (x k (y 1) * rs 1024 (x k)) : ℝ) : EReal) := by
  obtain ⟨e0, e1, e2⟩ := B
  rw [outsAt0_A m c t h0 h1]
  dsimp only
  generalize iblk m c 0 t = x0 at *
  generalize iblk m c 1 t = x1 at *
  generalize iblk m c 2 t = x2 at *
  generalize iblk m c 3 t = x3 at *
  frame_out
  clear h0 h1
  open_payloads; pointwise
  rw [lit_1024, lit_eps]
  exact sum_eq_coe fun k => mul_eq_coe (e2 _) (mul_eq_coe (e0 _) (rs_coe (fun k => e0 _) (by norm_num)))

theorem dg_B (h0 : ¬t.val % 32 = 0) (h1 : 1 ≤ t.val) (p : ℕ → ℝ)
    (hp : ∀ i, (outsAt0 m c (t.val - 1) (Nat.lt_of_le_of_lt (Nat.sub_le _ _) t.isLt)).2 i = (p (i 1) : EReal)) (y : S1x1024.Idx) :
    (outsAt0 m c t.val t.isLt).2 y = ((p (y 1) + ∑ k : Fin 512, dy k (y 1) * (x k (y 1) * rs 1024 (x k)) : ℝ) : EReal) := by
  obtain ⟨e0, e1, e2⟩ := B
  rw [outsAt0_B m c t h0 h1]
  dsimp only
  generalize iblk m c 0 t = x0 at *
  generalize iblk m c 1 t = x1 at *
  generalize iblk m c 2 t = x2 at *
  generalize iblk m c 3 t = x3 at *
  frame_out
  clear h0 h1
  open_payloads; pointwise
  rw [lit_1024, lit_eps]
  exact add_eq_coe (hp _) (sum_eq_coe fun k => mul_eq_coe (e2 _) (mul_eq_coe (e0 _) (rs_coe (fun k => e0 _) (by norm_num))))

omit B

/-! ## The arrays -/

theorem idx : ∀ t : Fin cfg0.N, win0_0.index t = ![t.val, 0] ∧ win0_1.index t = ![0, 0] ∧ win0_2.index t = ![t.val, 0] ∧
    win0_3.index t = ![t.val, 0] ∧ win0_4.index t = ![t.val, 0] ∧ win0_5.index t = ![0, 0] :=
  (by decide +kernel : ∀ t : Fin grid0.N, _)

/-- The arguments hold these numbers. -/
structure Args (x dy : ℕ → ℕ → ℝ) (g : ℕ → ℝ) (c : Dev nD) : Prop where
  a0 : ∀ i, m ((c.tc : Thread nD τ).loc main_arg0) i = (x (i 0) (i 1) : EReal)
  a1 : ∀ i, m ((c.tc : Thread nD τ).loc main_arg1) i = (g (i 0) : EReal)
  a2 : ∀ i, m ((c.tc : Thread nD τ).loc main_arg2) i = (dy (i 0) (i 1) : EReal)

variable (A : Args m x dy g c)
include A

omit t in
theorem row (i : S1x1024.Idx) : V m c main_v0 i = (g (i 1) : EReal) := by
  after_reads_simp [V, V0, hostOps0]
  pointwise
  refine real1 g (A.a1 _) ?_
  blk_simp
  try omega

theorem blocks (t : Fin cfg0.N) : Blocks m (fun a => x (t.val * 512 + a)) (fun a => dy (t.val * 512 + a)) g c t := by
  refine ⟨fun i => ?_, fun i => ?_, fun i => ?_⟩
  all_goals
    unfold iblk
    rw [View.read_apply]
    first
    | exact (A.a0 _).trans (by blk_simp [idx t])
    | exact (row m A _).trans (by blk_simp [idx t])
    | exact (A.a2 _).trans (by blk_simp [idx t])

/-- The weight's gradient summed over the first `n` rows. -/
def dgSum (x dy : ℕ → ℕ → ℝ) (n k : ℕ) : ℝ := ∑ r ∈ Finset.range n, dy r k * (x r k * rs 1024 (x r))

omit A in
theorem dgSum_fin (x dy : ℕ → ℕ → ℝ) (n k : ℕ) : dgSum x dy n k = ∑ r : Fin n, dy r k * (x r k * rs 1024 (x r)) :=
  (Fin.sum_univ_eq_sum_range (fun r => dy r k * (x r k * rs 1024 (x r))) n).symm

omit A in
theorem dg_tile (x dy : ℕ → ℕ → ℝ) (i k : ℕ) : ∑ r : Fin 512, dy (i * 512 + r) k * (x (i * 512 + r) k * rs 1024 (x (i * 512 + r)))
    = ∑ r ∈ Finset.range 512, dy (i * 512 + r) k * (x (i * 512 + r) k * rs 1024 (x (i * 512 + r))) :=
  Fin.sum_univ_eq_sum_range (fun r => dy (i * 512 + r) k * (x (i * 512 + r) k * rs 1024 (x (i * 512 + r)))) 512

theorem dg_acc (n : ℕ) : ∀ (h : n < cfg0.N) (y : S1x1024.Idx),
    (outsAt0 m c n h).2 y = (dgSum x dy ((n + 1) * 512) (y 1) : EReal) := by
  induction n with
  | zero =>
    intro h y
    rw [dg_A m (blocks m A ⟨0, h⟩) (by simp) (by simp) y, dg_tile]
    simp [dgSum]
  | succ n ih =>
    intro h y
    have hN : n + 1 < 32 := h
    rw [dg_B m (blocks m A ⟨n + 1, h⟩) (by show ¬(n + 1) % 32 = 0; omega) (by simp) _ (fun i => ih _ i) y, dg_tile]
    simp only [dgSum, add_mul, Finset.sum_range_add, one_mul]

theorem final4 : (dats m 0 c).arrAt 4 cfg0.N = fun i : S16384x1024.Idx =>
    (dx 1024 (x (i 0)) (fun k => dy (i 0) k * g k) (i 1) : EReal) + m ((c.tc : Thread nD τ).loc main_arg3) i := by
  refine (dats m 0 c).arrAt_eq_of_covers 4 _ (by decide +kernel) fun t hf y => ?_
  blk_simp [idx t]
  rw [after0_4]
  have e : (outsAt0 m c t.val t.isLt).1 y
      = (dx 1024 (x (t.val * 512 + y 0)) (fun k => dy (t.val * 512 + y 0) k * g k) (y 1) : EReal) + iblk m c 3 t y := by
    by_cases h : 1 ≤ t.val
    · have hN : t.val < 32 := t.isLt
      exact dx_B m (blocks m A t) (by omega) h y
    · exact dx_A m (blocks m A t) (by omega) h y
  rw [e]
  refine congrArg _ ?_
  unfold iblk
  rw [View.read_apply]
  refine congrArg (m ((c.tc : Thread nD τ).loc main_arg3)) ?_
  funext a
  fin_cases a <;> exact Fin.ext (by blk_simp [idx t])

theorem final5 : (dats m 0 c).arrAt 5 cfg0.N = fun i : S1x1024.Idx => (dgSum x dy 16384 (i 1) : EReal) := by
  refine (dats m 0 c).arrAt_eq_of_covers 5 _ (by decide +kernel) fun t hf y => ?_
  have h1 : t.val % 32 = 31 := (flush0_5 t).mp hf
  have hN : t.val < 32 := t.isLt
  blk_simp [idx t]
  rw [after0_5]
  refine (dg_acc m A _ _ y).trans ?_
  rw [show t.val = 31 by omega]

/-- The weight's gradient after the host's reshape. -/
theorem tail (i : S1024.Idx) : Pipeline.afterTail₀ cfgs (dats m) 0 (V0 m) [hostOps1] c main_v2 i = (dgSum x dy 16384 (i 0) : EReal) := by
  have e : Pipeline.withArrays spec0 c (V0 m c) (fun w => (dats m 0 c).arrAt w cfg0.N) (Proc.devRef .tc main_v1_1)
      = (dats m 0 c).arrAt 5 cfg0.N :=
    Pipeline.withArrays_arr spec0 launch0.win.arr_inj c (V0 m c) (fun w => (dats m 0 c).arrAt w cfg0.N) 5
  rw [final5 m A] at e
  generalize dgSum x dy 16384 = D at *
  show StableHlo.after hostOps1 (Pipeline.withArrays spec0 c (V0 m c) (fun w => (dats m 0 c).arrAt w cfg0.N)) (Proc.devRef .tc main_v2) i = _
  generalize Pipeline.withArrays spec0 c (V0 m c) (fun w => (dats m 0 c).arrAt w cfg0.N) = W at *
  after_results_simp
  simp only [e]
  pointwise

end Cert.RmsIdeal.RefValue

end
-- ==== Proof.Rms.lean ====
/-
  The claims about the gradient of a norm whose input also passes on unchanged.
-/
module

public import proofs.«01_k».proof.Defs
public import proofs.«01_k».proof.Proof.Finite
public import proofs.«01_k».proof.Proof.Gen.Pre_rms_finite
public import proofs.«01_k».proof.Proof.Gen.Rms.Frame
public import proofs.«01_k».proof.Proof.Gen.RmsRefIdeal.Run
public import proofs.«01_k».proof.Proof.Rms.Ref
public import proofs.«01_k».proof.Proof.Rms.Block

@[expose] public section

set_option maxRecDepth 16384

noncomputable section

open Idealize.ShloMosaic Idealize.ShloMosaic.TcCoe Idealize.SL.Sem Idealize.ShloMosaic.StableHlo

namespace Cert.Proof.RmsClaims

theorem frame : Cert.quiescent_Rms := fun m ρ _ => Cert.Rms.Gen.frame m ρ
theorem frame_ideal : Cert.quiescent_RmsIdeal := fun m ρ _ => Cert.RmsIdeal.Gen.frame m ρ
theorem frame_ideal_pre : Cert.quiescent_RmsIdeal_pre_rms_finite := fun m ρ _ => Cert.RmsIdeal.Gen.frame m ρ
theorem frame_ref : Cert.quiescent_RmsRefIdeal := fun m ρ _ => by
  refine (θ_run Cert.RmsRefIdeal.defs _ _).mono (fun r h => ⟨fun c => ?_,
    Idealize.ShloMosaic.sem_eq_zero_of_no_sems (by decide) r.2⟩) (Cert.RmsRefIdeal.Value.run (F := Ideal) m ρ)
  exact (h c).2.2
theorem frame_ref_pre : Cert.quiescent_RmsRefIdeal_pre_rms_finite := fun m ρ _ => frame_ref m ρ trivial
theorem preserves : Cert.preserves_Rms_RmsIdeal := trivial

/-- Under the precondition the arguments are real functions of their coordinates. -/
theorem args_of_pre {m : (ℓ : Loc Cert.RmsIdeal.nD Cert.RmsIdeal.τ Cert.RmsIdeal.sig) → Buf (Elt Ideal) ℓ}
    (h : Cert.Pre_RmsIdeal_rms_finite m) (c : Dev Cert.RmsIdeal.nD) : ∃ x dy g, Cert.RmsIdeal.RefValue.Args m x dy g c := by
  have e := congrFun (h c) ix0
  dsimp only [Cert.Pre_rms_finite.fn] at e
  obtain ⟨e, e2⟩ := Cert.Finite.both e
  obtain ⟨e0, e1⟩ := Cert.Finite.both e
  obtain ⟨x, hx⟩ := Cert.Finite.real2_of _ (Cert.Finite.real_of_all _ _ (fun _ => rfl) _ _ _ _ e0)
  obtain ⟨g, hg⟩ := Cert.Finite.real1_of _ (Cert.Finite.real_of_all _ _ (fun _ => rfl) _ _ _ _ e1)
  obtain ⟨dy, hdy⟩ := Cert.Finite.real2_of _ (Cert.Finite.real_of_all _ _ (fun _ => rfl) _ _ _ _ e2)
  exact ⟨x, dy, g, hx, hg, hdy⟩

open Cert.RmsIdeal.RefValue Cert.RmsIdeal.Gen in
/-- Both gradients of the kernel and of the reference agree, from finite arguments. -/
theorem algebraic : Cert.algebraic_RmsIdeal_RmsRefIdeal_pre_rms_finite := by
  intro m g m' g' hpre hagree
  refine ⟨fun c => (dats m 0 c).arrAt 4 Cert.RmsIdeal.cfg0.N,
    fun c => Pipeline.afterTail₀ Cert.RmsIdeal.cfgs (dats m) 0 (V0 m) [hostOps1] c Cert.RmsIdeal.main_v2, ?_, ?_⟩
  · exact (θ_run Cert.RmsIdeal.defs _ _).mono (fun r h c => ⟨(h.1 c).1 4,
      (h.1 c).2 Cert.RmsIdeal.main_v2 (Pipeline.mem_restRefs_of Cert.RmsIdeal.main_v2 (by decide) (by decide)),
      h.2 c⟩) (θ_run_and (run_main m g) (unchanged m g))
  · refine (θ_run Cert.RmsRefIdeal.defs _ _).mono (fun r h c => ?_) (Cert.RmsRefIdeal.Value.run m' g')
    obtain ⟨x, dy, w, A⟩ := args_of_pre hpre c
    obtain ⟨e0, e1, e2, e3⟩ := hagree c
    have h0 : ∀ i, m' ((c.tc : Thread Cert.RmsRefIdeal.nD Cert.RmsRefIdeal.τ).loc Cert.RmsRefIdeal.main_arg0) i = (x (i 0) (i 1) : EReal) :=
      fun i => (congrFun e0 i).trans (A.a0 i)
    have h1 : ∀ i, m' ((c.tc : Thread Cert.RmsRefIdeal.nD Cert.RmsRefIdeal.τ).loc Cert.RmsRefIdeal.main_arg1) i = (w (i 0) : EReal) :=
      fun i => (congrFun e1 i).trans (A.a1 i)
    have h2 : ∀ i, m' ((c.tc : Thread Cert.RmsRefIdeal.nD Cert.RmsRefIdeal.τ).loc Cert.RmsRefIdeal.main_arg2) i = (dy (i 0) (i 1) : EReal) :=
      fun i => (congrFun e2 i).trans (A.a2 i)
    obtain ⟨r0, r1, ra⟩ := h c
    refine ⟨r0.trans ?_, r1.trans ?_, ra⟩
    · rw [Cert.RmsRefIdeal.Read.val_main_v36_eq]
      refine Eq.trans ?_ (final4 m A).symm
      exact funext fun i => (Cert.RmsRefIdeal.RefValue.v36 h0 h1 h2 i).trans (congrArg _ (congrFun e3 i))
    · rw [Cert.RmsRefIdeal.Read.val_main_v21_eq]
      exact funext fun i => (Cert.RmsRefIdeal.RefValue.v21 h0 h2 i).trans ((tail m A i).trans (congrArg _ (dgSum_fin x dy 16384 _))).symm

end Cert.Proof.RmsClaims

end
-- ==== Proof.HgrnOut.Ref.lean ====
/-
  What the reference gradient of the recurrence's norm and gate computes, of real arguments.
-/
module

public import proofs.«01_k».proof.Proof.HgrnOut.Model
public import proofs.«01_k».proof.Proof.Gen.HgrnOutRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.HgrnOutRefIdeal.RefValue

open Cert.HgrnOutRefIdeal Cert.HgrnOutRefIdeal.Gen Cert.HgrnOutRefIdeal.Read Cert.MlaModel Cert.Norm Cert.HgrnOutModel

/-- A sum over the two leading axes. -/
theorem sum_leading {n p q : ℕ} (h : (⟨3, ![n, p, q]⟩ : Shape).ReducesTo [0, 1] ⟨1, ![q]⟩)
    (x : (⟨3, ![n, p, q]⟩ : Shape).Idx → EReal) (init : EReal) (i : (⟨1, ![q]⟩ : Shape).Idx) :
    Ideal.hostReduceAdd h x init i = init + ∑ r : Fin n, ∑ l : Fin p, x (ix3 r l (i 0)) := by
  have hd (j : (⟨3, ![n, p, q]⟩ : Shape).Idx) : h.drop j = i ↔ j 2 = i 0 :=
    ⟨fun e => congrFun e 0, fun e => funext fun k => by fin_cases k; exact e⟩
  unfold Ideal.hostReduceAdd
  congr 1
  rw [← Fintype.sum_prod_type' (f := fun r l => x (ix3 r l (i 0)))]
  refine Finset.sum_nbij' (fun j => (j 0, j 1)) (fun k => ix3 k.1 k.2 (i 0)) (fun _ _ => Finset.mem_univ _)
    (fun k _ => Finset.mem_filter.mpr ⟨Finset.mem_univ _, (hd _).mpr rfl⟩) (fun j hj => ?_) (fun _ _ => rfl) (fun j hj => ?_)
  all_goals
    have e := (hd j).mp (Finset.mem_filter.mp hj).2
  · rw [← e]
    funext k
    fin_cases k <;> rfl
  · rw [← e]
    congr 1
    funext k
    fin_cases k <;> rfl

variable {a b : ℕ → ℕ → ℕ → ℝ} {g ct : ℕ → ℕ → ℝ} {w : ℕ → ℝ}
  {x0 : (⟨S16384x8x64, .f32⟩ : BufTy).Contents (Elt Ideal)} {x1 : (⟨S16384x8x64, .f32⟩ : BufTy).Contents (Elt Ideal)}
  {x2 : (⟨S16384x512, .f32⟩ : BufTy).Contents (Elt Ideal)} {x3 : (⟨S64, .f32⟩ : BufTy).Contents (Elt Ideal)}
  {x4 : (⟨S16384x512, .f32⟩ : BufTy).Contents (Elt Ideal)}
  (h0 : ∀ i, x0 i = (a (i 1) (i 0) (i 2) : EReal)) (h1 : ∀ i, x1 i = (b (i 1) (i 0) (i 2) : EReal))
  (h2 : ∀ i, x2 i = (g (i 0) (i 1) : EReal)) (h3 : ∀ i, x3 i = (w (i 0) : EReal)) (h4 : ∀ i, x4 i = (ct (i 0) (i 1) : EReal))

include h0 h1 in
theorem v0 (i : S16384x8x64.Idx) : val_main_v0 (F := Ideal) x0 x1 i = (o a b (i 1) (i 0) (i 2) : EReal) := by
  simp only [val_main_v0]
  pointwise
  exact o_coe (h0 _) (h1 _)

include h0 h1 in
theorem v7 (i : S16384x8x1.Idx) : val_main_v7 (F := Ideal) x0 x1 i = (ms 64 (o a b (i 1) (i 0)) : EReal) := by
  simp only [val_main_v7, val_main_v6, val_main_v5, val_main_v4, val_main_v3, val_main_v2, val_main_v1, val_main_cst,
    val_main_cst_0, val_main_cst_1]
  pointwise
  rw [lit_64, lit_eps]
  exact ms_coe (fun k => v0 h0 h1 _) (by norm_num)

include h0 h1 in
theorem v8 (i : S16384x8x1.Idx) : val_main_v8 (F := Ideal) x0 x1 i = (rs 64 (o a b (i 1) (i 0)) : EReal) := by
  simp only [val_main_v8]
  pointwise
  rw [v7 h0 h1, rsqrt_ms]

include h0 h1 in
theorem v13 (i : S16384x8x64.Idx) : val_main_v13 (F := Ideal) x0 x1 i = ((o a b (i 1) (i 0) (i 2) * rs 64 (o a b (i 1) (i 0)) : ℝ) : EReal) := by
  simp only [val_main_v13, val_main_v12]
  pointwise
  exact mul_eq_coe (v0 h0 h1 _) (v8 h0 h1 _)

include h0 h1 in
theorem v11 (i : S16384x8x1.Idx) : val_main_v11 (F := Ideal) x0 x1 i
    = ((-(1 / 2) * (rs 64 (o a b (i 1) (i 0)) / ms 64 (o a b (i 1) (i 0))) : ℝ) : EReal) := by
  simp only [val_main_v11, val_main_v10, val_main_v9, val_main_cst_2]
  pointwise
  rw [lit_neg_half]
  exact mul_eq_coe rfl (div_eq_coe (v8 h0 h1 _) (v7 h0 h1 _) (ms_pos _ _).ne')

include h2 in
theorem v17 (i : S16384x8x64.Idx) : val_main_v17 (F := Ideal) x2 i = (g (i 0) (64 * (i 1) + (i 2)) : EReal) := by
  simp only [val_main_v17]
  pointwise
  refine real2 g (h2 _) ?_ ?_
  all_goals (blk_simp; try dsimp only; try omega)

include h4 in
theorem v21 (i : S16384x8x64.Idx) : val_main_v21 (F := Ideal) x4 i = (ct (i 0) (64 * (i 1) + (i 2)) : EReal) := by
  simp only [val_main_v21]
  pointwise
  refine real2 ct (h4 _) ?_ ?_
  all_goals (blk_simp; try dsimp only; try omega)

include h2 in
theorem v18_2 (i : S16384x8x64.Idx) : val_main_v18_2 (F := Ideal) x2 i = (sg (g (i 0) (64 * (i 1) + (i 2))) : EReal) := by
  simp only [val_main_v18_2, val_main_call0_v4, val_main_call0_v3, val_main_call0_v2, val_main_call0_v1, val_main_call0_v0,
    val_main_call0_cst, val_main_call0_cst_0]
  pointwise
  rw [v17 h2]
  exact sg_div _

include h2 in
theorem v18_1 (i : S16384x8x64.Idx) : val_main_v18_1 (F := Ideal) x2 i
    = ((sg (g (i 0) (64 * (i 1) + (i 2))) * (1 - sg (g (i 0) (64 * (i 1) + (i 2)))) : ℝ) : EReal) := by
  simp only [val_main_v18_1, val_main_call0_v7, val_main_call0_v6, val_main_call0_cst_1]
  pointwise
  rw [v18_2 h2]
  exact mul_eq_coe rfl (sub_eq_coe rfl rfl)

include h2 h4 in
theorem v23 (i : S16384x8x64.Idx) : val_main_v23 (F := Ideal) x2 x4 i = (dn g ct (i 1) (i 0) (i 2) : EReal) := by
  simp only [val_main_v23, val_main_v18_0]
  pointwise
  exact mul_eq_coe (v21 h4 _) (mul_eq_coe (v17 h2 _) (v18_2 h2 _))

include h2 h3 h4 in
theorem v30 (i : S16384x8x64.Idx) : val_main_v30 (F := Ideal) x2 x3 x4 i = ((dn g ct (i 1) (i 0) (i 2) * w (i 2) : ℝ) : EReal) := by
  simp only [val_main_v30, val_main_v29, val_main_v14]
  pointwise
  exact mul_eq_coe (v23 h2 h4 _) (h3 _)

include h0 h1 h2 h3 h4 in
theorem v40 (i : S16384x8.Idx) : val_main_v40 (F := Ideal) x0 x1 x2 x3 x4 i
    = (slope 64 (o a b (i 1) (i 0)) (fun k => dn g ct (i 1) (i 0) k * w k) : EReal) := by
  simp only [val_main_v40, val_main_v39, val_main_v38, val_main_v37, val_main_v34, val_main_v33, val_main_v32,
    val_main_cst_5, val_main_cst_6, val_main_cst_7]
  pointwise
  rw [lit_64]
  unfold Norm.slope
  have h : ((64 : ℕ) : ℝ) ≠ 0 := by norm_num
  refine (Fin.sum_univ_one _).trans ?_
  exact div_eq_coe (mul_eq_coe (sum_eq_coe fun k : Fin 64 => mul_eq_coe (v0 h0 h1 _) (v30 h2 h3 h4 _)) (v11 h0 h1 _)) rfl h

include h0 h1 h2 h3 h4 in
/-- The gradient by the recurrence's output. -/
theorem v46 (i : S8x16384x64.Idx) : val_main_v46 (F := Ideal) x0 x1 x2 x3 x4 i = (dO a b g w ct (i 0) (i 1) (i 2) : EReal) := by
  simp only [val_main_v46, val_main_v45, val_main_v44, val_main_v43, val_main_v42, val_main_v41, val_main_v36, val_main_v35]
  pointwise
  unfold dO
  rw [← slope_dx]
  exact add_eq_coe (add_eq_coe (mul_eq_coe (v30 h2 h3 h4 _) (v8 h0 h1 _)) (mul_eq_coe (v0 h0 h1 _) (v40 h0 h1 h2 h3 h4 _)))
    (mul_eq_coe (v40 h0 h1 h2 h3 h4 _) (v0 h0 h1 _))

include h0 h1 h3 h4 in
theorem v22 (i : S16384x8x64.Idx) : val_main_v22 (F := Ideal) x0 x1 x3 x4 i
    = ((o a b (i 1) (i 0) (i 2) * rs 64 (o a b (i 1) (i 0)) * w (i 2) * ct (i 0) (64 * (i 1) + (i 2)) : ℝ) : EReal) := by
  simp only [val_main_v22, val_main_v16, val_main_v15, val_main_v14]
  pointwise
  exact mul_eq_coe (mul_eq_coe (v13 h0 h1 _) (h3 _)) (v21 h4 _)

include h0 h1 h2 h3 h4 in
theorem v24 (i : S16384x8x64.Idx) (r j : ℕ) (hr : (i 0 : ℕ) = r) (hh : (i 1 : ℕ) = j / 64) (hk : (i 2 : ℕ) = j % 64) :
    val_main_v24 (F := Ideal) x0 x1 x2 x3 x4 i = (dG a b g w ct r j : EReal) := by
  simp only [val_main_v24, val_main_call1_v0, val_main_call1_v1, val_main_call1_v2]
  pointwise
  rw [v22 h0 h1 h3 h4, v17 h2, v18_2 h2, v18_1 h2, hr, hh, hk, Nat.div_add_mod]
  refine (add_eq_coe (mul_eq_coe rfl rfl) (mul_eq_coe (mul_eq_coe rfl rfl) rfl)).trans (congrArg _ ?_)
  unfold dG dsilu
  ring

include h0 h1 h2 h3 h4 in
/-- The gradient by the gate. -/
theorem v25 (i : S16384x512.Idx) : val_main_v25 (F := Ideal) x0 x1 x2 x3 x4 i = (dG a b g w ct (i 0) (i 1) : EReal) := by
  simp only [val_main_v25]
  pointwise
  refine v24 h0 h1 h2 h3 h4 _ _ _ ?_ ?_ ?_
  all_goals (blk_simp; try dsimp only; try omega)

include h0 h1 h2 h4 in
theorem v27 (i : S64.Idx) : val_main_v27 (F := Ideal) x0 x1 x2 x4 i
    = ((∑ r : Fin 16384, ∑ h : Fin 8, dW a b g ct r h (i 0) : ℝ) : EReal) := by
  unfold val_main_v27
  refine (sum_leading _ _ _ _).trans ?_
  simp only [val_main_v26, val_main_cst_3]
  pointwise
  refine sum_eq_coe fun r => sum_eq_coe fun l => ?_
  refine (mul_eq_coe (v13 h0 h1 _) (v23 h2 h4 _)).trans (congrArg _ (mul_comm _ _))

include h0 h1 h2 h4 in
/-- The gradient by the weight. -/
theorem v31 (i : S64.Idx) : val_main_v31 (F := Ideal) x0 x1 x2 x4 i
    = ((∑ r : Fin 16384, ∑ h : Fin 8, dW a b g ct r h (i 0) : ℝ) : EReal) := by
  unfold val_main_v31
  refine (sum_leading _ _ _ _).trans ?_
  simp only [val_main_v28, val_main_cst_4]
  pointwise
  refine (Fin.sum_univ_one _).trans ((Fin.sum_univ_one _).trans ?_)
  exact v27 h0 h1 h2 h4 _

end Cert.HgrnOutRefIdeal.RefValue

end
-- ==== Proof.HgrnOut.Block.lean ====
/-
  What one grid point of the kernel of the recurrence's norm and gate stores, of blocks that hold real numbers.
-/
module

public import proofs.«01_k».proof.Proof.HgrnOut.Model
public import proofs.«01_k».proof.Proof.Gen.HgrnOutIdeal.Frame
public import Idealize.ShloMosaic.Lib.Pipeline.ValueKit
public import Idealize.ShloMosaic.Lib.Pipeline.Value
public import Idealize.ShloMosaic.Lib.Claim
public import Idealize.ShloMosaic.Lib.StableHlo.RunRead
public import Idealize.ShloMosaic.Lib.Pointwise

@[expose] public section

set_option maxRecDepth 16384
set_option maxHeartbeats 2000000

noncomputable section

open Idealize.ShloMosaic Idealize.ShloMosaic.TcCoe Idealize.SL.Sem Idealize.ShloMosaic.StableHlo

namespace Cert.HgrnOutIdeal.RefValue

open Cert.HgrnOutIdeal Cert.HgrnOutIdeal.Gen Cert.MlaModel Cert.Norm Cert.HgrnOutModel

variable (m : (ℓ : Loc nD τ sig) → Buf (Elt Ideal) ℓ) {a b : ℕ → ℕ → ℕ → ℝ} {g : ℕ → ℕ → ℝ} {w : ℕ → ℝ} {ct : ℕ → ℕ → ℝ}

/-- The blocks of grid point `t` hold these numbers. -/
structure Blocks (a b : ℕ → ℕ → ℕ → ℝ) (g : ℕ → ℕ → ℝ) (w : ℕ → ℝ) (ct : ℕ → ℕ → ℝ) (c : Dev nD) (t : Fin cfg0.N) : Prop where
  e0 : ∀ i, iblk m c 0 t i = (a (i 0) (i 1) (i 2) : EReal)
  e1 : ∀ i, iblk m c 1 t i = (b (i 0) (i 1) (i 2) : EReal)
  e2 : ∀ i, iblk m c 2 t i = (g (i 0) (i 1) : EReal)
  e3 : ∀ i, iblk m c 3 t i = (w (i 1) : EReal)
  e4 : ∀ i, iblk m c 4 t i = (ct (i 0) (i 1) : EReal)

variable {c : Dev nD} {t : Fin cfg0.N} (B : Blocks m a b g w ct c t)
include B

theorem do_pt (hc : t.val % 32 = 0 ∧ ¬1 ≤ t.val ∨ ¬t.val % 32 = 0 ∧ 1 ≤ t.val) (y : S8x512x64.Idx) :
    (outsAt0 m c t.val t.isLt).1 y = (dO a b g w ct (y 0) (y 1) (y 2) : EReal) := by
  obtain ⟨e0, e1, e2, e3, e4⟩ := B
  rcases hc with ⟨h0, h1⟩ | ⟨h0, h1⟩
  rotate_left
  rw [outsAt0_B m c t h0 h1]
  rotate_left
  rw [outsAt0_A m c t h0 h1]
  all_goals
    dsimp only
    generalize iblk m c 0 t = x0 at *
    generalize iblk m c 1 t = x1 at *
    generalize iblk m c 2 t = x2 at *
    generalize iblk m c 3 t = x3 at *
    generalize iblk m c 4 t = x4 at *
    frame_out
    clear h0 h1
    canon_tiles x h
    all_goals
      open_payloads; pointwise
      rw [lit_64, lit_eps]
      refine dx_coe (n := 64) (rs_coe (fun j => (o_coe (real3 a (e0 _) ?_ ?_ ?_) (real3 b (e1 _) ?_ ?_ ?_))) (by norm_num)) (fun j => (o_coe (real3 a (e0 _) ?_ ?_ ?_) (real3 b (e1 _) ?_ ?_ ?_)))
        (fun j => mul_eq_coe (dn_coe (real2 ct (e4 _) ?_ ?_) (real2 g (e2 _) ?_ ?_) (real2 g (e2 _) ?_ ?_)) (real1 w (e3 _) ?_)) (o_coe (real3 a (e0 _) ?_ ?_ ?_) (real3 b (e1 _) ?_ ?_ ?_))
        (mul_eq_coe (dn_coe (real2 ct (e4 _) ?_ ?_) (real2 g (e2 _) ?_ ?_) (real2 g (e2 _) ?_ ?_)) (real1 w (e3 _) ?_)) (by norm_num)
    all_goals first | (blk_simp; try omega) | skip
    all_goals first | (dsimp only; omega) | exact (show (0 : ℕ) = _ by omega) | exact (show (1 : ℕ) = _ by omega)

theorem dg_pt (hc : t.val % 32 = 0 ∧ ¬1 ≤ t.val ∨ ¬t.val % 32 = 0 ∧ 1 ≤ t.val) (y : S512x512.Idx) :
    (outsAt0 m c t.val t.isLt).2.1 y = (dG a b g w ct (y 0) (y 1) : EReal) := by
  obtain ⟨e0, e1, e2, e3, e4⟩ := B
  rcases hc with ⟨h0, h1⟩ | ⟨h0, h1⟩
  rotate_left
  rw [outsAt0_B m c t h0 h1]
  rotate_left
  rw [outsAt0_A m c t h0 h1]
  all_goals
    dsimp only
    generalize iblk m c 0 t = x0 at *
    generalize iblk m c 1 t = x1 at *
    generalize iblk m c 2 t = x2 at *
    generalize iblk m c 3 t = x3 at *
    generalize iblk m c 4 t = x4 at *
    frame_out
    clear h0 h1
    canon_tiles x h
    all_goals
      open_payloads; pointwise
      rw [lit_64, lit_eps]
      refine mul_eq_coe (mul_eq_coe (real2 ct (e4 _) ?_ ?_)
        (mul_eq_coe (mul_eq_coe (o_coe (real3 a (e0 _) ?_ ?_ ?_) (real3 b (e1 _) ?_ ?_ ?_)) (rs_coe (fun j => (o_coe (real3 a (e0 _) ?_ ?_ ?_) (real3 b (e1 _) ?_ ?_ ?_))) (by norm_num))) (real1 w (e3 _) ?_)))
        (dsilu_coe (real2 g (e2 _) ?_ ?_) (sg_coe (real2 g (e2 _) ?_ ?_)) (sg_coe (real2 g (e2 _) ?_ ?_)) rfl rfl)
    all_goals first | (blk_simp; try omega) | skip
    all_goals first | (dsimp only; omega) | exact (show (0 : ℕ) = _ by omega) | exact (show (1 : ℕ) = _ by omega)

theorem dw_A (h0 : t.val % 32 = 0) (h1 : ¬1 ≤ t.val) (y : S1x64.Idx) :
    (outsAt0 m c t.val t.isLt).2.2 y = ((∑ r : Fin 512, ∑ h : Fin 8, dW a b g ct r h (y 1) : ℝ) : EReal) := by
  obtain ⟨e0, e1, e2, e3, e4⟩ := B
  rw [outsAt0_A m c t h0 h1]
  dsimp only
  generalize iblk m c 0 t = x0 at *
  generalize iblk m c 1 t = x1 at *
  generalize iblk m c 2 t = x2 at *
  generalize iblk m c 3 t = x3 at *
  generalize iblk m c 4 t = x4 at *
  frame_out
  clear h0 h1
  open_payloads; pointwise
  rw [lit_64, lit_eps]
  refine heads_coe ?_ ?_ ?_ ?_ ?_ ?_ ?_ ?_
  all_goals
    refine sum_eq_coe fun r => mul_eq_coe (dn_coe (real2 ct (e4 _) ?_ ?_) (real2 g (e2 _) ?_ ?_) (real2 g (e2 _) ?_ ?_)) (mul_eq_coe (o_coe (real3 a (e0 _) ?_ ?_ ?_) (real3 b (e1 _) ?_ ?_ ?_)) (rs_coe (fun j => (o_coe (real3 a (e0 _) ?_ ?_ ?_) (real3 b (e1 _) ?_ ?_ ?_))) (by norm_num)))
  all_goals first | (blk_simp; try omega) | skip
  all_goals first | (dsimp only; omega) | exact (show (0 : ℕ) = _ by omega) | exact (show (1 : ℕ) = _ by omega)

theorem dw_B (h0 : ¬t.val % 32 = 0) (h1 : 1 ≤ t.val) (p : ℕ → ℝ)
    (hp : ∀ i, (outsAt0 m c (t.val - 1) (Nat.lt_of_le_of_lt (Nat.sub_le _ _) t.isLt)).2.2 i = (p (i 1) : EReal)) (y : S1x64.Idx) :
    (outsAt0 m c t.val t.isLt).2.2 y = ((p (y 1) + ∑ r : Fin 512, ∑ h : Fin 8, dW a b g ct r h (y 1) : ℝ) : EReal) := by
  obtain ⟨e0, e1, e2, e3, e4⟩ := B
  rw [outsAt0_B m c t h0 h1]
  dsimp only
  generalize iblk m c 0 t = x0 at *
  generalize iblk m c 1 t = x1 at *
  generalize iblk m c 2 t = x2 at *
  generalize iblk m c 3 t = x3 at *
  generalize iblk m c 4 t = x4 at *
  frame_out
  clear h0 h1
  open_payloads; pointwise
  rw [lit_64, lit_eps]
  refine add_eq_coe (hp _) (heads_coe ?_ ?_ ?_ ?_ ?_ ?_ ?_ ?_)
  all_goals
    refine sum_eq_coe fun r => mul_eq_coe (dn_coe (real2 ct (e4 _) ?_ ?_) (real2 g (e2 _) ?_ ?_) (real2 g (e2 _) ?_ ?_)) (mul_eq_coe (o_coe (real3 a (e0 _) ?_ ?_ ?_) (real3 b (e1 _) ?_ ?_ ?_)) (rs_coe (fun j => (o_coe (real3 a (e0 _) ?_ ?_ ?_) (real3 b (e1 _) ?_ ?_ ?_))) (by norm_num)))
  all_goals first | (blk_simp; try omega) | skip
  all_goals first | (dsimp only; omega) | exact (show (0 : ℕ) = _ by omega) | exact (show (1 : ℕ) = _ by omega)

omit B

/-! ## The arrays -/

theorem idx : ∀ t : Fin cfg0.N, win0_0.index t = ![0, t.val, 0] ∧ win0_1.index t = ![0, t.val, 0] ∧ win0_2.index t = ![t.val, 7] ∧
    win0_3.index t = ![0, 0] ∧ win0_4.index t = ![t.val, 0] ∧ win0_5.index t = ![0, t.val, 0] ∧ win0_6.index t = ![t.val, 0] ∧
    win0_7.index t = ![0, 0] :=
  (by decide +kernel : ∀ t : Fin grid0.N, _)

/-- The arguments hold these numbers. -/
structure Args (a b : ℕ → ℕ → ℕ → ℝ) (g : ℕ → ℕ → ℝ) (w : ℕ → ℝ) (ct : ℕ → ℕ → ℝ) (c : Dev nD) : Prop where
  a0 : ∀ i, m ((c.tc : Thread nD τ).loc main_arg0) i = (a (i 1) (i 0) (i 2) : EReal)
  a1 : ∀ i, m ((c.tc : Thread nD τ).loc main_arg1) i = (b (i 1) (i 0) (i 2) : EReal)
  a2 : ∀ i, m ((c.tc : Thread nD τ).loc main_arg2) i = (g (i 0) (i 1) : EReal)
  a3 : ∀ i, m ((c.tc : Thread nD τ).loc main_arg3) i = (w (i 0) : EReal)
  a4 : ∀ i, m ((c.tc : Thread nD τ).loc main_arg4) i = (ct (i 0) (i 1) : EReal)

variable (A : Args m a b g w ct c)
include A

omit t in
theorem heads0 (i : S8x16384x64.Idx) : V m c main_v2 i = (a (i 0) (i 1) (i 2) : EReal) := by
  after_reads_simp [V, V0, hostOps0]
  pointwise
  exact real3 a (A.a0 _) (by blk_simp) (by blk_simp) (by blk_simp)

omit t in
theorem heads1 (i : S8x16384x64.Idx) : V m c main_v3 i = (b (i 0) (i 1) (i 2) : EReal) := by
  after_reads_simp [V, V0, hostOps0]
  pointwise
  exact real3 b (A.a1 _) (by blk_simp) (by blk_simp) (by blk_simp)

omit t in
theorem gate (i : S16384x4096.Idx) (k : ℕ) (h : (i 1 : ℕ) = 3584 + k) : V m c main_v1 i = (g (i 0) k : EReal) := by
  after_reads_simp [V, V0, hostOps0]
  pointwise
  refine (dif_neg (by omega)).trans (real2 g (A.a2 _) ?_ ?_)
  all_goals (blk_simp; try dsimp only; try omega)

omit t in
theorem row (i : S1x64.Idx) : V m c main_v4 i = (w (i 1) : EReal) := by
  after_reads_simp [V, V0, hostOps0]
  pointwise
  refine real1 w (A.a3 _) ?_
  blk_simp
  try omega

theorem blocks (t : Fin cfg0.N) : Blocks m (fun h r => a h (t.val * 512 + r)) (fun h r => b h (t.val * 512 + r))
    (fun r => g (t.val * 512 + r)) w (fun r => ct (t.val * 512 + r)) c t := by
  refine ⟨fun i => ?_, fun i => ?_, fun i => ?_, fun i => ?_, fun i => ?_⟩
  all_goals
    unfold iblk
    rw [View.read_apply]
    first
    | exact (heads0 m A _).trans (by blk_simp [idx t])
    | exact (heads1 m A _).trans (by blk_simp [idx t])
    | exact (gate m A _ (i 1) (by blk_simp [idx t])).trans (by blk_simp [idx t])
    | exact (row m A _).trans (by blk_simp [idx t])
    | exact (A.a4 _).trans (by blk_simp [idx t])

/-- The weight's gradient summed over the first `n` rows. -/
def dwSum (a b : ℕ → ℕ → ℕ → ℝ) (g ct : ℕ → ℕ → ℝ) (n k : ℕ) : ℝ := ∑ r ∈ Finset.range n, ∑ h : Fin 8, dW a b g ct r h k

omit A in
theorem dwSum_fin (a b : ℕ → ℕ → ℕ → ℝ) (g ct : ℕ → ℕ → ℝ) (n k : ℕ) :
    dwSum a b g ct n k = ∑ r : Fin n, ∑ h : Fin 8, dW a b g ct r h k :=
  (Fin.sum_univ_eq_sum_range (fun r => ∑ h : Fin 8, dW a b g ct r h k) n).symm

omit A in
/-- One more tile of rows. -/
theorem dwSum_step (a b : ℕ → ℕ → ℕ → ℝ) (g ct : ℕ → ℕ → ℝ) (n k : ℕ) :
    dwSum a b g ct ((n + 1) * 512) k = dwSum a b g ct (n * 512) k + ∑ r : Fin 512, ∑ h : Fin 8,
      dW (fun h r => a h (n * 512 + r)) (fun h r => b h (n * 512 + r)) (fun r => g (n * 512 + r)) (fun r => ct (n * 512 + r)) r h k := by
  rw [Fin.sum_univ_eq_sum_range (fun r => ∑ h : Fin 8, dW (fun h r => a h (n * 512 + r)) (fun h r => b h (n * 512 + r))
    (fun r => g (n * 512 + r)) (fun r => ct (n * 512 + r)) r h k) 512]
  simp only [dwSum, add_mul, Finset.sum_range_add, one_mul]
  rfl

theorem dw_acc (n : ℕ) : ∀ (h : n < cfg0.N) (y : S1x64.Idx),
    (outsAt0 m c n h).2.2 y = (dwSum a b g ct ((n + 1) * 512) (y 1) : EReal) := by
  induction n with
  | zero =>
    intro h y
    rw [dw_A m (blocks m A ⟨0, h⟩) (by simp) (by simp) y, dwSum_step]
    simp [dwSum]
  | succ n ih =>
    intro h y
    have hN : n + 1 < 32 := h
    rw [dw_B m (blocks m A ⟨n + 1, h⟩) (by show ¬(n + 1) % 32 = 0; omega) (by simp) _ (fun i => ih _ i) y]
    exact congrArg _ (dwSum_step a b g ct (n + 1) _).symm

omit A in
theorem cases (t : Fin cfg0.N) : t.val % 32 = 0 ∧ ¬1 ≤ t.val ∨ ¬t.val % 32 = 0 ∧ 1 ≤ t.val := by
  have hN : t.val < 32 := t.isLt
  omega

theorem final5 : (dats m 0 c).arrAt 5 cfg0.N = fun i : S8x16384x64.Idx => (dO a b g w ct (i 0) (i 1) (i 2) : EReal) := by
  refine (dats m 0 c).arrAt_eq_of_covers 5 _ (by decide +kernel) fun t hf y => ?_
  blk_simp [idx t]
  rw [after0_5]
  exact do_pt m (blocks m A t) (cases t) y

theorem final6 : (dats m 0 c).arrAt 6 cfg0.N = fun i : S16384x512.Idx => (dG a b g w ct (i 0) (i 1) : EReal) := by
  refine (dats m 0 c).arrAt_eq_of_covers 6 _ (by decide +kernel) fun t hf y => ?_
  blk_simp [idx t]
  rw [after0_6]
  exact dg_pt m (blocks m A t) (cases t) y

theorem final7 : (dats m 0 c).arrAt 7 cfg0.N = fun i : S1x64.Idx => (dwSum a b g ct 16384 (i 1) : EReal) := by
  refine (dats m 0 c).arrAt_eq_of_covers 7 _ (by decide +kernel) fun t hf y => ?_
  have h1 : t.val % 32 = 31 := (flush0_7 t).mp hf
  have hN : t.val < 32 := t.isLt
  blk_simp [idx t]
  rw [after0_7]
  refine (dw_acc m A _ _ y).trans ?_
  rw [show t.val = 31 by omega]

/-- The weight's gradient after the host's reshape. -/
theorem tail6 (i : S64.Idx) : Pipeline.afterTail₀ cfgs (dats m) 0 (V0 m) [hostOps1] c main_v6 i = (dwSum a b g ct 16384 (i 0) : EReal) := by
  have e : Pipeline.withArrays spec0 c (V0 m c) (fun w => (dats m 0 c).arrAt w cfg0.N) (Proc.devRef .tc main_v5_2)
      = (dats m 0 c).arrAt 7 cfg0.N :=
    Pipeline.withArrays_arr spec0 launch0.win.arr_inj c (V0 m c) (fun w => (dats m 0 c).arrAt w cfg0.N) 7
  rw [final7 m A] at e
  generalize dwSum a b g ct 16384 = D at *
  show StableHlo.after hostOps1 (Pipeline.withArrays spec0 c (V0 m c) (fun w => (dats m 0 c).arrAt w cfg0.N)) (Proc.devRef .tc main_v6) i = _
  generalize Pipeline.withArrays spec0 c (V0 m c) (fun w => (dats m 0 c).arrAt w cfg0.N) = W at *
  after_results_simp
  simp only [e]
  pointwise

end Cert.HgrnOutIdeal.RefValue

end
-- ==== Proof.HgrnOut.lean ====
/-
  The claims about the gradient of the norm and the gate that end the recurrence.
-/
module

public import proofs.«01_k».proof.Defs
public import proofs.«01_k».proof.Proof.Finite
public import proofs.«01_k».proof.Proof.Gen.Pre_hgrn_out_finite
public import proofs.«01_k».proof.Proof.Gen.HgrnOut.Frame
public import proofs.«01_k».proof.Proof.Gen.HgrnOutRefIdeal.Run
public import proofs.«01_k».proof.Proof.HgrnOut.Ref
public import proofs.«01_k».proof.Proof.HgrnOut.Block

@[expose] public section

set_option maxRecDepth 16384

noncomputable section

open Idealize.ShloMosaic Idealize.ShloMosaic.TcCoe Idealize.SL.Sem Idealize.ShloMosaic.StableHlo

namespace Cert.Proof.HgrnOutClaims

theorem frame : Cert.quiescent_HgrnOut := fun m ρ _ => Cert.HgrnOut.Gen.frame m ρ
theorem frame_ideal : Cert.quiescent_HgrnOutIdeal := fun m ρ _ => Cert.HgrnOutIdeal.Gen.frame m ρ
theorem frame_ideal_pre : Cert.quiescent_HgrnOutIdeal_pre_hgrn_out_finite := fun m ρ _ => Cert.HgrnOutIdeal.Gen.frame m ρ
theorem frame_ref : Cert.quiescent_HgrnOutRefIdeal := fun m ρ _ => by
  refine (θ_run Cert.HgrnOutRefIdeal.defs _ _).mono (fun r h => ⟨fun c => ?_,
    Idealize.ShloMosaic.sem_eq_zero_of_no_sems (by decide) r.2⟩) (Cert.HgrnOutRefIdeal.Value.run (F := Ideal) m ρ)
  exact (h c).2.2.2
theorem frame_ref_pre : Cert.quiescent_HgrnOutRefIdeal_pre_hgrn_out_finite := fun m ρ _ => frame_ref m ρ trivial
theorem preserves : Cert.preserves_HgrnOut_HgrnOutIdeal := trivial

/-- Under the precondition the arguments are real functions of their coordinates. -/
theorem args_of_pre {m : (ℓ : Loc Cert.HgrnOutIdeal.nD Cert.HgrnOutIdeal.τ Cert.HgrnOutIdeal.sig) → Buf (Elt Ideal) ℓ}
    (h : Cert.Pre_HgrnOutIdeal_hgrn_out_finite m) (c : Dev Cert.HgrnOutIdeal.nD) :
    ∃ a b g w ct, Cert.HgrnOutIdeal.RefValue.Args m a b g w ct c := by
  have e := congrFun (h c) ix0
  dsimp only [Cert.Pre_hgrn_out_finite.fn] at e
  obtain ⟨e, e4⟩ := Cert.Finite.both e
  obtain ⟨e, e3⟩ := Cert.Finite.both e
  obtain ⟨e, e2⟩ := Cert.Finite.both e
  obtain ⟨e0, e1⟩ := Cert.Finite.both e
  obtain ⟨a, ha⟩ := Cert.Finite.real3_of _ (Cert.Finite.real_of_all _ _ (fun _ => rfl) _ _ _ _ e0)
  obtain ⟨b, hb⟩ := Cert.Finite.real3_of _ (Cert.Finite.real_of_all _ _ (fun _ => rfl) _ _ _ _ e1)
  obtain ⟨g, hg⟩ := Cert.Finite.real2_of _ (Cert.Finite.real_of_all _ _ (fun _ => rfl) _ _ _ _ e2)
  obtain ⟨w, hw⟩ := Cert.Finite.real1_of _ (Cert.Finite.real_of_all _ _ (fun _ => rfl) _ _ _ _ e3)
  obtain ⟨ct, hct⟩ := Cert.Finite.real2_of _ (Cert.Finite.real_of_all _ _ (fun _ => rfl) _ _ _ _ e4)
  exact ⟨fun h r k => a r h k, fun h r k => b r h k, g, w, ct, ha, hb, hg, hw, hct⟩

open Cert.HgrnOutIdeal.RefValue Cert.HgrnOutIdeal.Gen Cert.HgrnOutRefIdeal in
/-- The three gradients of the kernel and of the reference agree, from finite arguments. -/
theorem algebraic : Cert.algebraic_HgrnOutIdeal_HgrnOutRefIdeal_pre_hgrn_out_finite := by
  intro m g m' g' hpre hagree
  refine ⟨fun c => (dats m 0 c).arrAt 5 Cert.HgrnOutIdeal.cfg0.N, fun c => (dats m 0 c).arrAt 6 Cert.HgrnOutIdeal.cfg0.N,
    fun c => Pipeline.afterTail₀ Cert.HgrnOutIdeal.cfgs (dats m) 0 (V0 m) [hostOps1] c Cert.HgrnOutIdeal.main_v6, ?_, ?_⟩
  · exact (θ_run Cert.HgrnOutIdeal.defs _ _).mono (fun r h c => ⟨(h.1 c).1 5, (h.1 c).1 6,
      (h.1 c).2 Cert.HgrnOutIdeal.main_v6 (Pipeline.mem_restRefs_of Cert.HgrnOutIdeal.main_v6 (by decide) (by decide)),
      h.2 c⟩) (θ_run_and (run_main m g) (unchanged m g))
  · refine (θ_run Cert.HgrnOutRefIdeal.defs _ _).mono (fun r h c => ?_) (Cert.HgrnOutRefIdeal.Value.run m' g')
    obtain ⟨a, b, γ, w, ct, A⟩ := args_of_pre hpre c
    obtain ⟨e0, e1, e2, e3, e4⟩ := hagree c
    have h0 : ∀ i, m' ((c.tc : Thread nD τ).loc main_arg0) i = (a (i 1) (i 0) (i 2) : EReal) :=
      fun i => (congrFun e0 i).trans (A.a0 i)
    have h1 : ∀ i, m' ((c.tc : Thread nD τ).loc main_arg1) i = (b (i 1) (i 0) (i 2) : EReal) :=
      fun i => (congrFun e1 i).trans (A.a1 i)
    have h2 : ∀ i, m' ((c.tc : Thread nD τ).loc main_arg2) i = (γ (i 0) (i 1) : EReal) :=
      fun i => (congrFun e2 i).trans (A.a2 i)
    have h3 : ∀ i, m' ((c.tc : Thread nD τ).loc main_arg3) i = (w (i 0) : EReal) :=
      fun i => (congrFun e3 i).trans (A.a3 i)
    have h4 : ∀ i, m' ((c.tc : Thread nD τ).loc main_arg4) i = (ct (i 0) (i 1) : EReal) :=
      fun i => (congrFun e4 i).trans (A.a4 i)
    obtain ⟨r0, r1, r2, ra⟩ := h c
    refine ⟨r0.trans ?_, r1.trans ?_, r2.trans ?_, ra⟩
    · rw [Read.val_main_v46_eq]
      refine Eq.trans ?_ (final5 m A).symm
      exact funext fun i => Cert.HgrnOutRefIdeal.RefValue.v46 h0 h1 h2 h3 h4 i
    · refine (Read.val_main_v25_eq _ _ _ _ _).trans ?_
      refine Eq.trans ?_ (final6 m A).symm
      exact funext fun i => Cert.HgrnOutRefIdeal.RefValue.v25 h0 h1 h2 h3 h4 i
    · refine (Read.val_main_v31_eq _ _ _ _).trans ?_
      exact funext fun i => (Cert.HgrnOutRefIdeal.RefValue.v31 h0 h1 h2 h4 i).trans
        ((tail6 m A i).trans (congrArg _ (dwSum_fin a b γ ct 16384 _))).symm

end Cert.Proof.HgrnOutClaims

end
-- ==== Proof.MlaFwd.Ref.lean ====
/-
  The plain attention's forward lines: for real arguments the softmax's output and, per row, the logarithm of its
  denominator in powers of two. Up to the scaled scores they are the lines of the reference of the gradients.
-/
module

public import proofs.«01_k».proof.Proof.Mla.Ref
public import proofs.«01_k».proof.Proof.Mla.Math
public import proofs.«01_k».proof.Proof.Gen.MlaFwdRefIdeal.Read

@[expose] public section

set_option maxRecDepth 16384

noncomputable section

open Idealize.ShloMosaic Idealize.ShloMosaic.TcCoe Idealize.SL.Sem Idealize.ShloMosaic.StableHlo

namespace Cert.MlaFwdRefIdeal.RefValue

open Cert.MlaFwdRefIdeal Cert.MlaFwdRefIdeal.Gen Cert.MlaFwdRefIdeal.Read Cert.MlaModel
open Cert.MlaIdeal.RefValue (lIn top top_coe rowSum rowSum_pos log2_ne)

variable (q kv : ℕ → ℕ → ℕ → ℝ) (kr : ℕ → ℕ → ℝ)
  {x0 : (⟨S16384x8x96, .f32⟩ : BufTy).Contents (Elt Ideal)} {x1 : (⟨S16384x8x128, .f32⟩ : BufTy).Contents (Elt Ideal)}
  {x2 : (⟨S16384x32, .f32⟩ : BufTy).Contents (Elt Ideal)}
  (h0 : ∀ i, x0 i = (q (i 0) (i 1) (i 2) : EReal)) (h1 : ∀ i, x1 i = (kv (i 0) (i 1) (i 2) : EReal))
  (h2 : ∀ i, x2 i = (kr (i 0) (i 1) : EReal))

include h0 h1 h2

omit h0 h1 h2 in
theorem same65 (x0 : (⟨S16384x8x96, .f32⟩ : BufTy).Contents (Elt Ideal)) (x1 : (⟨S16384x8x128, .f32⟩ : BufTy).Contents (Elt Ideal))
    (x2 : (⟨S16384x32, .f32⟩ : BufTy).Contents (Elt Ideal)) :
    val_main_v65 (F := Ideal) x0 x1 x2 = Cert.MlaRefIdeal.Read.val_main_v65 (F := Ideal) x0 x1 x2 := rfl

theorem v65 (i : S8x16384x16384.Idx) :
    val_main_v65 (F := Ideal) x0 x1 x2 i = ((sc q kv kr (i 0) (i 1) (i 2) : ℝ) : EReal) := by
  rw [same65]
  exact Cert.MlaRefIdeal.RefValue.v65 q kv kr h0 h1 h2 i

theorem v66 (i : S8x16384.Idx) : val_main_v66 (F := Ideal) x0 x1 x2 i = (top q kv kr (i 0) (i 1) : EReal) := by
  simp only [val_main_v66, val_main_cst_4]
  pointwise
  simp only [v65 q kv kr h0 h1 h2]
  rw [Cert.MlaRefIdeal.RefValue.lit_bot]
  exact top_coe q kv kr (i 0) (i 1)

theorem v70 (i : S8x16384x16384.Idx) : val_main_v70 (F := Ideal) x0 x1 x2 i
    = ((Real.exp (sc q kv kr (i 0) (i 1) (i 2) - top q kv kr (i 0) (i 1)) : ℝ) : EReal) := by
  rw [val_main_v70_apply, val_main_v69_apply, val_main_v68_apply, val_main_v67_apply, v65 q kv kr h0 h1 h2, v66 q kv kr h0 h1 h2]
  generalize sc q kv kr (i 0) (i 1) (i 2) = S
  pointwise
  rw [← EReal.coe_sub, Ideal.exp_coe]

theorem v71 (i : S8x16384.Idx) : val_main_v71 (F := Ideal) x0 x1 x2 i = (rowSum q kv kr (i 0) (i 1) : EReal) := by
  simp only [val_main_v71, val_main_cst_5]
  pointwise
  exact sum_eq_coe fun u => v70 q kv kr h0 h1 h2 _

theorem v74 (i : S8x16384x16384.Idx) : val_main_v74 (F := Ideal) x0 x1 x2 i = (pr q kv kr (i 0) (i 1) (i 2) : EReal) := by
  rw [val_main_v74_apply, val_main_v73_apply, val_main_v72_apply, v70 q kv kr h0 h1 h2, v71 q kv kr h0 h1 h2]
  refine (div_coe' _ _ (rowSum_pos q kv kr _ _).ne').trans (congrArg _ ?_)
  exact softmax_shift (fun u : Fin 16384 => sc q kv kr (i 0) (i 1) u) _ (i 2)

theorem v78 (i : S16384x512.Idx) : val_main_v78 (F := Ideal) x0 x1 x2 i = (out q kv kr (i 0) (i 1 / 64) (i 1 % 64) : EReal) := by
  simp only [val_main_v78, val_main_v77, val_main_v76, val_main_v75]
  pointwise
  exact sum_eq_coe fun u => by
    rw [v74 q kv kr h0 h1 h2, mul_comm, EReal.coe_mul]
    exact congrArg _ (h1 _)

theorem v84 (i : S8x1x16384.Idx) : val_main_v84 (F := Ideal) x0 x1 x2 i = (lIn q kv kr (i 0) (i 2) : EReal) := by
  rw [val_main_v84_apply, val_main_v83_apply, val_main_v80_apply, val_main_v79_apply, val_main_v67_apply, val_main_v72_apply,
    v66 q kv kr h0 h1 h2, v71 q kv kr h0 h1 h2]
  simp only [val_main_v82, val_main_v81, val_main_cst_6]
  pointwise
  rw [Cert.MlaIdeal.RefValue.lit_2, Ideal.log_coe, if_neg (rowSum_pos q kv kr _ _).not_ge, Ideal.log_coe, if_neg (by norm_num), ← EReal.coe_add,
    div_coe' _ _ log2_ne]
  rfl

end Cert.MlaFwdRefIdeal.RefValue

end
-- ==== Proof.MlaFwd.Host.lean ====
/-
  The host lines before the region turn, pad and scale the queries, the keys and the values. Up to the padded keys they
  are the lines of the backward program, operation for operation, so what that program's lines leave carries over.
-/
module

public import proofs.«01_k».proof.Proof.Mla.Host
public import proofs.«01_k».proof.Proof.Gen.MlaFwdIdeal.Frame

@[expose] public section

set_option maxRecDepth 16384

noncomputable section

open Idealize.ShloMosaic Idealize.ShloMosaic.TcCoe Idealize.SL.Sem Idealize.ShloMosaic.StableHlo

namespace Cert.MlaFwdIdeal.RefValue

open Cert.MlaFwdIdeal Cert.MlaFwdIdeal.Gen Cert.MlaModel

/-- The buffers the lines write, in their order. -/
abbrev hostOps0_W : List (Ref sig .tc) :=
  [main_v0, main_v1, main_cst, main_v2, main_v3, main_cst_0, main_v4, main_v5, main_v6, main_v7, main_v8, main_v9, main_v10, main_v11,
   main_v12, main_v13, main_v14, main_v15, main_v16, main_v17, main_v18, main_cst_1, main_v19, main_cst_2, main_v20, main_v21, main_cst_3,
   main_v22, main_cst_4, main_v23, main_v24, main_cst_5, main_v25, main_v26, main_v27, main_v28, main_cst_6, main_v29, main_v30, main_v31,
   main_cst_7, main_v32, main_v33, main_v34, main_v35, main_v36, main_v37, main_cst_8, main_v38, main_v39, main_v40, main_v41, main_v42,
   main_v43, main_v44, main_v45, main_cst_9, main_v46, main_v47, main_cst_10, main_v48, main_v49, main_v50, main_v51, main_v52, main_v53,
   main_v54, main_v55, main_v56, main_v57, main_v58, main_v59, main_v60, main_v61, main_v62, main_v63, main_cst_11, main_v64, main_v65,
   main_v66, main_cst_12, main_v67, main_cst_13, main_v68, main_v69, main_v70, main_v71, main_v72, main_v73, main_v74, main_v75]

/-- Each buffer is written once, so what the line leaves in a buffer is read by every later operation. -/
theorem kept {V : Valuation τ sig (Elt Ideal)} {r : Ref sig .tc} {v : (Proc.devRef (τ := τ) .tc r).ty.Contents (Elt Ideal)}
    (hr : after (hostOps0 (F := Ideal)) V (Proc.devRef .tc r) = v) (n : ℕ) (h : r ∉ hostOps0_W.drop n) :
    upto (hostOps0 (F := Ideal)) V n (no_index (Proc.devRef .tc r)) = v := by
  have hW : (hostOps0 (F := Ideal)).map HloOp.writes = hostOps0_W.map fun w => {Proc.devRef (τ := τ) .tc w} := rfl
  rw [← hr]
  conv_rhs => rw [← List.take_append_drop n (hostOps0 (F := Ideal)), after_append]
  exact (after_unwritten (hostOps0_W.drop n) (by rw [List.map_drop, hW, List.map_drop]) h _).symm

section Concat

variable {α : Type} {t s₁ s₂ s₃ : Shape} {a : Fin t.rank}

theorem concat2 {x x' : s₁.Idx → α} {y y' : s₂.Idx → α} {h h' : Shape.Concatenates [s₁, s₂] t a} (hx : x = x') (hy : y = y') :
    concatenate t a [⟨s₁, x⟩, ⟨s₂, y⟩] h = concatenate t a [⟨s₁, x'⟩, ⟨s₂, y'⟩] h' := by subst hx hy; rfl

theorem concat3 {x x' : s₁.Idx → α} {y y' : s₂.Idx → α} {z z' : s₃.Idx → α} {h h' : Shape.Concatenates [s₁, s₂, s₃] t a}
    (hx : x = x') (hy : y = y') (hz : z = z') :
    concatenate t a [⟨s₁, x⟩, ⟨s₂, y⟩, ⟨s₃, z⟩] h = concatenate t a [⟨s₁, x'⟩, ⟨s₂, y'⟩, ⟨s₃, z'⟩] h' := by subst hx hy hz; rfl

theorem concat8 {x x' : s₁.Idx → α} {h h' : Shape.Concatenates [s₁, s₁, s₁, s₁, s₁, s₁, s₁, s₁] t a} (hx : x = x') :
    concatenate t a [⟨s₁, x⟩, ⟨s₁, x⟩, ⟨s₁, x⟩, ⟨s₁, x⟩, ⟨s₁, x⟩, ⟨s₁, x⟩, ⟨s₁, x⟩, ⟨s₁, x⟩] h
      = concatenate t a [⟨s₁, x'⟩, ⟨s₁, x'⟩, ⟨s₁, x'⟩, ⟨s₁, x'⟩, ⟨s₁, x'⟩, ⟨s₁, x'⟩, ⟨s₁, x'⟩, ⟨s₁, x'⟩] h' := by subst hx; rfl

end Concat

variable (V : Valuation τ sig (Elt Ideal)) (B : Valuation Cert.MlaIdeal.τ Cert.MlaIdeal.sig (Elt Ideal))

/-- The backward program's buffers with this program's three arguments in them. -/
abbrev carry : Valuation Cert.MlaIdeal.τ Cert.MlaIdeal.sig (Elt Ideal) :=
  Function.update (Function.update (Function.update B (Proc.devRef .tc Cert.MlaIdeal.main_arg0) (V (Proc.devRef .tc main_arg0)))
    (Proc.devRef .tc Cert.MlaIdeal.main_arg1) (V (Proc.devRef .tc main_arg1))) (Proc.devRef .tc Cert.MlaIdeal.main_arg2) (V (Proc.devRef .tc main_arg2))

/-- What the lines leave in a buffer, here and in the backward program. -/
abbrev here (r : Ref sig .tc) := after (hostOps0 (F := Ideal)) V (Proc.devRef .tc r)
abbrev there (r : Ref Cert.MlaIdeal.sig .tc) := after (Cert.MlaIdeal.Gen.hostOps0 (F := Ideal)) (carry V B) (Proc.devRef .tc r)

theorem s15 : here V main_v15 = there V B Cert.MlaIdeal.main_v15 := by
  after_reads_simp
  refine concat2 ?_ ?_ <;> after_reads_simp <;> rfl

theorem s18 : here V main_v18 = there V B Cert.MlaIdeal.main_v18 := by
  after_reads_simp
  refine concat2 ?_ ?_ <;> after_reads_simp <;> rfl

variable {V B} in
/-- Two buffers that hold the same in the end are read alike by every later operation. -/
theorem alike {r : Ref sig .tc} {v : (Proc.devRef (τ := τ) .tc r).ty.Contents (Elt Ideal)} {n : ℕ} (hr : here V r = v)
    (h : r ∉ hostOps0_W.drop n) : upto (hostOps0 (F := Ideal)) V n (Proc.devRef .tc r) = v := kept hr n h

variable {V B} in
theorem alike' {r : Ref Cert.MlaIdeal.sig .tc} {n : ℕ} (h : r ∉ Cert.MlaIdeal.Gen.hostOps0_W.drop n) :
    there V B r = upto (Cert.MlaIdeal.Gen.hostOps0 (F := Ideal)) (carry V B) n (Proc.devRef .tc r) :=
  (Cert.MlaIdeal.RefValue.upto_hostOps0 _ _ _ h).symm

theorem s21 : here V main_v21 = there V B Cert.MlaIdeal.main_v21 := by
  after_reads_simp
  refine concat3 ?_ ((alike (s15 V B) (by decide)).trans (alike' (by decide))) ?_ <;> simp only [Matrix.cons_val] <;> after_reads_simp <;> rfl

theorem s24 : here V main_v24 = there V B Cert.MlaIdeal.main_v24 := by
  after_reads_simp
  refine concat3 ?_ ((alike (s18 V B) (by decide)).trans (alike' (by decide))) ?_ <;> simp only [Matrix.cons_val] <;> after_reads_simp <;> rfl

theorem s31 : here V main_v31 = there V B Cert.MlaIdeal.main_v31 := by
  after_reads_simp
  refine congrArg (fun x => shapeCast _ x _) (concat2 ?_ ?_) <;> after_reads_simp <;> rfl

theorem s37 : here V main_v37 = there V B Cert.MlaIdeal.main_v37 := by
  after_reads_simp
  refine concat2 ?_ ?_ <;> after_reads_simp <;> rfl

theorem s40 : here V main_v40 = there V B Cert.MlaIdeal.main_v40 := by
  after_reads_simp
  refine congrArg (fun x => shapeCast _ x _) (concat3 ?_ ((alike (s37 V B) (by decide)).trans (alike' (by decide))) ?_) <;>
    simp only [Matrix.cons_val] <;> after_reads_simp <;> rfl

theorem s41 : here V main_v41 = there V B Cert.MlaIdeal.main_v41 := by
  after_reads_simp
  exact concat8 ((alike (s21 V B) (by decide)).trans (alike' (by decide)))

theorem s43 : here V main_v43 = there V B Cert.MlaIdeal.main_v43 := by
  after_reads_simp
  exact concat8 ((alike (s24 V B) (by decide)).trans (alike' (by decide)))

theorem s26 : here V main_v26 = there V B Cert.MlaIdeal.main_v26 := by
  after_reads_simp
  refine concat3 ((alike (s15 V B) (by decide)).trans (alike' (by decide)))
    ((alike (s18 V B) (by decide)).trans (alike' (by decide))) ?_ <;> simp only [Matrix.cons_val] <;> after_reads_simp <;> rfl

theorem s54 : here V main_v54 = there V B Cert.MlaIdeal.main_v54 := by
  after_reads_simp
  refine concat2 ?_ ?_ <;> after_reads_simp <;> rfl

theorem s55 : here V main_v55 = there V B Cert.MlaIdeal.main_v55 := by
  after_reads_simp
  refine concat2 ?_ ((alike (s54 V B) (by decide)).trans (alike' (by decide))) <;> after_reads_simp <;> rfl

theorem s60 : here V main_v60 = there V B Cert.MlaIdeal.main_v60 := by
  obtain ⟨a, ha⟩ : ∃ a, there V B Cert.MlaIdeal.main_v26 = a := ⟨_, rfl⟩
  obtain ⟨b, hb⟩ : ∃ b, there V B Cert.MlaIdeal.main_v55 = b := ⟨_, rfl⟩
  after_reads_simp [kept ((s26 V B).trans ha), kept ((s55 V B).trans hb), Cert.MlaIdeal.RefValue.stop ha, Cert.MlaIdeal.RefValue.stop hb]

/-! ## The values -/

variable (q kv : ℕ → ℕ → ℕ → ℝ) (kr : ℕ → ℕ → ℝ)

/-- The buffers hold these real arrays as their arguments. -/
structure Args : Prop where
  a0 : ∀ i : S16384x8x96.Idx, V (Proc.devRef .tc main_arg0) i = (q (i 0) (i 1) (i 2) : EReal)
  a1 : ∀ i : S16384x8x128.Idx, V (Proc.devRef .tc main_arg1) i = (kv (i 0) (i 1) (i 2) : EReal)
  a2 : ∀ i : S16384x32.Idx, V (Proc.devRef .tc main_arg2) i = (kr (i 0) (i 1) : EReal)

/-- Some buffers of the backward program, with a cotangent of zeros. -/
def base : Valuation Cert.MlaIdeal.τ Cert.MlaIdeal.sig (Elt Ideal) :=
  Function.update (fun _ _ => default) (Proc.devRef .tc Cert.MlaIdeal.main_arg3)
    (fun _ : Cert.MlaIdeal.S16384x512.Idx => ((0 : ℝ) : EReal))

variable {V} {q kv kr} (hV : Args V q kv kr)

include hV in
theorem carried : Cert.MlaIdeal.RefValue.Args (carry V base) q kv kr fun _ _ => 0 where
  a0 := hV.a0
  a1 := hV.a1
  a2 := hV.a2
  a3 := fun _ => rfl

open Cert.MlaIdeal.RefValue in
include hV in
theorem v50 : here V main_v50
    = fun i : S16384x1024.Idx => ((qp q (i 0) ((i 1 : ℕ) / 128) ((i 1 : ℕ) % 128) * scale / Real.log 2 : ℝ) : EReal) := by
  refine Eq.trans ?_ (h50 (carried hV))
  after_reads_simp [kept ((s31 V base).trans (h31 (carried hV))), kept ((s40 V base).trans (h40 (carried hV))),
    kept ((s41 V base).trans (h41 (V := carry V base))), kept ((s43 V base).trans (h43 (V := carry V base))), stop (h31 (carried hV)), stop (h40 (carried hV)),
    stop (h41 (V := carry V base)), stop (h43 (V := carry V base))]

include hV in
theorem v70 : here V main_v70
    = fun i : S16384x1024.Idx => ((qp q (i 0) ((i 1 : ℕ) / 128) ((i 1 : ℕ) % 128) * scale / Real.log 2 : ℝ) : EReal) := by
  refine funext fun (i : S16384x1024.Idx) => ?_
  after_reads_simp [kept (v50 hV)]
  pointwise

open Cert.MlaIdeal.RefValue in
include hV in
theorem v65 : here V main_v65 = fun i : S16384x8x128.Idx => ((kp kv kr (i 0) (i 1) (i 2) : ℝ) : EReal) := by
  refine Eq.trans ?_ (h65 (carried hV))
  after_reads_simp
  refine concat3 ?_ ?_ ?_ <;> simp only [Matrix.cons_val] <;>
    after_reads_simp [kept ((s60 V base).trans (h60 (carried hV))), stop (h60 (carried hV))] <;> rfl

include hV in
theorem v72 : here V main_v72
    = fun i : S16384x1024.Idx => ((kp kv kr (i 0) ((i 1 : ℕ) / 128) ((i 1 : ℕ) % 128) : ℝ) : EReal) := by
  refine funext fun (i : S16384x1024.Idx) => ?_
  after_reads_simp [kept (v65 hV)]
  pointwise

/-- The values, a head's 64 rows followed by a row of ones. -/
def vx (kv : ℕ → ℕ → ℕ → ℝ) (c u : ℕ) : ℝ :=
  if c % 128 < 64 then kv u (c / 128) (64 + c % 128) else if c % 128 = 64 then 1 else 0

theorem lit_1 : Ideal.ofBits .f32 0x3F800000#32 = ((1 : ℝ) : EReal) := by
  simp [Ideal.ofBits, Ideal.ieee, -EReal.coe_mul]; norm_num

include hV in
theorem v75 : here V main_v75 = fun i : S1024x16384.Idx => ((vx kv (i 0) (i 1) : ℝ) : EReal) := by
  refine funext fun (i : S1024x16384.Idx) => ?_
  after_reads_simp
  pointwise
  after_reads_simp
  pointwise
  simp only [hV.a1, vx]
  split_ifs <;> first | omega | rfl | skip

end Cert.MlaFwdIdeal.RefValue
end
-- ==== Proof.MlaFwd.Model.lean ====
/-
  The flash attention's forward arrangement over the real numbers: one block of keys after the other, against a running
  row maximum, in powers of two.
-/
module

public import proofs.«01_k».proof.Proof.Mla.Model

@[expose] public section

noncomputable section

open Idealize.ShloMosaic

namespace Cert.MlaFwdModel

open Cert.MlaModel

/-- The score of query row `r` on key row `u` in head `h`, over the head's 128 columns. -/
def s2 (q k : ℕ → ℕ → ℝ) (h r u : ℕ) : ℝ := ∑ d : Fin 128, k u (h * 128 + d) * q r (h * 128 + d)

/-- The running maximum after a block of scores. -/
def top (p : EReal) (s : ℕ → ℝ) : ℝ := (max p (Finset.univ.fold max ⊥ fun u : Fin 4096 => ((s u : ℝ) : EReal))).toReal

theorem top_coe {p p' : EReal} {s : ℕ → ℝ} {g : Fin 4096 → EReal} (hp : p' = p) (h : p = ⊥ ∨ ∃ x : ℝ, p = x)
    (hg : ∀ u, g u = s u) : max p' (Finset.univ.fold max ⊥ g) = (top p s : EReal) := by
  obtain ⟨M, hM⟩ := fold_max_coe (n := 4095) (fun u : Fin 4096 => ((s u : ℝ) : EReal)) (fun u : Fin 4096 => s u) fun _ => rfl
  rw [funext hg, top, hp, hM]
  rcases h with rfl | ⟨x, rfl⟩
  · rw [max_eq_right bot_le, EReal.toReal_coe]
  · rw [show max (x : EReal) (M : EReal) = ((max x M : ℝ) : EReal) from (EReal.coe_strictMono.monotone.map_max).symm, EReal.toReal_coe]

theorem exp2_sub {a b : EReal} {x y : ℝ} (ha : a = x) (hb : b = y) :
    FloatOps.exp2 (F := Ideal) (φ := .f32) (a - b) = ((Real.rpow 2 (x - y) : ℝ) : EReal) := by
  rw [ha, hb, ← EReal.coe_sub]; exact Ideal.exp2_coe _

theorem log_eq_coe {a : EReal} {x : ℝ} (ha : a = x) (hx : 0 < x) : Ideal.log a = (Real.log x : EReal) := by
  rw [ha, Ideal.log_coe, if_neg hx.not_ge]

/-- One block's part of a value row's weighted sum. -/
def part (v : ℕ → ℕ → ℝ) (s : ℕ → ℝ) (M : ℝ) (d : ℕ) : ℝ := ∑ u : Fin 4096, v d u * Real.rpow 2 (s u - M)

theorem part_coe {v : ℕ → ℕ → ℝ} {s : ℕ → ℝ} {M : ℝ} {d : ℕ} {A E : Fin 4096 → EReal} {b : EReal} (hA : ∀ u, A u = v d u)
    (hE : ∀ u, E u = s u) (hb : b = M) :
    ∑ u, A u * FloatOps.exp2 (F := Ideal) (φ := .f32) (E u - b) = (part v s M d : EReal) :=
  sum_eq_coe fun u => mul_eq_coe (hA u) (exp2_sub (hE u) hb)

/-- A value row's weighted sum carried on by one block. -/
def step (p a : ℝ) (v : ℕ → ℕ → ℝ) (s : ℕ → ℝ) (d : ℕ) : ℝ := Real.rpow 2 (p - top p s) * a + part v s (top p s) d

theorem step_coe {p a : ℝ} {v : ℕ → ℕ → ℝ} {s : ℕ → ℝ} {d : ℕ} {P A : EReal} {G W : Fin 4096 → EReal} (hP : P = p) (hA : A = a)
    (hG : ∀ u, G u = s u) (hW : ∀ u, W u = v d u) :
    FloatOps.exp2 (F := Ideal) (φ := .f32) (P - max P (Finset.univ.fold max ⊥ G)) * A
      + ∑ u, W u * FloatOps.exp2 (F := Ideal) (φ := .f32) (G u - max P (Finset.univ.fold max ⊥ G)) = (step p a v s d : EReal) :=
  add_eq_coe (mul_eq_coe (exp2_sub hP (top_coe hP (Or.inr ⟨_, rfl⟩) hG)) hA)
    (part_coe hW hG (top_coe hP (Or.inr ⟨_, rfl⟩) hG))

theorem first_coe {v : ℕ → ℕ → ℝ} {s : ℕ → ℝ} {d : ℕ} {A B : EReal} {G W : Fin 4096 → EReal} (hA : A = 0)
    (hG : ∀ u, G u = s u) (hW : ∀ u, W u = v d u) :
    B * A + ∑ u, W u * FloatOps.exp2 (F := Ideal) (φ := .f32) (G u - max ⊥ (Finset.univ.fold max ⊥ G))
      = (part v s (top ⊥ s) d : EReal) := by
  rw [hA, mul_zero, zero_add]
  exact part_coe hW hG (top_coe rfl (Or.inl rfl) hG)

/-- The weighted sum of the first `n` keys against a row constant `M`. -/
def acc (v : ℕ → ℕ → ℝ) (s : ℕ → ℝ) (M : ℝ) (d n : ℕ) : ℝ := ∑ u ∈ Finset.range n, v d u * Real.rpow 2 (s u - M)

theorem acc_step (v : ℕ → ℕ → ℝ) (s : ℕ → ℝ) (M M' : ℝ) (d n : ℕ) :
    Real.rpow 2 (M - M') * acc v s M d (n * 4096) + part (fun d u => v d (n * 4096 + u)) (fun u => s (n * 4096 + u)) M' d
      = acc v s M' d ((n + 1) * 4096) := by
  rw [acc, acc, add_mul, one_mul, Finset.sum_range_add, part,
    Fin.sum_univ_eq_sum_range (fun u => v d (n * 4096 + u) * Real.rpow 2 (s (n * 4096 + u) - M')) 4096, Finset.mul_sum]
  congr 1
  refine Finset.sum_congr rfl fun u _ => ?_
  simp only [Real.rpow_eq_pow]
  rw [mul_left_comm, ← Real.rpow_add (by norm_num)]
  congr 2; ring

theorem acc_one (v : ℕ → ℕ → ℝ) (s : ℕ → ℝ) (M : ℝ) (d : ℕ) : part v s M d = acc v s M d 4096 :=
  Fin.sum_univ_eq_sum_range (fun u => v d u * Real.rpow 2 (s u - M)) 4096

end Cert.MlaFwdModel

end
-- ==== Proof.MlaFwd.Block.lean ====
/-
  What one grid point of the flash attention's forward kernel stores, of blocks that hold real numbers.
-/
module

public import proofs.«01_k».proof.Proof.MlaFwd.Model
public import proofs.«01_k».proof.Proof.Gen.MlaFwdIdeal.Value
public import Idealize.ShloMosaic.Lib.Pipeline.ValueKit
public import Idealize.ShloMosaic.Lib.Pipeline.Value
public import Idealize.ShloMosaic.Lib.Pipeline.ReadBack
public import Idealize.ShloMosaic.Lib.Claim
public import Idealize.ShloMosaic.Lib.StableHlo.RunRead
public import Idealize.ShloMosaic.Lib.Pointwise

@[expose] public section

set_option maxRecDepth 16384
set_option maxHeartbeats 2000000

noncomputable section

open Idealize.ShloMosaic Idealize.ShloMosaic.TcCoe Idealize.SL.Sem Idealize.ShloMosaic.StableHlo

namespace Cert.MlaFwdIdeal.RefValue

open Cert.MlaFwdIdeal Cert.MlaFwdIdeal.Gen Cert.MlaModel Cert.MlaFwdModel

theorem lit_bot : Ideal.ofBits .f32 0xFF800000#32 = ⊥ := by
  simp [Ideal.ofBits, Ideal.ieee]

variable (m : (ℓ : Loc nD τ sig) → Buf (Elt Ideal) ℓ) {q k v : ℕ → ℕ → ℝ}

/-- The blocks of grid point `t` hold these numbers. -/
structure Blocks (q k v : ℕ → ℕ → ℝ) (c : Dev nD) (t : Fin cfg0.N) : Prop where
  e0 : ∀ i, iblk m c 0 t i = (q (i 0) (i 1) : EReal)
  e1 : ∀ i, iblk m c 1 t i = (k (i 0) (i 1) : EReal)
  e2 : ∀ i, iblk m c 2 t i = (v (i 0) (i 1) : EReal)

variable {c : Dev nD} {t : Fin cfg0.N} (B : Blocks m q k v c t)
include B

theorem max_B (h0 : ¬t.val % 4 = 0) (h1 : ¬t.val % 4 = 3) (p : ℕ → ℕ → ℝ)
    (hp : ∀ i, (outsAt0 m c (t.val - 1) (Nat.lt_of_le_of_lt (Nat.sub_le _ _) t.isLt)).2.2.1 i = (p (i 0) (i 2) : EReal)) (y : S8x1x512.Idx) :
    (outsAt0 m c t.val t.isLt).2.2.1 y = (top (p (y 0) (y 2)) (s2 q k (y 0) (y 2)) : EReal) := by
  obtain ⟨e0, e1, e2⟩ := B
  rw [outsAt0_B m c t h0 h1]
  dsimp only
  generalize iblk m c 0 t = x0 at *
  generalize iblk m c 1 t = x1 at *
  generalize iblk m c 2 t = x2 at *
  generalize (outsAt0 m c (t.val - 1) (Nat.lt_of_le_of_lt (Nat.sub_le _ _) t.isLt)).2.2.1 = x3 at *
  generalize (outsAt0 m c (t.val - 1) (Nat.lt_of_le_of_lt (Nat.sub_le _ _) t.isLt)).2.2.2 = x4 at *
  frame_out
  simp only [read_unread_whole]
  clear h0 h1
  canon_tiles x h
  all_goals
    have b : (x 1 : ℕ) < 1 := (x 1).isLt
    open_payloads; pointwise
    rw [lit_bot]
    refine top_coe (real2 p (hp _) ?_ ?_) (Or.inr ⟨_, rfl⟩) (fun u => sum_eq_coe fun d => mul_eq_coe (real2 k (e1 _) ?_ ?_) (real2 q (e0 _) ?_ ?_))
    all_goals first | (blk_simp; try omega) | skip
    all_goals first | (dsimp only; omega) | exact (show (0 : ℕ) = _ by omega) | exact (show (1 : ℕ) = _ by omega)

theorem acc_B (h0 : ¬t.val % 4 = 0) (h1 : ¬t.val % 4 = 3) (p : ℕ → ℕ → ℝ)
    (hp : ∀ i, (outsAt0 m c (t.val - 1) (Nat.lt_of_le_of_lt (Nat.sub_le _ _) t.isLt)).2.2.1 i = (p (i 0) (i 2) : EReal))
    (a : ℕ → ℕ → ℕ → ℝ)
    (ha : ∀ i, (outsAt0 m c (t.val - 1) (Nat.lt_of_le_of_lt (Nat.sub_le _ _) t.isLt)).2.2.2 i = (a (i 0) (i 1) (i 2) : EReal)) (y : S8x128x512.Idx) :
    (outsAt0 m c t.val t.isLt).2.2.2 y
      = (step (p (y 0) (y 2)) (a (y 0) (y 1) (y 2)) v (s2 q k (y 0) (y 2)) (y 0 * 128 + y 1) : EReal) := by
  obtain ⟨e0, e1, e2⟩ := B
  rw [outsAt0_B m c t h0 h1]
  dsimp only
  generalize iblk m c 0 t = x0 at *
  generalize iblk m c 1 t = x1 at *
  generalize iblk m c 2 t = x2 at *
  generalize (outsAt0 m c (t.val - 1) (Nat.lt_of_le_of_lt (Nat.sub_le _ _) t.isLt)).2.2.1 = x3 at *
  generalize (outsAt0 m c (t.val - 1) (Nat.lt_of_le_of_lt (Nat.sub_le _ _) t.isLt)).2.2.2 = x4 at *
  frame_out
  simp only [read_unread_whole]
  clear h0 h1
  canon_tiles x h
  all_goals
    have b : (x 1 : ℕ) < 128 := (x 1).isLt
    open_payloads; pointwise
    rw [lit_bot]
    refine step_coe (s := s2 q k _ _) (real2 p (hp _) ?_ ?_) (real3 a (ha _) ?_ ?_ ?_) (fun u => sum_eq_coe fun d => mul_eq_coe (real2 k (e1 _) ?_ ?_) (real2 q (e0 _) ?_ ?_))
      (fun u => real2 v (e2 _) ?_ ?_)
    all_goals first | (blk_simp; try omega) | skip
    all_goals first | (dsimp only; omega) | exact (show (0 : ℕ) = _ by omega) | exact (show (1 : ℕ) = _ by omega)

end Cert.MlaFwdIdeal.RefValue

end
-- ==== Proof.MlaFwd.First.lean ====
/-
  What the first grid point of a row block of the flash attention's forward kernel stores, of blocks that hold real numbers.
-/
module

public import proofs.«01_k».proof.Proof.MlaFwd.Block
public import proofs.«01_k».proof.Proof.Mla.Back
public import proofs.«01_k».proof.Proof.Gen.MlaFwdIdeal.Value
public import Idealize.ShloMosaic.Lib.Pipeline.ValueKit
public import Idealize.ShloMosaic.Lib.Pipeline.Value
public import Idealize.ShloMosaic.Lib.Pipeline.ReadBack
public import Idealize.ShloMosaic.Lib.Claim
public import Idealize.ShloMosaic.Lib.StableHlo.RunRead
public import Idealize.ShloMosaic.Lib.Pointwise

@[expose] public section

set_option maxRecDepth 16384
set_option maxHeartbeats 2000000

noncomputable section

open Idealize.ShloMosaic Idealize.ShloMosaic.TcCoe Idealize.SL.Sem Idealize.ShloMosaic.StableHlo

namespace Cert.MlaFwdIdeal.RefValue

open Cert.MlaIdeal.RefValue (canon_append_of_cover)
open Cert.MlaFwdIdeal Cert.MlaFwdIdeal.Gen Cert.MlaModel Cert.MlaFwdModel

variable (m : (ℓ : Loc nD τ sig) → Buf (Elt Ideal) ℓ) {q k v : ℕ → ℕ → ℝ} {c : Dev nD} {t : Fin cfg0.N} (B : Blocks m q k v c t)
include B

theorem max_A (h0 : t.val % 4 = 0) (h1 : ¬t.val % 4 = 3) (y : S8x1x512.Idx) :
    (outsAt0 m c t.val t.isLt).2.2.1 y = (top ⊥ (s2 q k (y 0) (y 2)) : EReal) := by
  obtain ⟨e0, e1, e2⟩ := B
  rw [outsAt0_A m c t h0 h1]
  dsimp only
  generalize iblk m c 0 t = x0 at *
  generalize iblk m c 1 t = x1 at *
  generalize iblk m c 2 t = x2 at *
  frame_open
  simp (disch := decide) only [↓ View.readCov_skip, ↓ View.readCov_cons_toLoadRect, ↓ View.readCov_fill]
  frame_out
  clear h0 h1
  refine (canon_append_of_cover [_, _, _, _, _, _, _, _] [_] y (View.cover_of_tiled_head _ _ _ (by rfl) y)).trans ?_
  canon_tiles x h
  all_goals
    have b : (x 1 : ℕ) < 1 := (x 1).isLt
    open_payloads; pointwise
    rw [lit_bot]
    refine top_coe rfl (Or.inl rfl) (fun u => sum_eq_coe fun d => mul_eq_coe (real2 k (e1 _) ?_ ?_) (real2 q (e0 _) ?_ ?_))
    all_goals first | (blk_simp; try omega) | skip
    all_goals first | (dsimp only; omega) | exact (show (0 : ℕ) = _ by omega) | exact (show (1 : ℕ) = _ by omega)

theorem acc_A (h0 : t.val % 4 = 0) (h1 : ¬t.val % 4 = 3) (y : S8x128x512.Idx) :
    (outsAt0 m c t.val t.isLt).2.2.2 y
      = (part v (s2 q k (y 0) (y 2)) (top ⊥ (s2 q k (y 0) (y 2))) (y 0 * 128 + y 1) : EReal) := by
  obtain ⟨e0, e1, e2⟩ := B
  rw [outsAt0_A m c t h0 h1]
  dsimp only
  generalize iblk m c 0 t = x0 at *
  generalize iblk m c 1 t = x1 at *
  generalize iblk m c 2 t = x2 at *
  frame_open
  simp (disch := decide) only [↓ View.readCov_skip, ↓ View.readCov_cons_toLoadRect, ↓ View.readCov_fill]
  frame_out
  clear h0 h1
  refine (canon_append_of_cover [_, _, _, _, _, _, _, _] [_] y (View.cover_of_tiled_head _ _ _ (by rfl) y)).trans ?_
  canon_tiles x h
  all_goals
    have b : (x 1 : ℕ) < 128 := (x 1).isLt
    open_payloads; pointwise
    rw [lit_bot]
    refine first_coe (s := s2 q k _ _) rfl (fun u => sum_eq_coe fun d => mul_eq_coe (real2 k (e1 _) ?_ ?_) (real2 q (e0 _) ?_ ?_))
      (fun u => real2 v (e2 _) ?_ ?_)
    all_goals first | (blk_simp; try omega) | skip
    all_goals first | (dsimp only; omega) | exact (show (0 : ℕ) = _ by omega) | exact (show (1 : ℕ) = _ by omega)

end Cert.MlaFwdIdeal.RefValue

end
-- ==== Proof.MlaFwd.Last.lean ====
/-
  What the last grid point of a row block of the flash attention's forward kernel stores, of blocks that hold real numbers.
-/
module

public import proofs.«01_k».proof.Proof.MlaFwd.Block
public import proofs.«01_k».proof.Proof.Norm
public import proofs.«01_k».proof.Proof.Gen.MlaFwdIdeal.Value
public import Idealize.ShloMosaic.Lib.Pipeline.ValueKit
public import Idealize.ShloMosaic.Lib.Pipeline.Value
public import Idealize.ShloMosaic.Lib.Pipeline.ReadBack
public import Idealize.ShloMosaic.Lib.Claim
public import Idealize.ShloMosaic.Lib.StableHlo.RunRead
public import Idealize.ShloMosaic.Lib.Pointwise

@[expose] public section

set_option maxRecDepth 16384
set_option maxHeartbeats 2000000

noncomputable section

open Idealize.ShloMosaic Idealize.ShloMosaic.TcCoe Idealize.SL.Sem Idealize.ShloMosaic.StableHlo

namespace Cert.MlaFwdIdeal.RefValue

open Cert.MlaFwdIdeal Cert.MlaFwdIdeal.Gen Cert.MlaModel Cert.MlaFwdModel Cert.Norm

variable (m : (ℓ : Loc nD τ sig) → Buf (Elt Ideal) ℓ) {q k v : ℕ → ℕ → ℝ} {c : Dev nD} {t : Fin cfg0.N} (B : Blocks m q k v c t)
include B

theorem out_C (h0 : ¬t.val % 4 = 0) (h1 : t.val % 4 = 3) (p : ℕ → ℕ → ℝ)
    (hp : ∀ i, (outsAt0 m c (t.val - 1) (Nat.lt_of_le_of_lt (Nat.sub_le _ _) t.isLt)).2.2.1 i = (p (i 0) (i 2) : EReal))
    (a : ℕ → ℕ → ℕ → ℝ)
    (ha : ∀ i, (outsAt0 m c (t.val - 1) (Nat.lt_of_le_of_lt (Nat.sub_le _ _) t.isLt)).2.2.2 i = (a (i 0) (i 1) (i 2) : EReal)) (y : S512x512.Idx)
    (hn : step (p (y 1 / 64) (y 0)) (a (y 1 / 64) 64 (y 0)) v (s2 q k (y 1 / 64) (y 0)) (y 1 / 64 * 128 + 64) ≠ 0) :
    (outsAt0 m c t.val t.isLt).1 y = ((step (p (y 1 / 64) (y 0)) (a (y 1 / 64) (y 1 % 64) (y 0)) v (s2 q k (y 1 / 64) (y 0)) (y 1 / 64 * 128 + y 1 % 64)
      / step (p (y 1 / 64) (y 0)) (a (y 1 / 64) 64 (y 0)) v (s2 q k (y 1 / 64) (y 0)) (y 1 / 64 * 128 + 64) : ℝ) : EReal) := by
  obtain ⟨e0, e1, e2⟩ := B
  rw [outsAt0_C m c t h0 h1]
  dsimp only
  generalize iblk m c 0 t = x0 at *
  generalize iblk m c 1 t = x1 at *
  generalize iblk m c 2 t = x2 at *
  generalize (outsAt0 m c (t.val - 1) (Nat.lt_of_le_of_lt (Nat.sub_le _ _) t.isLt)).2.2.1 = x3 at *
  generalize (outsAt0 m c (t.val - 1) (Nat.lt_of_le_of_lt (Nat.sub_le _ _) t.isLt)).2.2.2 = x4 at *
  frame_open
  simp (disch := decide) only [↓ View.readCov_skip, ↓ View.readCov_cons_toLoadRect, ↓ View.readCov_fill]
  frame_out
  simp only [read_unread_whole]
  clear h0 h1
  canon_tiles x h
  all_goals
    have b : (x 1 : ℕ) < 64 := (x 1).isLt
    open_payloads; pointwise
    rw [lit_bot]
    refine div_eq_coe (step_coe (s := s2 q k _ _) (real2 p (hp _) ?_ ?_) (real3 a (ha _) ?_ ?_ ?_) (fun u => sum_eq_coe fun d => mul_eq_coe (real2 k (e1 _) ?_ ?_) (real2 q (e0 _) ?_ ?_))
        (fun u => real2 v (e2 _) ?_ ?_))
      (step_coe (s := s2 q k _ _) (real2 p (hp _) ?_ ?_) (real3 a (ha _) ?_ ?_ ?_) (fun u => sum_eq_coe fun d => mul_eq_coe (real2 k (e1 _) ?_ ?_) (real2 q (e0 _) ?_ ?_))
        (fun u => real2 v (e2 _) ?_ ?_)) hn
    all_goals first | (blk_simp; try omega) | skip
    all_goals first | (dsimp only; omega) | exact (show (0 : ℕ) = _ by omega) | exact (show (1 : ℕ) = _ by omega)

end Cert.MlaFwdIdeal.RefValue

end
-- ==== Proof.MlaFwd.Lse.lean ====
/-
  What the last grid point of a row block of the flash attention's forward kernel saves for the backward pass, of blocks that hold real numbers.
-/
module

public import proofs.«01_k».proof.Proof.MlaFwd.Block
public import proofs.«01_k».proof.Proof.Gen.MlaFwdIdeal.Value
public import Idealize.ShloMosaic.Lib.Pipeline.ValueKit
public import Idealize.ShloMosaic.Lib.Pipeline.Value
public import Idealize.ShloMosaic.Lib.Pipeline.ReadBack
public import Idealize.ShloMosaic.Lib.Claim
public import Idealize.ShloMosaic.Lib.StableHlo.RunRead
public import Idealize.ShloMosaic.Lib.Pointwise

@[expose] public section

set_option maxRecDepth 16384
set_option maxHeartbeats 2000000

noncomputable section

open Idealize.ShloMosaic Idealize.ShloMosaic.TcCoe Idealize.SL.Sem Idealize.ShloMosaic.StableHlo

namespace Cert.MlaFwdIdeal.RefValue

open Cert.MlaFwdIdeal Cert.MlaFwdIdeal.Gen Cert.MlaModel Cert.MlaFwdModel

variable (m : (ℓ : Loc nD τ sig) → Buf (Elt Ideal) ℓ) {q k v : ℕ → ℕ → ℝ} {c : Dev nD} {t : Fin cfg0.N} (B : Blocks m q k v c t)
include B

theorem lse_C (h0 : ¬t.val % 4 = 0) (h1 : t.val % 4 = 3) (p : ℕ → ℕ → ℝ)
    (hp : ∀ i, (outsAt0 m c (t.val - 1) (Nat.lt_of_le_of_lt (Nat.sub_le _ _) t.isLt)).2.2.1 i = (p (i 0) (i 2) : EReal))
    (a : ℕ → ℕ → ℕ → ℝ)
    (ha : ∀ i, (outsAt0 m c (t.val - 1) (Nat.lt_of_le_of_lt (Nat.sub_le _ _) t.isLt)).2.2.2 i = (a (i 0) (i 1) (i 2) : EReal)) (y : S8x1x512.Idx)
    (hn : 0 < step (p (y 0) (y 2)) (a (y 0) 64 (y 2)) v (s2 q k (y 0) (y 2)) (y 0 * 128 + 64)) :
    (outsAt0 m c t.val t.isLt).2.1 y = ((top (p (y 0) (y 2)) (s2 q k (y 0) (y 2))
      + Real.log (step (p (y 0) (y 2)) (a (y 0) 64 (y 2)) v (s2 q k (y 0) (y 2)) (y 0 * 128 + 64)) * (Real.log 2)⁻¹ : ℝ) : EReal) := by
  obtain ⟨e0, e1, e2⟩ := B
  rw [outsAt0_C m c t h0 h1]
  dsimp only
  generalize iblk m c 0 t = x0 at *
  generalize iblk m c 1 t = x1 at *
  generalize iblk m c 2 t = x2 at *
  generalize (outsAt0 m c (t.val - 1) (Nat.lt_of_le_of_lt (Nat.sub_le _ _) t.isLt)).2.2.1 = x3 at *
  generalize (outsAt0 m c (t.val - 1) (Nat.lt_of_le_of_lt (Nat.sub_le _ _) t.isLt)).2.2.2 = x4 at *
  frame_open
  simp (disch := decide) only [↓ View.readCov_skip, ↓ View.readCov_cons_toLoadRect, ↓ View.readCov_fill]
  frame_out
  simp only [read_unread_whole]
  clear h0 h1
  canon_tiles x h
  all_goals
    have b : (x 1 : ℕ) < 1 := (x 1).isLt
    open_payloads; pointwise
    rw [lit_bot]
    rw [IdealRules.named_const.ideal_named_scalar _ _ _ _ rfl]
    refine add_eq_coe (top_coe (real2 p (hp _) ?_ ?_) (Or.inr ⟨_, rfl⟩) (fun u => sum_eq_coe fun d => mul_eq_coe (real2 k (e1 _) ?_ ?_) (real2 q (e0 _) ?_ ?_)))
      (mul_eq_coe (log_eq_coe (step_coe (s := s2 q k _ _) (real2 p (hp _) ?_ ?_) (real3 a (ha _) ?_ ?_ ?_) (fun u => sum_eq_coe fun d => mul_eq_coe (real2 k (e1 _) ?_ ?_) (real2 q (e0 _) ?_ ?_))
        (fun u => real2 v (e2 _) ?_ ?_)) hn) rfl)
    all_goals first | (blk_simp; try omega) | skip
    all_goals first | (dsimp only; omega) | exact (show (0 : ℕ) = _ by omega) | exact (show (1 : ℕ) = _ by omega)

end Cert.MlaFwdIdeal.RefValue

end
-- ==== Proof.MlaFwd.Points.lean ====
/-
  The row blocks of the flash attention's forward kernel, point by point: the carried sums belong to the keys read so far,
  and after the last key block they give the softmax's output and the logarithm of its denominator.
-/
module

public import proofs.«01_k».proof.Proof.MlaFwd.Host
public import proofs.«01_k».proof.Proof.MlaFwd.First
public import proofs.«01_k».proof.Proof.MlaFwd.Last
public import proofs.«01_k».proof.Proof.MlaFwd.Lse
public import proofs.«01_k».proof.Proof.Mla.Math

@[expose] public section

set_option maxRecDepth 16384
set_option maxHeartbeats 2000000

noncomputable section

open Idealize.ShloMosaic Idealize.ShloMosaic.TcCoe Idealize.SL.Sem Idealize.ShloMosaic.StableHlo

namespace Cert.MlaFwdIdeal.RefValue

open Cert.MlaFwdIdeal Cert.MlaFwdIdeal.Gen Cert.MlaModel
open Cert.MlaFwdModel (s2 part step acc acc_step acc_one)
open Cert.MlaIdeal.RefValue (qIn kIn lIn score_eq log2_ne rowSum rowSum_pos)

section Math

variable (q kv : ℕ → ℕ → ℕ → ℝ) (kr : ℕ → ℕ → ℝ)

/-- The score in powers of two. -/
theorem s2_eq (h t u : ℕ) : s2 (qIn q) (kIn kv kr) h t u = sc q kv kr h t u / Real.log 2 := by
  rw [← score_eq, s2]
  exact Finset.sum_congr rfl fun d _ => mul_comm _ _

/-- A value row's weighted sum over all keys; the row of ones gives the denominator. -/
def weighted (M : ℝ) (h t d : ℕ) : ℝ := acc (vx kv) (s2 (qIn q) (kIn kv kr) h t) M (h * 128 + d) 16384

theorem weighted_eq (M : ℝ) (h t d : ℕ) : weighted q kv kr M h t d
    = Real.exp (-(M * Real.log 2)) * ∑ u : Fin 16384, vx kv (h * 128 + d) u * Real.exp (sc q kv kr h t u) := by
  rw [weighted, acc, ← Fin.sum_univ_eq_sum_range (fun u => vx kv (h * 128 + d) u * Real.rpow 2 (s2 (qIn q) (kIn kv kr) h t u - M)) 16384,
    Finset.mul_sum]
  refine Finset.sum_congr rfl fun u _ => ?_
  rw [s2_eq, Real.rpow_eq_pow, Real.rpow_def_of_pos (by norm_num), mul_sub, mul_div_cancel₀ _ log2_ne, sub_eq_add_neg, Real.exp_add,
    mul_comm M]
  ring

theorem ones (h u : ℕ) : vx kv (h * 128 + 64) u = 1 := by
  rw [vx, if_neg (by omega), if_pos (by omega)]

theorem denominator_eq (M : ℝ) (h t : ℕ) : weighted q kv kr M h t 64
    = Real.exp (-(M * Real.log 2)) * (Real.exp (Cert.MlaIdeal.RefValue.top q kv kr h t) * rowSum q kv kr h t) := by
  simp only [weighted_eq, ones, one_mul, rowSum, Real.exp_sub, ← Finset.sum_div]
  rw [mul_div_cancel₀ _ (Real.exp_pos _).ne']

theorem denominator_pos (M : ℝ) (h t : ℕ) : 0 < weighted q kv kr M h t 64 := by
  rw [denominator_eq]
  have := rowSum_pos q kv kr h t
  positivity

/-- The quotient is the attention's output. -/
theorem quotient_eq (M : ℝ) (h t d : ℕ) (hd : d < 64) : weighted q kv kr M h t d / weighted q kv kr M h t 64 = out q kv kr t h d := by
  simp only [weighted_eq, ones, one_mul, out, pr]
  rw [mul_div_mul_left _ _ (Real.exp_pos _).ne', Finset.sum_div]
  refine Finset.sum_congr rfl fun u _ => ?_
  rw [vx, if_pos (by omega), show (h * 128 + d) / 128 = h by omega, show (h * 128 + d) % 128 = d by omega]
  ring

/-- The saved row constant. -/
theorem constant_eq (M : ℝ) (h t : ℕ) : M + Real.log (weighted q kv kr M h t 64) * (Real.log 2)⁻¹ = lIn q kv kr h t := by
  have hp := rowSum_pos q kv kr h t
  rw [denominator_eq, Real.log_mul (Real.exp_pos _).ne' (by positivity), Real.log_exp, Real.log_mul (Real.exp_pos _).ne' hp.ne',
    Real.log_exp, lIn]
  field_simp [log2_ne]
  ring

end Math

variable (m : (ℓ : Loc nD τ sig) → Buf (Elt Ideal) ℓ) {q kv : ℕ → ℕ → ℕ → ℝ} {kr : ℕ → ℕ → ℝ} {c : Dev nD}

theorem idx : ∀ t : Fin cfg0.N, win0_0.index t = ![t.val / 4, 0] ∧ win0_1.index t = ![t.val % 4, 0] ∧ win0_2.index t = ![0, t.val % 4] ∧
    win0_3.index t = ![t.val / 4, 0] ∧ win0_4.index t = ![0, 0, t.val / 4] :=
  (by decide +kernel : ∀ t : Fin grid0.N, _)

variable (A : Args (fun b => m (c, b)) q kv kr)
include A

theorem blocks (t : Fin cfg0.N) : Blocks m (fun a d => qIn q (t.val / 4 * 512 + a) d) (fun b d => kIn kv kr (t.val % 4 * 4096 + b) d)
    (fun d b => vx kv d (t.val % 4 * 4096 + b)) c t := by
  refine ⟨fun i => ?_, fun i => ?_, fun i => ?_⟩
  all_goals
    unfold iblk
    rw [View.read_apply]
    first
    | exact (congrFun (v70 A) _).trans (by blk_simp [idx t]; rfl)
    | exact (congrFun (v72 A) _).trans (by blk_simp [idx t]; rfl)
    | exact (congrFun (v75 A) _).trans (by blk_simp [idx t])

/-- After key block `j` of a row block the carried sums are those of the keys up to it, against some row maxima. -/
theorem carried_sums (i j : ℕ) (hj : j < 3) : ∀ h : 4 * i + j < cfg0.N, ∃ M : ℕ → ℕ → ℝ,
    (∀ y, (outsAt0 m c (4 * i + j) h).2.2.1 y = (M (y 0) (y 2) : EReal)) ∧
    ∀ y, (outsAt0 m c (4 * i + j) h).2.2.2 y
      = (acc (vx kv) (s2 (qIn q) (kIn kv kr) (y 0) (i * 512 + y 2)) (M (y 0) (y 2)) (y 0 * 128 + y 1) ((j + 1) * 4096) : EReal) := by
  induction j with
  | zero =>
    intro h
    have B := blocks m A ⟨4 * i + 0, h⟩
    simp only [show (4 * i + 0) / 4 = i by omega, show (4 * i + 0) % 4 = 0 by omega, zero_mul, zero_add] at B
    refine ⟨fun a r => Cert.MlaFwdModel.top ⊥ (s2 (qIn q) (kIn kv kr) a (i * 512 + r)), fun y => max_A m B (by show (4 * i + 0) % 4 = 0; omega) (by show ¬(4 * i + 0) % 4 = 3; omega) y, fun y => ?_⟩
    refine (acc_A m B (by show (4 * i + 0) % 4 = 0; omega) (by show ¬(4 * i + 0) % 4 = 3; omega) y).trans ?_
    rw [show (0 + 1) * 4096 = 4096 by norm_num]
    exact congrArg (fun r : ℝ => (r : EReal)) (acc_one (vx kv) _ _ _)
  | succ j ih =>
    intro h
    obtain ⟨M, hM, hA⟩ := ih (by omega) (by omega)
    have B := blocks m A ⟨4 * i + (j + 1), h⟩
    simp only [show (4 * i + (j + 1)) / 4 = i by omega, show (4 * i + (j + 1)) % 4 = j + 1 by omega] at B
    have h0 : ¬(4 * i + (j + 1)) % 4 = 0 := by omega
    have h1 : ¬(4 * i + (j + 1)) % 4 = 3 := by omega
    refine ⟨fun a r => Cert.MlaFwdModel.top (M a r) fun u => s2 (qIn q) (kIn kv kr) a (i * 512 + r) ((j + 1) * 4096 + u),
      fun y => max_B m B h0 h1 M hM y, fun y => ?_⟩
    refine (acc_B m B h0 h1 M hM
      (fun a b r => acc (vx kv) (s2 (qIn q) (kIn kv kr) a (i * 512 + r)) (M a r) (a * 128 + b) ((j + 1) * 4096)) hA y).trans ?_
    exact congrArg (fun r : ℝ => (r : EReal)) (acc_step (vx kv) (s2 (qIn q) (kIn kv kr) (y 0) (i * 512 + y 2)) _ _ _ (j + 1))

/-- The last point of a row block. -/
theorem last_point (t : Fin cfg0.N) (ht : t.val % 4 = 3) :
    (∀ y, (outsAt0 m c t.val t.isLt).1 y = (out q kv kr (t.val / 4 * 512 + y 0) (y 1 / 64) (y 1 % 64) : EReal)) ∧
    ∀ y, (outsAt0 m c t.val t.isLt).2.1 y = (lIn q kv kr (y 0) (t.val / 4 * 512 + y 2) : EReal) := by
  obtain ⟨M, hM, hA⟩ := carried_sums m A (t.val / 4) 2 (by omega) (by have := t.isLt; omega)
  have e : 4 * (t.val / 4) + 2 = t.val - 1 := by omega
  simp only [e] at hM hA
  have B := blocks m A t
  have h0 : ¬t.val % 4 = 0 := by omega
  have hs : ∀ a b r : ℕ, step (M a r) (acc (vx kv) (s2 (qIn q) (kIn kv kr) a (t.val / 4 * 512 + r)) (M a r) (a * 128 + b) (3 * 4096))
      (fun d b => vx kv d (t.val % 4 * 4096 + b)) (s2 (fun a d => qIn q (t.val / 4 * 512 + a) d) (fun b d => kIn kv kr (t.val % 4 * 4096 + b) d) a r)
      (a * 128 + b) = weighted q kv kr (Cert.MlaFwdModel.top (M a r) (s2 (fun a d => qIn q (t.val / 4 * 512 + a) d)
        (fun b d => kIn kv kr (t.val % 4 * 4096 + b) d) a r)) a (t.val / 4 * 512 + r) b := fun a b r => by
    rw [ht]
    exact acc_step (vx kv) (s2 (qIn q) (kIn kv kr) a (t.val / 4 * 512 + r)) _ _ _ 3
  refine ⟨fun y => ?_, fun y => ?_⟩
  · refine (out_C m B h0 ht M hM (fun a b r => acc (vx kv) (s2 (qIn q) (kIn kv kr) a (t.val / 4 * 512 + r)) (M a r) (a * 128 + b) (3 * 4096))
      hA y ?_).trans ?_
    · rw [hs]; exact (denominator_pos q kv kr _ _ _).ne'
    · rw [hs, hs, quotient_eq q kv kr _ _ _ _ (Nat.mod_lt _ (by norm_num))]
  · refine (lse_C m B h0 ht M hM (fun a b r => acc (vx kv) (s2 (qIn q) (kIn kv kr) a (t.val / 4 * 512 + r)) (M a r) (a * 128 + b) (3 * 4096))
      hA y ?_).trans ?_
    · rw [hs]; exact denominator_pos q kv kr _ _ _
    · rw [hs, constant_eq]

theorem final3 : (dats m 0 c).arrAt 3 cfg0.N = fun i : S16384x512.Idx => (out q kv kr (i 0) (i 1 / 64) (i 1 % 64) : EReal) := by
  refine (dats m 0 c).arrAt_eq_of_covers 3 _ (by decide +kernel) fun t hf y => ?_
  blk_simp [idx t]
  rw [after0_3]
  exact (last_point m A t ((flush0_3 t).mp hf)).1 y

theorem final4 : (dats m 0 c).arrAt 4 cfg0.N = fun i : S8x1x16384.Idx => (lIn q kv kr (i 0) (i 2) : EReal) := by
  refine (dats m 0 c).arrAt_eq_of_covers 4 _ (by decide +kernel) fun t hf y => ?_
  blk_simp [idx t]
  rw [after0_4]
  exact (last_point m A t ((flush0_4 t).mp hf)).2 y

end Cert.MlaFwdIdeal.RefValue

end
-- ==== Proof.MlaFwd.lean ====
/-
  The claims about the forward flash attention.
-/
module

public import proofs.«01_k».proof.Defs
public import proofs.«01_k».proof.Proof.Finite
public import proofs.«01_k».proof.Proof.Gen.Pre_mla_fwd_finite
public import proofs.«01_k».proof.Proof.Gen.MlaFwd.Frame
public import proofs.«01_k».proof.Proof.Gen.MlaFwdRefIdeal.Run
public import proofs.«01_k».proof.Proof.MlaFwd.Ref
public import proofs.«01_k».proof.Proof.MlaFwd.Points

@[expose] public section

set_option maxRecDepth 16384

noncomputable section

open Idealize.ShloMosaic Idealize.ShloMosaic.TcCoe Idealize.SL.Sem Idealize.ShloMosaic.StableHlo

namespace Cert.Proof.MlaFwdClaims

theorem frame : Cert.quiescent_MlaFwd := fun m ρ _ => Cert.MlaFwd.Gen.frame m ρ
theorem frame_ideal : Cert.quiescent_MlaFwdIdeal := fun m ρ _ => Cert.MlaFwdIdeal.Gen.frame m ρ
theorem frame_ideal_pre : Cert.quiescent_MlaFwdIdeal_pre_mla_fwd_finite := fun m ρ _ => Cert.MlaFwdIdeal.Gen.frame m ρ
theorem frame_ref : Cert.quiescent_MlaFwdRefIdeal := fun m ρ _ => by
  refine (θ_run Cert.MlaFwdRefIdeal.defs _ _).mono (fun r h => ⟨fun c => ?_,
    Idealize.ShloMosaic.sem_eq_zero_of_no_sems (by decide) r.2⟩) (Cert.MlaFwdRefIdeal.Value.run (F := Ideal) m ρ)
  exact (h c).2.2
theorem frame_ref_pre : Cert.quiescent_MlaFwdRefIdeal_pre_mla_fwd_finite := fun m ρ _ => frame_ref m ρ trivial
theorem preserves : Cert.preserves_MlaFwd_MlaFwdIdeal := IdealRules.named_const.statement _ _ _ _ _ rfl

/-- Under the precondition the arguments are real functions of their coordinates. -/
theorem args_of_pre {m : (ℓ : Loc Cert.MlaFwdIdeal.nD Cert.MlaFwdIdeal.τ Cert.MlaFwdIdeal.sig) → Buf (Elt Ideal) ℓ}
    (h : Cert.Pre_MlaFwdIdeal_mla_fwd_finite m) (c : Dev Cert.MlaFwdIdeal.nD) :
    ∃ q kv kr, Cert.MlaFwdIdeal.RefValue.Args (fun b => m (c, b)) q kv kr := by
  have e := congrFun (h c) ix0
  dsimp only [Cert.Pre_mla_fwd_finite.fn] at e
  obtain ⟨e, e2⟩ := Cert.Finite.both e
  obtain ⟨e0, e1⟩ := Cert.Finite.both e
  obtain ⟨q, hq⟩ := Cert.Finite.real3_of _ (Cert.Finite.real_of_all _ _ (fun _ => rfl) _ _ _ _ e0)
  obtain ⟨kv, hkv⟩ := Cert.Finite.real3_of _ (Cert.Finite.real_of_all _ _ (fun _ => rfl) _ _ _ _ e1)
  obtain ⟨kr, hkr⟩ := Cert.Finite.real2_of _ (Cert.Finite.real_of_all _ _ (fun _ => rfl) _ _ _ _ e2)
  exact ⟨q, kv, kr, hq, hkv, hkr⟩

open Cert.MlaFwdIdeal.RefValue Cert.MlaFwdIdeal.Gen Cert.MlaFwdRefIdeal in
/-- The attention's output and its row constants, of the kernel and of the reference, agree from finite arguments. -/
theorem algebraic : Cert.algebraic_MlaFwdIdeal_MlaFwdRefIdeal_pre_mla_fwd_finite := by
  intro m g m' g' hpre hagree
  refine ⟨fun c => (dats m 0 c).arrAt 3 Cert.MlaFwdIdeal.cfg0.N, fun c => (dats m 0 c).arrAt 4 Cert.MlaFwdIdeal.cfg0.N,
    Cert.MlaFwdIdeal.Value.run_blocks m g, ?_⟩
  refine (θ_run Cert.MlaFwdRefIdeal.defs _ _).mono (fun r h c => ?_) (Cert.MlaFwdRefIdeal.Value.run m' g')
  obtain ⟨q, kv, kr, A⟩ := args_of_pre hpre c
  obtain ⟨e0, e1, e2⟩ := hagree c
  have h0 := fun i => (congrFun e0 i).trans (A.a0 i)
  have h1 := fun i => (congrFun e1 i).trans (A.a1 i)
  have h2 := fun i => (congrFun e2 i).trans (A.a2 i)
  obtain ⟨r0, r1, ra⟩ := h c
  refine ⟨r0.trans ?_, r1.trans ?_, ra⟩
  · refine (Read.val_main_v78_eq _ _).trans (Eq.trans ?_ (final3 m A).symm)
    exact funext fun i => Cert.MlaFwdRefIdeal.RefValue.v78 q kv kr h0 h1 h2 i
  · refine (Read.val_main_v84_eq _ _).trans (Eq.trans ?_ (final4 m A).symm)
    exact funext fun i => Cert.MlaFwdRefIdeal.RefValue.v84 q kv kr h0 h1 h2 i

end Cert.Proof.MlaFwdClaims

end
-- ==== Proof.RmsCol.Block.lean ====
/-
  The norm's backward kernel on some columns of a wider array: what a grid point stores, of blocks that hold real numbers,
  and the arrays that gives.
-/
module

public import proofs.«01_k».proof.Proof.Norm
public import proofs.«01_k».proof.Proof.Gen.RmsColIdeal.Frame
public import Idealize.ShloMosaic.Lib.Pipeline.ValueKit
public import Idealize.ShloMosaic.Lib.Pipeline.Value
public import Idealize.ShloMosaic.Lib.Claim
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem Idealize.ShloMosaic.StableHlo

namespace Cert.RmsColIdeal.RefValue

open Cert.RmsColIdeal Cert.RmsColIdeal.Gen Cert.MlaModel Cert.Norm

variable (m : (ℓ : Loc nD τ sig) → Buf (Elt Ideal) ℓ) {x dy : ℕ → ℕ → ℝ} {g : ℕ → ℝ} {c : Dev nD}

theorem lit_256 : Ideal.ofBits .f32 0x43800000#32 = ((256 : ℕ) : ℝ) := by
  simp [Ideal.ofBits, Ideal.ieee, -EReal.coe_mul]; norm_num

/-- The arguments hold these numbers. -/
structure Args (x dy : ℕ → ℕ → ℝ) (g : ℕ → ℝ) (c : Dev nD) : Prop where
  a0 : ∀ i, m ((c.tc : Thread nD τ).loc main_arg0) i = (x (i 0) (i 1) : EReal)
  a1 : ∀ i, m ((c.tc : Thread nD τ).loc main_arg1) i = (g (i 0) : EReal)
  a2 : ∀ i, m ((c.tc : Thread nD τ).loc main_arg2) i = (dy (i 0) (i 1) : EReal)

theorem idx : ∀ t : Fin cfg0.N, win0_0.index t = ![t.val, 2] ∧ win0_1.index t = ![0, 0] ∧ win0_2.index t = ![t.val, 0] ∧
    win0_3.index t = ![t.val, 0] ∧ win0_4.index t = ![0, 0] :=
  (by decide +kernel : ∀ t : Fin grid0.N, _)

variable (A : Args m x dy g c)
include A

/-- The normalised columns stand behind 512 others. -/
theorem wide (i : S16384x768.Idx) (a b : ℕ) (ha : (i 0 : ℕ) = a) (hb : (i 1 : ℕ) = 512 + b) : V m c main_v1 i = (x a b : EReal) := by
  after_reads_simp [V, V0, hostOps0]
  pointwise
  rw [dif_neg (by omega)]
  exact real2 x (A.a0 _) ha (show (i 1 : ℕ) - 512 = b by omega)

theorem weight (i : S1x256.Idx) : V m c main_v2 i = (g (i 1) : EReal) := by
  after_reads_simp [V, V0, hostOps0]
  pointwise
  refine real1 g (A.a1 _) ?_
  blk_simp
  try omega

/-- The blocks of grid point `t`: its 512 rows. -/
theorem b0 (t : Fin cfg0.N) (i : S512x256.Idx) : iblk m c 0 t i = (x (t.val * 512 + i 0) (i 1) : EReal) := by
  unfold iblk
  rw [View.read_apply]
  exact wide m A _ _ _ (by blk_simp [idx t]) (by blk_simp [idx t])

theorem b1 (t : Fin cfg0.N) (i : S1x256.Idx) : iblk m c 1 t i = (g (i 1) : EReal) := by
  unfold iblk
  rw [View.read_apply]
  exact (weight m A _).trans (by blk_simp [idx t])

theorem b2 (t : Fin cfg0.N) (i : S512x256.Idx) : iblk m c 2 t i = (dy (t.val * 512 + i 0) (i 1) : EReal) := by
  unfold iblk
  rw [View.read_apply]
  exact (A.a2 _).trans (by blk_simp [idx t])

/-- The gradient by the rows, at the first point and at the later ones. -/
theorem dx_pt (t : Fin cfg0.N) (y : S512x256.Idx) : (outsAt0 m c t.val t.isLt).1 y
    = (dx 256 (x (t.val * 512 + y 0)) (fun k => dy (t.val * 512 + y 0) k * g k) (y 1) : EReal) := by
  have e0 := b0 m A t
  have e1 := b1 m A t
  have e2 := b2 m A t
  have hN : t.val < 32 := t.isLt
  by_cases h : 1 ≤ t.val
  on_goal 1 => rw [outsAt0_B m c t (by omega) h]
  on_goal 2 => rw [outsAt0_A m c t (by omega) h]
  all_goals
    dsimp only
    generalize iblk m c 0 t = x0 at *
    generalize iblk m c 1 t = x1 at *
    generalize iblk m c 2 t = x2 at *
    frame_out
    clear h
    open_payloads; pointwise
    rw [lit_256, lit_eps]
    exact dx_coe (rs_coe (fun k => e0 _) (by norm_num)) (fun j => e0 _) (fun j => mul_eq_coe (e2 _) (e1 _)) (e0 _)
      (mul_eq_coe (e2 _) (e1 _)) (by norm_num)

/-- One row's part of the weight's gradient, and its sum over the first `n` rows. -/
def dgRow (x dy : ℕ → ℕ → ℝ) (k r : ℕ) : ℝ := dy r k * (x r k * rs 256 (x r))
def dgSum (x dy : ℕ → ℕ → ℝ) (n k : ℕ) : ℝ := ∑ r ∈ Finset.range n, dgRow x dy k r

omit A in
theorem dgSum_fin (x dy : ℕ → ℕ → ℝ) (n k : ℕ) : dgSum x dy n k = ∑ r : Fin n, dgRow x dy k r :=
  (Fin.sum_univ_eq_sum_range (dgRow x dy k) n).symm

omit A in
/-- A tile's rows come behind those before it. -/
theorem dgSum_add (x dy : ℕ → ℕ → ℝ) (i k : ℕ) :
    dgSum x dy (i * 512) k + ∑ r : Fin 512, dgRow x dy k (i * 512 + r) = dgSum x dy ((i + 1) * 512) k := by
  rw [Fin.sum_univ_eq_sum_range (fun r => dgRow x dy k (i * 512 + r)) 512, dgSum, dgSum, add_mul, one_mul, Finset.sum_range_add]

theorem dg_first (t : Fin cfg0.N) (h : ¬1 ≤ t.val) (y : S1x256.Idx) :
    (outsAt0 m c t.val t.isLt).2 y = ((∑ r : Fin 512, dgRow x dy (y 1) (t.val * 512 + r) : ℝ) : EReal) := by
  have e0 := b0 m A t
  have e2 := b2 m A t
  rw [outsAt0_A m c t (by omega) h]
  dsimp only
  generalize iblk m c 0 t = x0 at *
  generalize iblk m c 1 t = x1 at *
  generalize iblk m c 2 t = x2 at *
  frame_out
  clear h
  open_payloads; pointwise
  rw [lit_256, lit_eps]
  exact sum_eq_coe fun k => mul_eq_coe (e2 _) (mul_eq_coe (e0 _) (rs_coe (fun k => e0 _) (by norm_num)))

theorem dg_later (t : Fin cfg0.N) (h : 1 ≤ t.val) (p : ℕ → ℝ)
    (hp : ∀ i, (outsAt0 m c (t.val - 1) (Nat.lt_of_le_of_lt (Nat.sub_le _ _) t.isLt)).2 i = (p (i 1) : EReal)) (y : S1x256.Idx) :
    (outsAt0 m c t.val t.isLt).2 y = ((p (y 1) + ∑ r : Fin 512, dgRow x dy (y 1) (t.val * 512 + r) : ℝ) : EReal) := by
  have e0 := b0 m A t
  have e2 := b2 m A t
  have hN : t.val < 32 := t.isLt
  rw [outsAt0_B m c t (by omega) h]
  dsimp only
  generalize iblk m c 0 t = x0 at *
  generalize iblk m c 1 t = x1 at *
  generalize iblk m c 2 t = x2 at *
  frame_out
  clear h
  open_payloads; pointwise
  rw [lit_256, lit_eps]
  exact add_eq_coe (hp _) (sum_eq_coe fun k => mul_eq_coe (e2 _) (mul_eq_coe (e0 _) (rs_coe (fun k => e0 _) (by norm_num))))

theorem dg_acc (n : ℕ) : ∀ (h : n < cfg0.N) (y : S1x256.Idx),
    (outsAt0 m c n h).2 y = (dgSum x dy ((n + 1) * 512) (y 1) : EReal) := by
  induction n with
  | zero =>
    intro h y
    rw [dg_first m A ⟨0, h⟩ (by simp) y, ← dgSum_add]
    simp [dgSum]
  | succ n ih =>
    intro h y
    rw [dg_later m A ⟨n + 1, h⟩ (by simp) (fun k => dgSum x dy ((n + 1) * 512) k) (fun i => ih _ i) y, dgSum_add]

theorem final3 : (dats m 0 c).arrAt 3 cfg0.N = fun i : S16384x256.Idx =>
    (dx 256 (x (i 0)) (fun k => dy (i 0) k * g k) (i 1) : EReal) := by
  refine (dats m 0 c).arrAt_eq_of_covers 3 _ (by decide +kernel) fun t hf y => ?_
  blk_simp [idx t]
  rw [after0_3]
  exact dx_pt m A t y

theorem final4 : (dats m 0 c).arrAt 4 cfg0.N = fun i : S1x256.Idx => (dgSum x dy 16384 (i 1) : EReal) := by
  refine (dats m 0 c).arrAt_eq_of_covers 4 _ (by decide +kernel) fun t hf y => ?_
  have h1 : t.val % 32 = 31 := (flush0_4 t).mp hf
  have hN : t.val < 32 := t.isLt
  blk_simp [idx t]
  rw [after0_4]
  refine (dg_acc m A _ _ y).trans ?_
  rw [show t.val = 31 by omega]

/-- The weight's gradient after the host's reshape. -/
theorem tail (i : S256.Idx) : Pipeline.afterTail₀ cfgs (dats m) 0 (V0 m) [hostOps1] c main_v4 i = (dgSum x dy 16384 (i 0) : EReal) := by
  have e : Pipeline.withArrays spec0 c (V0 m c) (fun w => (dats m 0 c).arrAt w cfg0.N) (Proc.devRef .tc main_v3_1)
      = (dats m 0 c).arrAt 4 cfg0.N :=
    Pipeline.withArrays_arr spec0 launch0.win.arr_inj c (V0 m c) (fun w => (dats m 0 c).arrAt w cfg0.N) 4
  rw [final4 m A] at e
  generalize dgSum x dy 16384 = D at *
  show StableHlo.after hostOps1 (Pipeline.withArrays spec0 c (V0 m c) (fun w => (dats m 0 c).arrAt w cfg0.N)) (Proc.devRef .tc main_v4) i = _
  generalize Pipeline.withArrays spec0 c (V0 m c) (fun w => (dats m 0 c).arrAt w cfg0.N) = W at *
  after_results_simp
  simp only [e]
  pointwise

end Cert.RmsColIdeal.RefValue

end
-- ==== Proof.RmsCol.Ref.lean ====
/-
  What the narrow norm's reference gradient computes, of real arguments.
-/
module

public import proofs.«01_k».proof.Proof.RmsCol.Block
public import proofs.«01_k».proof.Proof.Gen.RmsColRefIdeal.Read
public import Idealize.ShloMosaic.Lib.Pointwise

@[expose] public section

set_option maxRecDepth 16384

noncomputable section

open Idealize.ShloMosaic Idealize.ShloMosaic.TcCoe Idealize.SL.Sem

namespace Cert.RmsColRefIdeal.RefValue

open Cert.RmsColRefIdeal Cert.RmsColRefIdeal.Gen Cert.RmsColRefIdeal.Read Cert.MlaModel Cert.Norm
open Cert.RmsColIdeal.RefValue (lit_256 dgRow)

variable {x dy : ℕ → ℕ → ℝ} {g : ℕ → ℝ}
  {x0 : (⟨S16384x256, .f32⟩ : BufTy).Contents (Elt Ideal)} {x1 : (⟨S256, .f32⟩ : BufTy).Contents (Elt Ideal)}
  {x2 : (⟨S16384x256, .f32⟩ : BufTy).Contents (Elt Ideal)}
  (h0 : ∀ i, x0 i = (x (i 0) (i 1) : EReal)) (h1 : ∀ i, x1 i = (g (i 0) : EReal)) (h2 : ∀ i, x2 i = (dy (i 0) (i 1) : EReal))

include h0 in
theorem v6 (i : S16384x1.Idx) : val_main_v6 (F := Ideal) x0 i = (ms 256 (x (i 0)) : EReal) := by
  simp only [val_main_v6, val_main_v5, val_main_v4, val_main_v3, val_main_v2, val_main_v1, val_main_v0, val_main_cst,
    val_main_cst_0, val_main_cst_1]
  pointwise
  rw [lit_256, lit_eps]
  exact ms_coe (fun k => h0 _) (by norm_num)

include h0 in
theorem v7 (i : S16384x1.Idx) : val_main_v7 (F := Ideal) x0 i = (rs 256 (x (i 0)) : EReal) := by
  rw [val_main_v7_apply, v6 h0]
  exact rsqrt_ms _ _

include h1 h2 in
theorem v20 (i : S16384x256.Idx) : val_main_v20 (F := Ideal) x1 x2 i = ((dy (i 0) (i 1) * g (i 1) : ℝ) : EReal) := by
  simp only [val_main_v20, val_main_v19, val_main_v13]
  pointwise
  exact mul_eq_coe (h2 _) (h1 _)

include h0 h1 h2 in
theorem v29 (i : S16384x1.Idx) : val_main_v29 (F := Ideal) x0 x1 x2 i
    = (slope 256 (x (i 0)) (fun k => dy (i 0) k * g k) : EReal) := by
  simp only [val_main_v29, val_main_v28, val_main_v27, val_main_v24, val_main_v23, val_main_v22, val_main_v10, val_main_v9, val_main_v8,
    val_main_cst_2, val_main_cst_5, val_main_cst_6]
  pointwise
  rw [lit_256, lit_neg_half]
  unfold Norm.slope
  exact div_eq_coe (mul_eq_coe (sum_eq_coe fun k : Fin 256 => mul_eq_coe (h0 _) (v20 h1 h2 _))
    (mul_eq_coe rfl (div_eq_coe (v7 h0 _) (v6 h0 _) (ms_pos _ _).ne'))) rfl (by norm_num)

include h0 h1 h2 in
/-- The gradient by the row. -/
theorem v36 (i : S16384x256.Idx) : val_main_v36 (F := Ideal) x0 x1 x2 i
    = (dx 256 (x (i 0)) (fun k => dy (i 0) k * g k) (i 1) : EReal) := by
  rw [← slope_dx]
  simp only [val_main_v36, val_main_v35, val_main_v34, val_main_v33, val_main_v32, val_main_v31, val_main_v30, val_main_v26,
    val_main_v25, val_main_cst_7]
  pointwise
  have s : ∀ j : S16384x1.Idx, (j 0 : ℕ) = i 0 → val_main_v29 (F := Ideal) x0 x1 x2 j
      = (slope 256 (x (i 0)) (fun k => dy (i 0) k * g k) : EReal) := fun j hj => by rw [v29 h0 h1 h2, hj]
  refine add_eq_coe (add_eq_coe (mul_eq_coe (v20 h1 h2 _) (v7 h0 _)) (mul_eq_coe (h0 _) ((Fin.sum_univ_one _).trans (s _ rfl))))
    (mul_eq_coe ((Fin.sum_univ_one _).trans (s _ rfl)) (h0 _))

include h0 h2 in
/-- The gradient by the weight. -/
theorem v21 (i : S256.Idx) : val_main_v21 (F := Ideal) x0 x2 i = ((∑ r : Fin 16384, dgRow x dy (i 0) r : ℝ) : EReal) := by
  simp only [val_main_v21, val_main_v18, val_main_v17, val_main_v16, val_main_v12, val_main_v11, val_main_cst_3, val_main_cst_4]
  pointwise
  refine (Fin.sum_univ_one _).trans (sum_eq_coe fun k => ?_)
  rw [dgRow, mul_comm (dy _ _)]
  exact mul_eq_coe (mul_eq_coe (h0 _) (v7 h0 _)) (h2 _)

end Cert.RmsColRefIdeal.RefValue

end
-- ==== Proof.RmsCol.lean ====
/-
  The claims about the gradient of a norm of some columns of a wider array.
-/
module

public import proofs.«01_k».proof.Defs
public import proofs.«01_k».proof.Proof.Finite
public import proofs.«01_k».proof.Proof.Gen.Pre_rms_col_finite
public import proofs.«01_k».proof.Proof.Gen.RmsCol.Frame
public import proofs.«01_k».proof.Proof.Gen.RmsColRefIdeal.Run
public import proofs.«01_k».proof.Proof.RmsCol.Ref
public import proofs.«01_k».proof.Proof.RmsCol.Block

@[expose] public section

set_option maxRecDepth 16384

noncomputable section

open Idealize.ShloMosaic Idealize.ShloMosaic.TcCoe Idealize.SL.Sem Idealize.ShloMosaic.StableHlo

namespace Cert.Proof.RmsColClaims

theorem frame : Cert.quiescent_RmsCol := fun m ρ _ => Cert.RmsCol.Gen.frame m ρ
theorem frame_ideal : Cert.quiescent_RmsColIdeal := fun m ρ _ => Cert.RmsColIdeal.Gen.frame m ρ
theorem frame_ideal_pre : Cert.quiescent_RmsColIdeal_pre_rms_col_finite := fun m ρ _ => Cert.RmsColIdeal.Gen.frame m ρ
theorem frame_ref : Cert.quiescent_RmsColRefIdeal := fun m ρ _ => by
  refine (θ_run Cert.RmsColRefIdeal.defs _ _).mono (fun r h => ⟨fun c => ?_,
    Idealize.ShloMosaic.sem_eq_zero_of_no_sems (by decide) r.2⟩) (Cert.RmsColRefIdeal.Value.run (F := Ideal) m ρ)
  exact (h c).2.2
theorem frame_ref_pre : Cert.quiescent_RmsColRefIdeal_pre_rms_col_finite := fun m ρ _ => frame_ref m ρ trivial
theorem preserves : Cert.preserves_RmsCol_RmsColIdeal := trivial

/-- Under the precondition the arguments are real functions of their coordinates. -/
theorem args_of_pre {m : (ℓ : Loc Cert.RmsColIdeal.nD Cert.RmsColIdeal.τ Cert.RmsColIdeal.sig) → Buf (Elt Ideal) ℓ}
    (h : Cert.Pre_RmsColIdeal_rms_col_finite m) (c : Dev Cert.RmsColIdeal.nD) : ∃ x dy g, Cert.RmsColIdeal.RefValue.Args m x dy g c := by
  have e := congrFun (h c) ix0
  dsimp only [Cert.Pre_rms_col_finite.fn] at e
  obtain ⟨e, e2⟩ := Cert.Finite.both e
  obtain ⟨e0, e1⟩ := Cert.Finite.both e
  obtain ⟨x, hx⟩ := Cert.Finite.real2_of _ (Cert.Finite.real_of_all _ _ (fun _ => rfl) _ _ _ _ e0)
  obtain ⟨g, hg⟩ := Cert.Finite.real1_of _ (Cert.Finite.real_of_all _ _ (fun _ => rfl) _ _ _ _ e1)
  obtain ⟨dy, hdy⟩ := Cert.Finite.real2_of _ (Cert.Finite.real_of_all _ _ (fun _ => rfl) _ _ _ _ e2)
  exact ⟨x, dy, g, hx, hg, hdy⟩

open Cert.RmsColIdeal.RefValue Cert.RmsColIdeal.Gen in
/-- Both gradients of the kernel and of the reference agree, from finite arguments. -/
theorem algebraic : Cert.algebraic_RmsColIdeal_RmsColRefIdeal_pre_rms_col_finite := by
  intro m g m' g' hpre hagree
  refine ⟨fun c => (dats m 0 c).arrAt 3 Cert.RmsColIdeal.cfg0.N,
    fun c => Pipeline.afterTail₀ Cert.RmsColIdeal.cfgs (dats m) 0 (V0 m) [hostOps1] c Cert.RmsColIdeal.main_v4, ?_, ?_⟩
  · exact (θ_run Cert.RmsColIdeal.defs _ _).mono (fun r h c => ⟨(h.1 c).1 3,
      (h.1 c).2 Cert.RmsColIdeal.main_v4 (Pipeline.mem_restRefs_of Cert.RmsColIdeal.main_v4 (by decide) (by decide)),
      h.2 c⟩) (θ_run_and (run_main m g) (unchanged m g))
  · refine (θ_run Cert.RmsColRefIdeal.defs _ _).mono (fun r h c => ?_) (Cert.RmsColRefIdeal.Value.run m' g')
    obtain ⟨x, dy, w, A⟩ := args_of_pre hpre c
    obtain ⟨e0, e1, e2⟩ := hagree c
    have h0 : ∀ i, m' ((c.tc : Thread Cert.RmsColRefIdeal.nD Cert.RmsColRefIdeal.τ).loc Cert.RmsColRefIdeal.main_arg0) i = (x (i 0) (i 1) : EReal) :=
      fun i => (congrFun e0 i).trans (A.a0 i)
    have h1 : ∀ i, m' ((c.tc : Thread Cert.RmsColRefIdeal.nD Cert.RmsColRefIdeal.τ).loc Cert.RmsColRefIdeal.main_arg1) i = (w (i 0) : EReal) :=
      fun i => (congrFun e1 i).trans (A.a1 i)
    have h2 : ∀ i, m' ((c.tc : Thread Cert.RmsColRefIdeal.nD Cert.RmsColRefIdeal.τ).loc Cert.RmsColRefIdeal.main_arg2) i = (dy (i 0) (i 1) : EReal) :=
      fun i => (congrFun e2 i).trans (A.a2 i)
    obtain ⟨r0, r1, ra⟩ := h c
    refine ⟨r0.trans ?_, r1.trans ?_, ra⟩
    · rw [Cert.RmsColRefIdeal.Read.val_main_v36_eq]
      refine Eq.trans ?_ (final3 m A).symm
      exact funext fun i => (Cert.RmsColRefIdeal.RefValue.v36 h0 h1 h2 i)
    · rw [Cert.RmsColRefIdeal.Read.val_main_v21_eq]
      exact funext fun i => (Cert.RmsColRefIdeal.RefValue.v21 h0 h2 i).trans ((tail m A i).trans (congrArg _ (dgSum_fin x dy 16384 _))).symm

end Cert.Proof.RmsColClaims

end
-- ==== Proof.Swa.lean ====
/-
  The claims about the backward call of the attention over a sliding window: it leaves its arguments as they were and every counter
  at zero, and the idealized program differs from it in nothing but the reading of its numbers.
-/
module

public import proofs.«01_k».proof.Defs
public import proofs.«01_k».proof.Proof.Gen.Swa.Frame
public import proofs.«01_k».proof.Proof.Gen.SwaIdeal.Frame

@[expose] public section

noncomputable section

open Idealize.ShloMosaic Idealize.ShloMosaic.TcCoe Idealize.SL.Sem

namespace Cert.Proof.SwaClaims

theorem frame : Cert.quiescent_Swa := fun m ρ _ => Cert.Swa.Gen.frame m ρ
theorem frame_ideal : Cert.quiescent_SwaIdeal := fun m ρ _ => Cert.SwaIdeal.Gen.frame m ρ
theorem preserves : Cert.preserves_Swa_SwaIdeal := trivial

end Cert.Proof.SwaClaims

end
-- ==== Proof.Band.lean ====
/-
  The window's keys and values, backward: a key of block `n` was read by the queries of the blocks `n - 1`, `n` and `n + 1`,
  so its gradient is the sum of three rows of the per-block gradients. The kernel adds the three rows, the first multiplied by zero
  in the first block and the last in the last block; the derivative of the overlapping blocks pads the three parts with zeros and
  adds them. Both are the same sum over the extended reals, whatever the arguments.
-/
module

public import proofs.«01_k».proof.Defs
public import proofs.«01_k».proof.Proof.Gen.Band.Frame
public import proofs.«01_k».proof.Proof.Gen.BandIdeal.Frame
public import proofs.«01_k».proof.Proof.Gen.BandRefIdeal.Run
public import proofs.«01_k».proof.Proof.Gen.BandRefIdeal.Read
public import Idealize.ShloMosaic.Lib.Pipeline.ValueKit
public import Idealize.ShloMosaic.Lib.Pipeline.Value
public import Idealize.ShloMosaic.Lib.KernelVsHost
public import Idealize.ShloMosaic.Lib.Quiescent
public import Idealize.ShloMosaic.Lib.Claim
public import Idealize.ShloMosaic.Lib.Pointwise

@[expose] public section

set_option maxRecDepth 16384

noncomputable section

open Idealize.ShloMosaic Idealize.ShloMosaic.TcCoe Idealize.SL.Sem Idealize.ShloMosaic.StableHlo

namespace Cert.BandModel

/-- The gradient at row `R` and column `e`, of the per-block gradients `xs` (block, place in its three blocks, column). -/
def band (xs : ℕ → ℕ → ℕ → EReal) (R e : ℕ) : EReal :=
  (if 128 ≤ R then xs (R / 128 - 1) (256 + R % 128) e else 0) + xs (R / 128) (128 + R % 128) e
    + (if R < 16256 then xs (R / 128 + 1) (R % 128) e else 0)

/-- The sum of the three rows, the first and the last with a factor that is zero at the ends of the sequence. -/
theorem band_eq (xs : ℕ → ℕ → ℕ → EReal) {t r R e : ℕ} (ht : t < 128) (hr : r < 128) (hR : R = 128 * t + r) {a b d lo hi : EReal}
    (ea : a = xs (t - 1) (256 + r) e) (eb : b = xs t (128 + r) e) (ed : d = xs (min (t + 1) 127) r e)
    (el : lo = if 0 < t then 1 else 0) (eh : hi = if t < 127 then 1 else 0) : a * lo + b + d * hi = band xs R e := by
  have h1 : R / 128 = t := by omega
  have h2 : R % 128 = r := by omega
  unfold band
  rw [h1, h2, el, eh, ea, eb, ed]
  congr 1
  · congr 1
    by_cases h : 0 < t
    · rw [if_pos h, if_pos (by omega), mul_one]
    · rw [if_neg h, if_neg (by omega), mul_zero]
  · by_cases h : t < 127
    · rw [if_pos h, if_pos (by omega), mul_one, Nat.min_eq_left (by omega)]
    · rw [if_neg h, if_neg (by omega), mul_zero]

/-- An array of per-block gradients as numbers of block, place and column. -/
def cells (x : (⟨5, ![1, 128, 384, 2, 64]⟩ : Shape).Idx → EReal) (n r e : ℕ) : EReal :=
  if h : n < 128 ∧ r < 384 ∧ e < 128 then
    x (ix5 (0 : Fin 1) (⟨n, h.1⟩ : Fin 128) (⟨r, h.2.1⟩ : Fin 384) (⟨e / 64, by omega⟩ : Fin 2) (⟨e % 64, by omega⟩ : Fin 64))
  else 0

theorem cells_eq (x : (⟨5, ![1, 128, 384, 2, 64]⟩ : Shape).Idx → EReal) (i : (⟨5, ![1, 128, 384, 2, 64]⟩ : Shape).Idx) :
    x i = cells x (i 1) (i 2) (64 * (i 3 : ℕ) + (i 4 : ℕ)) := by
  have h0 : (i 0 : ℕ) < 1 := (i 0).isLt
  have h1 : (i 1 : ℕ) < 128 := (i 1).isLt
  have h2 : (i 2 : ℕ) < 384 := (i 2).isLt
  have h3 : (i 3 : ℕ) < 2 := (i 3).isLt
  have h4 : (i 4 : ℕ) < 64 := (i 4).isLt
  unfold cells
  rw [dif_pos ⟨h1, h2, by omega⟩]
  congr 1
  idx_ext <;> omega

end Cert.BandModel

namespace Cert.BandRefIdeal.RefValue

open Cert.BandRefIdeal Cert.BandRefIdeal.Gen Cert.BandRefIdeal.Read Cert.BandModel

variable (x : (⟨S1x128x384x2x64, .f32⟩ : BufTy).Contents (Elt Ideal)) (xs : ℕ → ℕ → ℕ → EReal)
  (ex : ∀ i, x i = xs (i 1) (i 2) (64 * (i 3 : ℕ) + (i 4 : ℕ)))
include ex in

theorem after_apply (j : S1x130x128x2x64.Idx) : val_main_v26 (F := Ideal) x j
    = if 2 ≤ (j 1 : ℕ) then xs ((j 1 : ℕ) - 2) (256 + (j 2 : ℕ)) (64 * (j 3 : ℕ) + (j 4 : ℕ)) else 0 := by
  have h0 : (j 0 : ℕ) < 1 := (j 0).isLt
  have h1 : (j 1 : ℕ) < 130 := (j 1).isLt
  unfold val_main_v26
  split_ifs with h
  · refine (pad_apply_of_inside _ _ _ _ _ _ _ j (ix5 (j 0) (⟨(j 1 : ℕ) - 2, by omega⟩ : Fin 128) (j 2) (j 3) (j 4)) fun a => ?_).trans
      ((val_main_v25_apply x _).trans (ex _))
    fin_cases a <;> simp [ix5] <;> omega
  · exact (pad_apply_of_not_inside _ _ _ _ _ _ _ j 1 (by simp; omega)).trans (Ideal.ofBits_zero .f32)

include ex in
theorem here_apply (j : S1x130x128x2x64.Idx) : val_main_v27 (F := Ideal) x j
    = if 1 ≤ (j 1 : ℕ) ∧ (j 1 : ℕ) < 129 then xs ((j 1 : ℕ) - 1) (128 + (j 2 : ℕ)) (64 * (j 3 : ℕ) + (j 4 : ℕ)) else 0 := by
  have h0 : (j 0 : ℕ) < 1 := (j 0).isLt
  have h1 : (j 1 : ℕ) < 130 := (j 1).isLt
  unfold val_main_v27
  split_ifs with h
  · refine (pad_apply_of_inside _ _ _ _ _ _ _ j (ix5 (j 0) (⟨(j 1 : ℕ) - 1, by omega⟩ : Fin 128) (j 2) (j 3) (j 4)) fun a => ?_).trans
      ((val_main_v24_apply x _).trans (ex _))
    fin_cases a <;> simp [ix5] <;> omega
  · exact (pad_apply_of_not_inside _ _ _ _ _ _ _ j 1 (by simp; omega)).trans (Ideal.ofBits_zero .f32)

include ex in
theorem before_apply (j : S1x130x128x2x64.Idx) : val_main_v29 (F := Ideal) x j
    = if (j 1 : ℕ) < 128 then xs (j 1) (j 2) (64 * (j 3 : ℕ) + (j 4 : ℕ)) else 0 := by
  have h0 : (j 0 : ℕ) < 1 := (j 0).isLt
  have h1 : (j 1 : ℕ) < 130 := (j 1).isLt
  unfold val_main_v29
  split_ifs with h
  · refine (pad_apply_of_inside _ _ _ _ _ _ _ j (ix5 (j 0) (⟨(j 1 : ℕ), by omega⟩ : Fin 128) (j 2) (j 3) (j 4)) fun a => ?_).trans
      ((val_main_v23_apply x _).trans (ex _))
    fin_cases a <;> simp [ix5]
  · exact (pad_apply_of_not_inside _ _ _ _ _ _ _ j 1 (by simp; omega)).trans (Ideal.ofBits_zero .f32)

include ex in
/-- The derivative of the overlapping blocks: each row's three parts, those outside the sequence zero. -/
theorem band_apply (i : S16384x128.Idx) : val_main_v35 (F := Ideal) x i = band xs (i 0) (i 1) := by
  have h0 : (i 0 : ℕ) < 16384 := (i 0).isLt
  have h1 : (i 1 : ℕ) < 128 := (i 1).isLt
  have e1 : (idx_main_v31 (idx_main_v33 (idx_main_v35 i)) 1 : ℕ) = (i 0 : ℕ) / 128 + 1 := by dsimp only; omega
  have e2 : (idx_main_v31 (idx_main_v33 (idx_main_v35 i)) 2 : ℕ) = (i 0 : ℕ) % 128 := by dsimp only; omega
  have e3 : 64 * (idx_main_v31 (idx_main_v33 (idx_main_v35 i)) 3 : ℕ) + (idx_main_v31 (idx_main_v33 (idx_main_v35 i)) 4 : ℕ) = i 1 := by
    dsimp only; omega
  rw [val_main_v35_apply, val_main_v33_apply, val_main_v31_apply, val_main_v30_apply, val_main_v28_apply,
    after_apply x xs ex, here_apply x xs ex, before_apply x xs ex, e1, e2, e3, Nat.add_sub_cancel,
    if_pos (by omega : 1 ≤ (i 0 : ℕ) / 128 + 1 ∧ (i 0 : ℕ) / 128 + 1 < 129)]
  show _ + _ + _ = _
  unfold band
  congr 1
  · congr 1
    exact if_congr (by omega) (by congr 1) rfl
  · exact if_congr (by omega) rfl rfl

/-- The gradient of queries, keys and values side by side. -/
theorem grads_apply (q : (⟨S16384x512, .f32⟩ : BufTy).Contents (Elt Ideal)) (k v : (⟨S1x128x384x2x64, .f32⟩ : BufTy).Contents (Elt Ideal))
    (ks vs : ℕ → ℕ → ℕ → EReal) (ek : ∀ i, k i = ks (i 1) (i 2) (64 * (i 3 : ℕ) + (i 4 : ℕ)))
    (ev : ∀ i, v i = vs (i 1) (i 2) (64 * (i 3 : ℕ) + (i 4 : ℕ))) (i : S16384x768.Idx) :
    ((i 1 : ℕ) < 512 → ∀ j : S16384x512.Idx, (j 0 : ℕ) = i 0 → (j 1 : ℕ) = i 1 → val_main_v50 (F := Ideal) q k v i = q j)
    ∧ (512 ≤ (i 1 : ℕ) → (i 1 : ℕ) < 640 → val_main_v50 (F := Ideal) q k v i = band ks (i 0) ((i 1 : ℕ) - 512))
    ∧ (640 ≤ (i 1 : ℕ) → val_main_v50 (F := Ideal) q k v i = band vs (i 0) ((i 1 : ℕ) - 640)) := by
  have h0 : (i 0 : ℕ) < 16384 := (i 0).isLt
  have h1 : (i 1 : ℕ) < 768 := (i 1).isLt
  refine ⟨fun h j j0 j1 => ?_, fun h h' => ?_, fun h => ?_⟩ <;> rw [val_main_v50_apply] <;> unfold val_main_v49 <;> pointwise
  · rw [dif_pos h]
    exact congrArg q (by idx_ext)
  · rw [dif_neg (by omega), dif_pos (by omega)]
    exact band_apply k ks ek _
  · rw [dif_neg (by omega), dif_neg (by omega)]
    exact (band_apply v vs ev _).trans (by congr 1)

end Cert.BandRefIdeal.RefValue

namespace Cert.BandIdeal.RefValue

open Cert.BandIdeal Cert.BandIdeal.Gen Cert.BandModel

variable (m : (ℓ : Loc nD τ sig) → Buf (Elt Ideal) ℓ) (ρ : Dev nD → PrngReg)

theorem idx : ∀ t : Fin cfg0.N, win0_0.index t = ![t.val, 0] ∧ win0_1.index t = ![t.val - 1, 2, 0] ∧ win0_2.index t = ![t.val, 1, 0]
    ∧ win0_3.index t = ![min (t.val + 1) 127, 0, 0] ∧ win0_4.index t = ![t.val - 1, 2, 0] ∧ win0_5.index t = ![t.val, 1, 0]
    ∧ win0_6.index t = ![min (t.val + 1) 127, 0, 0] ∧ win0_7.index t = ![t.val, 0] :=
  (by decide +kernel : ∀ t : Fin grid0.N, _)

/-- The first block has none before it, the last none after it. -/
theorem edges : ∀ t : Fin cfg0.N,
    Scalar.extui (Scalar.cmpi .sgt (BitVec.ofNat 32 (grid0.coords t 0).val) 0#32) = (if 0 < t.val then 1#32 else 0#32) ∧
    Scalar.extui (Scalar.cmpi .slt (BitVec.ofNat 32 (grid0.coords t 0).val) 127#32) = (if t.val < 127 then 1#32 else 0#32) :=
  (by decide +kernel : ∀ t : Fin grid0.N, _)

theorem lo_eq (t : Fin cfg0.N) : k0_pay2 (F := Ideal) (grid0.coords t) = if 0 < t.val then 1 else 0 := by
  unfold k0_pay2
  dsimp only
  rw [(edges t).1]
  split_ifs
  · show (((1#32 : BitVec 32).toInt : ℝ) : EReal) = 1
    norm_num
  · show (((0#32 : BitVec 32).toInt : ℝ) : EReal) = 0
    norm_num

theorem hi_eq (t : Fin cfg0.N) : k0_pay3 (F := Ideal) (grid0.coords t) = if t.val < 127 then 1 else 0 := by
  unfold k0_pay3
  dsimp only
  rw [(edges t).2]
  split_ifs
  · show (((1#32 : BitVec 32).toInt : ℝ) : EReal) = 1
    norm_num
  · show (((0#32 : BitVec 32).toInt : ℝ) : EReal) = 0
    norm_num

variable (c : Dev nD)

theorem key_eq (i : S128x384x128.Idx) : V m c main_v1 i = cells (m ((c : Thread nD τ).loc main_arg1)) (i 0) (i 1) (i 2) := by
  have h2 : (i 2 : ℕ) < 128 := (i 2).isLt
  entry_read
  pointwise
  refine (cells_eq _ _).trans (congrArg (cells _ _ _) ?_)
  show 64 * ((i 2 : ℕ) / 64) + (i 2 : ℕ) % 64 = _
  omega

theorem value_eq (i : S128x384x128.Idx) : V m c main_v2 i = cells (m ((c : Thread nD τ).loc main_arg2)) (i 0) (i 1) (i 2) := by
  have h2 : (i 2 : ℕ) < 128 := (i 2).isLt
  entry_read
  pointwise
  refine (cells_eq _ _).trans (congrArg (cells _ _ _) ?_)
  show 64 * ((i 2 : ℕ) / 64) + (i 2 : ℕ) % 64 = _
  omega

/-- The three rows that grid point `t` reads, of the keys' gradients and of the values'. -/
theorem rows (t : Fin cfg0.N) (z : S1x128x128.Idx) :
    (iblk m c 1 t z = cells (m ((c : Thread nD τ).loc main_arg1)) (t.val - 1) (256 + (z 1 : ℕ)) (z 2)
    ∧ iblk m c 2 t z = cells (m ((c : Thread nD τ).loc main_arg1)) t.val (128 + (z 1 : ℕ)) (z 2)
    ∧ iblk m c 3 t z = cells (m ((c : Thread nD τ).loc main_arg1)) (min (t.val + 1) 127) (z 1) (z 2))
    ∧ iblk m c 4 t z = cells (m ((c : Thread nD τ).loc main_arg2)) (t.val - 1) (256 + (z 1 : ℕ)) (z 2)
    ∧ iblk m c 5 t z = cells (m ((c : Thread nD τ).loc main_arg2)) t.val (128 + (z 1 : ℕ)) (z 2)
    ∧ iblk m c 6 t z = cells (m ((c : Thread nD τ).loc main_arg2)) (min (t.val + 1) 127) (z 1) (z 2) := by
  have hz : (z 0 : ℕ) < 1 := (z 0).isLt
  refine ⟨⟨?_, ?_, ?_⟩, ?_, ?_, ?_⟩ <;>
    refine (by first | exact key_eq m c _ | exact value_eq m c _ : _ = cells _ _ _ _).trans ?_ <;>
    congr 1 <;> blk_simp [idx t] <;> omega

/-- The query's block. -/
theorem query (t : Fin cfg0.N) (z : S128x512.Idx) (j : S16384x512.Idx) (h0 : (j 0 : ℕ) = 128 * t.val + (z 0 : ℕ)) (h1 : (j 1 : ℕ) = z 1) :
    iblk m c 0 t z = m ((c : Thread nD τ).loc main_arg0) j := by
  blk_point [iblk, V, idx t]

/-- The kernel's output is the reference's. -/
theorem final7 : (dats m 0 c).arrAt 7 cfg0.N = Cert.BandRefIdeal.Read.val_main_v50 (F := Ideal)
    (m ((c : Thread nD τ).loc main_arg0)) (m ((c : Thread nD τ).loc main_arg1)) (m ((c : Thread nD τ).loc main_arg2)) := by
  refine (dats m 0 c).arrAt_eq_of_covers 7 _ (by decide +kernel) fun t hf y => ?_
  have ht : t.val < 128 := t.isLt
  have hy0 : (y 0 : ℕ) < 128 := (y 0).isLt
  have hy1 : (y 1 : ℕ) < 768 := (y 1).isLt
  have hr := rows m c t
  have hq := query m c t
  have hl := lo_eq t
  have hh := hi_eq t
  have e0 : (((cfg0.win 7).blk t).view.emb y 0 : ℕ) = 128 * t.val + (y 0 : ℕ) := by blk_simp [idx t]; omega
  have e1 : (((cfg0.win 7).blk t).view.emb y 1 : ℕ) = (y 1 : ℕ) := by blk_simp [idx t]
  blk_simp
  rw [after0_7]
  unfold outsAt0
  generalize iblk m c 0 t = x0 at *
  generalize iblk m c 1 t = x1 at *
  generalize iblk m c 2 t = x2 at *
  generalize iblk m c 3 t = x3 at *
  generalize iblk m c 4 t = x4 at *
  generalize iblk m c 5 t = x5 at *
  generalize iblk m c 6 t = x6 at *
  frame_out
  obtain ⟨gq, gk, gv⟩ := Cert.BandRefIdeal.RefValue.grads_apply (m ((c : Thread nD τ).loc main_arg0)) (m ((c : Thread nD τ).loc main_arg1))
    (m ((c : Thread nD τ).loc main_arg2)) _ _ (cells_eq _) (cells_eq _) (((cfg0.win 7).blk t).view.emb y)
  canon_tiles x h using (View.cover_of_tiledBy _ ![128, 128] (by sl_kernel_rfl) y)
  · refine Eq.trans ?_ (gv (by omega)).symm
    pointwise [k0_pay1, k0_pay6]
    refine (band_eq _ ht x0_lt ((e0.trans (congrArg _ h0))) ((hr _).2.1) ((hr _).2.2.1) ((hr _).2.2.2) hl hh).trans ?_
    congr 1; rw [e1]; show (x 1 : ℕ) = _; omega
  · refine Eq.trans ?_ (gk (by omega) (by omega)).symm
    pointwise [k0_pay5]
    refine (band_eq _ ht x0_lt ((e0.trans (congrArg _ h0))) ((hr _).1.1) ((hr _).1.2.1) ((hr _).1.2.2) hl hh).trans ?_
    congr 1; rw [e1]; show (x 1 : ℕ) = _; omega
  · refine Eq.trans ?_ (gq (by omega) (ix2 (⟨128 * t.val + (x 0 : ℕ), by omega⟩ : Fin 16384) (⟨(x 1 : ℕ), x1_lt⟩ : Fin 512)) ?_ ?_).symm
    · pointwise [k0_pay4]
      exact hq _ _ rfl rfl
    · rw [e0, h0]; rfl
    · rw [e1, h1]; rfl

end Cert.BandIdeal.RefValue

/-! ## The claims -/

namespace Cert.Proof.BandClaims

theorem frame : Cert.quiescent_Band := fun m ρ _ => Cert.Band.Gen.frame m ρ
theorem frame_ideal : Cert.quiescent_BandIdeal := fun m ρ _ => Cert.BandIdeal.Gen.frame m ρ
theorem frame_ref : Cert.quiescent_BandRefIdeal := fun m ρ _ => by
  refine (θ_run Cert.BandRefIdeal.defs _ _).mono (fun r h => ⟨fun c => ?_,
    Idealize.ShloMosaic.sem_eq_zero_of_no_sems (by decide) r.2⟩) (Cert.BandRefIdeal.Value.run (F := Ideal) m ρ)
  exact (h c).2
theorem preserves : Cert.preserves_Band_BandIdeal := trivial

open Cert.BandIdeal.RefValue in
/-- The gradients of queries, keys and values of the kernel and of the reference agree, from any arguments. -/
theorem algebraic : Cert.algebraic_BandIdeal_BandRefIdeal := by
  pair_intro
  · run_from Cert.BandIdeal.Gen.run_main m g
  · run_from Cert.BandRefIdeal.Value.run m' g'
    rw [(hagree c).2.2]
    exact (final7 m c).symm

end Cert.Proof.BandClaims

end
-- ==== Proof.Hgrn.lean ====
/-
  The claims about the backward call of the gated recurrence, from any saved states: it leaves its arguments as they were and every
  counter at zero, and the idealized program differs from it in nothing but the reading of its numbers.
-/
module

public import proofs.«01_k».proof.Defs
public import proofs.«01_k».proof.Proof.Gen.Hgrn.Frame
public import proofs.«01_k».proof.Proof.Gen.HgrnIdeal.Frame

@[expose] public section

noncomputable section

open Idealize.ShloMosaic Idealize.ShloMosaic.TcCoe Idealize.SL.Sem

namespace Cert.Proof.HgrnClaims

theorem frame : Cert.quiescent_Hgrn := fun m ρ _ => Cert.Hgrn.Gen.frame m ρ
theorem frame_ideal : Cert.quiescent_HgrnIdeal := fun m ρ _ => Cert.HgrnIdeal.Gen.frame m ρ
theorem preserves : Cert.preserves_Hgrn_HgrnIdeal := trivial

end Cert.Proof.HgrnClaims

end
-- ==== Proof.Ext.lean ====
/-
  Arrays of extended reals as total functions of natural-number coordinates, and small congruences with which a kernel's
  expression is turned into the same expression over such functions, part by part.
-/
module

public import Idealize.ShloMosaic.PureOps.Ideal
public import Idealize.ShloMosaic.Lib.Pointwise

@[expose] public section

noncomputable section

open Idealize.ShloMosaic

namespace Cert.Ext

variable {s1 : Fin 1 → ℕ} {s2 : Fin 2 → ℕ} {s3 : Fin 3 → ℕ}

theorem ext1 (x : (⟨1, s1⟩ : Shape).Idx → EReal) : ∃ f : ℕ → EReal, ∀ i, x i = f (i 0) := by
  classical
  refine ⟨fun p => if h : ∃ i : (⟨1, s1⟩ : Shape).Idx, (i 0 : ℕ) = p then x h.choose else 0, fun i => ?_⟩
  have h : ∃ k : (⟨1, s1⟩ : Shape).Idx, (k 0 : ℕ) = i 0 := ⟨i, rfl⟩
  dsimp only
  rw [dif_pos h]
  congr 1
  funext d
  fin_cases d
  exact Fin.ext h.choose_spec.symm

theorem ext2 (x : (⟨2, s2⟩ : Shape).Idx → EReal) : ∃ f : ℕ → ℕ → EReal, ∀ i, x i = f (i 0) (i 1) := by
  classical
  refine ⟨fun p q => if h : ∃ i : (⟨2, s2⟩ : Shape).Idx, (i 0 : ℕ) = p ∧ (i 1 : ℕ) = q then x h.choose else 0, fun i => ?_⟩
  have h : ∃ k : (⟨2, s2⟩ : Shape).Idx, (k 0 : ℕ) = i 0 ∧ (k 1 : ℕ) = i 1 := ⟨i, rfl, rfl⟩
  dsimp only
  rw [dif_pos h]
  congr 1
  funext d
  fin_cases d
  · exact Fin.ext h.choose_spec.1.symm
  · exact Fin.ext h.choose_spec.2.symm

theorem ext3 (x : (⟨3, s3⟩ : Shape).Idx → EReal) : ∃ f : ℕ → ℕ → ℕ → EReal, ∀ i, x i = f (i 0) (i 1) (i 2) := by
  classical
  refine ⟨fun p q r => if h : ∃ i : (⟨3, s3⟩ : Shape).Idx, (i 0 : ℕ) = p ∧ (i 1 : ℕ) = q ∧ (i 2 : ℕ) = r then x h.choose else 0,
    fun i => ?_⟩
  have h : ∃ k : (⟨3, s3⟩ : Shape).Idx, (k 0 : ℕ) = i 0 ∧ (k 1 : ℕ) = i 1 ∧ (k 2 : ℕ) = i 2 := ⟨i, rfl, rfl, rfl⟩
  dsimp only
  rw [dif_pos h]
  congr 1
  funext d
  fin_cases d
  · exact Fin.ext h.choose_spec.1.symm
  · exact Fin.ext h.choose_spec.2.1.symm
  · exact Fin.ext h.choose_spec.2.2.symm

/-! ## Entries at equal coordinates -/

theorem at1 (f : ℕ → EReal) {e : EReal} {a a' : ℕ} (he : e = f a) (ha : a = a') : e = f a' := by rw [he, ha]
theorem at2 (f : ℕ → ℕ → EReal) {e : EReal} {a b a' b' : ℕ} (he : e = f a b) (ha : a = a') (hb : b = b') : e = f a' b' := by
  rw [he, ha, hb]
theorem at3 (f : ℕ → ℕ → ℕ → EReal) {e : EReal} {a b c a' b' c' : ℕ} (he : e = f a b c) (ha : a = a') (hb : b = b') (hc : c = c') :
    e = f a' b' c' := by rw [he, ha, hb, hc]

/-! ## Congruences -/

variable {n : ℕ} {a a' b b' : EReal}

theorem add_ext (ha : a = a') (hb : b = b') : a + b = a' + b' := by rw [ha, hb]
theorem mul_ext (ha : a = a') (hb : b = b') : a * b = a' * b' := by rw [ha, hb]
theorem sum_ext {f g : Fin n → EReal} (h : ∀ k, f k = g k) : ∑ k, f k = ∑ k, g k := by rw [funext h]

/-- The sigmoid's quotient. -/
theorem sig_ext (h : a = a') : Ideal.div 1 (1 + Ideal.exp (-a)) = Ideal.div 1 (1 + Ideal.exp (-a')) := by rw [h]

/-- The inverse root of a mean of squares. -/
theorem rs_ext {f g : Fin n → EReal} (h : ∀ k, f k = g k) :
    Ideal.rsqrt (Ideal.div (∑ k, f k * f k) a + b) = Ideal.rsqrt (Ideal.div (∑ k, g k * g k) a + b) := by rw [funext h]

/-- The softmax weight, its exponents shifted by the greatest score. -/
def soft (s : Fin n → EReal) (u : Fin n) : EReal :=
  Ideal.div (Ideal.exp (s u - Finset.univ.fold max ⊥ s)) (∑ w, Ideal.exp (s w - Finset.univ.fold max ⊥ s))

theorem soft_ext {e : EReal} {E E' E'' : Fin n → EReal} (s : Fin n → EReal) (u : Fin n) (hu : e = s u) (h : ∀ w, E w = s w)
    (h' : ∀ w, E' w = s w) (h'' : ∀ w, E'' w = s w) :
    Ideal.div (Ideal.exp (e - Finset.univ.fold max ⊥ E)) (∑ w, Ideal.exp (E' w - Finset.univ.fold max ⊥ E'')) = soft s u := by
  rw [hu, funext h, funext h', funext h'', soft]

end Cert.Ext

end
-- ==== Proof.CrossFwd.Ref.lean ====
/-
  The cross attention's forward lines over the extended reals, and the reference read as that expression.
-/
module

public import proofs.«01_k».proof.Proof.Ext
public import proofs.«01_k».proof.Proof.Gen.CrossFwdRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo

namespace Cert.CrossFwdModel

open Cert.Ext

/-- The scaled score of query `t` and memory row `u` in head `h`. -/
def sc (q k : ℕ → ℕ → EReal) (h t u : ℕ) : EReal :=
  (∑ d : Fin 256, q t (h * 256 + d) * k u (h * 256 + d)) * Ideal.ofBits .f32 0x3D800000#32

/-- One entry of the attention's output: the softmax of a query's scores, times the values. -/
def att (q k v : ℕ → ℕ → EReal) (t c : ℕ) : EReal :=
  ∑ u : Fin 256, soft (fun w : Fin 256 => sc q k (c / 256) t w) u * v u c

theorem lit_bot : Ideal.ofBits .f32 0xFF800000#32 = ⊥ := by
  simp [Ideal.ofBits, Ideal.ieee]

end Cert.CrossFwdModel

namespace Cert.CrossFwdRefIdeal.RefValue

open Cert.CrossFwdRefIdeal Cert.CrossFwdRefIdeal.Read Cert.Ext Cert.CrossFwdModel

variable {q kv : ℕ → ℕ → EReal}
  {x0 : (⟨S16384x1024, .f32⟩ : BufTy).Contents (Elt Ideal)} {x1 : (⟨S256x2048, .f32⟩ : BufTy).Contents (Elt Ideal)}
  (h0 : ∀ i, x0 i = q (i 0) (i 1)) (h1 : ∀ i, x1 i = kv (i 0) (i 1))

include h0 in
theorem v0 (i : S16384x4x256.Idx) : val_main_v0 (F := Ideal) x0 i = q (i 0) (i 1 * 256 + i 2) := by
  simp only [val_main_v0]
  pointwise
  exact at2 q (h0 _) (by blk_simp; try omega) (by blk_simp; try omega)

include h1 in
theorem v3 (i : S256x4x256.Idx) : val_main_v3 (F := Ideal) x1 i = kv (i 0) (i 1 * 256 + i 2) := by
  simp only [val_main_v3, val_main_v2, val_main_v1]
  pointwise
  refine at2 kv (h1 _) ?_ ?_
  all_goals (blk_simp; try dsimp only; try omega)

include h1 in
theorem v19 (i : S256x4x256.Idx) : val_main_v19 (F := Ideal) x1 i = kv (i 0) (1024 + (i 1 * 256 + i 2)) := by
  simp only [val_main_v19, val_main_v18, val_main_v1]
  pointwise
  refine at2 kv (h1 _) ?_ ?_
  all_goals (blk_simp; try dsimp only; try omega)

include h0 h1 in
theorem v6 (i : S4x16384x256.Idx) : val_main_v6 (F := Ideal) x0 x1 i = sc q kv (i 0) (i 1) (i 2) := by
  simp only [val_main_v6, val_main_v5, val_main_v4, val_main_cst]
  pointwise
  exact mul_ext (sum_ext fun d => mul_ext (v0 h0 _) (v3 h1 _)) rfl

/-- The row's greatest score. -/
def top (q kv : ℕ → ℕ → EReal) (h t : ℕ) : EReal := Finset.univ.fold max ⊥ fun w : Fin 256 => sc q kv h t w

include h0 h1 in
theorem v7 (i : S4x16384.Idx) : val_main_v7 (F := Ideal) x0 x1 i = top q kv (i 0) (i 1) := by
  simp only [val_main_v7, val_main_cst_0]
  pointwise
  rw [lit_bot]
  exact congrArg (Finset.univ.fold max ⊥) (funext fun w => v6 h0 h1 _)

include h0 h1 in
theorem v13 (i : S4x16384x256.Idx) :
    val_main_v13 (F := Ideal) x0 x1 i = Ideal.exp (sc q kv (i 0) (i 1) (i 2) - top q kv (i 0) (i 1)) := by
  rw [val_main_v13_apply, val_main_v12_apply, val_main_v11_apply, val_main_v10_apply, val_main_v9_apply, v6 h0 h1,
    show val_main_v7 (F := Ideal) x0 x1 (idx_main_v10 (idx_main_v11 i)) = top q kv (i 0) (i 1) from v7 h0 h1 _]
  generalize sc q kv (i 0) (i 1) (i 2) = S
  generalize top q kv (i 0) (i 1) = M
  simp only [val_main_v8, val_main_cst_1]
  pointwise
  rw [lit_bot, max_eq_right bot_le]

include h0 h1 in
theorem v14 (i : S4x16384.Idx) : val_main_v14 (F := Ideal) x0 x1 i
    = ∑ w : Fin 256, Ideal.exp (sc q kv (i 0) (i 1) w - top q kv (i 0) (i 1)) := by
  simp only [val_main_v14, val_main_cst_2]
  pointwise
  exact sum_ext fun u => v13 h0 h1 _

include h0 h1 in
theorem v17 (i : S4x16384x256.Idx) :
    val_main_v17 (F := Ideal) x0 x1 i = soft (fun w : Fin 256 => sc q kv (i 0) (i 1) w) (i 2) := by
  simp only [val_main_v17, val_main_v16, val_main_v15]
  pointwise
  rw [v13 h0 h1, v14 h0 h1]
  rfl

include h0 h1 in
theorem v23 (i : S16384x1024.Idx) :
    val_main_v23 (F := Ideal) x0 x1 i = att q kv (fun u d => kv u (1024 + d)) (i 0) (i 1) := by
  have b : (i 1 : ℕ) < 1024 := (i 1).isLt
  simp only [val_main_v23, val_main_v22, val_main_v21, val_main_v20]
  pointwise
  refine sum_ext fun u => (mul_comm _ _).trans (mul_ext ?_ (at2 kv (v19 h1 _) ?_ ?_))
  · refine (v17 h0 h1 _).trans ?_
    congr 1
  all_goals (blk_simp; try dsimp only; try omega)

end Cert.CrossFwdRefIdeal.RefValue

end
-- ==== Proof.CrossFwd.lean ====
/-
  The cross attention's forward call: four heads of 256 columns, 16384 queries over 256 memory rows. Kernel and reference compute
  the same expression at each entry, whatever the arguments.
-/
module

public import proofs.«01_k».proof.Defs
public import proofs.«01_k».proof.Proof.Gen.CrossFwd.Frame
public import proofs.«01_k».proof.Proof.Gen.CrossFwdIdeal.Frame
public import proofs.«01_k».proof.Proof.Gen.CrossFwdRefIdeal.Run
public import proofs.«01_k».proof.Proof.Gen.CrossFwdRefIdeal.Read
public import Idealize.ShloMosaic.Lib.Pipeline.ValueKit
public import Idealize.ShloMosaic.Lib.Pipeline.Value
public import Idealize.ShloMosaic.Lib.Quiescent
public import Idealize.ShloMosaic.Lib.Claim
public import Idealize.ShloMosaic.Lib.Pointwise
public import Idealize.ShloMosaic.Lib.StableHlo.RunRead
public import proofs.«01_k».proof.Proof.CrossFwd.Ref

@[expose] public section

set_option maxRecDepth 16384
set_option maxHeartbeats 2000000

noncomputable section

open Idealize.ShloMosaic Idealize.ShloMosaic.TcCoe Idealize.SL.Sem
open Idealize.ShloMosaic.Pipeline (Dat)

namespace Cert.CrossFwdIdeal.RefValue

open Cert.CrossFwdIdeal Cert.CrossFwdIdeal.Gen
open Cert.Ext Cert.CrossFwdModel

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![0, 1] ∧
    win0_3.index t = ![t.val, 0] :=
  (by decide +kernel : ∀ t : Fin grid0.N, _)

variable {q kv : ℕ → ℕ → EReal} {c : Dev nD}

/-- What one grid point stores. -/
theorem out_pt {q k v : ℕ → ℕ → EReal} (x0 : Vec Ideal S512x1024 .bf16) (x1 x2 : Vec Ideal S256x1024 .bf16)
    (e0 : ∀ i, x0 i = q (i 0) (i 1)) (e1 : ∀ i, x1 i = k (i 0) (i 1)) (e2 : ∀ i, x2 i = v (i 0) (i 1)) (y : S512x1024.Idx) :
    out0_3 x0 x1 x2 y = att q k v (y 0) (y 1) := by
  frame_out
  canon_tiles x h
  all_goals
    have b : (x 1 : ℕ) < 256 := (x 1).isLt
    open_payloads; pointwise
    rw [lit_bot]
    refine sum_ext fun u => mul_ext (soft_ext (fun w => sc q k _ _ w) _
      (mul_ext (sum_ext fun d => mul_ext (at2 q (e0 _) ?_ ?_) (at2 k (e1 _) ?_ ?_)) rfl)
      (fun w => mul_ext (sum_ext fun d => mul_ext (at2 q (e0 _) ?_ ?_) (at2 k (e1 _) ?_ ?_)) rfl)
      (fun w => mul_ext (sum_ext fun d => mul_ext (at2 q (e0 _) ?_ ?_) (at2 k (e1 _) ?_ ?_)) rfl)
      (fun w => mul_ext (sum_ext fun d => mul_ext (at2 q (e0 _) ?_ ?_) (at2 k (e1 _) ?_ ?_)) rfl))
      (at2 v (e2 _) ?_ ?_)
  all_goals first | (blk_simp; try omega) | skip
  all_goals first | (dsimp only; omega) | exact (show (0 : ℕ) = _ by omega) | exact (show (1 : ℕ) = _ by omega)

theorem query (a0 : ∀ i, m ((c.tc : Thread nD τ).loc main_arg0) i = q (i 0) (i 1)) (i : S16384x1024.Idx) :
    V m c main_v0 i = q (i 0) (i 1) := by
  after_reads_simp [V, hostOps0]
  exact a0 _

theorem memory (a1 : ∀ i, m ((c.tc : Thread nD τ).loc main_arg1) i = kv (i 0) (i 1)) (i : S256x2048.Idx) (a b : ℕ)
    (ha : (i 0 : ℕ) = a) (hb : (i 1 : ℕ) = b) : V m c main_v1 i = kv a b := by
  after_reads_simp [V, hostOps0]
  exact at2 kv (a1 _) ha hb

theorem final3 (a0 : ∀ i, m ((c.tc : Thread nD τ).loc main_arg0) i = q (i 0) (i 1))
    (a1 : ∀ i, m ((c.tc : Thread nD τ).loc main_arg1) i = kv (i 0) (i 1)) :
    (dats m 0 c).arrAt 3 cfg0.N = fun i : S16384x1024.Idx => att q kv (fun u d => kv u (1024 + d)) (i 0) (i 1) := by
  refine (dats m 0 c).arrAt_eq_of_covers 3 _ (by decide +kernel) fun t hf y => ?_
  blk_simp [idx t]
  rw [after0_3]
  refine (out_pt (q := fun r => q (t.val * 512 + r)) (k := kv) (v := fun u d => kv u (1024 + d)) _ _ _ (fun i => ?_)
    (fun i => ?_) (fun i => ?_) y).trans rfl
  all_goals
    unfold iblk
    rw [View.read_apply]
    first
    | exact (query m a0 _).trans (by blk_simp [idx t])
    | exact memory m a1 _ _ _ (by blk_simp [idx t]) (by blk_simp [idx t])

end Cert.CrossFwdIdeal.RefValue

/-! ## The claims -/

namespace Cert.Proof.CrossFwdClaims

theorem frame : Cert.quiescent_CrossFwd := fun m ρ _ => Cert.CrossFwd.Gen.frame m ρ
theorem frame_ideal : Cert.quiescent_CrossFwdIdeal := fun m ρ _ => Cert.CrossFwdIdeal.Gen.frame m ρ
theorem frame_ref : Cert.quiescent_CrossFwdRefIdeal := fun m ρ _ => by
  refine (θ_run Cert.CrossFwdRefIdeal.defs _ _).mono (fun r h => ⟨fun c => ?_,
    Idealize.ShloMosaic.sem_eq_zero_of_no_sems (by decide) r.2⟩) (Cert.CrossFwdRefIdeal.Value.run (F := Ideal) m ρ)
  exact (h c).2
theorem preserves : Cert.preserves_CrossFwd_CrossFwdIdeal := trivial

open Cert.CrossFwdIdeal.RefValue Cert.CrossFwdIdeal.Gen Cert.CrossFwdRefIdeal in
/-- The outputs of the kernel and of the reference agree, from any arguments. -/
theorem algebraic : Cert.algebraic_CrossFwdIdeal_CrossFwdRefIdeal := by
  intro m g m' g' _ hagree
  refine ⟨fun c => (dats m 0 c).arrAt 3 Cert.CrossFwdIdeal.cfg0.N, ?_, ?_⟩
  · run_from Cert.CrossFwdIdeal.Gen.run_main m g
  refine (θ_run Cert.CrossFwdRefIdeal.defs _ _).mono (fun r h c => ?_) (Cert.CrossFwdRefIdeal.Value.run m' g')
  obtain ⟨e0, e1⟩ := hagree c
  obtain ⟨q, hq⟩ := Cert.Ext.ext2 (m ((c.tc : Thread Cert.CrossFwdIdeal.nD Cert.CrossFwdIdeal.τ).loc Cert.CrossFwdIdeal.main_arg0))
  obtain ⟨kv, hkv⟩ := Cert.Ext.ext2 (m ((c.tc : Thread Cert.CrossFwdIdeal.nD Cert.CrossFwdIdeal.τ).loc Cert.CrossFwdIdeal.main_arg1))
  obtain ⟨r0, ra⟩ := h c
  refine ⟨r0.trans ?_, ra⟩
  refine (Read.val_main_v23_eq _ _).trans ?_
  refine Eq.trans ?_ (final3 m hq hkv).symm
  exact funext fun i => Cert.CrossFwdRefIdeal.RefValue.v23 (fun i => (congrFun e0 i).trans (hq i)) (fun i => (congrFun e1 i).trans (hkv i)) i

end Cert.Proof.CrossFwdClaims

end
-- ==== Proof.MergeFwd.lean ====
/-
  The gated merge's forward call: `Σ sigmoid(gate) · (y @ w)` over three branches, whose gates the kernel reads from one packed
  array. Kernel and reference compute the same expression at each entry, whatever the arguments.
-/
module

public import proofs.«01_k».proof.Defs
public import proofs.«01_k».proof.Proof.Gen.MergeFwd.Frame
public import proofs.«01_k».proof.Proof.Gen.MergeFwdIdeal.Frame
public import proofs.«01_k».proof.Proof.Gen.MergeFwdRefIdeal.Run
public import proofs.«01_k».proof.Proof.Gen.MergeFwdRefIdeal.Read
public import Idealize.ShloMosaic.Lib.Pipeline.ValueKit
public import Idealize.ShloMosaic.Lib.Pipeline.Value
public import Idealize.ShloMosaic.Lib.Quiescent
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeFwdIdeal.RefValue

open Cert.MergeFwdIdeal Cert.MergeFwdIdeal.Gen
open Cert.MergeFwdRefIdeal.Read

variable (m : (ℓ : Loc nD τ sig) → Buf (Elt Ideal) ℓ) (ρ : Dev nD → PrngReg)

theorem idx : ∀ t : Fin cfg0.N, win0_0.index t = ![t.val / 2, 0] ∧ win0_1.index t = ![t.val / 2, 0]
    ∧ win0_2.index t = ![t.val / 2, 0] ∧ win0_3.index t = ![0, t.val % 2] ∧ win0_4.index t = ![0, t.val % 2]
    ∧ win0_5.index t = ![0, t.val % 2] ∧ win0_6.index t = ![t.val / 2, t.val % 2]
    ∧ win0_7.index t = ![t.val / 2, 2 + t.val % 2] ∧ win0_8.index t = ![t.val / 2, 4 + t.val % 2]
    ∧ win0_9.index t = ![t.val / 2, t.val % 2] :=
  (by decide +kernel : ∀ t : Fin grid0.N, _)

/-- The packed gates read at column `b * 1024 + j` are branch `b`'s gate at column `j`. -/
theorem gates (c : Dev nD) (i : S16384x3072.Idx) (j : S16384x1024.Idx) (h0 : (i 0 : ℕ) = j 0) :
    ((i 1 : ℕ) = j 1 → V m c main_v1 i = m ((c : Thread nD τ).loc main_arg6) j)
    ∧ ((i 1 : ℕ) = 1024 + j 1 → V m c main_v1 i = m ((c : Thread nD τ).loc main_arg7) j)
    ∧ ((i 1 : ℕ) = 2048 + j 1 → V m c main_v1 i = m ((c : Thread nD τ).loc main_arg8) j) := by
  have hj : (j 1 : ℕ) < 1024 := (j 1).isLt
  refine ⟨fun h => ?_, fun h => ?_, fun h => ?_⟩ <;> entry_read <;> pointwise <;>
    split_ifs <;> first | omega | (congr 1; idx_ext <;> omega)

set_option maxHeartbeats 800000 in
theorem final9 (c : Dev nD) : (dats m 0 c).arrAt 9 cfg0.N
    = val_main_v26 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) := by
  refine (dats m 0 c).arrAt_eq_of_covers 9 _ (by decide +kernel) fun t hf y => ?_
  blk_simp
  rw [after0_9]
  frame_out
  open_payloads
  pointwise [Ideal.logistic, ← val_main_v26_eq]
  blk_point [iblk, V, idx t]
  on_goal 1 => refine (gates m c _ _ ?_).1 ?_
  on_goal 3 => refine (gates m c _ _ ?_).2.1 ?_
  on_goal 5 => refine (gates m c _ _ ?_).2.2 ?_
  all_goals (blk_simp [idx t]; try omega)

end Cert.MergeFwdIdeal.RefValue

/-! ## The claims -/

namespace Cert.Proof.MergeFwdClaims

theorem frame : Cert.quiescent_MergeFwd := fun m ρ _ => Cert.MergeFwd.Gen.frame m ρ
theorem frame_ideal : Cert.quiescent_MergeFwdIdeal := fun m ρ _ => Cert.MergeFwdIdeal.Gen.frame m ρ
theorem frame_ref : Cert.quiescent_MergeFwdRefIdeal := fun m ρ _ => by
  refine (θ_run Cert.MergeFwdRefIdeal.defs _ _).mono (fun r h => ⟨fun c => ?_,
    Idealize.ShloMosaic.sem_eq_zero_of_no_sems (by decide) r.2⟩) (Cert.MergeFwdRefIdeal.Value.run (F := Ideal) m ρ)
  exact (h c).2
theorem preserves : Cert.preserves_MergeFwd_MergeFwdIdeal := trivial

set_option maxHeartbeats 1600000 in
open Cert.MergeFwdIdeal.RefValue in
/-- The merged rows of the kernel and of the reference agree, from any arguments. -/
theorem algebraic : Cert.algebraic_MergeFwdIdeal_MergeFwdRefIdeal := by
  pair_intro
  · run_from Cert.MergeFwdIdeal.Gen.run_main m g
  · run_from Cert.MergeFwdRefIdeal.Value.run m' g'
    · exact (final9 m c).symm

end Cert.Proof.MergeFwdClaims

end
-- ==== Proof.FfnUp.lean ====
/-
  The feed-forward gate's forward call: two products and `silu(a) · b`. Kernel and reference compute the same expression at
  each entry, whatever the arguments.
-/
module

public import proofs.«01_k».proof.Defs
public import proofs.«01_k».proof.Proof.Gen.FfnUp.Frame
public import proofs.«01_k».proof.Proof.Gen.FfnUpIdeal.Frame
public import proofs.«01_k».proof.Proof.Gen.FfnUpRefIdeal.Run
public import proofs.«01_k».proof.Proof.Gen.FfnUpRefIdeal.Read
public import Idealize.ShloMosaic.Lib.Pipeline.ValueKit
public import Idealize.ShloMosaic.Lib.Pipeline.Value
public import Idealize.ShloMosaic.Lib.Quiescent
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnUpIdeal.RefValue

open Cert.FfnUpIdeal Cert.FfnUpIdeal.Gen
open Cert.FfnUpRefIdeal.Read

variable (m : (ℓ : Loc nD τ sig) → Buf (Elt Ideal) ℓ) (ρ : Dev nD → PrngReg)

theorem idx : ∀ t : Fin cfg0.N, win0_0.index t = ![t.val / 2, 0] ∧ win0_1.index t = ![0, t.val % 2]
    ∧ win0_2.index t = ![0, t.val % 2] ∧ win0_3.index t = ![t.val / 2, t.val % 2] ∧ win0_4.index t = ![t.val / 2, t.val % 2]
    ∧ win0_5.index t = ![t.val / 2, t.val % 2] :=
  (by decide +kernel : ∀ t : Fin grid0.N, _)

set_option maxHeartbeats 800000 in
theorem final3 (c : Dev nD) : (dats m 0 c).arrAt 3 cfg0.N
    = val_main_v2 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  frame_out
  open_payloads
  pointwise [← val_main_v2_eq]
  blk_point [iblk, V, idx t]

set_option maxHeartbeats 800000 in
theorem final4 (c : Dev nD) : (dats m 0 c).arrAt 4 cfg0.N
    = val_main_v3 (F := Ideal) (m ((c : Thread nD τ).loc main_arg0)) (m ((c : Thread nD τ).loc main_arg2)) := by
  refine (dats m 0 c).arrAt_eq_of_covers 4 _ (by decide +kernel) fun t hf y => ?_
  blk_simp
  rw [after0_4]
  frame_out
  open_payloads
  pointwise [← val_main_v3_eq]
  blk_point [iblk, V, idx t]

set_option maxHeartbeats 800000 in
theorem final5 (c : Dev nD) : (dats m 0 c).arrAt 5 cfg0.N
    = val_main_v6 (F := Ideal) (m ((c : Thread nD τ).loc main_arg0)) (m ((c : Thread nD τ).loc main_arg1))
        (m ((c : Thread nD τ).loc main_arg2)) := by
  refine (dats m 0 c).arrAt_eq_of_covers 5 _ (by decide +kernel) fun t hf y => ?_
  blk_simp
  rw [after0_5]
  frame_out
  open_payloads
  pointwise [Ideal.logistic, ← val_main_v6_eq]
  blk_point [iblk, V, idx t]

end Cert.FfnUpIdeal.RefValue

/-! ## The claims -/

namespace Cert.Proof.FfnUpClaims

theorem frame : Cert.quiescent_FfnUp := fun m ρ _ => Cert.FfnUp.Gen.frame m ρ
theorem frame_ideal : Cert.quiescent_FfnUpIdeal := fun m ρ _ => Cert.FfnUpIdeal.Gen.frame m ρ
theorem frame_ref : Cert.quiescent_FfnUpRefIdeal := fun m ρ _ => by
  refine (θ_run Cert.FfnUpRefIdeal.defs _ _).mono (fun r h => ⟨fun c => ?_,
    Idealize.ShloMosaic.sem_eq_zero_of_no_sems (by decide) r.2⟩) (Cert.FfnUpRefIdeal.Value.run (F := Ideal) m ρ)
  exact (h c).2.2.2
theorem preserves : Cert.preserves_FfnUp_FfnUpIdeal := trivial

set_option maxHeartbeats 1600000 in
open Cert.FfnUpIdeal.RefValue in
/-- The three results of the kernel and of the reference agree, from any arguments. -/
theorem algebraic : Cert.algebraic_FfnUpIdeal_FfnUpRefIdeal := by
  pair_intro
  · run_from Cert.FfnUpIdeal.Gen.run_main m g
  · run_from Cert.FfnUpRefIdeal.Value.run m' g'
    · exact (final3 m c).symm
    · exact (final4 m c).symm
    · exact (final5 m c).symm

end Cert.Proof.FfnUpClaims

end
-- ==== Proof.HgrnOutFwd.Ref.lean ====
/-
  The recurrence's norm and gate over the extended reals, forward, and the reference read as that expression.
-/
module

public import proofs.«01_k».proof.Proof.Ext
public import proofs.«01_k».proof.Proof.Gen.HgrnOutFwdRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.HgrnOutFwdModel

variable (a b : ℕ → ℕ → ℕ → EReal) (g : ℕ → ℕ → EReal) (w : ℕ → EReal)

/-- The two directions' outputs added up: position `t`, head `h`, column `l`. -/
def o (t h l : ℕ) : EReal := a t h l + b t h l

/-- The inverse root of a head's mean square. -/
def rs (t h : ℕ) : EReal :=
  Ideal.rsqrt (Ideal.div (∑ j : Fin 64, o a b t h j * o a b t h j) (Ideal.ofBits .f32 0x42800000#32)
    + Ideal.ofBits .f32 0x358637BD#32)

/-- The normalised column times its weight and its gate. -/
def row (t h l : ℕ) : EReal :=
  o a b t h l * rs a b t h * w l * (g t (h * 64 + l) * Ideal.div 1 (1 + Ideal.exp (-g t (h * 64 + l))))

end Cert.HgrnOutFwdModel

namespace Cert.HgrnOutFwdRefIdeal.RefValue

open Cert.HgrnOutFwdRefIdeal Cert.HgrnOutFwdRefIdeal.Read Cert.Ext Cert.HgrnOutFwdModel

variable {a b : ℕ → ℕ → ℕ → EReal} {g : ℕ → ℕ → EReal} {w : ℕ → EReal}
  {x0 : (⟨S16384x8x64, .f32⟩ : BufTy).Contents (Elt Ideal)} {x1 : (⟨S16384x8x64, .f32⟩ : BufTy).Contents (Elt Ideal)}
  {x2 : (⟨S16384x512, .f32⟩ : BufTy).Contents (Elt Ideal)} {x3 : (⟨S64, .f32⟩ : BufTy).Contents (Elt Ideal)}
  (h0 : ∀ i, x0 i = a (i 0) (i 1) (i 2)) (h1 : ∀ i, x1 i = b (i 0) (i 1) (i 2)) (h2 : ∀ i, x2 i = g (i 0) (i 1))
  (h3 : ∀ i, x3 i = w (i 0))

include h0 h1 in
theorem v0 (i : S16384x8x64.Idx) : val_main_v0 (F := Ideal) x0 x1 i = o a b (i 0) (i 1) (i 2) := by
  simp only [val_main_v0]
  pointwise
  exact add_ext (h0 _) (h1 _)

include h0 h1 in
theorem v8 (i : S16384x8x1.Idx) : val_main_v8 (F := Ideal) x0 x1 i = rs a b (i 0) (i 1) := by
  simp only [val_main_v8, val_main_v7, val_main_v6, val_main_v5, val_main_v4, val_main_v3, val_main_v2, val_main_v1, val_main_cst,
    val_main_cst_0, val_main_cst_1]
  pointwise
  exact rs_ext fun j => v0 h0 h1 _

include h2 in
theorem v14 (i : S16384x8x64.Idx) : val_main_v14 (F := Ideal) x2 i = g (i 0) (i 1 * 64 + i 2) := by
  simp only [val_main_v14]
  pointwise
  refine at2 g (h2 _) ?_ ?_
  all_goals (blk_simp; try dsimp only; try omega)

include h2 in
theorem silu (i : S16384x8x64.Idx) :
    val_main_call0_v5 (F := Ideal) x2 i = Ideal.div 1 (1 + Ideal.exp (-g (i 0) (i 1 * 64 + i 2))) := by
  simp only [val_main_call0_v5, val_main_call0_v4, val_main_call0_v3, val_main_call0_v2, val_main_call0_v1, val_main_call0_v0,
    val_main_call0_cst, val_main_call0_cst_0]
  pointwise
  exact sig_ext (v14 h2 _)

include h0 h1 h2 h3 in
theorem v16 (i : S16384x8x64.Idx) : val_main_v16 (F := Ideal) x0 x1 x2 x3 i = row a b g w (i 0) (i 1) (i 2) := by
  simp only [val_main_v16, val_main_v15, val_main_v13, val_main_v12, val_main_v11, val_main_v10, val_main_v9]
  pointwise [Ideal.logistic]
  refine mul_ext (mul_ext (mul_ext (v0 h0 h1 _) (v8 h0 h1 _)) (h3 _)) ?_
  exact mul_ext (v14 h2 _) (silu h2 _)

include h0 h1 h2 h3 in
theorem v18 (i : S16384x512.Idx) :
    val_main_v18 (F := Ideal) x0 x1 x2 x3 i = row a b g w (i 0) (i 1 / 64) (i 1 % 64) := by
  simp only [val_main_v18, val_main_v17]
  pointwise
  refine at3 (row a b g w) (v16 h0 h1 h2 h3 _) ?_ ?_ ?_
  all_goals (blk_simp; try dsimp only; try omega)

end Cert.HgrnOutFwdRefIdeal.RefValue

end
-- ==== Proof.HgrnOutFwd.lean ====
/-
  The forward call of the recurrence's norm and gate: eight heads of 64 columns. Kernel and reference compute the same
  expression at each entry, whatever the arguments.
-/
module

public import proofs.«01_k».proof.Defs
public import proofs.«01_k».proof.Proof.Gen.HgrnOutFwd.Frame
public import proofs.«01_k».proof.Proof.Gen.HgrnOutFwdIdeal.Frame
public import proofs.«01_k».proof.Proof.Gen.HgrnOutFwdRefIdeal.Run
public import proofs.«01_k».proof.Proof.Gen.HgrnOutFwdRefIdeal.Read
public import Idealize.ShloMosaic.Lib.Pipeline.ValueKit
public import Idealize.ShloMosaic.Lib.Pipeline.Value
public import Idealize.ShloMosaic.Lib.Quiescent
public import Idealize.ShloMosaic.Lib.Claim
public import Idealize.ShloMosaic.Lib.Pointwise
public import Idealize.ShloMosaic.Lib.StableHlo.RunRead
public import proofs.«01_k».proof.Proof.HgrnOutFwd.Ref

@[expose] public section

set_option maxRecDepth 16384
set_option maxHeartbeats 2000000

noncomputable section

open Idealize.ShloMosaic Idealize.ShloMosaic.TcCoe Idealize.SL.Sem
open Idealize.ShloMosaic.Pipeline (Dat)

namespace Cert.HgrnOutFwdIdeal.RefValue

open Cert.HgrnOutFwdIdeal Cert.HgrnOutFwdIdeal.Gen
open Cert.Ext Cert.HgrnOutFwdModel

variable (m : (ℓ : Loc nD τ sig) → Buf (Elt Ideal) ℓ) (ρ : Dev nD → PrngReg)

theorem idx : ∀ t : Fin cfg0.N, win0_0.index t = ![0, t.val, 0] ∧ win0_1.index t = ![0, t.val, 0] ∧ win0_2.index t = ![t.val, 7] ∧
    win0_3.index t = ![0, 0] ∧ win0_4.index t = ![t.val, 0] :=
  (by decide +kernel : ∀ t : Fin grid0.N, _)

variable {a b : ℕ → ℕ → ℕ → EReal} {g : ℕ → ℕ → EReal} {w : ℕ → EReal} {c : Dev nD}

/-- What one grid point stores. -/
theorem out_pt (x0 x1 : Vec Ideal S8x512x64 .f32) (x2 : Vec Ideal S512x512 .f32) (x3 : Vec Ideal S1x64 .f32)
    (e0 : ∀ i, x0 i = a (i 1) (i 0) (i 2)) (e1 : ∀ i, x1 i = b (i 1) (i 0) (i 2)) (e2 : ∀ i, x2 i = g (i 0) (i 1))
    (e3 : ∀ i, x3 i = w (i 1)) (y : S512x512.Idx) :
    out0_4 x0 x1 x2 x3 y = row a b g w (y 0) (y 1 / 64) (y 1 % 64) := by
  frame_out
  canon_tiles x h
  all_goals
    have b64 : (x 1 : ℕ) < 64 := (x 1).isLt
    open_payloads; pointwise [Ideal.logistic]
    refine mul_ext (mul_ext (mul_ext (add_ext (at3 a (e0 _) ?_ ?_ ?_) (at3 b (e1 _) ?_ ?_ ?_))
        (rs_ext fun j => add_ext (at3 a (e0 _) ?_ ?_ ?_) (at3 b (e1 _) ?_ ?_ ?_))) (at1 w (e3 _) ?_))
      (mul_ext (at2 g (e2 _) ?_ ?_) (sig_ext (at2 g (e2 _) ?_ ?_)))
  all_goals first | (blk_simp; try omega) | skip
  all_goals first | (dsimp only; omega) | exact (show (0 : ℕ) = _ by omega) | exact (show (1 : ℕ) = _ by omega)

theorem first (a0 : ∀ i, m ((c.tc : Thread nD τ).loc main_arg0) i = a (i 0) (i 1) (i 2)) (i : S8x16384x64.Idx) :
    V m c main_v2 i = a (i 1) (i 0) (i 2) := by
  after_reads_simp [V, hostOps0]
  pointwise
  exact at3 a (a0 _) (by blk_simp) (by blk_simp) (by blk_simp)

theorem second (a1 : ∀ i, m ((c.tc : Thread nD τ).loc main_arg1) i = b (i 0) (i 1) (i 2)) (i : S8x16384x64.Idx) :
    V m c main_v3 i = b (i 1) (i 0) (i 2) := by
  after_reads_simp [V, hostOps0]
  pointwise
  exact at3 b (a1 _) (by blk_simp) (by blk_simp) (by blk_simp)

/-- The gate stands behind the recurrence's other columns. -/
theorem gate (a2 : ∀ i, m ((c.tc : Thread nD τ).loc main_arg2) i = g (i 0) (i 1)) (i : S16384x4096.Idx) (p q : ℕ)
    (hp : (i 0 : ℕ) = p) (hq : (i 1 : ℕ) = 3584 + q) : V m c main_v1 i = g p q := by
  after_reads_simp [V, hostOps0]
  pointwise
  rw [dif_neg (by omega)]
  exact at2 g (a2 _) hp (show (i 1 : ℕ) - 3584 = q by omega)

theorem weight (a3 : ∀ i, m ((c.tc : Thread nD τ).loc main_arg3) i = w (i 0)) (i : S1x64.Idx) : V m c main_v4 i = w (i 1) := by
  after_reads_simp [V, hostOps0]
  pointwise
  refine at1 w (a3 _) ?_
  blk_simp
  try omega

theorem final4 (a0 : ∀ i, m ((c.tc : Thread nD τ).loc main_arg0) i = a (i 0) (i 1) (i 2))
    (a1 : ∀ i, m ((c.tc : Thread nD τ).loc main_arg1) i = b (i 0) (i 1) (i 2))
    (a2 : ∀ i, m ((c.tc : Thread nD τ).loc main_arg2) i = g (i 0) (i 1))
    (a3 : ∀ i, m ((c.tc : Thread nD τ).loc main_arg3) i = w (i 0)) :
    (dats m 0 c).arrAt 4 cfg0.N = fun i : S16384x512.Idx => row a b g w (i 0) (i 1 / 64) (i 1 % 64) := by
  refine (dats m 0 c).arrAt_eq_of_covers 4 _ (by decide +kernel) fun t hf y => ?_
  blk_simp [idx t]
  rw [after0_4]
  refine (out_pt (a := fun r => a (t.val * 512 + r)) (b := fun r => b (t.val * 512 + r)) (g := fun r => g (t.val * 512 + r))
    (w := w) _ _ _ _ (fun i => ?_) (fun i => ?_) (fun i => ?_) (fun i => ?_) y).trans rfl
  all_goals
    unfold iblk
    rw [View.read_apply]
    first
    | exact (first m a0 _).trans (by blk_simp [idx t])
    | exact (second m a1 _).trans (by blk_simp [idx t])
    | exact gate m a2 _ _ _ (by blk_simp [idx t]) (by blk_simp [idx t])
    | exact (weight m a3 _).trans (by blk_simp [idx t])

end Cert.HgrnOutFwdIdeal.RefValue

/-! ## The claims -/

namespace Cert.Proof.HgrnOutFwdClaims

theorem frame : Cert.quiescent_HgrnOutFwd := fun m ρ _ => Cert.HgrnOutFwd.Gen.frame m ρ
theorem frame_ideal : Cert.quiescent_HgrnOutFwdIdeal := fun m ρ _ => Cert.HgrnOutFwdIdeal.Gen.frame m ρ
theorem frame_ref : Cert.quiescent_HgrnOutFwdRefIdeal := fun m ρ _ => by
  refine (θ_run Cert.HgrnOutFwdRefIdeal.defs _ _).mono (fun r h => ⟨fun c => ?_,
    Idealize.ShloMosaic.sem_eq_zero_of_no_sems (by decide) r.2⟩) (Cert.HgrnOutFwdRefIdeal.Value.run (F := Ideal) m ρ)
  exact (h c).2
theorem preserves : Cert.preserves_HgrnOutFwd_HgrnOutFwdIdeal := trivial

open Cert.HgrnOutFwdIdeal.RefValue Cert.HgrnOutFwdIdeal.Gen Cert.HgrnOutFwdRefIdeal in
/-- The gated rows of the kernel and of the reference agree, from any arguments. -/
theorem algebraic : Cert.algebraic_HgrnOutFwdIdeal_HgrnOutFwdRefIdeal := by
  intro m g m' g' _ hagree
  refine ⟨fun c => (dats m 0 c).arrAt 4 Cert.HgrnOutFwdIdeal.cfg0.N, ?_, ?_⟩
  · run_from Cert.HgrnOutFwdIdeal.Gen.run_main m g
  refine (θ_run Cert.HgrnOutFwdRefIdeal.defs _ _).mono (fun r h c => ?_) (Cert.HgrnOutFwdRefIdeal.Value.run m' g')
  obtain ⟨e0, e1, e2, e3⟩ := hagree c
  obtain ⟨a, ha⟩ := Cert.Ext.ext3 (m ((c.tc : Thread Cert.HgrnOutFwdIdeal.nD Cert.HgrnOutFwdIdeal.τ).loc Cert.HgrnOutFwdIdeal.main_arg0))
  obtain ⟨b, hb⟩ := Cert.Ext.ext3 (m ((c.tc : Thread Cert.HgrnOutFwdIdeal.nD Cert.HgrnOutFwdIdeal.τ).loc Cert.HgrnOutFwdIdeal.main_arg1))
  obtain ⟨z, hz⟩ := Cert.Ext.ext2 (m ((c.tc : Thread Cert.HgrnOutFwdIdeal.nD Cert.HgrnOutFwdIdeal.τ).loc Cert.HgrnOutFwdIdeal.main_arg2))
  obtain ⟨w, hw⟩ := Cert.Ext.ext1 (m ((c.tc : Thread Cert.HgrnOutFwdIdeal.nD Cert.HgrnOutFwdIdeal.τ).loc Cert.HgrnOutFwdIdeal.main_arg3))
  obtain ⟨r0, ra⟩ := h c
  refine ⟨r0.trans ?_, ra⟩
  refine (Read.val_main_v18_eq _ _ _ _).trans ?_
  refine Eq.trans ?_ (final4 m ha hb hz hw).symm
  exact funext fun i => Cert.HgrnOutFwdRefIdeal.RefValue.v18 (fun i => (congrFun e0 i).trans (ha i))
    (fun i => (congrFun e1 i).trans (hb i)) (fun i => (congrFun e2 i).trans (hz i)) (fun i => (congrFun e3 i).trans (hw i)) i

end Cert.Proof.HgrnOutFwdClaims

end
-- ==== Proof.RmsFwd.lean ====
/-
  The norm's forward call: each row divided by the root of its mean square, times the weight. Kernel and reference compute
  the same expression at each entry, whatever the arguments.
-/
module

public import proofs.«01_k».proof.Defs
public import proofs.«01_k».proof.Proof.Gen.RmsFwd.Frame
public import proofs.«01_k».proof.Proof.Gen.RmsFwdIdeal.Frame
public import proofs.«01_k».proof.Proof.Gen.RmsFwdRefIdeal.Run
public import proofs.«01_k».proof.Proof.Gen.RmsFwdRefIdeal.Read
public import Idealize.ShloMosaic.Lib.Pipeline.ValueKit
public import Idealize.ShloMosaic.Lib.Pipeline.Value
public import Idealize.ShloMosaic.Lib.Quiescent
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RmsFwdIdeal.RefValue

open Cert.RmsFwdIdeal Cert.RmsFwdIdeal.Gen
open Cert.RmsFwdRefIdeal.Read

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![t.val, 0] :=
  (by decide +kernel : ∀ t : Fin grid0.N, _)

theorem final2 (c : Dev nD) : (dats m 0 c).arrAt 2 cfg0.N
    = val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  open_payloads
  pointwise [← val_main_v13_eq]
  blk_point [iblk, V, idx t]

end Cert.RmsFwdIdeal.RefValue

/-! ## The claims -/

namespace Cert.Proof.RmsFwdClaims

theorem frame : Cert.quiescent_RmsFwd := fun m ρ _ => Cert.RmsFwd.Gen.frame m ρ
theorem frame_ideal : Cert.quiescent_RmsFwdIdeal := fun m ρ _ => Cert.RmsFwdIdeal.Gen.frame m ρ
theorem frame_ref : Cert.quiescent_RmsFwdRefIdeal := fun m ρ _ => by
  refine (θ_run Cert.RmsFwdRefIdeal.defs _ _).mono (fun r h => ⟨fun c => ?_,
    Idealize.ShloMosaic.sem_eq_zero_of_no_sems (by decide) r.2⟩) (Cert.RmsFwdRefIdeal.Value.run (F := Ideal) m ρ)
  exact (h c).2
theorem preserves : Cert.preserves_RmsFwd_RmsFwdIdeal := trivial

set_option maxHeartbeats 1600000 in
open Cert.RmsFwdIdeal.RefValue in
/-- The rows of the kernel and of the reference agree, from any arguments. -/
theorem algebraic : Cert.algebraic_RmsFwdIdeal_RmsFwdRefIdeal := by
  pair_intro
  · run_from Cert.RmsFwdIdeal.Gen.run_main m g
  · run_from Cert.RmsFwdRefIdeal.Value.run m' g'
    · exact (final2 m c).symm

end Cert.Proof.RmsFwdClaims

end
-- ==== Proof.lean ====
module

public import proofs.«01_k».proof.Proof.Gen.Swa.Frame
public import proofs.«01_k».proof.Proof.Gen.SwaIdeal.Frame
public import proofs.«01_k».proof.Proof.Gen.Hgrn.Frame
public import proofs.«01_k».proof.Proof.Gen.HgrnIdeal.Frame
public import proofs.«01_k».proof.Proof.Gen.Band.Frame
public import proofs.«01_k».proof.Proof.Gen.BandIdeal.Frame
public import proofs.«01_k».proof.Proof.Gen.BandRefIdeal.Run
public import proofs.«01_k».proof.Proof.Gen.BandRefIdeal.Read
public import proofs.«01_k».proof.Proof.Gen.MlaFwd.Frame
public import proofs.«01_k».proof.Proof.Gen.MlaFwdIdeal.Frame
public import proofs.«01_k».proof.Proof.Gen.MlaFwdRefIdeal.Run
public import proofs.«01_k».proof.Proof.Gen.MlaFwdRefIdeal.Read
public import proofs.«01_k».proof.Proof.Gen.RmsCol.Frame
public import proofs.«01_k».proof.Proof.Gen.RmsColIdeal.Frame
public import proofs.«01_k».proof.Proof.Gen.RmsColRefIdeal.Run
public import proofs.«01_k».proof.Proof.Gen.RmsColRefIdeal.Read
public import proofs.«01_k».proof.Proof.Gen.MlaFwdIdeal.Value
public import proofs.«01_k».proof.Proof.Gen.Pre_mla_fwd_finite
public import proofs.«01_k».proof.Proof.Gen.Pre_rms_col_finite
public import proofs.«01_k».proof.Proof.Gen.Cross.Frame
public import proofs.«01_k».proof.Proof.Gen.CrossIdeal.Frame
public import proofs.«01_k».proof.Proof.Gen.CrossIdeal.Value
public import proofs.«01_k».proof.Proof.Gen.CrossRefIdeal.Run
public import proofs.«01_k».proof.Proof.Gen.CrossRefIdeal.Read
public import proofs.«01_k».proof.Proof.Gen.Loss.Frame
public import proofs.«01_k».proof.Proof.Gen.LossIdeal.Frame
public import proofs.«01_k».proof.Proof.Gen.LossRefIdeal.Run
public import proofs.«01_k».proof.Proof.Gen.LossRefIdeal.Read
public import proofs.«01_k».proof.Proof.Gen.Rms.Frame
public import proofs.«01_k».proof.Proof.Gen.RmsIdeal.Frame
public import proofs.«01_k».proof.Proof.Gen.RmsRefIdeal.Run
public import proofs.«01_k».proof.Proof.Gen.RmsRefIdeal.Read
public import proofs.«01_k».proof.Proof.Gen.HgrnOut.Frame
public import proofs.«01_k».proof.Proof.Gen.HgrnOutIdeal.Frame
public import proofs.«01_k».proof.Proof.Gen.HgrnOutRefIdeal.Run
public import proofs.«01_k».proof.Proof.Gen.HgrnOutRefIdeal.Read
public import proofs.«01_k».proof.Proof.Gen.Swiglu.Frame
public import proofs.«01_k».proof.Proof.Gen.SwigluIdeal.Frame
public import proofs.«01_k».proof.Proof.Gen.SwigluRefIdeal.Run
public import proofs.«01_k».proof.Proof.Gen.SwigluRefIdeal.Read
public import proofs.«01_k».proof.Proof.Gen.Pre_cross_finite
public import proofs.«01_k».proof.Proof.Gen.Pre_loss_finite
public import proofs.«01_k».proof.Proof.Gen.Pre_rms_finite
public import proofs.«01_k».proof.Proof.Gen.Pre_hgrn_out_finite
public import proofs.«01_k».proof.Proof.Gen.Pre_swiglu_finite
public import proofs.«01_k».proof.Proof.Gen.Pre_mla_finite
public import proofs.«01_k».proof.Defs
public import proofs.«01_k».proof.Proof.Merge
public import proofs.«01_k».proof.Proof.Mla
public import proofs.«01_k».proof.Proof.Cross
public import proofs.«01_k».proof.Proof.Swiglu
public import proofs.«01_k».proof.Proof.Loss
public import proofs.«01_k».proof.Proof.Rms
public import proofs.«01_k».proof.Proof.HgrnOut
public import proofs.«01_k».proof.Proof.MlaFwd
public import proofs.«01_k».proof.Proof.RmsCol
public import proofs.«01_k».proof.Proof.Swa
public import proofs.«01_k».proof.Proof.Band
public import proofs.«01_k».proof.Proof.Hgrn
public import proofs.«01_k».proof.Proof.CrossFwd
public import proofs.«01_k».proof.Proof.MergeFwd
public import proofs.«01_k».proof.Proof.FfnUp
public import proofs.«01_k».proof.Proof.HgrnOutFwd
public import proofs.«01_k».proof.Proof.RmsFwd

@[expose] public section

noncomputable section

namespace Cert.Proof

theorem claim : Cert.Claim :=
  ⟨Cert.Merge.Gen.facts, Cert.MergeIdeal.Gen.facts, Cert.MergeRefIdeal.Gen.facts,
    Cert.Mla.Gen.facts, Cert.MlaIdeal.Gen.facts, Cert.MlaRefIdeal.Gen.facts,
    Cert.Cross.Gen.facts, Cert.CrossIdeal.Gen.facts, Cert.CrossRefIdeal.Gen.facts,
    Cert.Swiglu.Gen.facts, Cert.SwigluIdeal.Gen.facts, Cert.SwigluRefIdeal.Gen.facts,
    Cert.Loss.Gen.facts, Cert.LossIdeal.Gen.facts, Cert.LossRefIdeal.Gen.facts,
    Cert.Rms.Gen.facts, Cert.RmsIdeal.Gen.facts, Cert.RmsRefIdeal.Gen.facts,
    Cert.HgrnOut.Gen.facts, Cert.HgrnOutIdeal.Gen.facts, Cert.HgrnOutRefIdeal.Gen.facts,
    Cert.MlaFwd.Gen.facts, Cert.MlaFwdIdeal.Gen.facts, Cert.MlaFwdRefIdeal.Gen.facts,
    Cert.RmsCol.Gen.facts, Cert.RmsColIdeal.Gen.facts, Cert.RmsColRefIdeal.Gen.facts,
    Cert.Swa.Gen.facts, Cert.SwaIdeal.Gen.facts,
    Cert.Band.Gen.facts, Cert.BandIdeal.Gen.facts, Cert.BandRefIdeal.Gen.facts,
    Cert.Hgrn.Gen.facts, Cert.HgrnIdeal.Gen.facts,
    Cert.CrossFwd.Gen.facts, Cert.CrossFwdIdeal.Gen.facts, Cert.CrossFwdRefIdeal.Gen.facts,
    Cert.MergeFwd.Gen.facts, Cert.MergeFwdIdeal.Gen.facts, Cert.MergeFwdRefIdeal.Gen.facts,
    Cert.FfnUp.Gen.facts, Cert.FfnUpIdeal.Gen.facts, Cert.FfnUpRefIdeal.Gen.facts,
    Cert.HgrnOutFwd.Gen.facts, Cert.HgrnOutFwdIdeal.Gen.facts, Cert.HgrnOutFwdRefIdeal.Gen.facts,
    Cert.RmsFwd.Gen.facts, Cert.RmsFwdIdeal.Gen.facts, Cert.RmsFwdRefIdeal.Gen.facts,
    Cert.Pre_mla_finite.Gen.facts,
    Cert.Pre_cross_finite.Gen.facts,
    Cert.Pre_swiglu_finite.Gen.facts,
    Cert.Pre_loss_finite.Gen.facts,
    Cert.Pre_rms_finite.Gen.facts,
    Cert.Pre_hgrn_out_finite.Gen.facts,
    Cert.Pre_mla_fwd_finite.Gen.facts,
    Cert.Pre_rms_col_finite.Gen.facts,
    MergeClaims.frame, MergeClaims.frame_ideal, MergeClaims.frame_ref,
    MlaClaims.frame, MlaClaims.frame_ideal, MlaClaims.frame_ideal_pre, MlaClaims.frame_ref, MlaClaims.frame_ref_pre,
    CrossClaims.frame, CrossClaims.frame_ideal, CrossClaims.frame_ideal_pre, CrossClaims.frame_ref, CrossClaims.frame_ref_pre,
    SwigluClaims.frame, SwigluClaims.frame_ideal, SwigluClaims.frame_ideal_pre, SwigluClaims.frame_ref, SwigluClaims.frame_ref_pre,
    LossClaims.frame, LossClaims.frame_ideal, LossClaims.frame_ideal_pre, LossClaims.frame_ref, LossClaims.frame_ref_pre,
    RmsClaims.frame, RmsClaims.frame_ideal, RmsClaims.frame_ideal_pre, RmsClaims.frame_ref, RmsClaims.frame_ref_pre,
    HgrnOutClaims.frame, HgrnOutClaims.frame_ideal, HgrnOutClaims.frame_ideal_pre, HgrnOutClaims.frame_ref, HgrnOutClaims.frame_ref_pre,
    MlaFwdClaims.frame, MlaFwdClaims.frame_ideal, MlaFwdClaims.frame_ideal_pre, MlaFwdClaims.frame_ref, MlaFwdClaims.frame_ref_pre,
    RmsColClaims.frame, RmsColClaims.frame_ideal, RmsColClaims.frame_ideal_pre, RmsColClaims.frame_ref, RmsColClaims.frame_ref_pre,
    SwaClaims.frame, SwaClaims.frame_ideal,
    BandClaims.frame, BandClaims.frame_ideal, BandClaims.frame_ref,
    HgrnClaims.frame, HgrnClaims.frame_ideal,
    CrossFwdClaims.frame, CrossFwdClaims.frame_ideal, CrossFwdClaims.frame_ref,
    MergeFwdClaims.frame, MergeFwdClaims.frame_ideal, MergeFwdClaims.frame_ref,
    FfnUpClaims.frame, FfnUpClaims.frame_ideal, FfnUpClaims.frame_ref,
    HgrnOutFwdClaims.frame, HgrnOutFwdClaims.frame_ideal, HgrnOutFwdClaims.frame_ref,
    RmsFwdClaims.frame, RmsFwdClaims.frame_ideal, RmsFwdClaims.frame_ref,
    MergeClaims.preserves, MergeClaims.algebraic,
    MlaClaims.preserves, MlaClaims.algebraic,
    CrossClaims.preserves, CrossClaims.algebraic,
    SwigluClaims.preserves, SwigluClaims.algebraic,
    LossClaims.preserves, LossClaims.algebraic,
    RmsClaims.preserves, RmsClaims.algebraic,
    HgrnOutClaims.preserves, HgrnOutClaims.algebraic,
    MlaFwdClaims.preserves, MlaFwdClaims.algebraic,
    RmsColClaims.preserves, RmsColClaims.algebraic,
    SwaClaims.preserves,
    BandClaims.preserves, BandClaims.algebraic,
    HgrnClaims.preserves,
    CrossFwdClaims.preserves, CrossFwdClaims.algebraic,
    MergeFwdClaims.preserves, MergeFwdClaims.algebraic,
    FfnUpClaims.preserves, FfnUpClaims.algebraic,
    HgrnOutFwdClaims.preserves, HgrnOutFwdClaims.algebraic,
    RmsFwdClaims.preserves, RmsFwdClaims.algebraic⟩

end Cert.Proof

end
